-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonneg [hPre_finite_and_nonneg : Cert.Pre_finite_and_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_and_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonneg [hPre_finite_and_nonneg : Cert.Pre_finite_and_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_and_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_nonneg [hKernelIdeal : Cert.KernelIdeal.Facts] [hPre_finite_and_nonneg : Cert.Pre_finite_and_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_nonneg [hReferenceIdeal : Cert.ReferenceIdeal.Facts] [hPre_finite_and_nonneg : Cert.Pre_finite_and_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv127" .f32 0x3C010204#32 ((1 / 127 : ℝ) : EReal)
  ∧ IdealRules.named_const.Statement Cert.KernelIdeal.κ "big" .f32 0x7F61B1E6#32 ⊤

def algebraic_KernelIdeal_ReferenceIdeal_pre_finite_and_nonneg [hKernelIdeal : Cert.KernelIdeal.Facts] [hReferenceIdeal : Cert.ReferenceIdeal.Facts] [hPre_finite_and_nonneg : Cert.Pre_finite_and_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_nonneg : Cert.Pre_finite_and_nonneg.Facts),
    quiescent_Kernel (hKernel := hKernel)
    ∧ quiescent_KernelIdeal (hKernelIdeal := hKernelIdeal)
    ∧ quiescent_KernelIdeal_pre_finite_and_nonneg (hKernelIdeal := hKernelIdeal) (hPre_finite_and_nonneg := hPre_finite_and_nonneg)
    ∧ quiescent_ReferenceIdeal (hReferenceIdeal := hReferenceIdeal)
    ∧ quiescent_ReferenceIdeal_pre_finite_and_nonneg (hReferenceIdeal := hReferenceIdeal) (hPre_finite_and_nonneg := hPre_finite_and_nonneg)
    ∧ preserves_Kernel_KernelIdeal
    ∧ algebraic_KernelIdeal_ReferenceIdeal_pre_finite_and_nonneg (hKernelIdeal := hKernelIdeal) (hReferenceIdeal := hReferenceIdeal) (hPre_finite_and_nonneg := hPre_finite_and_nonneg)
-- ==== Pre_finite_and_nonneg.lean ====
abbrev S65536x3 : Shape := ⟨2, ![65536, 3]⟩
abbrev S65536x64 : Shape := ⟨2, ![65536, 64]⟩
abbrev S_ : Shape := ⟨0, ![]⟩

class Facts : Prop where
  bcast_S_S65536x3 : S_.BroadcastsInDim S65536x3 (![] : Fin 0 → Fin S65536x3.rank)
  bcast_S_S65536x64 : S_.BroadcastsInDim S65536x64 (![] : Fin 0 → Fin S65536x64.rank)

variable [Facts]

def fn {F : FTy → Type} [FloatOps F] (main_arg0 : FVec F S65536x3 .f32) (main_arg1 : FVec F S65536x3 .f32) (main_arg2 : FVec F S65536x64 .f32) (main_arg3 : FVec F S65536x64 .f32) : IVec S65536x3 1 × IVec S65536x3 1 × IVec S65536x64 1 × IVec S65536x64 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_v3 : FVec F S65536x3 .f32 := Host.absf main_arg1
  let main_cst_0 : FVec F S_ .f32 := constant S_ .f32 0x7F800000#32
  let main_v4 : FVec F S65536x3 .f32 := broadcastInDim S65536x3 ![] bcast_S_S65536x3 main_cst_0
  let main_v5 : IVec S65536x3 1 := cmpf .olt main_v3 main_v4
  let main_v6 : FVec F S65536x64 .f32 := Host.absf main_arg2
  let main_cst_1 : FVec F S_ .f32 := constant S_ .f32 0x7F800000#32
  let main_v7 : FVec F S65536x64 .f32 := broadcastInDim S65536x64 ![] bcast_S_S65536x64 main_cst_1
  let main_v8 : IVec S65536x64 1 := cmpf .olt main_v6 main_v7
  let main_v9 : FVec F S65536x64 .f32 := Host.absf main_arg3
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_cst_3 : FVec F S_ .f32 := constant S_ .f32 0x00000000#32
  let main_v12 : FVec F S65536x64 .f32 := broadcastInDim S65536x64 ![] bcast_S_S65536x64 main_cst_3
  let main_v13 : IVec S65536x64 1 := cmpf .oge main_arg3 main_v12
  let main_v14 : IVec S65536x64 1 := andi main_v11 main_v13
  (main_v2, main_v5, main_v8, main_v14)
-- ==== Kernel.lean ====
abbrev S65536x3 : Shape := ⟨2, ![65536, 3]⟩
abbrev S65536x64 : Shape := ⟨2, ![65536, 64]⟩
abbrev S128x64 : Shape := ⟨2, ![128, 64]⟩
abbrev S192x576 : Shape := ⟨2, ![192, 576]⟩
abbrev S3x576 : Shape := ⟨2, ![3, 576]⟩
abbrev S64x65536 : Shape := ⟨2, ![64, 65536]⟩
abbrev S65536x576 : Shape := ⟨2, ![65536, 576]⟩
abbrev S65536x192 : Shape := ⟨2, ![65536, 192]⟩
abbrev S65536x128 : Shape := ⟨2, ![65536, 128]⟩
abbrev S512x3 : Shape := ⟨2, ![512, 3]⟩
abbrev S512x64 : Shape := ⟨2, ![512, 64]⟩
abbrev S64x512 : Shape := ⟨2, ![64, 512]⟩
abbrev S512x576 : Shape := ⟨2, ![512, 576]⟩
abbrev S512x192 : Shape := ⟨2, ![512, 192]⟩
abbrev S512x128 : Shape := ⟨2, ![512, 128]⟩
abbrev S8x128 : Shape := ⟨2, ![8, 128]⟩
abbrev S64x1 : Shape := ⟨2, ![64, 1]⟩
abbrev S128x512 : Shape := ⟨2, ![128, 512]⟩
abbrev S1x512 : Shape := ⟨2, ![1, 512]⟩
abbrev S128x1 : Shape := ⟨2, ![128, 1]⟩
abbrev S1x128 : Shape := ⟨2, ![1, 128]⟩
abbrev S256x128 : Shape := ⟨2, ![256, 128]⟩
abbrev S256x128x1 : Shape := ⟨3, ![256, 128, 1]⟩
abbrev S256x64 : Shape := ⟨2, ![256, 64]⟩
abbrev S256x192 : Shape := ⟨2, ![256, 192]⟩
abbrev S256x576 : Shape := ⟨2, ![256, 576]⟩
abbrev S256x3 : Shape := ⟨2, ![256, 3]⟩

abbrev nBuf : Space → Nat
  | .hbm => 13
  | .vmem => 21
  | .smem => 0
  | _ => 0

abbrev bufTy : (tb : Table) → Fin (tcTables nBuf tb) → BufTy
  | .hbm, ⟨0, _⟩ => ⟨S65536x3, .f32⟩
  | .hbm, ⟨1, _⟩ => ⟨S65536x3, .f32⟩
  | .hbm, ⟨2, _⟩ => ⟨S65536x64, .f32⟩
  | .hbm, ⟨3, _⟩ => ⟨S65536x64, .f32⟩
  | .hbm, ⟨4, _⟩ => ⟨S128x64, .f32⟩
  | .hbm, ⟨5, _⟩ => ⟨S128x64, .f32⟩
  | .hbm, ⟨6, _⟩ => ⟨S192x576, .f32⟩
  | .hbm, ⟨7, _⟩ => ⟨S3x576, .f32⟩
  | .hbm, ⟨8, _⟩ => ⟨S64x65536, .f32⟩
  | .hbm, ⟨9, _⟩ => ⟨S64x65536, .f32⟩
  | .hbm, ⟨10, _⟩ => ⟨S65536x576, .f32⟩
  | .hbm, ⟨11, _⟩ => ⟨S65536x192, .f32⟩
  | .hbm, ⟨12, _⟩ => ⟨S65536x128, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S512x64, .f32⟩
  | .local _ .vmem, ⟨5, _⟩ => ⟨S512x64, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S128x64, .f32⟩
  | .local _ .vmem, ⟨11, _⟩ => ⟨S128x64, .f32⟩
  | .local _ .vmem, ⟨12, _⟩ => ⟨S192x576, .f32⟩
  | .local _ .vmem, ⟨13, _⟩ => ⟨S3x576, .f32⟩
  | .local _ .vmem, ⟨14, _⟩ => ⟨S512x576, .f32⟩
  | .local _ .vmem, ⟨15, _⟩ => ⟨S512x576, .f32⟩
  | .local _ .vmem, ⟨16, _⟩ => ⟨S512x192, .f32⟩
  | .local _ .vmem, ⟨17, _⟩ => ⟨S512x192, .f32⟩
  | .local _ .vmem, ⟨18, _⟩ => ⟨S512x128, .f32⟩
  | .local _ .vmem, ⟨19, _⟩ => ⟨S512x128, .f32⟩
  | .local _ .vmem, ⟨20, _⟩ => ⟨S8x128, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x576 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x576 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "big" => some ⊤
  | "inv127" => some ((1 / 127 : ℝ) : EReal)
  | _ => none
-- ==== ReferenceIdeal.lean ====
abbrev S65536x3 : Shape := ⟨2, ![65536, 3]⟩
abbrev S65536x64 : Shape := ⟨2, ![65536, 64]⟩
abbrev S65536x63 : Shape := ⟨2, ![65536, 63]⟩
abbrev S_ : Shape := ⟨0, ![]⟩
abbrev S65536x62 : Shape := ⟨2, ![65536, 62]⟩
abbrev S65536 : Shape := ⟨1, ![65536]⟩
abbrev S65536x1 : Shape := ⟨2, ![65536, 1]⟩
abbrev S128 : Shape := ⟨1, ![128]⟩
abbrev S65536x128 : Shape := ⟨2, ![65536, 128]⟩
abbrev S65536x1x63 : Shape := ⟨3, ![65536, 1, 63]⟩
abbrev S65536x128x1 : Shape := ⟨3, ![65536, 128, 1]⟩
abbrev S65536x128x63 : Shape := ⟨3, ![65536, 128, 63]⟩
abbrev S65536x192 : Shape := ⟨2, ![65536, 192]⟩
abbrev S65536x1x3 : Shape := ⟨3, ![65536, 1, 3]⟩
abbrev S65536x192x1 : Shape := ⟨3, ![65536, 192, 1]⟩
abbrev S65536x192x3 : Shape := ⟨3, ![65536, 192, 3]⟩
abbrev S65536x576 : Shape := ⟨2, ![65536, 576]⟩

abbrev nBuf : Space → Nat
  | .hbm => 118
  | .vmem => 0
  | .smem => 0
  | _ => 0

abbrev bufTy : (tb : Table) → Fin (tcTables nBuf tb) → BufTy
  | .hbm, ⟨0, _⟩ => ⟨S65536x3, .f32⟩
  | .hbm, ⟨1, _⟩ => ⟨S65536x3, .f32⟩
  | .hbm, ⟨2, _⟩ => ⟨S65536x64, .f32⟩
  | .hbm, ⟨3, _⟩ => ⟨S65536x64, .f32⟩
  | .hbm, ⟨4, _⟩ => ⟨S65536x63, .f32⟩
  | .hbm, ⟨5, _⟩ => ⟨S65536x63, .f32⟩
  | .hbm, ⟨6, _⟩ => ⟨S65536x63, .f32⟩
  | .hbm, ⟨7, _⟩ => ⟨S_, .f32⟩
  | .hbm, ⟨8, _⟩ => ⟨S65536x63, .f32⟩
  | .hbm, ⟨9, _⟩ => ⟨S65536x63, .f32⟩
  | .hbm, ⟨10, _⟩ => ⟨S65536x62, .f32⟩
  | .hbm, ⟨11, _⟩ => ⟨S_, .f32⟩
  | .hbm, ⟨12, _⟩ => ⟨S65536x62, .f32⟩
  | .hbm, ⟨13, _⟩ => ⟨S65536x62, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S65536x62, .f32⟩
  | .hbm, ⟨18, _⟩ => ⟨S65536x62, .f32⟩
  | .hbm, ⟨19, _⟩ => ⟨S_, .f32⟩
  | .hbm, ⟨20, _⟩ => ⟨S_, .f32⟩
  | .hbm, ⟨21, _⟩ => ⟨S65536x62, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x63, .f32⟩
  | .hbm, ⟨26, _⟩ => ⟨S128, .i32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S65536x128, .f32⟩
  | .hbm, ⟨32, _⟩ => ⟨S65536x1x63, .f32⟩
  | .hbm, ⟨33, _⟩ => ⟨S65536x128x1, .f32⟩
  | .hbm, ⟨34, _⟩ => ⟨S65536x128x63, .f32⟩
  | .hbm, ⟨35, _⟩ => ⟨S65536x128x63, .f32⟩
  | .hbm, ⟨36, _⟩ => ⟨S65536x128x63, .i1⟩
  | .hbm, ⟨37, _⟩ => ⟨S65536x128x63, .i32⟩
  | .hbm, ⟨38, _⟩ => ⟨S_, .i32⟩
  | .hbm, ⟨39, _⟩ => ⟨S65536x128, .i32⟩
  | .hbm, ⟨40, _⟩ => ⟨S_, .i32⟩
  | .hbm, ⟨41, _⟩ => ⟨S65536x128, .i32⟩
  | .hbm, ⟨42, _⟩ => ⟨S65536x128, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S65536x128, .i32⟩
  | .hbm, ⟨47, _⟩ => ⟨S65536x128, .i32⟩
  | .hbm, ⟨48, _⟩ => ⟨S_, .i32⟩
  | .hbm, ⟨49, _⟩ => ⟨S65536x128, .i32⟩
  | .hbm, ⟨50, _⟩ => ⟨S65536x128, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S65536x128, .i32⟩
  | .hbm, ⟨55, _⟩ => ⟨S65536x128, .i32⟩
  | .hbm, ⟨56, _⟩ => ⟨S_, .i32⟩
  | .hbm, ⟨57, _⟩ => ⟨S65536x128, .i32⟩
  | .hbm, ⟨58, _⟩ => ⟨S65536x128, .i32⟩
  | .hbm, ⟨59, _⟩ => ⟨S_, .i32⟩
  | .hbm, ⟨60, _⟩ => ⟨S65536x128, .i32⟩
  | .hbm, ⟨61, _⟩ => ⟨S65536x128, .i1⟩
  | .hbm, ⟨62, _⟩ => ⟨S_, .i32⟩
  | .hbm, ⟨63, _⟩ => ⟨S65536x128, .i32⟩
  | .hbm, ⟨64, _⟩ => ⟨S65536x128, .i32⟩
  | .hbm, ⟨65, _⟩ => ⟨S65536x128, .i32⟩
  | .hbm, ⟨66, _⟩ => ⟨S65536x128x1, .i32⟩
  | .hbm, ⟨67, _⟩ => ⟨S65536x128, .f32⟩
  | .hbm, ⟨68, _⟩ => ⟨S_, .i32⟩
  | .hbm, ⟨69, _⟩ => ⟨S65536x128, .i32⟩
  | .hbm, ⟨70, _⟩ => ⟨S65536x128, .i1⟩
  | .hbm, ⟨71, _⟩ => ⟨S_, .i32⟩
  | .hbm, ⟨72, _⟩ => ⟨S65536x128, .i32⟩
  | .hbm, ⟨73, _⟩ => ⟨S65536x128, .i32⟩
  | .hbm, ⟨74, _⟩ => ⟨S65536x128, .i32⟩
  | .hbm, ⟨75, _⟩ => ⟨S65536x128x1, .i32⟩
  | .hbm, ⟨76, _⟩ => ⟨S65536x128, .f32⟩
  | .hbm, ⟨77, _⟩ => ⟨S_, .i32⟩
  | .hbm, ⟨78, _⟩ => ⟨S65536x128, .i32⟩
  | .hbm, ⟨79, _⟩ => ⟨S65536x128, .i1⟩
  | .hbm, ⟨80, _⟩ => ⟨S_, .i32⟩
  | .hbm, ⟨81, _⟩ => ⟨S65536x128, .i32⟩
  | .hbm, ⟨82, _⟩ => ⟨S65536x128, .i32⟩
  | .hbm, ⟨83, _⟩ => ⟨S65536x128, .i32⟩
  | .hbm, ⟨84, _⟩ => ⟨S65536x128x1, .i32⟩
  | .hbm, ⟨85, _⟩ => ⟨S65536x128, .f32⟩
  | .hbm, ⟨86, _⟩ => ⟨S_, .i32⟩
  | .hbm, ⟨87, _⟩ => ⟨S65536x128, .i32⟩
  | .hbm, ⟨88, _⟩ => ⟨S65536x128, .i1⟩
  | .hbm, ⟨89, _⟩ => ⟨S_, .i32⟩
  | .hbm, ⟨90, _⟩ => ⟨S65536x128, .i32⟩
  | .hbm, ⟨91, _⟩ => ⟨S65536x128, .i32⟩
  | .hbm, ⟨92, _⟩ => ⟨S65536x128, .i32⟩
  | .hbm, ⟨93, _⟩ => ⟨S65536x128x1, .i32⟩
  | .hbm, ⟨94, _⟩ => ⟨S65536x128, .f32⟩
  | .hbm, ⟨95, _⟩ => ⟨S65536x128, .f32⟩
  | .hbm, ⟨96, _⟩ => ⟨S_, .f32⟩
  | .hbm, ⟨97, _⟩ => ⟨S65536x128, .f32⟩
  | .hbm, ⟨98, _⟩ => ⟨S65536x128, .i1⟩
  | .hbm, ⟨99, _⟩ => ⟨S_, .f32⟩
  | .hbm, ⟨100, _⟩ => ⟨S65536x128, .f32⟩
  | .hbm, ⟨101, _⟩ => ⟨S65536x128, .f32⟩
  | .hbm, ⟨102, _⟩ => ⟨S65536x128, .f32⟩
  | .hbm, ⟨103, _⟩ => ⟨S65536x128, .f32⟩
  | .hbm, ⟨104, _⟩ => ⟨S65536x128, .f32⟩
  | .hbm, ⟨105, _⟩ => ⟨S65536x128, .f32⟩
  | .hbm, ⟨106, _⟩ => ⟨S65536x128, .f32⟩
  | .hbm, ⟨107, _⟩ => ⟨S65536x192, .f32⟩
  | .hbm, ⟨108, _⟩ => ⟨S65536x192, .f32⟩
  | .hbm, ⟨109, _⟩ => ⟨S65536x1x3, .f32⟩
  | .hbm, ⟨110, _⟩ => ⟨S65536x1x3, .f32⟩
  | .hbm, ⟨111, _⟩ => ⟨S65536x192x1, .f32⟩
  | .hbm, ⟨112, _⟩ => ⟨S65536x192x3, .f32⟩
  | .hbm, ⟨113, _⟩ => ⟨S65536x192x3, .f32⟩
  | .hbm, ⟨114, _⟩ => ⟨S65536x192x3, .f32⟩
  | .hbm, ⟨115, _⟩ => ⟨S65536x192x3, .f32⟩
  | .hbm, ⟨116, _⟩ => ⟨S65536x192x3, .f32⟩
  | .hbm, ⟨117, _⟩ => ⟨S65536x576, .f32⟩
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_call0_cst : Ref sig .tc := ⟨.hbm, 19, rfl⟩
abbrev main_call0_call0_v0 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_c_6 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v30 : Ref sig .tc := ⟨.hbm, 50, rfl⟩
abbrev main_c_7 : Ref sig .tc := ⟨.hbm, 51, rfl⟩
abbrev main_c_8 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v31 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_v32 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_v33 : Ref sig .tc := ⟨.hbm, 76, rfl⟩
abbrev main_call5_c : Ref sig .tc := ⟨.hbm, 77, rfl⟩
abbrev main_call5_v0 : Ref sig .tc := ⟨.hbm, 78, rfl⟩
abbrev main_call5_v1 : Ref sig .tc := ⟨.hbm, 79, rfl⟩
abbrev main_call5_c_0 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_v34 : Ref sig .tc := ⟨.hbm, 85, rfl⟩
abbrev main_call6_c : Ref sig .tc := ⟨.hbm, 86, rfl⟩
abbrev main_call6_v0 : Ref sig .tc := ⟨.hbm, 87, rfl⟩
abbrev main_call6_v1 : Ref sig .tc := ⟨.hbm, 88, rfl⟩
abbrev main_call6_c_0 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_v5 : Ref sig .tc := ⟨.hbm, 93, rfl⟩
abbrev main_v35 : Ref sig .tc := ⟨.hbm, 94, rfl⟩
abbrev main_v36 : Ref sig .tc := ⟨.hbm, 95, rfl⟩
abbrev main_cst_9 : Ref sig .tc := ⟨.hbm, 96, rfl⟩
abbrev main_v37 : Ref sig .tc := ⟨.hbm, 97, rfl⟩
abbrev main_v38 : Ref sig .tc := ⟨.hbm, 98, rfl⟩
abbrev main_cst_10 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩

abbrev nD : Nat := 1
abbrev τ : Topo := Topo.v7x

variable {F : FTy → Type} [FloatOps F]
-- ==== Proof.Step.lean ====
/- One layer of the kernel's sort, as the program prints it, and what it does along a row: one stage of the bitonic sorting
   network on the row's 256 positions (the first 128 in one vector, the last 128 in the other). -/
module

public import proofs.«01_k».proof.Proof.Gen.KernelIdeal.Skeleton
public import Idealize.ShloMosaic.Lib.SortNet.Printed
public import Idealize.ShloMosaic.Lib.SortNet.PrintedCmp
public import Idealize.ShloMosaic.Lib.SortNet.Sorts
public import Idealize.ShloMosaic.Lib.Pointwise

@[expose] public section

noncomputable section

namespace Cert.Proof

open Idealize.ShloMosaic Idealize.ShloMosaic.SortNet Idealize.ShloMosaic.Pointwise Cert.KernelIdeal Cert.KernelIdeal.Gen

abbrev Half := FVec Ideal S256x128 .f32

def lane : IVec S1x128 32 := iota .tc S1x128 32 [1] iota_S1x128_d1_w32

def low (d : BitVec 32) : IVec S1x128 1 := cmpi .eq (andi lane (broadcast S1x128 d)) (broadcast S1x128 0#32)

def low' (d : BitVec 32) : IVec S1x128 1 :=
  cmpi .eq (andi (addi lane (broadcast S1x128 128#32)) (broadcast S1x128 d)) (broadcast S1x128 0#32)

def mask (d sz : BitVec 32) : IVec S1x128 1 := xori (xori (low d) (low sz)) (constantI S1x128 1 1#1)

def mask' (d sz : BitVec 32) : IVec S1x128 1 := xori (xori (low d) (low' sz)) (constantI S1x128 1 1#1)

def sel (m : IVec S1x128 1) (X P : Half) : Half :=
  select (broadcastTo S256x128 (shapeCast S1x128 m shapeCasts_S1x128_S1x128) broadcasts_S1x128_S256x128)
    (minimumf X P) (maximumf X P)

def place (d : BitVec 32) : IVec S256x128 32 :=
  broadcastTo S256x128 (shapeCast S1x128 (xori lane (broadcast S1x128 d)) shapeCasts_S1x128_S1x128) broadcasts_S1x128_S256x128

def gat (d : BitVec 32) (X : Half) : Half :=
  dynamicGather 1 X (shapeCast S256x128 (shapeCast S256x128x1
    (select (cmpi .slt (place d) (broadcast S256x128 0#32)) (addi (place d) (broadcast S256x128 128#32)) (place d))
    shapeCasts_S256x128_S256x128x1) shapeCasts_S256x128x1_S256x128)

def rot (X : Half) : Half := dynamicRotate 1 64#32 none X rotates_S256x128_d1

def stepG (d sz : BitVec 32) (X : Half) : Half := sel (mask d sz) X (gat d X)
def stepG' (d sz : BitVec 32) (X : Half) : Half := sel (mask' d sz) X (gat d X)
def stepR (sz : BitVec 32) (X : Half) : Half := sel (mask 64#32 sz) X (rot X)
def stepR' (sz : BitVec 32) (X : Half) : Half := sel (mask' 64#32 sz) X (rot X)

/-- The column along a row's lanes. -/
def rowCol (r : Fin 256) : Column S256x128 1 7 where
  col i := ix2 r i
  size_eq := rfl
  coord _ := rfl
  other i i' b hb := by
    match b, hb with
    | 0, _ => rfl
    | 1, hb => exact absurd rfl hb

def laneCol : Column S1x128 1 7 where
  col i := ix2 0 i
  size_eq := rfl
  coord _ := rfl
  other i i' b hb := by
    match b, hb with
    | 0, _ => rfl
    | 1, hb => exact absurd rfl hb

theorem lane_apply (i : Fin (2 ^ 7)) : lane (laneCol.col i) = BitVec.ofNat 32 i.val :=
  laneCol.iota_apply .tc iota_S1x128_d1_w32 i

theorem low_apply (d : BitVec 32) {s : Nat} (hd : d.toNat = 2 ^ s) (i : Fin (2 ^ 7)) :
    low d (laneCol.col i) = BitVec.ofBool (decide (i.val &&& 2 ^ s = 0)) := by
  show BitVec.ofBool (IntOp.andi (lane (laneCol.col i)) d == 0#32) = _
  rw [lane_apply]
  congr 1
  rw [Bool.eq_iff_iff, beq_iff_eq, decide_eq_true_eq, and_distance_eq_zero_iff (by have := i.isLt; omega) d hd]

theorem low'_apply (d : BitVec 32) {s : Nat} (hd : d.toNat = 2 ^ s) (i : Fin (2 ^ 7)) :
    low' d (laneCol.col i) = BitVec.ofBool (decide ((128 + i.val) &&& 2 ^ s = 0)) := by
  show BitVec.ofBool (IntOp.andi (IntOp.addi (lane (laneCol.col i)) 128#32) d == 0#32) = _
  rw [lane_apply]
  have e : IntOp.addi (BitVec.ofNat 32 i.val) 128#32 = BitVec.ofNat 32 (128 + i.val) := by
    unfold IntOp.addi
    rw [Nat.add_comm, BitVec.ofNat_add]
  rw [e]
  congr 1
  rw [Bool.eq_iff_iff, beq_iff_eq, decide_eq_true_eq, and_distance_eq_zero_iff (by have := i.isLt; omega) d hd]

theorem mask_apply (d sz : BitVec 32) {s l : Nat} (hd : d.toNat = 2 ^ s) (hz : sz.toNat = 2 ^ l) (i : Fin (2 ^ 7)) :
    mask d sz (laneCol.col i) = BitVec.ofBool (decide (decide (i.val &&& 2 ^ s = 0) = decide (i.val &&& 2 ^ l = 0))) := by
  show IntOp.xori (IntOp.xori (low d (laneCol.col i)) (low sz (laneCol.col i))) 1#1 = _
  rw [low_apply d hd, low_apply sz hz, ofBool_xor_xor_one]

theorem mask'_apply (d sz : BitVec 32) {s l : Nat} (hd : d.toNat = 2 ^ s) (hz : sz.toNat = 2 ^ l) (i : Fin (2 ^ 7)) :
    mask' d sz (laneCol.col i)
      = BitVec.ofBool (decide (decide (i.val &&& 2 ^ s = 0) = decide ((128 + i.val) &&& 2 ^ l = 0))) := by
  show IntOp.xori (IntOp.xori (low d (laneCol.col i)) (low' sz (laneCol.col i))) 1#1 = _
  rw [low_apply d hd, low'_apply sz hz, ofBool_xor_xor_one]

theorem bcast_apply {α : Type} (v : S1x128.Idx → α) (r : Fin 256) (i : Fin (2 ^ 7)) :
    broadcastTo S256x128 (shapeCast S1x128 v shapeCasts_S1x128_S1x128) broadcasts_S1x128_S256x128 ((rowCol r).col i)
      = v (laneCol.col i) := by
  rw [shapeCast_id]
  pointwise
  rfl

theorem gat_apply (d : BitVec 32) {s : Nat} (hs : s < 7) (hd : d.toNat = 2 ^ s) (X : Half) (r : Fin 256) (i : Fin (2 ^ 7)) :
    gat d X ((rowCol r).col i) = X ((rowCol r).col (partner 7 s i)) := by
  unfold gat
  rw [shapeCast_comp, shapeCast_id]
  refine gather_col_apply (rowCol r) (by omega) X _ i (partner 7 s i) ?_
  refine wrapIndex_apply _ _ _ _ _ (by have := (partner 7 s i).isLt; omega) ?_ rfl
  unfold place
  rw [bcast_apply]
  exact xorPartner_apply laneCol hs lane lane_apply d hd i

theorem rot_apply (X : Half) (r : Fin 256) (i : Fin (2 ^ 7)) :
    rot X ((rowCol r).col i) = X ((rowCol r).col (partner 7 6 i)) := by
  unfold rot
  by_cases hi : i.val &&& 2 ^ 6 = 0
  · exact (rowCol r).rotate_of_clear (by omega) 64#32 rfl X _ i hi
  · exact (rowCol r).rotate_of_set (by omega) 64#32 rfl X _ i hi

theorem sel_apply (m : IVec S1x128 1) (X P : Half) (r : Fin 256) (i : Fin (2 ^ 7)) (b : Bool)
    (hm : m (laneCol.col i) = BitVec.ofBool b) :
    sel m X P ((rowCol r).col i) = if b then min (X ((rowCol r).col i)) (P ((rowCol r).col i))
      else max (X ((rowCol r).col i)) (P ((rowCol r).col i)) := by
  unfold sel
  rw [select_apply, bcast_apply, hm, select_ofBool]
  rfl

/-- What a stage of the ascending network leaves at a position. -/
theorem stage_at {α : Type*} [LinearOrder α] {s l : Nat} (hs : s < 8) (hsl : s ≤ l) (v : Fin (2 ^ 8) → α) (i : Fin (2 ^ 8)) :
    Network.apply (stage 8 s fun i => decide (i.val &&& 2 ^ (l + 1) = 0) == false) v i
      = if decide (decide (i.val &&& 2 ^ s = 0) = decide (i.val &&& 2 ^ (l + 1) = 0)) then min (v i) (v (partner 8 s i))
        else max (v i) (v (partner 8 s i)) := by
  by_cases hi : i.val &&& 2 ^ s = 0
  · rw [(apply_stage hs _ v i hi).1]
    by_cases hz : i.val &&& 2 ^ (l + 1) = 0 <;> simp [hi, hz]
  · have h := (apply_stage hs (fun i => decide (i.val &&& 2 ^ (l + 1) = 0) == false) v (partner 8 s i) (partner_and_of_set hs i hi)).2
    rw [partner_partner hs, sizeClear_partner hs hsl] at h
    rw [h]
    by_cases hz : i.val &&& 2 ^ (l + 1) = 0 <;> simp [hi, hz, min_comm, max_comm]

/-- The 256 entries of a row. -/
def rowOf (X Y : Half) (r : Fin 256) : Fin (2 ^ 8) → EReal := fun i =>
  if h : i.val < 128 then X ((rowCol r).col ⟨i.val, h⟩) else Y ((rowCol r).col ⟨i.val - 128, by have := i.isLt; omega⟩)

theorem rowOf_left (X Y : Half) (r : Fin 256) (i : Fin (2 ^ 8)) (j : Fin (2 ^ 7)) (h : i.val = j.val) :
    rowOf X Y r i = X ((rowCol r).col j) := by
  unfold rowOf
  rw [dif_pos (by have := j.isLt; omega)]
  congr 2
  exact Fin.ext h

theorem rowOf_right (X Y : Half) (r : Fin 256) (i : Fin (2 ^ 8)) (j : Fin (2 ^ 7)) (h : i.val = 128 + j.val) :
    rowOf X Y r i = Y ((rowCol r).col j) := by
  unfold rowOf
  rw [dif_neg (by omega)]
  congr 2
  exact Fin.ext (by show i.val - 128 = j.val; omega)

theorem hi_xor : ∀ s : Fin 7, ∀ j : Fin 128, (128 + j.val) ^^^ 2 ^ s.val = 128 + (j.val ^^^ 2 ^ s.val) := by decide +kernel
theorem hi_and : ∀ s : Fin 7, ∀ j : Fin 128, (128 + j.val) &&& 2 ^ s.val = j.val &&& 2 ^ s.val := by decide +kernel

/-- A layer within the halves is one stage along the row. -/
theorem layer_row (d sz : BitVec 32) {s l : Nat} (hs : s < 7) (hsl : s ≤ l) (hd : d.toNat = 2 ^ s) (hz : sz.toNat = 2 ^ (l + 1))
    (X Y P Q : Half) (r : Fin 256)
    (hP : ∀ i, P ((rowCol r).col i) = X ((rowCol r).col (partner 7 s i)))
    (hQ : ∀ i, Q ((rowCol r).col i) = Y ((rowCol r).col (partner 7 s i))) :
    rowOf (sel (mask d sz) X P) (sel (mask' d sz) Y Q) r
      = Network.apply (stage 8 s fun i => decide (i.val &&& 2 ^ (l + 1) = 0) == false) (rowOf X Y r) := by
  funext i
  rw [stage_at (by omega) hsl]
  have pv : (partner 8 s i).val = i.val ^^^ 2 ^ s := partner_val (by omega) i
  by_cases hi : i.val < 128
  · have pj : (partner 7 s ⟨i.val, hi⟩).val = i.val ^^^ 2 ^ s := partner_val hs _
    rw [rowOf_left _ _ r i ⟨i.val, hi⟩ rfl, rowOf_left X Y r i ⟨i.val, hi⟩ rfl,
      rowOf_left X Y r (partner 8 s i) (partner 7 s ⟨i.val, hi⟩) (by rw [pv, pj]),
      sel_apply _ _ _ r _ _ (mask_apply d sz hd hz _), hP]
  · have hj : i.val - 128 < 128 := by have := i.isLt; omega
    have e : i.val = 128 + (⟨i.val - 128, hj⟩ : Fin (2 ^ 7)).val := by show i.val = 128 + (i.val - 128); omega
    have pj : (partner 7 s ⟨i.val - 128, hj⟩).val = (i.val - 128) ^^^ 2 ^ s := partner_val hs _
    have e1 := hi_xor ⟨s, hs⟩ ⟨i.val - 128, hj⟩
    have e2 := hi_and ⟨s, hs⟩ ⟨i.val - 128, hj⟩
    have e3 : 128 + (i.val - 128) = i.val := by omega
    simp only [e3] at e1 e2
    rw [rowOf_right _ _ r i ⟨i.val - 128, hj⟩ e, rowOf_right X Y r i ⟨i.val - 128, hj⟩ e,
      rowOf_right X Y r (partner 8 s i) (partner 7 s ⟨i.val - 128, hj⟩) (by rw [pv, pj, e1]),
      sel_apply _ _ _ r _ _ (mask'_apply d sz hd hz _), hQ, e2]
    simp only [e3]

theorem stepG_row (d sz : BitVec 32) {s l : Nat} (hs : s < 7) (hsl : s ≤ l) (hd : d.toNat = 2 ^ s) (hz : sz.toNat = 2 ^ (l + 1))
    (X Y : Half) (r : Fin 256) :
    rowOf (stepG d sz X) (stepG' d sz Y) r
      = Network.apply (stage 8 s fun i => decide (i.val &&& 2 ^ (l + 1) = 0) == false) (rowOf X Y r) :=
  layer_row d sz hs hsl hd hz X Y _ _ r (gat_apply d hs hd X r) (gat_apply d hs hd Y r)

theorem stepR_row (sz : BitVec 32) {l : Nat} (hsl : 6 ≤ l) (hz : sz.toNat = 2 ^ (l + 1)) (X Y : Half) (r : Fin 256) :
    rowOf (stepR sz X) (stepR' sz Y) r
      = Network.apply (stage 8 6 fun i => decide (i.val &&& 2 ^ (l + 1) = 0) == false) (rowOf X Y r) :=
  layer_row 64#32 sz (by omega) hsl rfl hz X Y _ _ r (rot_apply X r) (rot_apply Y r)

theorem stepM_row (X Y : Half) (r : Fin 256) :
    rowOf (minimumf X Y) (maximumf X Y) r
      = Network.apply (stage 8 7 fun i => decide (i.val &&& 2 ^ (7 + 1) = 0) == false) (rowOf X Y r) := by
  funext i
  rw [stage_at (by omega) (le_refl _)]
  have pv : (partner 8 7 i).val = i.val ^^^ 2 ^ 7 := partner_val (by omega) i
  have key : ∀ i : Fin 256, (i.val &&& 2 ^ (7 + 1) = 0) ∧ (i.val < 128 → i.val ^^^ 2 ^ 7 = 128 + i.val ∧ i.val &&& 2 ^ 7 = 0)
      ∧ (¬ i.val < 128 → i.val ^^^ 2 ^ 7 = i.val - 128 ∧ ¬ i.val &&& 2 ^ 7 = 0) := by decide +kernel
  obtain ⟨k0, k1, k2⟩ := key i
  by_cases hi : i.val < 128
  · obtain ⟨e1, e2⟩ := k1 hi
    rw [rowOf_left _ _ r i ⟨i.val, hi⟩ rfl, rowOf_left X Y r i ⟨i.val, hi⟩ rfl,
      rowOf_right X Y r (partner 8 7 i) ⟨i.val, hi⟩ (by rw [pv, e1]), e2, k0]
    simp
    rfl
  · obtain ⟨e1, e2⟩ := k2 hi
    have hj : i.val - 128 < 128 := by have := i.isLt; omega
    have e : i.val = 128 + (⟨i.val - 128, hj⟩ : Fin (2 ^ 7)).val := by show i.val = 128 + (i.val - 128); omega
    rw [rowOf_right _ _ r i ⟨i.val - 128, hj⟩ e, rowOf_right X Y r i ⟨i.val - 128, hj⟩ e,
      rowOf_left X Y r (partner 8 7 i) ⟨i.val - 128, hj⟩ (by rw [pv, e1]), k0]
    simp only [e2]
    simp
    exact max_comm _ _

end Cert.Proof

end
-- ==== Proof.Layers.lean ====
/- The ascending network on 256 positions, stage by stage. -/
module

public import proofs.«01_k».proof.Proof.Step

@[expose] public section

namespace Cert.Proof

open Idealize.ShloMosaic.SortNet

/-- Stage `s` of level `l`. -/
abbrev st (l s : Nat) : Network (2 ^ 8) := stage 8 s fun i => decide (i.val &&& 2 ^ (l + 1) = 0) == false

theorem sortNet_layers (v : Fin (2 ^ 8) → EReal) : Network.apply (sortNet 8 false) v
    = (Network.apply (st 7 0) (Network.apply (st 7 1) (Network.apply (st 7 2) (Network.apply (st 7 3) (Network.apply (st 7 4) (Network.apply (st 7 5) (Network.apply (st 7 6) (Network.apply (st 7 7) (Network.apply (st 6 0) (Network.apply (st 6 1) (Network.apply (st 6 2) (Network.apply (st 6 3) (Network.apply (st 6 4) (Network.apply (st 6 5) (Network.apply (st 6 6) (Network.apply (st 5 0) (Network.apply (st 5 1) (Network.apply (st 5 2) (Network.apply (st 5 3) (Network.apply (st 5 4) (Network.apply (st 5 5) (Network.apply (st 4 0) (Network.apply (st 4 1) (Network.apply (st 4 2) (Network.apply (st 4 3) (Network.apply (st 4 4) (Network.apply (st 3 0) (Network.apply (st 3 1) (Network.apply (st 3 2) (Network.apply (st 3 3) (Network.apply (st 2 0) (Network.apply (st 2 1) (Network.apply (st 2 2) (Network.apply (st 1 0) (Network.apply (st 1 1) (Network.apply (st 0 0) v)))))))))))))))))))))))))))))))))))) := by
  have e : sortNet 8 false = st 0 0 ++ (st 1 1 ++ (st 1 0 ++ (st 2 2 ++ (st 2 1 ++ (st 2 0 ++ (st 3 3 ++ (st 3 2 ++ (st 3 1 ++ (st 3 0 ++ (st 4 4 ++ (st 4 3 ++ (st 4 2 ++ (st 4 1 ++ (st 4 0 ++ (st 5 5 ++ (st 5 4 ++ (st 5 3 ++ (st 5 2 ++ (st 5 1 ++ (st 5 0 ++ (st 6 6 ++ (st 6 5 ++ (st 6 4 ++ (st 6 3 ++ (st 6 2 ++ (st 6 1 ++ (st 6 0 ++ (st 7 7 ++ (st 7 6 ++ (st 7 5 ++ (st 7 4 ++ (st 7 3 ++ (st 7 2 ++ (st 7 1 ++ (st 7 0))))))))))))))))))))))))))))))))))) := by
    simp only [sortNet, List.range, List.range.loop, List.reverse_cons, List.reverse_nil, List.nil_append, List.cons_append,
      List.flatMap_cons, List.flatMap_nil, List.append_nil, List.append_assoc, Nat.zero_add, Nat.reduceAdd]
  rw [e]
  simp only [Network.apply_append]

end Cert.Proof
-- ==== Proof.SortA.lean ====
/- The first sub-block of rows: its values, layer by layer, run the sorting network along every row. -/
module

public import proofs.«01_k».proof.Proof.Layers
public import proofs.«01_k».proof.Proof.Gen.KernelIdeal.Frame

@[expose] public section

noncomputable section

namespace Cert.Proof

open Idealize.ShloMosaic Idealize.ShloMosaic.SortNet Cert.KernelIdeal Cert.KernelIdeal.Gen Cert.KernelIdeal.Gen.kernelRun0_A

variable (c : Dev nD)
  (arg1 : Memref sig .tc .vmem S512x3 .f32) (harg1 : arg1.IsWhole)
  (arg2 : Memref sig .tc .vmem S512x3 .f32) (harg2 : arg2.IsWhole)
  (arg3 : Memref sig .tc .vmem S512x64 .f32) (harg3 : arg3.IsWhole)
  (arg4 : Memref sig .tc .vmem S64x512 .f32) (harg4 : arg4.IsWhole)
  (arg5 : Memref sig .tc .vmem S64x512 .f32) (harg5 : arg5.IsWhole)
  (arg6 : Memref sig .tc .vmem S128x64 .f32) (harg6 : arg6.IsWhole)
  (arg7 : Memref sig .tc .vmem S128x64 .f32) (harg7 : arg7.IsWhole)
  (arg8 : Memref sig .tc .vmem S192x576 .f32) (harg8 : arg8.IsWhole)
  (arg9 : Memref sig .tc .vmem S3x576 .f32) (harg9 : arg9.IsWhole)
  (x0 : Vec Ideal S512x3 .f32) (x1 : Vec Ideal S512x3 .f32) (x2 : Vec Ideal S512x64 .f32) (x3 : Vec Ideal S64x512 .f32) (x4 : Vec Ideal S64x512 .f32) (x5 : Vec Ideal S128x64 .f32) (x6 : Vec Ideal S128x64 .f32) (x7 : Vec Ideal S192x576 .f32) (x8 : Vec Ideal S3x576 .f32)

theorem b1_1x : (sl.v847 c arg3 harg3 x2) = (stepG 1#32 2#32 (sl.r_6 c arg3 harg3 x2)) := rfl
theorem b1_1y : (sl.v852 c arg4 harg4 arg5 harg5 arg6 harg6 arg7 harg7 x3 x4 x5 x6) = (stepG' 1#32 2#32 (sl.r_7 c arg4 harg4 arg5 harg5 arg6 harg6 arg7 harg7 x3 x4 x5 x6)) := rfl
theorem b1_2x : (sl.v895 c arg3 harg3 x2) = (stepG 2#32 4#32 (sl.v847 c arg3 harg3 x2)) := rfl
theorem b1_2y : (sl.v900 c arg4 harg4 arg5 harg5 arg6 harg6 arg7 harg7 x3 x4 x5 x6) = (stepG' 2#32 4#32 (sl.v852 c arg4 harg4 arg5 harg5 arg6 harg6 arg7 harg7 x3 x4 x5 x6)) := rfl
theorem b1_3x : (sl.v943 c arg3 harg3 x2) = (stepG 1#32 4#32 (sl.v895 c arg3 harg3 x2)) := rfl
theorem b1_3y : (sl.v948 c arg4 harg4 arg5 harg5 arg6 harg6 arg7 harg7 x3 x4 x5 x6) = (stepG' 1#32 4#32 (sl.v900 c arg4 harg4 arg5 harg5 arg6 harg6 arg7 harg7 x3 x4 x5 x6)) := rfl
theorem b1_4x : (sl.v991 c arg3 harg3 x2) = (stepG 4#32 8#32 (sl.v943 c arg3 harg3 x2)) := rfl
theorem b1_4y : (sl.v996 c arg4 harg4 arg5 harg5 arg6 harg6 arg7 harg7 x3 x4 x5 x6) = (stepG' 4#32 8#32 (sl.v948 c arg4 harg4 arg5 harg5 arg6 harg6 arg7 harg7 x3 x4 x5 x6)) := rfl
theorem b1_5x : (sl.v1039 c arg3 harg3 x2) = (stepG 2#32 8#32 (sl.v991 c arg3 harg3 x2)) := rfl
theorem b1_5y : (sl.v1044 c arg4 harg4 arg5 harg5 arg6 harg6 arg7 harg7 x3 x4 x5 x6) = (stepG' 2#32 8#32 (sl.v996 c arg4 harg4 arg5 harg5 arg6 harg6 arg7 harg7 x3 x4 x5 x6)) := rfl
theorem b1_6x : (sl.v1087 c arg3 harg3 x2) = (stepG 1#32 8#32 (sl.v1039 c arg3 harg3 x2)) := rfl
theorem b1_6y : (sl.v1092 c arg4 harg4 arg5 harg5 arg6 harg6 arg7 harg7 x3 x4 x5 x6) = (stepG' 1#32 8#32 (sl.v1044 c arg4 harg4 arg5 harg5 arg6 harg6 arg7 harg7 x3 x4 x5 x6)) := rfl
theorem b1_7x : (sl.v1135 c arg3 harg3 x2) = (stepG 8#32 16#32 (sl.v1087 c arg3 harg3 x2)) := rfl
theorem b1_7y : (sl.v1140 c arg4 harg4 arg5 harg5 arg6 harg6 arg7 harg7 x3 x4 x5 x6) = (stepG' 8#32 16#32 (sl.v1092 c arg4 harg4 arg5 harg5 arg6 harg6 arg7 harg7 x3 x4 x5 x6)) := rfl
theorem b1_8x : (sl.v1183 c arg3 harg3 x2) = (stepG 4#32 16#32 (sl.v1135 c arg3 harg3 x2)) := rfl
theorem b1_8y : (sl.v1188 c arg4 harg4 arg5 harg5 arg6 harg6 arg7 harg7 x3 x4 x5 x6) = (stepG' 4#32 16#32 (sl.v1140 c arg4 harg4 arg5 harg5 arg6 harg6 arg7 harg7 x3 x4 x5 x6)) := rfl
theorem b1_9x : (sl.v1231 c arg3 harg3 x2) = (stepG 2#32 16#32 (sl.v1183 c arg3 harg3 x2)) := rfl
theorem b1_9y : (sl.v1236 c arg4 harg4 arg5 harg5 arg6 harg6 arg7 harg7 x3 x4 x5 x6) = (stepG' 2#32 16#32 (sl.v1188 c arg4 harg4 arg5 harg5 arg6 harg6 arg7 harg7 x3 x4 x5 x6)) := rfl
theorem b1_10x : (sl.v1279 c arg3 harg3 x2) = (stepG 1#32 16#32 (sl.v1231 c arg3 harg3 x2)) := rfl
theorem b1_10y : (sl.v1284 c arg4 harg4 arg5 harg5 arg6 harg6 arg7 harg7 x3 x4 x5 x6) = (stepG' 1#32 16#32 (sl.v1236 c arg4 harg4 arg5 harg5 arg6 harg6 arg7 harg7 x3 x4 x5 x6)) := rfl
theorem b1_11x : (sl.v1327 c arg3 harg3 x2) = (stepG 16#32 32#32 (sl.v1279 c arg3 harg3 x2)) := rfl
theorem b1_11y : (sl.v1332 c arg4 harg4 arg5 harg5 arg6 harg6 arg7 harg7 x3 x4 x5 x6) = (stepG' 16#32 32#32 (sl.v1284 c arg4 harg4 arg5 harg5 arg6 harg6 arg7 harg7 x3 x4 x5 x6)) := rfl
theorem b1_12x : (sl.v1375 c arg3 harg3 x2) = (stepG 8#32 32#32 (sl.v1327 c arg3 harg3 x2)) := rfl
theorem b1_12y : (sl.v1380 c arg4 harg4 arg5 harg5 arg6 harg6 arg7 harg7 x3 x4 x5 x6) = (stepG' 8#32 32#32 (sl.v1332 c arg4 harg4 arg5 harg5 arg6 harg6 arg7 harg7 x3 x4 x5 x6)) := rfl
theorem b1_13x : (sl.v1423 c arg3 harg3 x2) = (stepG 4#32 32#32 (sl.v1375 c arg3 harg3 x2)) := rfl
theorem b1_13y : (sl.v1428 c arg4 harg4 arg5 harg5 arg6 harg6 arg7 harg7 x3 x4 x5 x6) = (stepG' 4#32 32#32 (sl.v1380 c arg4 harg4 arg5 harg5 arg6 harg6 arg7 harg7 x3 x4 x5 x6)) := rfl
theorem b1_14x : (sl.v1471 c arg3 harg3 x2) = (stepG 2#32 32#32 (sl.v1423 c arg3 harg3 x2)) := rfl
theorem b1_14y : (sl.v1476 c arg4 harg4 arg5 harg5 arg6 harg6 arg7 harg7 x3 x4 x5 x6) = (stepG' 2#32 32#32 (sl.v1428 c arg4 harg4 arg5 harg5 arg6 harg6 arg7 harg7 x3 x4 x5 x6)) := rfl
theorem b1_15x : (sl.v1519 c arg3 harg3 x2) = (stepG 1#32 32#32 (sl.v1471 c arg3 harg3 x2)) := rfl
theorem b1_15y : (sl.v1524 c arg4 harg4 arg5 harg5 arg6 harg6 arg7 harg7 x3 x4 x5 x6) = (stepG' 1#32 32#32 (sl.v1476 c arg4 harg4 arg5 harg5 arg6 harg6 arg7 harg7 x3 x4 x5 x6)) := rfl
theorem b1_16x : (sl.v1567 c arg3 harg3 x2) = (stepG 32#32 64#32 (sl.v1519 c arg3 harg3 x2)) := rfl
theorem b1_16y : (sl.v1572 c arg4 harg4 arg5 harg5 arg6 harg6 arg7 harg7 x3 x4 x5 x6) = (stepG' 32#32 64#32 (sl.v1524 c arg4 harg4 arg5 harg5 arg6 harg6 arg7 harg7 x3 x4 x5 x6)) := rfl
theorem b1_17x : (sl.v1615 c arg3 harg3 x2) = (stepG 16#32 64#32 (sl.v1567 c arg3 harg3 x2)) := rfl
theorem b1_17y : (sl.v1620 c arg4 harg4 arg5 harg5 arg6 harg6 arg7 harg7 x3 x4 x5 x6) = (stepG' 16#32 64#32 (sl.v1572 c arg4 harg4 arg5 harg5 arg6 harg6 arg7 harg7 x3 x4 x5 x6)) := rfl
theorem b1_18x : (sl.v1663 c arg3 harg3 x2) = (stepG 8#32 64#32 (sl.v1615 c arg3 harg3 x2)) := rfl
theorem b1_18y : (sl.v1668 c arg4 harg4 arg5 harg5 arg6 harg6 arg7 harg7 x3 x4 x5 x6) = (stepG' 8#32 64#32 (sl.v1620 c arg4 harg4 arg5 harg5 arg6 harg6 arg7 harg7 x3 x4 x5 x6)) := rfl
theorem b1_19x : (sl.v1711 c arg3 harg3 x2) = (stepG 4#32 64#32 (sl.v1663 c arg3 harg3 x2)) := rfl
theorem b1_19y : (sl.v1716 c arg4 harg4 arg5 harg5 arg6 harg6 arg7 harg7 x3 x4 x5 x6) = (stepG' 4#32 64#32 (sl.v1668 c arg4 harg4 arg5 harg5 arg6 harg6 arg7 harg7 x3 x4 x5 x6)) := rfl
theorem b1_20x : (sl.v1759 c arg3 harg3 x2) = (stepG 2#32 64#32 (sl.v1711 c arg3 harg3 x2)) := rfl
theorem b1_20y : (sl.v1764 c arg4 harg4 arg5 harg5 arg6 harg6 arg7 harg7 x3 x4 x5 x6) = (stepG' 2#32 64#32 (sl.v1716 c arg4 harg4 arg5 harg5 arg6 harg6 arg7 harg7 x3 x4 x5 x6)) := rfl
theorem b1_21x : (sl.v1807 c arg3 harg3 x2) = (stepG 1#32 64#32 (sl.v1759 c arg3 harg3 x2)) := rfl
theorem b1_21y : (sl.v1812 c arg4 harg4 arg5 harg5 arg6 harg6 arg7 harg7 x3 x4 x5 x6) = (stepG' 1#32 64#32 (sl.v1764 c arg4 harg4 arg5 harg5 arg6 harg6 arg7 harg7 x3 x4 x5 x6)) := rfl
theorem b1_22x : (sl.v1841 c arg3 harg3 x2) = (stepR 128#32 (sl.v1807 c arg3 harg3 x2)) := rfl
theorem b1_22y : (sl.v1846 c arg4 harg4 arg5 harg5 arg6 harg6 arg7 harg7 x3 x4 x5 x6) = (stepR' 128#32 (sl.v1812 c arg4 harg4 arg5 harg5 arg6 harg6 arg7 harg7 x3 x4 x5 x6)) := rfl
theorem b1_23x : (sl.v1889 c arg3 harg3 x2) = (stepG 32#32 128#32 (sl.v1841 c arg3 harg3 x2)) := rfl
theorem b1_23y : (sl.v1894 c arg4 harg4 arg5 harg5 arg6 harg6 arg7 harg7 x3 x4 x5 x6) = (stepG' 32#32 128#32 (sl.v1846 c arg4 harg4 arg5 harg5 arg6 harg6 arg7 harg7 x3 x4 x5 x6)) := rfl
theorem b1_24x : (sl.v1937 c arg3 harg3 x2) = (stepG 16#32 128#32 (sl.v1889 c arg3 harg3 x2)) := rfl
theorem b1_24y : (sl.v1942 c arg4 harg4 arg5 harg5 arg6 harg6 arg7 harg7 x3 x4 x5 x6) = (stepG' 16#32 128#32 (sl.v1894 c arg4 harg4 arg5 harg5 arg6 harg6 arg7 harg7 x3 x4 x5 x6)) := rfl
theorem b1_25x : (sl.v1985 c arg3 harg3 x2) = (stepG 8#32 128#32 (sl.v1937 c arg3 harg3 x2)) := rfl
theorem b1_25y : (sl.v1990 c arg4 harg4 arg5 harg5 arg6 harg6 arg7 harg7 x3 x4 x5 x6) = (stepG' 8#32 128#32 (sl.v1942 c arg4 harg4 arg5 harg5 arg6 harg6 arg7 harg7 x3 x4 x5 x6)) := rfl
theorem b1_26x : (sl.v2033 c arg3 harg3 x2) = (stepG 4#32 128#32 (sl.v1985 c arg3 harg3 x2)) := rfl
theorem b1_26y : (sl.v2038 c arg4 harg4 arg5 harg5 arg6 harg6 arg7 harg7 x3 x4 x5 x6) = (stepG' 4#32 128#32 (sl.v1990 c arg4 harg4 arg5 harg5 arg6 harg6 arg7 harg7 x3 x4 x5 x6)) := rfl
theorem b1_27x : (sl.v2081 c arg3 harg3 x2) = (stepG 2#32 128#32 (sl.v2033 c arg3 harg3 x2)) := rfl
theorem b1_27y : (sl.v2086 c arg4 harg4 arg5 harg5 arg6 harg6 arg7 harg7 x3 x4 x5 x6) = (stepG' 2#32 128#32 (sl.v2038 c arg4 harg4 arg5 harg5 arg6 harg6 arg7 harg7 x3 x4 x5 x6)) := rfl
theorem b1_28x : (sl.v2129 c arg3 harg3 x2) = (stepG 1#32 128#32 (sl.v2081 c arg3 harg3 x2)) := rfl
theorem b1_28y : (sl.v2134 c arg4 harg4 arg5 harg5 arg6 harg6 arg7 harg7 x3 x4 x5 x6) = (stepG' 1#32 128#32 (sl.v2086 c arg4 harg4 arg5 harg5 arg6 harg6 arg7 harg7 x3 x4 x5 x6)) := rfl
theorem b1_29x : (sl.v2135 c arg3 harg3 arg4 harg4 arg5 harg5 arg6 harg6 arg7 harg7 x2 x3 x4 x5 x6) = (minimumf (sl.v2129 c arg3 harg3 x2) (sl.v2134 c arg4 harg4 arg5 harg5 arg6 harg6 arg7 harg7 x3 x4 x5 x6)) := rfl
theorem b1_29y : (sl.v2136 c arg3 harg3 arg4 harg4 arg5 harg5 arg6 harg6 arg7 harg7 x2 x3 x4 x5 x6) = (maximumf (sl.v2129 c arg3 harg3 x2) (sl.v2134 c arg4 harg4 arg5 harg5 arg6 harg6 arg7 harg7 x3 x4 x5 x6)) := rfl
theorem b1_30x : (sl.v2165 c arg3 harg3 arg4 harg4 arg5 harg5 arg6 harg6 arg7 harg7 x2 x3 x4 x5 x6) = (stepR 256#32 (sl.v2135 c arg3 harg3 arg4 harg4 arg5 harg5 arg6 harg6 arg7 harg7 x2 x3 x4 x5 x6)) := rfl
theorem b1_30y : (sl.v2170 c arg3 harg3 arg4 harg4 arg5 harg5 arg6 harg6 arg7 harg7 x2 x3 x4 x5 x6) = (stepR' 256#32 (sl.v2136 c arg3 harg3 arg4 harg4 arg5 harg5 arg6 harg6 arg7 harg7 x2 x3 x4 x5 x6)) := rfl
theorem b1_31x : (sl.v2213 c arg3 harg3 arg4 harg4 arg5 harg5 arg6 harg6 arg7 harg7 x2 x3 x4 x5 x6) = (stepG 32#32 256#32 (sl.v2165 c arg3 harg3 arg4 harg4 arg5 harg5 arg6 harg6 arg7 harg7 x2 x3 x4 x5 x6)) := rfl
theorem b1_31y : (sl.v2218 c arg3 harg3 arg4 harg4 arg5 harg5 arg6 harg6 arg7 harg7 x2 x3 x4 x5 x6) = (stepG' 32#32 256#32 (sl.v2170 c arg3 harg3 arg4 harg4 arg5 harg5 arg6 harg6 arg7 harg7 x2 x3 x4 x5 x6)) := rfl
theorem b1_32x : (sl.v2261 c arg3 harg3 arg4 harg4 arg5 harg5 arg6 harg6 arg7 harg7 x2 x3 x4 x5 x6) = (stepG 16#32 256#32 (sl.v2213 c arg3 harg3 arg4 harg4 arg5 harg5 arg6 harg6 arg7 harg7 x2 x3 x4 x5 x6)) := rfl
theorem b1_32y : (sl.v2266 c arg3 harg3 arg4 harg4 arg5 harg5 arg6 harg6 arg7 harg7 x2 x3 x4 x5 x6) = (stepG' 16#32 256#32 (sl.v2218 c arg3 harg3 arg4 harg4 arg5 harg5 arg6 harg6 arg7 harg7 x2 x3 x4 x5 x6)) := rfl
theorem b1_33x : (sl.v2309 c arg3 harg3 arg4 harg4 arg5 harg5 arg6 harg6 arg7 harg7 x2 x3 x4 x5 x6) = (stepG 8#32 256#32 (sl.v2261 c arg3 harg3 arg4 harg4 arg5 harg5 arg6 harg6 arg7 harg7 x2 x3 x4 x5 x6)) := rfl
theorem b1_33y : (sl.v2314 c arg3 harg3 arg4 harg4 arg5 harg5 arg6 harg6 arg7 harg7 x2 x3 x4 x5 x6) = (stepG' 8#32 256#32 (sl.v2266 c arg3 harg3 arg4 harg4 arg5 harg5 arg6 harg6 arg7 harg7 x2 x3 x4 x5 x6)) := rfl
theorem b1_34x : (sl.v2357 c arg3 harg3 arg4 harg4 arg5 harg5 arg6 harg6 arg7 harg7 x2 x3 x4 x5 x6) = (stepG 4#32 256#32 (sl.v2309 c arg3 harg3 arg4 harg4 arg5 harg5 arg6 harg6 arg7 harg7 x2 x3 x4 x5 x6)) := rfl
theorem b1_34y : (sl.v2362 c arg3 harg3 arg4 harg4 arg5 harg5 arg6 harg6 arg7 harg7 x2 x3 x4 x5 x6) = (stepG' 4#32 256#32 (sl.v2314 c arg3 harg3 arg4 harg4 arg5 harg5 arg6 harg6 arg7 harg7 x2 x3 x4 x5 x6)) := rfl
theorem b1_35x : (sl.v2405 c arg3 harg3 arg4 harg4 arg5 harg5 arg6 harg6 arg7 harg7 x2 x3 x4 x5 x6) = (stepG 2#32 256#32 (sl.v2357 c arg3 harg3 arg4 harg4 arg5 harg5 arg6 harg6 arg7 harg7 x2 x3 x4 x5 x6)) := rfl
theorem b1_35y : (sl.v2410 c arg3 harg3 arg4 harg4 arg5 harg5 arg6 harg6 arg7 harg7 x2 x3 x4 x5 x6) = (stepG' 2#32 256#32 (sl.v2362 c arg3 harg3 arg4 harg4 arg5 harg5 arg6 harg6 arg7 harg7 x2 x3 x4 x5 x6)) := rfl
theorem b1_36x : (sl.v2453 c arg3 harg3 arg4 harg4 arg5 harg5 arg6 harg6 arg7 harg7 x2 x3 x4 x5 x6) = (stepG 1#32 256#32 (sl.v2405 c arg3 harg3 arg4 harg4 arg5 harg5 arg6 harg6 arg7 harg7 x2 x3 x4 x5 x6)) := rfl
theorem b1_36y : (sl.v2458 c arg3 harg3 arg4 harg4 arg5 harg5 arg6 harg6 arg7 harg7 x2 x3 x4 x5 x6) = (stepG' 1#32 256#32 (sl.v2410 c arg3 harg3 arg4 harg4 arg5 harg5 arg6 harg6 arg7 harg7 x2 x3 x4 x5 x6)) := rfl

theorem b1_1 (r : Fin 256) : rowOf (sl.v847 c arg3 harg3 x2) (sl.v852 c arg4 harg4 arg5 harg5 arg6 harg6 arg7 harg7 x3 x4 x5 x6) r = Network.apply (st 0 0) (rowOf (sl.r_6 c arg3 harg3 x2) (sl.r_7 c arg4 harg4 arg5 harg5 arg6 harg6 arg7 harg7 x3 x4 x5 x6) r) :=
  (congrArg₂ (fun X Y => rowOf X Y r) (b1_1x ..) (b1_1y ..)).trans (stepG_row 1#32 2#32 (s := 0) (l := 0) (by decide) (by decide) rfl rfl _ _ r)
theorem b1_2 (r : Fin 256) : rowOf (sl.v895 c arg3 harg3 x2) (sl.v900 c arg4 harg4 arg5 harg5 arg6 harg6 arg7 harg7 x3 x4 x5 x6) r = Network.apply (st 1 1) (rowOf (sl.v847 c arg3 harg3 x2) (sl.v852 c arg4 harg4 arg5 harg5 arg6 harg6 arg7 harg7 x3 x4 x5 x6) r) :=
  (congrArg₂ (fun X Y => rowOf X Y r) (b1_2x ..) (b1_2y ..)).trans (stepG_row 2#32 4#32 (s := 1) (l := 1) (by decide) (by decide) rfl rfl _ _ r)
theorem b1_3 (r : Fin 256) : rowOf (sl.v943 c arg3 harg3 x2) (sl.v948 c arg4 harg4 arg5 harg5 arg6 harg6 arg7 harg7 x3 x4 x5 x6) r = Network.apply (st 1 0) (rowOf (sl.v895 c arg3 harg3 x2) (sl.v900 c arg4 harg4 arg5 harg5 arg6 harg6 arg7 harg7 x3 x4 x5 x6) r) :=
  (congrArg₂ (fun X Y => rowOf X Y r) (b1_3x ..) (b1_3y ..)).trans (stepG_row 1#32 4#32 (s := 0) (l := 1) (by decide) (by decide) rfl rfl _ _ r)
theorem b1_4 (r : Fin 256) : rowOf (sl.v991 c arg3 harg3 x2) (sl.v996 c arg4 harg4 arg5 harg5 arg6 harg6 arg7 harg7 x3 x4 x5 x6) r = Network.apply (st 2 2) (rowOf (sl.v943 c arg3 harg3 x2) (sl.v948 c arg4 harg4 arg5 harg5 arg6 harg6 arg7 harg7 x3 x4 x5 x6) r) :=
  (congrArg₂ (fun X Y => rowOf X Y r) (b1_4x ..) (b1_4y ..)).trans (stepG_row 4#32 8#32 (s := 2) (l := 2) (by decide) (by decide) rfl rfl _ _ r)
theorem b1_5 (r : Fin 256) : rowOf (sl.v1039 c arg3 harg3 x2) (sl.v1044 c arg4 harg4 arg5 harg5 arg6 harg6 arg7 harg7 x3 x4 x5 x6) r = Network.apply (st 2 1) (rowOf (sl.v991 c arg3 harg3 x2) (sl.v996 c arg4 harg4 arg5 harg5 arg6 harg6 arg7 harg7 x3 x4 x5 x6) r) :=
  (congrArg₂ (fun X Y => rowOf X Y r) (b1_5x ..) (b1_5y ..)).trans (stepG_row 2#32 8#32 (s := 1) (l := 2) (by decide) (by decide) rfl rfl _ _ r)
theorem b1_6 (r : Fin 256) : rowOf (sl.v1087 c arg3 harg3 x2) (sl.v1092 c arg4 harg4 arg5 harg5 arg6 harg6 arg7 harg7 x3 x4 x5 x6) r = Network.apply (st 2 0) (rowOf (sl.v1039 c arg3 harg3 x2) (sl.v1044 c arg4 harg4 arg5 harg5 arg6 harg6 arg7 harg7 x3 x4 x5 x6) r) :=
  (congrArg₂ (fun X Y => rowOf X Y r) (b1_6x ..) (b1_6y ..)).trans (stepG_row 1#32 8#32 (s := 0) (l := 2) (by decide) (by decide) rfl rfl _ _ r)
theorem b1_7 (r : Fin 256) : rowOf (sl.v1135 c arg3 harg3 x2) (sl.v1140 c arg4 harg4 arg5 harg5 arg6 harg6 arg7 harg7 x3 x4 x5 x6) r = Network.apply (st 3 3) (rowOf (sl.v1087 c arg3 harg3 x2) (sl.v1092 c arg4 harg4 arg5 harg5 arg6 harg6 arg7 harg7 x3 x4 x5 x6) r) :=
  (congrArg₂ (fun X Y => rowOf X Y r) (b1_7x ..) (b1_7y ..)).trans (stepG_row 8#32 16#32 (s := 3) (l := 3) (by decide) (by decide) rfl rfl _ _ r)
theorem b1_8 (r : Fin 256) : rowOf (sl.v1183 c arg3 harg3 x2) (sl.v1188 c arg4 harg4 arg5 harg5 arg6 harg6 arg7 harg7 x3 x4 x5 x6) r = Network.apply (st 3 2) (rowOf (sl.v1135 c arg3 harg3 x2) (sl.v1140 c arg4 harg4 arg5 harg5 arg6 harg6 arg7 harg7 x3 x4 x5 x6) r) :=
  (congrArg₂ (fun X Y => rowOf X Y r) (b1_8x ..) (b1_8y ..)).trans (stepG_row 4#32 16#32 (s := 2) (l := 3) (by decide) (by decide) rfl rfl _ _ r)
theorem b1_9 (r : Fin 256) : rowOf (sl.v1231 c arg3 harg3 x2) (sl.v1236 c arg4 harg4 arg5 harg5 arg6 harg6 arg7 harg7 x3 x4 x5 x6) r = Network.apply (st 3 1) (rowOf (sl.v1183 c arg3 harg3 x2) (sl.v1188 c arg4 harg4 arg5 harg5 arg6 harg6 arg7 harg7 x3 x4 x5 x6) r) :=
  (congrArg₂ (fun X Y => rowOf X Y r) (b1_9x ..) (b1_9y ..)).trans (stepG_row 2#32 16#32 (s := 1) (l := 3) (by decide) (by decide) rfl rfl _ _ r)
theorem b1_10 (r : Fin 256) : rowOf (sl.v1279 c arg3 harg3 x2) (sl.v1284 c arg4 harg4 arg5 harg5 arg6 harg6 arg7 harg7 x3 x4 x5 x6) r = Network.apply (st 3 0) (rowOf (sl.v1231 c arg3 harg3 x2) (sl.v1236 c arg4 harg4 arg5 harg5 arg6 harg6 arg7 harg7 x3 x4 x5 x6) r) :=
  (congrArg₂ (fun X Y => rowOf X Y r) (b1_10x ..) (b1_10y ..)).trans (stepG_row 1#32 16#32 (s := 0) (l := 3) (by decide) (by decide) rfl rfl _ _ r)
theorem b1_11 (r : Fin 256) : rowOf (sl.v1327 c arg3 harg3 x2) (sl.v1332 c arg4 harg4 arg5 harg5 arg6 harg6 arg7 harg7 x3 x4 x5 x6) r = Network.apply (st 4 4) (rowOf (sl.v1279 c arg3 harg3 x2) (sl.v1284 c arg4 harg4 arg5 harg5 arg6 harg6 arg7 harg7 x3 x4 x5 x6) r) :=
  (congrArg₂ (fun X Y => rowOf X Y r) (b1_11x ..) (b1_11y ..)).trans (stepG_row 16#32 32#32 (s := 4) (l := 4) (by decide) (by decide) rfl rfl _ _ r)
theorem b1_12 (r : Fin 256) : rowOf (sl.v1375 c arg3 harg3 x2) (sl.v1380 c arg4 harg4 arg5 harg5 arg6 harg6 arg7 harg7 x3 x4 x5 x6) r = Network.apply (st 4 3) (rowOf (sl.v1327 c arg3 harg3 x2) (sl.v1332 c arg4 harg4 arg5 harg5 arg6 harg6 arg7 harg7 x3 x4 x5 x6) r) :=
  (congrArg₂ (fun X Y => rowOf X Y r) (b1_12x ..) (b1_12y ..)).trans (stepG_row 8#32 32#32 (s := 3) (l := 4) (by decide) (by decide) rfl rfl _ _ r)
theorem b1_13 (r : Fin 256) : rowOf (sl.v1423 c arg3 harg3 x2) (sl.v1428 c arg4 harg4 arg5 harg5 arg6 harg6 arg7 harg7 x3 x4 x5 x6) r = Network.apply (st 4 2) (rowOf (sl.v1375 c arg3 harg3 x2) (sl.v1380 c arg4 harg4 arg5 harg5 arg6 harg6 arg7 harg7 x3 x4 x5 x6) r) :=
  (congrArg₂ (fun X Y => rowOf X Y r) (b1_13x ..) (b1_13y ..)).trans (stepG_row 4#32 32#32 (s := 2) (l := 4) (by decide) (by decide) rfl rfl _ _ r)
theorem b1_14 (r : Fin 256) : rowOf (sl.v1471 c arg3 harg3 x2) (sl.v1476 c arg4 harg4 arg5 harg5 arg6 harg6 arg7 harg7 x3 x4 x5 x6) r = Network.apply (st 4 1) (rowOf (sl.v1423 c arg3 harg3 x2) (sl.v1428 c arg4 harg4 arg5 harg5 arg6 harg6 arg7 harg7 x3 x4 x5 x6) r) :=
  (congrArg₂ (fun X Y => rowOf X Y r) (b1_14x ..) (b1_14y ..)).trans (stepG_row 2#32 32#32 (s := 1) (l := 4) (by decide) (by decide) rfl rfl _ _ r)
theorem b1_15 (r : Fin 256) : rowOf (sl.v1519 c arg3 harg3 x2) (sl.v1524 c arg4 harg4 arg5 harg5 arg6 harg6 arg7 harg7 x3 x4 x5 x6) r = Network.apply (st 4 0) (rowOf (sl.v1471 c arg3 harg3 x2) (sl.v1476 c arg4 harg4 arg5 harg5 arg6 harg6 arg7 harg7 x3 x4 x5 x6) r) :=
  (congrArg₂ (fun X Y => rowOf X Y r) (b1_15x ..) (b1_15y ..)).trans (stepG_row 1#32 32#32 (s := 0) (l := 4) (by decide) (by decide) rfl rfl _ _ r)
theorem b1_16 (r : Fin 256) : rowOf (sl.v1567 c arg3 harg3 x2) (sl.v1572 c arg4 harg4 arg5 harg5 arg6 harg6 arg7 harg7 x3 x4 x5 x6) r = Network.apply (st 5 5) (rowOf (sl.v1519 c arg3 harg3 x2) (sl.v1524 c arg4 harg4 arg5 harg5 arg6 harg6 arg7 harg7 x3 x4 x5 x6) r) :=
  (congrArg₂ (fun X Y => rowOf X Y r) (b1_16x ..) (b1_16y ..)).trans (stepG_row 32#32 64#32 (s := 5) (l := 5) (by decide) (by decide) rfl rfl _ _ r)
theorem b1_17 (r : Fin 256) : rowOf (sl.v1615 c arg3 harg3 x2) (sl.v1620 c arg4 harg4 arg5 harg5 arg6 harg6 arg7 harg7 x3 x4 x5 x6) r = Network.apply (st 5 4) (rowOf (sl.v1567 c arg3 harg3 x2) (sl.v1572 c arg4 harg4 arg5 harg5 arg6 harg6 arg7 harg7 x3 x4 x5 x6) r) :=
  (congrArg₂ (fun X Y => rowOf X Y r) (b1_17x ..) (b1_17y ..)).trans (stepG_row 16#32 64#32 (s := 4) (l := 5) (by decide) (by decide) rfl rfl _ _ r)
theorem b1_18 (r : Fin 256) : rowOf (sl.v1663 c arg3 harg3 x2) (sl.v1668 c arg4 harg4 arg5 harg5 arg6 harg6 arg7 harg7 x3 x4 x5 x6) r = Network.apply (st 5 3) (rowOf (sl.v1615 c arg3 harg3 x2) (sl.v1620 c arg4 harg4 arg5 harg5 arg6 harg6 arg7 harg7 x3 x4 x5 x6) r) :=
  (congrArg₂ (fun X Y => rowOf X Y r) (b1_18x ..) (b1_18y ..)).trans (stepG_row 8#32 64#32 (s := 3) (l := 5) (by decide) (by decide) rfl rfl _ _ r)
theorem b1_19 (r : Fin 256) : rowOf (sl.v1711 c arg3 harg3 x2) (sl.v1716 c arg4 harg4 arg5 harg5 arg6 harg6 arg7 harg7 x3 x4 x5 x6) r = Network.apply (st 5 2) (rowOf (sl.v1663 c arg3 harg3 x2) (sl.v1668 c arg4 harg4 arg5 harg5 arg6 harg6 arg7 harg7 x3 x4 x5 x6) r) :=
  (congrArg₂ (fun X Y => rowOf X Y r) (b1_19x ..) (b1_19y ..)).trans (stepG_row 4#32 64#32 (s := 2) (l := 5) (by decide) (by decide) rfl rfl _ _ r)
theorem b1_20 (r : Fin 256) : rowOf (sl.v1759 c arg3 harg3 x2) (sl.v1764 c arg4 harg4 arg5 harg5 arg6 harg6 arg7 harg7 x3 x4 x5 x6) r = Network.apply (st 5 1) (rowOf (sl.v1711 c arg3 harg3 x2) (sl.v1716 c arg4 harg4 arg5 harg5 arg6 harg6 arg7 harg7 x3 x4 x5 x6) r) :=
  (congrArg₂ (fun X Y => rowOf X Y r) (b1_20x ..) (b1_20y ..)).trans (stepG_row 2#32 64#32 (s := 1) (l := 5) (by decide) (by decide) rfl rfl _ _ r)
theorem b1_21 (r : Fin 256) : rowOf (sl.v1807 c arg3 harg3 x2) (sl.v1812 c arg4 harg4 arg5 harg5 arg6 harg6 arg7 harg7 x3 x4 x5 x6) r = Network.apply (st 5 0) (rowOf (sl.v1759 c arg3 harg3 x2) (sl.v1764 c arg4 harg4 arg5 harg5 arg6 harg6 arg7 harg7 x3 x4 x5 x6) r) :=
  (congrArg₂ (fun X Y => rowOf X Y r) (b1_21x ..) (b1_21y ..)).trans (stepG_row 1#32 64#32 (s := 0) (l := 5) (by decide) (by decide) rfl rfl _ _ r)
theorem b1_22 (r : Fin 256) : rowOf (sl.v1841 c arg3 harg3 x2) (sl.v1846 c arg4 harg4 arg5 harg5 arg6 harg6 arg7 harg7 x3 x4 x5 x6) r = Network.apply (st 6 6) (rowOf (sl.v1807 c arg3 harg3 x2) (sl.v1812 c arg4 harg4 arg5 harg5 arg6 harg6 arg7 harg7 x3 x4 x5 x6) r) :=
  (congrArg₂ (fun X Y => rowOf X Y r) (b1_22x ..) (b1_22y ..)).trans (stepR_row 128#32 (l := 6) (by decide) rfl _ _ r)
theorem b1_23 (r : Fin 256) : rowOf (sl.v1889 c arg3 harg3 x2) (sl.v1894 c arg4 harg4 arg5 harg5 arg6 harg6 arg7 harg7 x3 x4 x5 x6) r = Network.apply (st 6 5) (rowOf (sl.v1841 c arg3 harg3 x2) (sl.v1846 c arg4 harg4 arg5 harg5 arg6 harg6 arg7 harg7 x3 x4 x5 x6) r) :=
  (congrArg₂ (fun X Y => rowOf X Y r) (b1_23x ..) (b1_23y ..)).trans (stepG_row 32#32 128#32 (s := 5) (l := 6) (by decide) (by decide) rfl rfl _ _ r)
theorem b1_24 (r : Fin 256) : rowOf (sl.v1937 c arg3 harg3 x2) (sl.v1942 c arg4 harg4 arg5 harg5 arg6 harg6 arg7 harg7 x3 x4 x5 x6) r = Network.apply (st 6 4) (rowOf (sl.v1889 c arg3 harg3 x2) (sl.v1894 c arg4 harg4 arg5 harg5 arg6 harg6 arg7 harg7 x3 x4 x5 x6) r) :=
  (congrArg₂ (fun X Y => rowOf X Y r) (b1_24x ..) (b1_24y ..)).trans (stepG_row 16#32 128#32 (s := 4) (l := 6) (by decide) (by decide) rfl rfl _ _ r)
theorem b1_25 (r : Fin 256) : rowOf (sl.v1985 c arg3 harg3 x2) (sl.v1990 c arg4 harg4 arg5 harg5 arg6 harg6 arg7 harg7 x3 x4 x5 x6) r = Network.apply (st 6 3) (rowOf (sl.v1937 c arg3 harg3 x2) (sl.v1942 c arg4 harg4 arg5 harg5 arg6 harg6 arg7 harg7 x3 x4 x5 x6) r) :=
  (congrArg₂ (fun X Y => rowOf X Y r) (b1_25x ..) (b1_25y ..)).trans (stepG_row 8#32 128#32 (s := 3) (l := 6) (by decide) (by decide) rfl rfl _ _ r)
theorem b1_26 (r : Fin 256) : rowOf (sl.v2033 c arg3 harg3 x2) (sl.v2038 c arg4 harg4 arg5 harg5 arg6 harg6 arg7 harg7 x3 x4 x5 x6) r = Network.apply (st 6 2) (rowOf (sl.v1985 c arg3 harg3 x2) (sl.v1990 c arg4 harg4 arg5 harg5 arg6 harg6 arg7 harg7 x3 x4 x5 x6) r) :=
  (congrArg₂ (fun X Y => rowOf X Y r) (b1_26x ..) (b1_26y ..)).trans (stepG_row 4#32 128#32 (s := 2) (l := 6) (by decide) (by decide) rfl rfl _ _ r)
theorem b1_27 (r : Fin 256) : rowOf (sl.v2081 c arg3 harg3 x2) (sl.v2086 c arg4 harg4 arg5 harg5 arg6 harg6 arg7 harg7 x3 x4 x5 x6) r = Network.apply (st 6 1) (rowOf (sl.v2033 c arg3 harg3 x2) (sl.v2038 c arg4 harg4 arg5 harg5 arg6 harg6 arg7 harg7 x3 x4 x5 x6) r) :=
  (congrArg₂ (fun X Y => rowOf X Y r) (b1_27x ..) (b1_27y ..)).trans (stepG_row 2#32 128#32 (s := 1) (l := 6) (by decide) (by decide) rfl rfl _ _ r)
theorem b1_28 (r : Fin 256) : rowOf (sl.v2129 c arg3 harg3 x2) (sl.v2134 c arg4 harg4 arg5 harg5 arg6 harg6 arg7 harg7 x3 x4 x5 x6) r = Network.apply (st 6 0) (rowOf (sl.v2081 c arg3 harg3 x2) (sl.v2086 c arg4 harg4 arg5 harg5 arg6 harg6 arg7 harg7 x3 x4 x5 x6) r) :=
  (congrArg₂ (fun X Y => rowOf X Y r) (b1_28x ..) (b1_28y ..)).trans (stepG_row 1#32 128#32 (s := 0) (l := 6) (by decide) (by decide) rfl rfl _ _ r)
theorem b1_29 (r : Fin 256) : rowOf (sl.v2135 c arg3 harg3 arg4 harg4 arg5 harg5 arg6 harg6 arg7 harg7 x2 x3 x4 x5 x6) (sl.v2136 c arg3 harg3 arg4 harg4 arg5 harg5 arg6 harg6 arg7 harg7 x2 x3 x4 x5 x6) r = Network.apply (st 7 7) (rowOf (sl.v2129 c arg3 harg3 x2) (sl.v2134 c arg4 harg4 arg5 harg5 arg6 harg6 arg7 harg7 x3 x4 x5 x6) r) :=
  (congrArg₂ (fun X Y => rowOf X Y r) (b1_29x ..) (b1_29y ..)).trans (stepM_row _ _ r)
theorem b1_30 (r : Fin 256) : rowOf (sl.v2165 c arg3 harg3 arg4 harg4 arg5 harg5 arg6 harg6 arg7 harg7 x2 x3 x4 x5 x6) (sl.v2170 c arg3 harg3 arg4 harg4 arg5 harg5 arg6 harg6 arg7 harg7 x2 x3 x4 x5 x6) r = Network.apply (st 7 6) (rowOf (sl.v2135 c arg3 harg3 arg4 harg4 arg5 harg5 arg6 harg6 arg7 harg7 x2 x3 x4 x5 x6) (sl.v2136 c arg3 harg3 arg4 harg4 arg5 harg5 arg6 harg6 arg7 harg7 x2 x3 x4 x5 x6) r) :=
  (congrArg₂ (fun X Y => rowOf X Y r) (b1_30x ..) (b1_30y ..)).trans (stepR_row 256#32 (l := 7) (by decide) rfl _ _ r)
theorem b1_31 (r : Fin 256) : rowOf (sl.v2213 c arg3 harg3 arg4 harg4 arg5 harg5 arg6 harg6 arg7 harg7 x2 x3 x4 x5 x6) (sl.v2218 c arg3 harg3 arg4 harg4 arg5 harg5 arg6 harg6 arg7 harg7 x2 x3 x4 x5 x6) r = Network.apply (st 7 5) (rowOf (sl.v2165 c arg3 harg3 arg4 harg4 arg5 harg5 arg6 harg6 arg7 harg7 x2 x3 x4 x5 x6) (sl.v2170 c arg3 harg3 arg4 harg4 arg5 harg5 arg6 harg6 arg7 harg7 x2 x3 x4 x5 x6) r) :=
  (congrArg₂ (fun X Y => rowOf X Y r) (b1_31x ..) (b1_31y ..)).trans (stepG_row 32#32 256#32 (s := 5) (l := 7) (by decide) (by decide) rfl rfl _ _ r)
theorem b1_32 (r : Fin 256) : rowOf (sl.v2261 c arg3 harg3 arg4 harg4 arg5 harg5 arg6 harg6 arg7 harg7 x2 x3 x4 x5 x6) (sl.v2266 c arg3 harg3 arg4 harg4 arg5 harg5 arg6 harg6 arg7 harg7 x2 x3 x4 x5 x6) r = Network.apply (st 7 4) (rowOf (sl.v2213 c arg3 harg3 arg4 harg4 arg5 harg5 arg6 harg6 arg7 harg7 x2 x3 x4 x5 x6) (sl.v2218 c arg3 harg3 arg4 harg4 arg5 harg5 arg6 harg6 arg7 harg7 x2 x3 x4 x5 x6) r) :=
  (congrArg₂ (fun X Y => rowOf X Y r) (b1_32x ..) (b1_32y ..)).trans (stepG_row 16#32 256#32 (s := 4) (l := 7) (by decide) (by decide) rfl rfl _ _ r)
theorem b1_33 (r : Fin 256) : rowOf (sl.v2309 c arg3 harg3 arg4 harg4 arg5 harg5 arg6 harg6 arg7 harg7 x2 x3 x4 x5 x6) (sl.v2314 c arg3 harg3 arg4 harg4 arg5 harg5 arg6 harg6 arg7 harg7 x2 x3 x4 x5 x6) r = Network.apply (st 7 3) (rowOf (sl.v2261 c arg3 harg3 arg4 harg4 arg5 harg5 arg6 harg6 arg7 harg7 x2 x3 x4 x5 x6) (sl.v2266 c arg3 harg3 arg4 harg4 arg5 harg5 arg6 harg6 arg7 harg7 x2 x3 x4 x5 x6) r) :=
  (congrArg₂ (fun X Y => rowOf X Y r) (b1_33x ..) (b1_33y ..)).trans (stepG_row 8#32 256#32 (s := 3) (l := 7) (by decide) (by decide) rfl rfl _ _ r)
theorem b1_34 (r : Fin 256) : rowOf (sl.v2357 c arg3 harg3 arg4 harg4 arg5 harg5 arg6 harg6 arg7 harg7 x2 x3 x4 x5 x6) (sl.v2362 c arg3 harg3 arg4 harg4 arg5 harg5 arg6 harg6 arg7 harg7 x2 x3 x4 x5 x6) r = Network.apply (st 7 2) (rowOf (sl.v2309 c arg3 harg3 arg4 harg4 arg5 harg5 arg6 harg6 arg7 harg7 x2 x3 x4 x5 x6) (sl.v2314 c arg3 harg3 arg4 harg4 arg5 harg5 arg6 harg6 arg7 harg7 x2 x3 x4 x5 x6) r) :=
  (congrArg₂ (fun X Y => rowOf X Y r) (b1_34x ..) (b1_34y ..)).trans (stepG_row 4#32 256#32 (s := 2) (l := 7) (by decide) (by decide) rfl rfl _ _ r)
theorem b1_35 (r : Fin 256) : rowOf (sl.v2405 c arg3 harg3 arg4 harg4 arg5 harg5 arg6 harg6 arg7 harg7 x2 x3 x4 x5 x6) (sl.v2410 c arg3 harg3 arg4 harg4 arg5 harg5 arg6 harg6 arg7 harg7 x2 x3 x4 x5 x6) r = Network.apply (st 7 1) (rowOf (sl.v2357 c arg3 harg3 arg4 harg4 arg5 harg5 arg6 harg6 arg7 harg7 x2 x3 x4 x5 x6) (sl.v2362 c arg3 harg3 arg4 harg4 arg5 harg5 arg6 harg6 arg7 harg7 x2 x3 x4 x5 x6) r) :=
  (congrArg₂ (fun X Y => rowOf X Y r) (b1_35x ..) (b1_35y ..)).trans (stepG_row 2#32 256#32 (s := 1) (l := 7) (by decide) (by decide) rfl rfl _ _ r)
theorem b1_36 (r : Fin 256) : rowOf (sl.v2453 c arg3 harg3 arg4 harg4 arg5 harg5 arg6 harg6 arg7 harg7 x2 x3 x4 x5 x6) (sl.v2458 c arg3 harg3 arg4 harg4 arg5 harg5 arg6 harg6 arg7 harg7 x2 x3 x4 x5 x6) r = Network.apply (st 7 0) (rowOf (sl.v2405 c arg3 harg3 arg4 harg4 arg5 harg5 arg6 harg6 arg7 harg7 x2 x3 x4 x5 x6) (sl.v2410 c arg3 harg3 arg4 harg4 arg5 harg5 arg6 harg6 arg7 harg7 x2 x3 x4 x5 x6) r) :=
  (congrArg₂ (fun X Y => rowOf X Y r) (b1_36x ..) (b1_36y ..)).trans (stepG_row 1#32 256#32 (s := 0) (l := 7) (by decide) (by decide) rfl rfl _ _ r)

/-- The whole sort of the sub-block, along a row. -/
theorem sorted1 (r : Fin 256) :
    rowOf (sl.v2453 c arg3 harg3 arg4 harg4 arg5 harg5 arg6 harg6 arg7 harg7 x2 x3 x4 x5 x6) (sl.v2458 c arg3 harg3 arg4 harg4 arg5 harg5 arg6 harg6 arg7 harg7 x2 x3 x4 x5 x6) r = Network.apply (sortNet 8 false) (rowOf (sl.r_6 c arg3 harg3 x2) (sl.r_7 c arg4 harg4 arg5 harg5 arg6 harg6 arg7 harg7 x3 x4 x5 x6) r) := by
  rw [sortNet_layers, b1_36, b1_35, b1_34, b1_33, b1_32, b1_31, b1_30, b1_29, b1_28, b1_27, b1_26, b1_25, b1_24, b1_23, b1_22, b1_21, b1_20, b1_19, b1_18, b1_17, b1_16, b1_15, b1_14, b1_13, b1_12, b1_11, b1_10, b1_9, b1_8, b1_7, b1_6, b1_5, b1_4, b1_3, b1_2, b1_1]

end Cert.Proof

end
-- ==== Proof.SortB.lean ====
/- The second sub-block of rows: its values, layer by layer, run the sorting network along every row. -/
module

public import proofs.«01_k».proof.Proof.Layers
public import proofs.«01_k».proof.Proof.Gen.KernelIdeal.Frame

@[expose] public section

noncomputable section

namespace Cert.Proof

open Idealize.ShloMosaic Idealize.ShloMosaic.SortNet Cert.KernelIdeal Cert.KernelIdeal.Gen Cert.KernelIdeal.Gen.kernelRun0_A

variable (c : Dev nD)
  (arg1 : Memref sig .tc .vmem S512x3 .f32) (harg1 : arg1.IsWhole)
  (arg2 : Memref sig .tc .vmem S512x3 .f32) (harg2 : arg2.IsWhole)
  (arg3 : Memref sig .tc .vmem S512x64 .f32) (harg3 : arg3.IsWhole)
  (arg4 : Memref sig .tc .vmem S64x512 .f32) (harg4 : arg4.IsWhole)
  (arg5 : Memref sig .tc .vmem S64x512 .f32) (harg5 : arg5.IsWhole)
  (arg6 : Memref sig .tc .vmem S128x64 .f32) (harg6 : arg6.IsWhole)
  (arg7 : Memref sig .tc .vmem S128x64 .f32) (harg7 : arg7.IsWhole)
  (arg8 : Memref sig .tc .vmem S192x576 .f32) (harg8 : arg8.IsWhole)
  (arg9 : Memref sig .tc .vmem S3x576 .f32) (harg9 : arg9.IsWhole)
  (x0 : Vec Ideal S512x3 .f32) (x1 : Vec Ideal S512x3 .f32) (x2 : Vec Ideal S512x64 .f32) (x3 : Vec Ideal S64x512 .f32) (x4 : Vec Ideal S64x512 .f32) (x5 : Vec Ideal S128x64 .f32) (x6 : Vec Ideal S128x64 .f32) (x7 : Vec Ideal S192x576 .f32) (x8 : Vec Ideal S3x576 .f32)

theorem b2_1x : (sl.v2536 c arg3 harg3 x2) = (stepG 1#32 2#32 (sl.v2492 c arg3 harg3 x2)) := rfl
theorem b2_1y : (sl.v2541 c arg4 harg4 arg5 harg5 arg6 harg6 arg7 harg7 x3 x4 x5 x6) = (stepG' 1#32 2#32 (sl.v2493 c arg4 harg4 arg5 harg5 arg6 harg6 arg7 harg7 x3 x4 x5 x6)) := rfl
theorem b2_2x : (sl.v2584 c arg3 harg3 x2) = (stepG 2#32 4#32 (sl.v2536 c arg3 harg3 x2)) := rfl
theorem b2_2y : (sl.v2589 c arg4 harg4 arg5 harg5 arg6 harg6 arg7 harg7 x3 x4 x5 x6) = (stepG' 2#32 4#32 (sl.v2541 c arg4 harg4 arg5 harg5 arg6 harg6 arg7 harg7 x3 x4 x5 x6)) := rfl
theorem b2_3x : (sl.v2632 c arg3 harg3 x2) = (stepG 1#32 4#32 (sl.v2584 c arg3 harg3 x2)) := rfl
theorem b2_3y : (sl.v2637 c arg4 harg4 arg5 harg5 arg6 harg6 arg7 harg7 x3 x4 x5 x6) = (stepG' 1#32 4#32 (sl.v2589 c arg4 harg4 arg5 harg5 arg6 harg6 arg7 harg7 x3 x4 x5 x6)) := rfl
theorem b2_4x : (sl.v2680 c arg3 harg3 x2) = (stepG 4#32 8#32 (sl.v2632 c arg3 harg3 x2)) := rfl
theorem b2_4y : (sl.v2685 c arg4 harg4 arg5 harg5 arg6 harg6 arg7 harg7 x3 x4 x5 x6) = (stepG' 4#32 8#32 (sl.v2637 c arg4 harg4 arg5 harg5 arg6 harg6 arg7 harg7 x3 x4 x5 x6)) := rfl
theorem b2_5x : (sl.v2728 c arg3 harg3 x2) = (stepG 2#32 8#32 (sl.v2680 c arg3 harg3 x2)) := rfl
theorem b2_5y : (sl.v2733 c arg4 harg4 arg5 harg5 arg6 harg6 arg7 harg7 x3 x4 x5 x6) = (stepG' 2#32 8#32 (sl.v2685 c arg4 harg4 arg5 harg5 arg6 harg6 arg7 harg7 x3 x4 x5 x6)) := rfl
theorem b2_6x : (sl.v2776 c arg3 harg3 x2) = (stepG 1#32 8#32 (sl.v2728 c arg3 harg3 x2)) := rfl
theorem b2_6y : (sl.v2781 c arg4 harg4 arg5 harg5 arg6 harg6 arg7 harg7 x3 x4 x5 x6) = (stepG' 1#32 8#32 (sl.v2733 c arg4 harg4 arg5 harg5 arg6 harg6 arg7 harg7 x3 x4 x5 x6)) := rfl
theorem b2_7x : (sl.v2824 c arg3 harg3 x2) = (stepG 8#32 16#32 (sl.v2776 c arg3 harg3 x2)) := rfl
theorem b2_7y : (sl.v2829 c arg4 harg4 arg5 harg5 arg6 harg6 arg7 harg7 x3 x4 x5 x6) = (stepG' 8#32 16#32 (sl.v2781 c arg4 harg4 arg5 harg5 arg6 harg6 arg7 harg7 x3 x4 x5 x6)) := rfl
theorem b2_8x : (sl.v2872 c arg3 harg3 x2) = (stepG 4#32 16#32 (sl.v2824 c arg3 harg3 x2)) := rfl
theorem b2_8y : (sl.v2877 c arg4 harg4 arg5 harg5 arg6 harg6 arg7 harg7 x3 x4 x5 x6) = (stepG' 4#32 16#32 (sl.v2829 c arg4 harg4 arg5 harg5 arg6 harg6 arg7 harg7 x3 x4 x5 x6)) := rfl
theorem b2_9x : (sl.v2920 c arg3 harg3 x2) = (stepG 2#32 16#32 (sl.v2872 c arg3 harg3 x2)) := rfl
theorem b2_9y : (sl.v2925 c arg4 harg4 arg5 harg5 arg6 harg6 arg7 harg7 x3 x4 x5 x6) = (stepG' 2#32 16#32 (sl.v2877 c arg4 harg4 arg5 harg5 arg6 harg6 arg7 harg7 x3 x4 x5 x6)) := rfl
theorem b2_10x : (sl.r_9 c arg3 harg3 x2) = (stepG 1#32 16#32 (sl.v2920 c arg3 harg3 x2)) := rfl
theorem b2_10y : (sl.r_10 c arg4 harg4 arg5 harg5 arg6 harg6 arg7 harg7 x3 x4 x5 x6) = (stepG' 1#32 16#32 (sl.v2925 c arg4 harg4 arg5 harg5 arg6 harg6 arg7 harg7 x3 x4 x5 x6)) := rfl
theorem b2_11x : (sl.r_11 c arg3 harg3 x2) = (stepG 16#32 32#32 (sl.r_9 c arg3 harg3 x2)) := rfl
theorem b2_11y : (sl.r_12 c arg4 harg4 arg5 harg5 arg6 harg6 arg7 harg7 x3 x4 x5 x6) = (stepG' 16#32 32#32 (sl.r_10 c arg4 harg4 arg5 harg5 arg6 harg6 arg7 harg7 x3 x4 x5 x6)) := rfl
theorem b2_12x : (sl.r_13 c arg3 harg3 x2) = (stepG 8#32 32#32 (sl.r_11 c arg3 harg3 x2)) := rfl
theorem b2_12y : (sl.r_14 c arg4 harg4 arg5 harg5 arg6 harg6 arg7 harg7 x3 x4 x5 x6) = (stepG' 8#32 32#32 (sl.r_12 c arg4 harg4 arg5 harg5 arg6 harg6 arg7 harg7 x3 x4 x5 x6)) := rfl
theorem b2_13x : (sl.r_15 c arg3 harg3 x2) = (stepG 4#32 32#32 (sl.r_13 c arg3 harg3 x2)) := rfl
theorem b2_13y : (sl.r_16 c arg4 harg4 arg5 harg5 arg6 harg6 arg7 harg7 x3 x4 x5 x6) = (stepG' 4#32 32#32 (sl.r_14 c arg4 harg4 arg5 harg5 arg6 harg6 arg7 harg7 x3 x4 x5 x6)) := rfl
theorem b2_14x : (sl.r_17 c arg3 harg3 x2) = (stepG 2#32 32#32 (sl.r_15 c arg3 harg3 x2)) := rfl
theorem b2_14y : (sl.r_18 c arg4 harg4 arg5 harg5 arg6 harg6 arg7 harg7 x3 x4 x5 x6) = (stepG' 2#32 32#32 (sl.r_16 c arg4 harg4 arg5 harg5 arg6 harg6 arg7 harg7 x3 x4 x5 x6)) := rfl
theorem b2_15x : (sl.r_19 c arg3 harg3 x2) = (stepG 1#32 32#32 (sl.r_17 c arg3 harg3 x2)) := rfl
theorem b2_16x : (sl.r_21 c arg3 harg3 x2) = (stepG 32#32 64#32 (sl.r_19 c arg3 harg3 x2)) := rfl
theorem b2_16y : (sl.r_22 c arg4 harg4 arg5 harg5 arg6 harg6 arg7 harg7 x3 x4 x5 x6) = (stepG' 32#32 64#32 (stepG' 1#32 32#32 (sl.r_18 c arg4 harg4 arg5 harg5 arg6 harg6 arg7 harg7 x3 x4 x5 x6))) := rfl
theorem b2_17x : (sl.r_23 c arg3 harg3 x2) = (stepG 16#32 64#32 (sl.r_21 c arg3 harg3 x2)) := rfl
theorem b2_17y : (stepG' 16#32 64#32 (sl.r_22 c arg4 harg4 arg5 harg5 arg6 harg6 arg7 harg7 x3 x4 x5 x6)) = (stepG' 16#32 64#32 (sl.r_22 c arg4 harg4 arg5 harg5 arg6 harg6 arg7 harg7 x3 x4 x5 x6)) := rfl
theorem b2_18x : (sl.r_26 c arg3 harg3 x2) = (stepG 8#32 64#32 (sl.r_23 c arg3 harg3 x2)) := rfl
theorem b2_18y : (sl.r_29 c arg4 harg4 arg5 harg5 arg6 harg6 arg7 harg7 x3 x4 x5 x6) = (stepG' 8#32 64#32 (stepG' 16#32 64#32 (sl.r_22 c arg4 harg4 arg5 harg5 arg6 harg6 arg7 harg7 x3 x4 x5 x6))) := rfl
theorem b2_19x : (sl.r_31 c arg3 harg3 x2) = (stepG 4#32 64#32 (sl.r_26 c arg3 harg3 x2)) := rfl
theorem b2_19y : (sl.r_32 c arg4 harg4 arg5 harg5 arg6 harg6 arg7 harg7 x3 x4 x5 x6) = (stepG' 4#32 64#32 (sl.r_29 c arg4 harg4 arg5 harg5 arg6 harg6 arg7 harg7 x3 x4 x5 x6)) := rfl
theorem b2_20x : (sl.r_36 c arg3 harg3 x2) = (stepG 2#32 64#32 (sl.r_31 c arg3 harg3 x2)) := rfl
theorem b2_20y : (sl.r_37 c arg4 harg4 arg5 harg5 arg6 harg6 arg7 harg7 x3 x4 x5 x6) = (stepG' 2#32 64#32 (sl.r_32 c arg4 harg4 arg5 harg5 arg6 harg6 arg7 harg7 x3 x4 x5 x6)) := rfl
theorem b2_22x : (sl.r_41 c arg3 harg3 x2) = (stepR 128#32 (stepG 1#32 64#32 (sl.r_36 c arg3 harg3 x2))) := rfl
theorem b2_22y : (sl.r_42 c arg4 harg4 arg5 harg5 arg6 harg6 arg7 harg7 x3 x4 x5 x6) = (stepR' 128#32 (stepG' 1#32 64#32 (sl.r_37 c arg4 harg4 arg5 harg5 arg6 harg6 arg7 harg7 x3 x4 x5 x6))) := rfl
theorem b2_23x : (sl.r_43 c arg3 harg3 x2) = (stepG 32#32 128#32 (sl.r_41 c arg3 harg3 x2)) := rfl
theorem b2_23y : (sl.r_44 c arg4 harg4 arg5 harg5 arg6 harg6 arg7 harg7 x3 x4 x5 x6) = (stepG' 32#32 128#32 (sl.r_42 c arg4 harg4 arg5 harg5 arg6 harg6 arg7 harg7 x3 x4 x5 x6)) := rfl
theorem b2_24x : (sl.r_45 c arg3 harg3 x2) = (stepG 16#32 128#32 (sl.r_43 c arg3 harg3 x2)) := rfl
theorem b2_24y : (sl.r_46 c arg4 harg4 arg5 harg5 arg6 harg6 arg7 harg7 x3 x4 x5 x6) = (stepG' 16#32 128#32 (sl.r_44 c arg4 harg4 arg5 harg5 arg6 harg6 arg7 harg7 x3 x4 x5 x6)) := rfl
theorem b2_25y : (sl.r_50 c arg4 harg4 arg5 harg5 arg6 harg6 arg7 harg7 x3 x4 x5 x6) = (stepG' 8#32 128#32 (sl.r_46 c arg4 harg4 arg5 harg5 arg6 harg6 arg7 harg7 x3 x4 x5 x6)) := rfl
theorem b2_26x : (sl.r_52 c arg3 harg3 x2) = (stepG 4#32 128#32 (stepG 8#32 128#32 (sl.r_45 c arg3 harg3 x2))) := rfl
theorem b2_26y : (sl.r_54 c arg4 harg4 arg5 harg5 arg6 harg6 arg7 harg7 x3 x4 x5 x6) = (stepG' 4#32 128#32 (sl.r_50 c arg4 harg4 arg5 harg5 arg6 harg6 arg7 harg7 x3 x4 x5 x6)) := rfl
theorem b2_27x : (stepG 2#32 128#32 (sl.r_52 c arg3 harg3 x2)) = (stepG 2#32 128#32 (sl.r_52 c arg3 harg3 x2)) := rfl
theorem b2_27y : (sl.r_58 c arg4 harg4 arg5 harg5 arg6 harg6 arg7 harg7 x3 x4 x5 x6) = (stepG' 2#32 128#32 (sl.r_54 c arg4 harg4 arg5 harg5 arg6 harg6 arg7 harg7 x3 x4 x5 x6)) := rfl
theorem b2_30x : (sl.r_62 c arg3 harg3 arg4 harg4 arg5 harg5 arg6 harg6 arg7 harg7 x2 x3 x4 x5 x6) = (stepR 256#32 (minimumf (stepG 1#32 128#32 (stepG 2#32 128#32 (sl.r_52 c arg3 harg3 x2))) (stepG' 1#32 128#32 (sl.r_58 c arg4 harg4 arg5 harg5 arg6 harg6 arg7 harg7 x3 x4 x5 x6)))) := rfl
theorem b2_31x : (sl.r_64 c arg3 harg3 arg4 harg4 arg5 harg5 arg6 harg6 arg7 harg7 x2 x3 x4 x5 x6) = (stepG 32#32 256#32 (sl.r_62 c arg3 harg3 arg4 harg4 arg5 harg5 arg6 harg6 arg7 harg7 x2 x3 x4 x5 x6)) := rfl
theorem b2_31y : (sl.r_65 c arg3 harg3 arg4 harg4 arg5 harg5 arg6 harg6 arg7 harg7 x2 x3 x4 x5 x6) = (stepG' 32#32 256#32 (stepR' 256#32 (maximumf (stepG 1#32 128#32 (stepG 2#32 128#32 (sl.r_52 c arg3 harg3 x2))) (stepG' 1#32 128#32 (sl.r_58 c arg4 harg4 arg5 harg5 arg6 harg6 arg7 harg7 x3 x4 x5 x6))))) := rfl
theorem b2_32x : (sl.r_66 c arg3 harg3 arg4 harg4 arg5 harg5 arg6 harg6 arg7 harg7 x2 x3 x4 x5 x6) = (stepG 16#32 256#32 (sl.r_64 c arg3 harg3 arg4 harg4 arg5 harg5 arg6 harg6 arg7 harg7 x2 x3 x4 x5 x6)) := rfl
theorem b2_32y : (stepG' 16#32 256#32 (sl.r_65 c arg3 harg3 arg4 harg4 arg5 harg5 arg6 harg6 arg7 harg7 x2 x3 x4 x5 x6)) = (stepG' 16#32 256#32 (sl.r_65 c arg3 harg3 arg4 harg4 arg5 harg5 arg6 harg6 arg7 harg7 x2 x3 x4 x5 x6)) := rfl
theorem b2_33x : (sl.r_69 c arg3 harg3 arg4 harg4 arg5 harg5 arg6 harg6 arg7 harg7 x2 x3 x4 x5 x6) = (stepG 8#32 256#32 (sl.r_66 c arg3 harg3 arg4 harg4 arg5 harg5 arg6 harg6 arg7 harg7 x2 x3 x4 x5 x6)) := rfl
theorem b2_33y : (sl.r_72 c arg3 harg3 arg4 harg4 arg5 harg5 arg6 harg6 arg7 harg7 x2 x3 x4 x5 x6) = (stepG' 8#32 256#32 (stepG' 16#32 256#32 (sl.r_65 c arg3 harg3 arg4 harg4 arg5 harg5 arg6 harg6 arg7 harg7 x2 x3 x4 x5 x6))) := rfl
theorem b2_34x : (sl.r_74 c arg3 harg3 arg4 harg4 arg5 harg5 arg6 harg6 arg7 harg7 x2 x3 x4 x5 x6) = (stepG 4#32 256#32 (sl.r_69 c arg3 harg3 arg4 harg4 arg5 harg5 arg6 harg6 arg7 harg7 x2 x3 x4 x5 x6)) := rfl
theorem b2_34y : (sl.r_75 c arg3 harg3 arg4 harg4 arg5 harg5 arg6 harg6 arg7 harg7 x2 x3 x4 x5 x6) = (stepG' 4#32 256#32 (sl.r_72 c arg3 harg3 arg4 harg4 arg5 harg5 arg6 harg6 arg7 harg7 x2 x3 x4 x5 x6)) := rfl
theorem b2_35x : (sl.r_79 c arg3 harg3 arg4 harg4 arg5 harg5 arg6 harg6 arg7 harg7 x2 x3 x4 x5 x6) = (stepG 2#32 256#32 (sl.r_74 c arg3 harg3 arg4 harg4 arg5 harg5 arg6 harg6 arg7 harg7 x2 x3 x4 x5 x6)) := rfl
theorem b2_35y : (sl.r_80 c arg3 harg3 arg4 harg4 arg5 harg5 arg6 harg6 arg7 harg7 x2 x3 x4 x5 x6) = (stepG' 2#32 256#32 (sl.r_75 c arg3 harg3 arg4 harg4 arg5 harg5 arg6 harg6 arg7 harg7 x2 x3 x4 x5 x6)) := rfl

theorem b2_1 (r : Fin 256) : rowOf (sl.v2536 c arg3 harg3 x2) (sl.v2541 c arg4 harg4 arg5 harg5 arg6 harg6 arg7 harg7 x3 x4 x5 x6) r = Network.apply (st 0 0) (rowOf (sl.v2492 c arg3 harg3 x2) (sl.v2493 c arg4 harg4 arg5 harg5 arg6 harg6 arg7 harg7 x3 x4 x5 x6) r) :=
  (congrArg₂ (fun X Y => rowOf X Y r) (b2_1x ..) (b2_1y ..)).trans (stepG_row 1#32 2#32 (s := 0) (l := 0) (by decide) (by decide) rfl rfl _ _ r)
theorem b2_2 (r : Fin 256) : rowOf (sl.v2584 c arg3 harg3 x2) (sl.v2589 c arg4 harg4 arg5 harg5 arg6 harg6 arg7 harg7 x3 x4 x5 x6) r = Network.apply (st 1 1) (rowOf (sl.v2536 c arg3 harg3 x2) (sl.v2541 c arg4 harg4 arg5 harg5 arg6 harg6 arg7 harg7 x3 x4 x5 x6) r) :=
  (congrArg₂ (fun X Y => rowOf X Y r) (b2_2x ..) (b2_2y ..)).trans (stepG_row 2#32 4#32 (s := 1) (l := 1) (by decide) (by decide) rfl rfl _ _ r)
theorem b2_3 (r : Fin 256) : rowOf (sl.v2632 c arg3 harg3 x2) (sl.v2637 c arg4 harg4 arg5 harg5 arg6 harg6 arg7 harg7 x3 x4 x5 x6) r = Network.apply (st 1 0) (rowOf (sl.v2584 c arg3 harg3 x2) (sl.v2589 c arg4 harg4 arg5 harg5 arg6 harg6 arg7 harg7 x3 x4 x5 x6) r) :=
  (congrArg₂ (fun X Y => rowOf X Y r) (b2_3x ..) (b2_3y ..)).trans (stepG_row 1#32 4#32 (s := 0) (l := 1) (by decide) (by decide) rfl rfl _ _ r)
theorem b2_4 (r : Fin 256) : rowOf (sl.v2680 c arg3 harg3 x2) (sl.v2685 c arg4 harg4 arg5 harg5 arg6 harg6 arg7 harg7 x3 x4 x5 x6) r = Network.apply (st 2 2) (rowOf (sl.v2632 c arg3 harg3 x2) (sl.v2637 c arg4 harg4 arg5 harg5 arg6 harg6 arg7 harg7 x3 x4 x5 x6) r) :=
  (congrArg₂ (fun X Y => rowOf X Y r) (b2_4x ..) (b2_4y ..)).trans (stepG_row 4#32 8#32 (s := 2) (l := 2) (by decide) (by decide) rfl rfl _ _ r)
theorem b2_5 (r : Fin 256) : rowOf (sl.v2728 c arg3 harg3 x2) (sl.v2733 c arg4 harg4 arg5 harg5 arg6 harg6 arg7 harg7 x3 x4 x5 x6) r = Network.apply (st 2 1) (rowOf (sl.v2680 c arg3 harg3 x2) (sl.v2685 c arg4 harg4 arg5 harg5 arg6 harg6 arg7 harg7 x3 x4 x5 x6) r) :=
  (congrArg₂ (fun X Y => rowOf X Y r) (b2_5x ..) (b2_5y ..)).trans (stepG_row 2#32 8#32 (s := 1) (l := 2) (by decide) (by decide) rfl rfl _ _ r)
theorem b2_6 (r : Fin 256) : rowOf (sl.v2776 c arg3 harg3 x2) (sl.v2781 c arg4 harg4 arg5 harg5 arg6 harg6 arg7 harg7 x3 x4 x5 x6) r = Network.apply (st 2 0) (rowOf (sl.v2728 c arg3 harg3 x2) (sl.v2733 c arg4 harg4 arg5 harg5 arg6 harg6 arg7 harg7 x3 x4 x5 x6) r) :=
  (congrArg₂ (fun X Y => rowOf X Y r) (b2_6x ..) (b2_6y ..)).trans (stepG_row 1#32 8#32 (s := 0) (l := 2) (by decide) (by decide) rfl rfl _ _ r)
theorem b2_7 (r : Fin 256) : rowOf (sl.v2824 c arg3 harg3 x2) (sl.v2829 c arg4 harg4 arg5 harg5 arg6 harg6 arg7 harg7 x3 x4 x5 x6) r = Network.apply (st 3 3) (rowOf (sl.v2776 c arg3 harg3 x2) (sl.v2781 c arg4 harg4 arg5 harg5 arg6 harg6 arg7 harg7 x3 x4 x5 x6) r) :=
  (congrArg₂ (fun X Y => rowOf X Y r) (b2_7x ..) (b2_7y ..)).trans (stepG_row 8#32 16#32 (s := 3) (l := 3) (by decide) (by decide) rfl rfl _ _ r)
theorem b2_8 (r : Fin 256) : rowOf (sl.v2872 c arg3 harg3 x2) (sl.v2877 c arg4 harg4 arg5 harg5 arg6 harg6 arg7 harg7 x3 x4 x5 x6) r = Network.apply (st 3 2) (rowOf (sl.v2824 c arg3 harg3 x2) (sl.v2829 c arg4 harg4 arg5 harg5 arg6 harg6 arg7 harg7 x3 x4 x5 x6) r) :=
  (congrArg₂ (fun X Y => rowOf X Y r) (b2_8x ..) (b2_8y ..)).trans (stepG_row 4#32 16#32 (s := 2) (l := 3) (by decide) (by decide) rfl rfl _ _ r)
theorem b2_9 (r : Fin 256) : rowOf (sl.v2920 c arg3 harg3 x2) (sl.v2925 c arg4 harg4 arg5 harg5 arg6 harg6 arg7 harg7 x3 x4 x5 x6) r = Network.apply (st 3 1) (rowOf (sl.v2872 c arg3 harg3 x2) (sl.v2877 c arg4 harg4 arg5 harg5 arg6 harg6 arg7 harg7 x3 x4 x5 x6) r) :=
  (congrArg₂ (fun X Y => rowOf X Y r) (b2_9x ..) (b2_9y ..)).trans (stepG_row 2#32 16#32 (s := 1) (l := 3) (by decide) (by decide) rfl rfl _ _ r)
theorem b2_10 (r : Fin 256) : rowOf (sl.r_9 c arg3 harg3 x2) (sl.r_10 c arg4 harg4 arg5 harg5 arg6 harg6 arg7 harg7 x3 x4 x5 x6) r = Network.apply (st 3 0) (rowOf (sl.v2920 c arg3 harg3 x2) (sl.v2925 c arg4 harg4 arg5 harg5 arg6 harg6 arg7 harg7 x3 x4 x5 x6) r) :=
  (congrArg₂ (fun X Y => rowOf X Y r) (b2_10x ..) (b2_10y ..)).trans (stepG_row 1#32 16#32 (s := 0) (l := 3) (by decide) (by decide) rfl rfl _ _ r)
theorem b2_11 (r : Fin 256) : rowOf (sl.r_11 c arg3 harg3 x2) (sl.r_12 c arg4 harg4 arg5 harg5 arg6 harg6 arg7 harg7 x3 x4 x5 x6) r = Network.apply (st 4 4) (rowOf (sl.r_9 c arg3 harg3 x2) (sl.r_10 c arg4 harg4 arg5 harg5 arg6 harg6 arg7 harg7 x3 x4 x5 x6) r) :=
  (congrArg₂ (fun X Y => rowOf X Y r) (b2_11x ..) (b2_11y ..)).trans (stepG_row 16#32 32#32 (s := 4) (l := 4) (by decide) (by decide) rfl rfl _ _ r)
theorem b2_12 (r : Fin 256) : rowOf (sl.r_13 c arg3 harg3 x2) (sl.r_14 c arg4 harg4 arg5 harg5 arg6 harg6 arg7 harg7 x3 x4 x5 x6) r = Network.apply (st 4 3) (rowOf (sl.r_11 c arg3 harg3 x2) (sl.r_12 c arg4 harg4 arg5 harg5 arg6 harg6 arg7 harg7 x3 x4 x5 x6) r) :=
  (congrArg₂ (fun X Y => rowOf X Y r) (b2_12x ..) (b2_12y ..)).trans (stepG_row 8#32 32#32 (s := 3) (l := 4) (by decide) (by decide) rfl rfl _ _ r)
theorem b2_13 (r : Fin 256) : rowOf (sl.r_15 c arg3 harg3 x2) (sl.r_16 c arg4 harg4 arg5 harg5 arg6 harg6 arg7 harg7 x3 x4 x5 x6) r = Network.apply (st 4 2) (rowOf (sl.r_13 c arg3 harg3 x2) (sl.r_14 c arg4 harg4 arg5 harg5 arg6 harg6 arg7 harg7 x3 x4 x5 x6) r) :=
  (congrArg₂ (fun X Y => rowOf X Y r) (b2_13x ..) (b2_13y ..)).trans (stepG_row 4#32 32#32 (s := 2) (l := 4) (by decide) (by decide) rfl rfl _ _ r)
theorem b2_14 (r : Fin 256) : rowOf (sl.r_17 c arg3 harg3 x2) (sl.r_18 c arg4 harg4 arg5 harg5 arg6 harg6 arg7 harg7 x3 x4 x5 x6) r = Network.apply (st 4 1) (rowOf (sl.r_15 c arg3 harg3 x2) (sl.r_16 c arg4 harg4 arg5 harg5 arg6 harg6 arg7 harg7 x3 x4 x5 x6) r) :=
  (congrArg₂ (fun X Y => rowOf X Y r) (b2_14x ..) (b2_14y ..)).trans (stepG_row 2#32 32#32 (s := 1) (l := 4) (by decide) (by decide) rfl rfl _ _ r)
theorem b2_15 (r : Fin 256) : rowOf (sl.r_19 c arg3 harg3 x2) (stepG' 1#32 32#32 (sl.r_18 c arg4 harg4 arg5 harg5 arg6 harg6 arg7 harg7 x3 x4 x5 x6)) r = Network.apply (st 4 0) (rowOf (sl.r_17 c arg3 harg3 x2) (sl.r_18 c arg4 harg4 arg5 harg5 arg6 harg6 arg7 harg7 x3 x4 x5 x6) r) :=
  (congrArg₂ (fun X Y => rowOf X Y r) (b2_15x ..) (rfl)).trans (stepG_row 1#32 32#32 (s := 0) (l := 4) (by decide) (by decide) rfl rfl _ _ r)
theorem b2_16 (r : Fin 256) : rowOf (sl.r_21 c arg3 harg3 x2) (sl.r_22 c arg4 harg4 arg5 harg5 arg6 harg6 arg7 harg7 x3 x4 x5 x6) r = Network.apply (st 5 5) (rowOf (sl.r_19 c arg3 harg3 x2) (stepG' 1#32 32#32 (sl.r_18 c arg4 harg4 arg5 harg5 arg6 harg6 arg7 harg7 x3 x4 x5 x6)) r) :=
  (congrArg₂ (fun X Y => rowOf X Y r) (b2_16x ..) (b2_16y ..)).trans (stepG_row 32#32 64#32 (s := 5) (l := 5) (by decide) (by decide) rfl rfl _ _ r)
theorem b2_17 (r : Fin 256) : rowOf (sl.r_23 c arg3 harg3 x2) (stepG' 16#32 64#32 (sl.r_22 c arg4 harg4 arg5 harg5 arg6 harg6 arg7 harg7 x3 x4 x5 x6)) r = Network.apply (st 5 4) (rowOf (sl.r_21 c arg3 harg3 x2) (sl.r_22 c arg4 harg4 arg5 harg5 arg6 harg6 arg7 harg7 x3 x4 x5 x6) r) :=
  (congrArg₂ (fun X Y => rowOf X Y r) (b2_17x ..) (b2_17y ..)).trans (stepG_row 16#32 64#32 (s := 4) (l := 5) (by decide) (by decide) rfl rfl _ _ r)
theorem b2_18 (r : Fin 256) : rowOf (sl.r_26 c arg3 harg3 x2) (sl.r_29 c arg4 harg4 arg5 harg5 arg6 harg6 arg7 harg7 x3 x4 x5 x6) r = Network.apply (st 5 3) (rowOf (sl.r_23 c arg3 harg3 x2) (stepG' 16#32 64#32 (sl.r_22 c arg4 harg4 arg5 harg5 arg6 harg6 arg7 harg7 x3 x4 x5 x6)) r) :=
  (congrArg₂ (fun X Y => rowOf X Y r) (b2_18x ..) (b2_18y ..)).trans (stepG_row 8#32 64#32 (s := 3) (l := 5) (by decide) (by decide) rfl rfl _ _ r)
theorem b2_19 (r : Fin 256) : rowOf (sl.r_31 c arg3 harg3 x2) (sl.r_32 c arg4 harg4 arg5 harg5 arg6 harg6 arg7 harg7 x3 x4 x5 x6) r = Network.apply (st 5 2) (rowOf (sl.r_26 c arg3 harg3 x2) (sl.r_29 c arg4 harg4 arg5 harg5 arg6 harg6 arg7 harg7 x3 x4 x5 x6) r) :=
  (congrArg₂ (fun X Y => rowOf X Y r) (b2_19x ..) (b2_19y ..)).trans (stepG_row 4#32 64#32 (s := 2) (l := 5) (by decide) (by decide) rfl rfl _ _ r)
theorem b2_20 (r : Fin 256) : rowOf (sl.r_36 c arg3 harg3 x2) (sl.r_37 c arg4 harg4 arg5 harg5 arg6 harg6 arg7 harg7 x3 x4 x5 x6) r = Network.apply (st 5 1) (rowOf (sl.r_31 c arg3 harg3 x2) (sl.r_32 c arg4 harg4 arg5 harg5 arg6 harg6 arg7 harg7 x3 x4 x5 x6) r) :=
  (congrArg₂ (fun X Y => rowOf X Y r) (b2_20x ..) (b2_20y ..)).trans (stepG_row 2#32 64#32 (s := 1) (l := 5) (by decide) (by decide) rfl rfl _ _ r)
theorem b2_21 (r : Fin 256) : rowOf (stepG 1#32 64#32 (sl.r_36 c arg3 harg3 x2)) (stepG' 1#32 64#32 (sl.r_37 c arg4 harg4 arg5 harg5 arg6 harg6 arg7 harg7 x3 x4 x5 x6)) r = Network.apply (st 5 0) (rowOf (sl.r_36 c arg3 harg3 x2) (sl.r_37 c arg4 harg4 arg5 harg5 arg6 harg6 arg7 harg7 x3 x4 x5 x6) r) :=
  (congrArg₂ (fun X Y => rowOf X Y r) (rfl) (rfl)).trans (stepG_row 1#32 64#32 (s := 0) (l := 5) (by decide) (by decide) rfl rfl _ _ r)
theorem b2_22 (r : Fin 256) : rowOf (sl.r_41 c arg3 harg3 x2) (sl.r_42 c arg4 harg4 arg5 harg5 arg6 harg6 arg7 harg7 x3 x4 x5 x6) r = Network.apply (st 6 6) (rowOf (stepG 1#32 64#32 (sl.r_36 c arg3 harg3 x2)) (stepG' 1#32 64#32 (sl.r_37 c arg4 harg4 arg5 harg5 arg6 harg6 arg7 harg7 x3 x4 x5 x6)) r) :=
  (congrArg₂ (fun X Y => rowOf X Y r) (b2_22x ..) (b2_22y ..)).trans (stepR_row 128#32 (l := 6) (by decide) rfl _ _ r)
theorem b2_23 (r : Fin 256) : rowOf (sl.r_43 c arg3 harg3 x2) (sl.r_44 c arg4 harg4 arg5 harg5 arg6 harg6 arg7 harg7 x3 x4 x5 x6) r = Network.apply (st 6 5) (rowOf (sl.r_41 c arg3 harg3 x2) (sl.r_42 c arg4 harg4 arg5 harg5 arg6 harg6 arg7 harg7 x3 x4 x5 x6) r) :=
  (congrArg₂ (fun X Y => rowOf X Y r) (b2_23x ..) (b2_23y ..)).trans (stepG_row 32#32 128#32 (s := 5) (l := 6) (by decide) (by decide) rfl rfl _ _ r)
theorem b2_24 (r : Fin 256) : rowOf (sl.r_45 c arg3 harg3 x2) (sl.r_46 c arg4 harg4 arg5 harg5 arg6 harg6 arg7 harg7 x3 x4 x5 x6) r = Network.apply (st 6 4) (rowOf (sl.r_43 c arg3 harg3 x2) (sl.r_44 c arg4 harg4 arg5 harg5 arg6 harg6 arg7 harg7 x3 x4 x5 x6) r) :=
  (congrArg₂ (fun X Y => rowOf X Y r) (b2_24x ..) (b2_24y ..)).trans (stepG_row 16#32 128#32 (s := 4) (l := 6) (by decide) (by decide) rfl rfl _ _ r)
theorem b2_25 (r : Fin 256) : rowOf (stepG 8#32 128#32 (sl.r_45 c arg3 harg3 x2)) (sl.r_50 c arg4 harg4 arg5 harg5 arg6 harg6 arg7 harg7 x3 x4 x5 x6) r = Network.apply (st 6 3) (rowOf (sl.r_45 c arg3 harg3 x2) (sl.r_46 c arg4 harg4 arg5 harg5 arg6 harg6 arg7 harg7 x3 x4 x5 x6) r) :=
  (congrArg₂ (fun X Y => rowOf X Y r) (rfl) (b2_25y ..)).trans (stepG_row 8#32 128#32 (s := 3) (l := 6) (by decide) (by decide) rfl rfl _ _ r)
theorem b2_26 (r : Fin 256) : rowOf (sl.r_52 c arg3 harg3 x2) (sl.r_54 c arg4 harg4 arg5 harg5 arg6 harg6 arg7 harg7 x3 x4 x5 x6) r = Network.apply (st 6 2) (rowOf (stepG 8#32 128#32 (sl.r_45 c arg3 harg3 x2)) (sl.r_50 c arg4 harg4 arg5 harg5 arg6 harg6 arg7 harg7 x3 x4 x5 x6) r) :=
  (congrArg₂ (fun X Y => rowOf X Y r) (b2_26x ..) (b2_26y ..)).trans (stepG_row 4#32 128#32 (s := 2) (l := 6) (by decide) (by decide) rfl rfl _ _ r)
theorem b2_27 (r : Fin 256) : rowOf (stepG 2#32 128#32 (sl.r_52 c arg3 harg3 x2)) (sl.r_58 c arg4 harg4 arg5 harg5 arg6 harg6 arg7 harg7 x3 x4 x5 x6) r = Network.apply (st 6 1) (rowOf (sl.r_52 c arg3 harg3 x2) (sl.r_54 c arg4 harg4 arg5 harg5 arg6 harg6 arg7 harg7 x3 x4 x5 x6) r) :=
  (congrArg₂ (fun X Y => rowOf X Y r) (b2_27x ..) (b2_27y ..)).trans (stepG_row 2#32 128#32 (s := 1) (l := 6) (by decide) (by decide) rfl rfl _ _ r)
theorem b2_28 (r : Fin 256) : rowOf (stepG 1#32 128#32 (stepG 2#32 128#32 (sl.r_52 c arg3 harg3 x2))) (stepG' 1#32 128#32 (sl.r_58 c arg4 harg4 arg5 harg5 arg6 harg6 arg7 harg7 x3 x4 x5 x6)) r = Network.apply (st 6 0) (rowOf (stepG 2#32 128#32 (sl.r_52 c arg3 harg3 x2)) (sl.r_58 c arg4 harg4 arg5 harg5 arg6 harg6 arg7 harg7 x3 x4 x5 x6) r) :=
  (congrArg₂ (fun X Y => rowOf X Y r) (rfl) (rfl)).trans (stepG_row 1#32 128#32 (s := 0) (l := 6) (by decide) (by decide) rfl rfl _ _ r)
theorem b2_29 (r : Fin 256) : rowOf (minimumf (stepG 1#32 128#32 (stepG 2#32 128#32 (sl.r_52 c arg3 harg3 x2))) (stepG' 1#32 128#32 (sl.r_58 c arg4 harg4 arg5 harg5 arg6 harg6 arg7 harg7 x3 x4 x5 x6))) (maximumf (stepG 1#32 128#32 (stepG 2#32 128#32 (sl.r_52 c arg3 harg3 x2))) (stepG' 1#32 128#32 (sl.r_58 c arg4 harg4 arg5 harg5 arg6 harg6 arg7 harg7 x3 x4 x5 x6))) r = Network.apply (st 7 7) (rowOf (stepG 1#32 128#32 (stepG 2#32 128#32 (sl.r_52 c arg3 harg3 x2))) (stepG' 1#32 128#32 (sl.r_58 c arg4 harg4 arg5 harg5 arg6 harg6 arg7 harg7 x3 x4 x5 x6)) r) :=
  (congrArg₂ (fun X Y => rowOf X Y r) (rfl) (rfl)).trans (stepM_row _ _ r)
theorem b2_30 (r : Fin 256) : rowOf (sl.r_62 c arg3 harg3 arg4 harg4 arg5 harg5 arg6 harg6 arg7 harg7 x2 x3 x4 x5 x6) (stepR' 256#32 (maximumf (stepG 1#32 128#32 (stepG 2#32 128#32 (sl.r_52 c arg3 harg3 x2))) (stepG' 1#32 128#32 (sl.r_58 c arg4 harg4 arg5 harg5 arg6 harg6 arg7 harg7 x3 x4 x5 x6)))) r = Network.apply (st 7 6) (rowOf (minimumf (stepG 1#32 128#32 (stepG 2#32 128#32 (sl.r_52 c arg3 harg3 x2))) (stepG' 1#32 128#32 (sl.r_58 c arg4 harg4 arg5 harg5 arg6 harg6 arg7 harg7 x3 x4 x5 x6))) (maximumf (stepG 1#32 128#32 (stepG 2#32 128#32 (sl.r_52 c arg3 harg3 x2))) (stepG' 1#32 128#32 (sl.r_58 c arg4 harg4 arg5 harg5 arg6 harg6 arg7 harg7 x3 x4 x5 x6))) r) :=
  (congrArg₂ (fun X Y => rowOf X Y r) (b2_30x ..) (rfl)).trans (stepR_row 256#32 (l := 7) (by decide) rfl _ _ r)
theorem b2_31 (r : Fin 256) : rowOf (sl.r_64 c arg3 harg3 arg4 harg4 arg5 harg5 arg6 harg6 arg7 harg7 x2 x3 x4 x5 x6) (sl.r_65 c arg3 harg3 arg4 harg4 arg5 harg5 arg6 harg6 arg7 harg7 x2 x3 x4 x5 x6) r = Network.apply (st 7 5) (rowOf (sl.r_62 c arg3 harg3 arg4 harg4 arg5 harg5 arg6 harg6 arg7 harg7 x2 x3 x4 x5 x6) (stepR' 256#32 (maximumf (stepG 1#32 128#32 (stepG 2#32 128#32 (sl.r_52 c arg3 harg3 x2))) (stepG' 1#32 128#32 (sl.r_58 c arg4 harg4 arg5 harg5 arg6 harg6 arg7 harg7 x3 x4 x5 x6)))) r) :=
  (congrArg₂ (fun X Y => rowOf X Y r) (b2_31x ..) (b2_31y ..)).trans (stepG_row 32#32 256#32 (s := 5) (l := 7) (by decide) (by decide) rfl rfl _ _ r)
theorem b2_32 (r : Fin 256) : rowOf (sl.r_66 c arg3 harg3 arg4 harg4 arg5 harg5 arg6 harg6 arg7 harg7 x2 x3 x4 x5 x6) (stepG' 16#32 256#32 (sl.r_65 c arg3 harg3 arg4 harg4 arg5 harg5 arg6 harg6 arg7 harg7 x2 x3 x4 x5 x6)) r = Network.apply (st 7 4) (rowOf (sl.r_64 c arg3 harg3 arg4 harg4 arg5 harg5 arg6 harg6 arg7 harg7 x2 x3 x4 x5 x6) (sl.r_65 c arg3 harg3 arg4 harg4 arg5 harg5 arg6 harg6 arg7 harg7 x2 x3 x4 x5 x6) r) :=
  (congrArg₂ (fun X Y => rowOf X Y r) (b2_32x ..) (b2_32y ..)).trans (stepG_row 16#32 256#32 (s := 4) (l := 7) (by decide) (by decide) rfl rfl _ _ r)
theorem b2_33 (r : Fin 256) : rowOf (sl.r_69 c arg3 harg3 arg4 harg4 arg5 harg5 arg6 harg6 arg7 harg7 x2 x3 x4 x5 x6) (sl.r_72 c arg3 harg3 arg4 harg4 arg5 harg5 arg6 harg6 arg7 harg7 x2 x3 x4 x5 x6) r = Network.apply (st 7 3) (rowOf (sl.r_66 c arg3 harg3 arg4 harg4 arg5 harg5 arg6 harg6 arg7 harg7 x2 x3 x4 x5 x6) (stepG' 16#32 256#32 (sl.r_65 c arg3 harg3 arg4 harg4 arg5 harg5 arg6 harg6 arg7 harg7 x2 x3 x4 x5 x6)) r) :=
  (congrArg₂ (fun X Y => rowOf X Y r) (b2_33x ..) (b2_33y ..)).trans (stepG_row 8#32 256#32 (s := 3) (l := 7) (by decide) (by decide) rfl rfl _ _ r)
theorem b2_34 (r : Fin 256) : rowOf (sl.r_74 c arg3 harg3 arg4 harg4 arg5 harg5 arg6 harg6 arg7 harg7 x2 x3 x4 x5 x6) (sl.r_75 c arg3 harg3 arg4 harg4 arg5 harg5 arg6 harg6 arg7 harg7 x2 x3 x4 x5 x6) r = Network.apply (st 7 2) (rowOf (sl.r_69 c arg3 harg3 arg4 harg4 arg5 harg5 arg6 harg6 arg7 harg7 x2 x3 x4 x5 x6) (sl.r_72 c arg3 harg3 arg4 harg4 arg5 harg5 arg6 harg6 arg7 harg7 x2 x3 x4 x5 x6) r) :=
  (congrArg₂ (fun X Y => rowOf X Y r) (b2_34x ..) (b2_34y ..)).trans (stepG_row 4#32 256#32 (s := 2) (l := 7) (by decide) (by decide) rfl rfl _ _ r)
theorem b2_35 (r : Fin 256) : rowOf (sl.r_79 c arg3 harg3 arg4 harg4 arg5 harg5 arg6 harg6 arg7 harg7 x2 x3 x4 x5 x6) (sl.r_80 c arg3 harg3 arg4 harg4 arg5 harg5 arg6 harg6 arg7 harg7 x2 x3 x4 x5 x6) r = Network.apply (st 7 1) (rowOf (sl.r_74 c arg3 harg3 arg4 harg4 arg5 harg5 arg6 harg6 arg7 harg7 x2 x3 x4 x5 x6) (sl.r_75 c arg3 harg3 arg4 harg4 arg5 harg5 arg6 harg6 arg7 harg7 x2 x3 x4 x5 x6) r) :=
  (congrArg₂ (fun X Y => rowOf X Y r) (b2_35x ..) (b2_35y ..)).trans (stepG_row 2#32 256#32 (s := 1) (l := 7) (by decide) (by decide) rfl rfl _ _ r)
theorem b2_36 (r : Fin 256) : rowOf (stepG 1#32 256#32 (sl.r_79 c arg3 harg3 arg4 harg4 arg5 harg5 arg6 harg6 arg7 harg7 x2 x3 x4 x5 x6)) (stepG' 1#32 256#32 (sl.r_80 c arg3 harg3 arg4 harg4 arg5 harg5 arg6 harg6 arg7 harg7 x2 x3 x4 x5 x6)) r = Network.apply (st 7 0) (rowOf (sl.r_79 c arg3 harg3 arg4 harg4 arg5 harg5 arg6 harg6 arg7 harg7 x2 x3 x4 x5 x6) (sl.r_80 c arg3 harg3 arg4 harg4 arg5 harg5 arg6 harg6 arg7 harg7 x2 x3 x4 x5 x6) r) :=
  (congrArg₂ (fun X Y => rowOf X Y r) (rfl) (rfl)).trans (stepG_row 1#32 256#32 (s := 0) (l := 7) (by decide) (by decide) rfl rfl _ _ r)

/-- The whole sort of the sub-block, along a row. -/
theorem sorted2 (r : Fin 256) :
    rowOf (stepG 1#32 256#32 (sl.r_79 c arg3 harg3 arg4 harg4 arg5 harg5 arg6 harg6 arg7 harg7 x2 x3 x4 x5 x6)) (stepG' 1#32 256#32 (sl.r_80 c arg3 harg3 arg4 harg4 arg5 harg5 arg6 harg6 arg7 harg7 x2 x3 x4 x5 x6)) r = Network.apply (sortNet 8 false) (rowOf (sl.v2492 c arg3 harg3 x2) (sl.v2493 c arg4 harg4 arg5 harg5 arg6 harg6 arg7 harg7 x3 x4 x5 x6) r) := by
  rw [sortNet_layers, b2_36, b2_35, b2_34, b2_33, b2_32, b2_31, b2_30, b2_29, b2_28, b2_27, b2_26, b2_25, b2_24, b2_23, b2_22, b2_21, b2_20, b2_19, b2_18, b2_17, b2_16, b2_15, b2_14, b2_13, b2_12, b2_11, b2_10, b2_9, b2_8, b2_7, b2_6, b2_5, b2_4, b2_3, b2_2, b2_1]

end Cert.Proof

end
-- ==== Proof.RefDefs.lean ====
/- The reference's result terms, named piece by piece: the midpoints, the weights, the cumulative distribution, the
   quantiles, the bin indices, the samples. -/
module

public import proofs.«01_k».proof.Proof.Gen.ReferenceIdeal.Run
public import Idealize.ShloMosaic.Lib.Pointwise

@[expose] public section

noncomputable section

namespace Cert.Ref

open Idealize.ShloMosaic Idealize.ShloMosaic.TcCoe Idealize.ShloMosaic.Pointwise Cert.ReferenceIdeal Cert.ReferenceIdeal.Gen Cert.ReferenceIdeal.Value

abbrev Ray := FVec Ideal S65536x64 .f32
abbrev Edges := FVec Ideal S65536x63 .f32
abbrev Inner := FVec Ideal S65536x62 .f32
abbrev Smp := FVec Ideal S65536x128 .f32
abbrev Ix := IVec S65536x128 32

/-- Midpoints of neighbouring depths. -/
def rBins (z : Ray) : Edges :=
  mulf (broadcastInDim S65536x63 ![] bcast_S_S65536x63 (constant S_ .f32 0x3F000000#32)) (addf (extractStridedSlice S65536x63 ![0, 1] z slices_S65536x64_S65536x63_0_1) (extractStridedSlice S65536x63 ![0, 0] z slices_S65536x64_S65536x63_0_0))

/-- The inner weights, made positive. -/
def rW (w : Ray) : Inner :=
  addf (extractStridedSlice S65536x62 ![0, 1] w slices_S65536x64_S65536x62_0_1) (broadcastInDim S65536x62 ![] bcast_S_S65536x62 (constant S_ .f32 0x3727C5AC#32))

def rTot (w : Ray) : FVec Ideal S65536 .f32 :=
  Host.reduceAdd (rW w) (constant S_ .f32 0x00000000#32) reducesTo_S65536x62_S65536_d1 h_S_

def rPdf (w : Ray) : Inner :=
  Host.divf (rW w) (broadcastInDim S65536x62 ![0, 1] bcast_S65536x1_S65536x62_0_1 (broadcastInDim S65536x1 ![0] bcast_S65536_S65536x1_0 (rTot w)))

def rCum (w : Ray) : Inner :=
  Host.reduceWindowAdd ![1, 62] ![1, 1] ![0, 61] ![0, 0] (rPdf w) (broadcastInDim S_ ![] bcast_S_S_ (constant S_ .f32 0x00000000#32)) reduceWindows_S65536x62_S65536x62_w1s1p0_0_w62s1p61_0 h_S_

/-- The cumulative distribution, from zero. -/
def rCdf (w : Ray) : Edges :=
  concatenate S65536x63 1 [⟨S65536x1, (broadcastInDim S65536x1 ![] bcast_S_S65536x1 (constant S_ .f32 0x00000000#32))⟩, ⟨S65536x62, rCum w⟩] concatenates_S65536x1_S65536x62_S65536x63_d1

/-- The quantiles. -/
def rU : Smp :=
  broadcastInDim S65536x128 ![1] bcast_S128_S65536x128_1 (Host.divf (sitofp .f32 (iotaInDim S128 32 0)) (broadcastInDim S128 ![] bcast_S_S128 (constant S_ .f32 0x42FE0000#32)))

def rLe (w : Ray) : IVec S65536x128x63 1 :=
  cmpf .ole (broadcastInDim S65536x128x63 ![0, 1, 2] bcast_S65536x1x63_S65536x128x63_0_1_2 (broadcastInDim S65536x1x63 ![0, 2] bcast_S65536x63_S65536x1x63_0_2 (rCdf w))) (broadcastInDim S65536x128x63 ![0, 1, 2] bcast_S65536x128x1_S65536x128x63_0_1_2 (broadcastInDim S65536x128x1 ![0, 1] bcast_S65536x128_S65536x128x1_0_1 rU))

/-- How many edges are not beyond the quantile. -/
def rInds (w : Ray) : Ix :=
  Host.reduce IntOp.addi (extui 32 (rLe w) natLt_1_32) (constantI S_ 32 0#32) reducesTo_S65536x128x63_S65536x128_d2 h_S_

def rClip (i : Ix) : Ix :=
  minsi (broadcastInDim S65536x128 ![] bcast_S_S65536x128 (id (constantI S_ 32 62#32))) (maxsi (broadcastInDim S65536x128 ![] bcast_S_S65536x128 (id (constantI S_ 32 0#32))) i)

def rBelow (w : Ray) : Ix :=
  rClip (subi (rInds w) (broadcastInDim S65536x128 ![] bcast_S_S65536x128 (constantI S_ 32 1#32)))

def rAbove (w : Ray) : Ix := rClip (rInds w)

def rWrap (i : Ix) : IVec S65536x128x1 32 :=
  shapeCast _ (select (cmpi .slt i (broadcastInDim S65536x128 ![] bcast_S_S65536x128 (constantI S_ 32 0#32))) (addi i (broadcastInDim S65536x128 ![] bcast_S_S65536x128 (constantI S_ 32 63#32))) i) shapeCasts_S65536x128_S65536x128x1

def rTake (x : Edges) (i : Ix) : Smp :=
  Host.gather gather_S65536x63_S65536x128x1_S65536x128_n_1_0_0_1_2_11 x (rWrap i)

def rGap (w : Ray) : Smp := subf (rTake (rCdf w) (rAbove w)) (rTake (rCdf w) (rBelow w))

def rDen (w : Ray) : Smp :=
  select (cmpf .olt (rGap w) (broadcastInDim S65536x128 ![] bcast_S_S65536x128 (constant S_ .f32 0x3727C5AC#32))) (broadcastInDim S65536x128 ![] bcast_S_S65536x128 (constant S_ .f32 0x3F800000#32)) (rGap w)

/-- The samples. -/
def rSamp (z w : Ray) : Smp :=
  addf (rTake (rBins z) (rBelow w))
    (mulf (Host.divf (subf rU (rTake (rCdf w) (rBelow w))) (rDen w))
      (subf (rTake (rBins z) (rAbove w)) (rTake (rBins z) (rBelow w))))

def rAll (z w : Ray) : FVec Ideal S65536x192 .f32 :=
  concatenate S65536x192 1 [⟨S65536x64, z⟩, ⟨S65536x128, rSamp z w⟩] concatenates_S65536x64_S65536x128_S65536x192_d1

def rSorted (z w : Ray) : FVec Ideal S65536x192 .f32 :=
  Host.sort S65536x192 1 comparator_f32_d1 (rAll z w)

/-- The points, with the last two axes flattened. -/
def rPts (o d : FVec Ideal S65536x3 .f32) (z w : Ray) : FVec Ideal S65536x576 .f32 :=
  shapeCast _ (addf (broadcastInDim S65536x192x3 ![0, 1, 2] bcast_S65536x1x3_S65536x192x3_0_1_2 (broadcastInDim S65536x1x3 ![0, 2] bcast_S65536x3_S65536x1x3_0_2 o)) (mulf (broadcastInDim S65536x192x3 ![0, 1, 2] bcast_S65536x1x3_S65536x192x3_0_1_2 (broadcastInDim S65536x1x3 ![0, 2] bcast_S65536x3_S65536x1x3_0_2 d)) (broadcastInDim S65536x192x3 ![0, 1, 2] bcast_S65536x192x1_S65536x192x3_0_1_2 (broadcastInDim S65536x192x1 ![0, 1] bcast_S65536x192_S65536x192x1_0_1 (rSorted z w))))) shapeCasts_S65536x192x3_S65536x576

variable (m : (ℓ : Loc nD τ sig) → Buf (Elt Ideal) ℓ) (c : Dev nD)

theorem res45 : res_main_v45 m c = rSamp (m ((c.tc : Thread nD τ).loc main_arg2)) (m ((c.tc : Thread nD τ).loc main_arg3)) := by
  unfold res_main_v45; rfl

theorem res47 : res_main_v47 m c = rSorted (m ((c.tc : Thread nD τ).loc main_arg2)) (m ((c.tc : Thread nD τ).loc main_arg3)) := by
  unfold res_main_v47; rfl

theorem res56 : res_main_v56 m c = rPts (m ((c.tc : Thread nD τ).loc main_arg0)) (m ((c.tc : Thread nD τ).loc main_arg1)) (m ((c.tc : Thread nD τ).loc main_arg2)) (m ((c.tc : Thread nD τ).loc main_arg3)) := by
  unfold res_main_v56; rfl

end Cert.Ref
-- ==== Proof.Ray.lean ====
/- One ray in real numbers: the cumulative distribution of its weights, the midpoints of its depths, and the sample at a
   quantile. -/
module

public import Idealize.ShloMosaic.Lib.Pointwise
public import Mathlib.Tactic.FieldSimp
public import Mathlib.Tactic.Ring
public import Mathlib.Tactic.Linarith
public import Mathlib.Tactic.Positivity

@[expose] public section

noncomputable section

namespace Cert.Ray

open Finset

/-- The single-precision number nearest 1e-5. -/
def eps : ℝ := 10995116 / 2 ^ 40

theorem eps_pos : 0 < eps := by unfold eps; norm_num

variable (z w : ℕ → ℝ)

def S (k : ℕ) : ℝ := ∑ i ∈ range k, (w (i + 1) + eps)

def C (k : ℕ) : ℝ := S w k / S w 62

def B (k : ℕ) : ℝ := 1 / 2 * (z (k + 1) + z k)

open Classical in
def cnt (u : ℝ) : ℕ := ((range 63).filter fun k => C w k ≤ u).card

/-- The last edge not beyond `u`. -/
def last (u : ℝ) : ℕ := cnt w u - 1

open Classical in
def den (k : ℕ) : ℝ := if C w (min (k + 1) 62) - C w k < eps then 1 else C w (min (k + 1) 62) - C w k

/-- The inverse of the piecewise linear distribution at `u`. -/
def inv (u : ℝ) : ℝ :=
  B z (last w u) + (u - C w (last w u)) / den w (last w u) * (B z (min (last w u + 1) 62) - B z (last w u))

def quant (s : ℕ) : ℝ := (s : ℝ) / 127

theorem quant_nonneg (s : ℕ) : 0 ≤ quant s := by unfold quant; positivity

section
variable {w} (hw : ∀ i, i < 64 → 0 ≤ w i)
include hw

theorem S_mono {a b : ℕ} (h : a ≤ b) (hb : b ≤ 62) : S w a ≤ S w b := by
  unfold S
  refine sum_le_sum_of_subset_of_nonneg (range_mono h) fun i hi _ => ?_
  have := hw (i + 1) (by have := mem_range.1 hi; omega)
  have := eps_pos
  linarith

theorem S_pos : 0 < S w 62 := by
  unfold S
  refine sum_pos (fun i hi => ?_) ⟨0, mem_range.2 (by omega)⟩
  have := hw (i + 1) (by have := mem_range.1 hi; omega)
  have := eps_pos
  linarith

theorem C_mono {a b : ℕ} (h : a ≤ b) (hb : b ≤ 62) : C w a ≤ C w b :=
  div_le_div_of_nonneg_right (S_mono hw h hb) (S_pos hw).le

theorem C_zero : C w 0 = 0 := by simp [C, S]

theorem lt_cnt_iff {u : ℝ} {k : ℕ} (hk : k ≤ 62) : C w k ≤ u ↔ k < cnt w u := by
  classical
  constructor
  · intro h
    have : range (k + 1) ⊆ (range 63).filter fun k => C w k ≤ u := fun i hi => by
      have hi' := mem_range.1 hi
      exact mem_filter.2 ⟨mem_range.2 (by omega), (C_mono hw (by omega) hk).trans h⟩
    have := card_le_card this
    rw [card_range] at this
    have e : cnt w u = ((range 63).filter fun k => C w k ≤ u).card := by unfold cnt; congr
    omega
  · intro h
    by_contra hn
    have : ((range 63).filter fun k => C w k ≤ u) ⊆ range k := fun i hi => by
      obtain ⟨h1, h2⟩ := mem_filter.1 hi
      have h1' := mem_range.1 h1
      refine mem_range.2 (not_le.1 fun hki => hn ((C_mono hw hki (by omega)).trans h2))
    have := card_le_card this
    rw [card_range] at this
    have e : cnt w u = ((range 63).filter fun k => C w k ≤ u).card := by unfold cnt; congr
    omega

theorem cnt_pos {u : ℝ} (hu : 0 ≤ u) : 1 ≤ cnt w u :=
  (lt_cnt_iff hw (k := 0) (by omega)).1 (by rw [C_zero hw]; exact hu)

theorem last_iff {u : ℝ} (hu : 0 ≤ u) {k : ℕ} (hk : k ≤ 62) : C w k ≤ u ↔ k ≤ last w u := by
  have := cnt_pos hw hu
  rw [lt_cnt_iff hw hk]
  unfold last
  omega
end

theorem cnt_le (u : ℝ) : cnt w u ≤ 63 := by
  classical
  unfold cnt
  exact (card_filter_le _ _).trans (card_range 63).le

theorem last_le (u : ℝ) : last w u ≤ 62 := by
  have := cnt_le w u
  unfold last
  omega

theorem den_ne (k : ℕ) : den w k ≠ 0 := by
  unfold den
  have := eps_pos
  split_ifs with h
  · exact one_ne_zero
  · intro e
    rw [e] at h
    exact h this

theorem inv_of (u : ℝ) (c : ℕ) (hc : cnt w u = c) (h1 : 1 ≤ c) :
    inv z w u = B z (c - 1) + (u - C w (c - 1)) / den w (c - 1) * (B z (min c 62) - B z (c - 1)) := by
  unfold inv last
  rw [hc, Nat.sub_add_cancel h1]

theorem den_of (c : ℕ) (h1 : 1 ≤ c) : den w (c - 1) = if C w (min c 62) - C w (c - 1) < eps then 1 else C w (min c 62) - C w (c - 1) := by
  unfold den
  rw [Nat.sub_add_cancel h1]

/-- The sample in the kernel's form: an intercept and a slope. -/
theorem inv_eq (u : ℝ) :
    inv z w u = (B z (last w u) - C w (last w u) * ((B z (min (last w u + 1) 62) - B z (last w u)) / den w (last w u)))
      + (B z (min (last w u + 1) 62) - B z (last w u)) / den w (last w u) * u := by
  unfold inv
  have := den_ne w (last w u)
  field_simp
  ring

end Cert.Ray
-- ==== Proof.RefAt.lean ====
/- The reference's samples read at an index, in real numbers. -/
module

public import proofs.«01_k».proof.Proof.RefDefs
public import proofs.«01_k».proof.Proof.Ray
public import Idealize.ShloMosaic.Lib.Pipeline.Value
public import Idealize.ShloMosaic.Lib.ValueIdxCore
public import Idealize.ShloMosaic.Lib.IndicatorCount
public import Idealize.ShloMosaic.Lib.StableHlo.Predicate

@[expose] public section

noncomputable section

namespace Cert.Ref

open Idealize.ShloMosaic Idealize.ShloMosaic.TcCoe Idealize.ShloMosaic.Pointwise Cert.ReferenceIdeal Cert.ReferenceIdeal.Gen Cert.ReferenceIdeal.Value
open scoped BigOperators

theorem half_val : (FloatOps.ofBits (F := Ideal) .f32 0x3F000000#32 : EReal) = ((1 / 2 : ℝ) : EReal) := by
  simp [Ideal.ofBits, Ideal.ieee, -EReal.coe_mul]; norm_num
theorem one_val : (FloatOps.ofBits (F := Ideal) .f32 0x3F800000#32 : EReal) = ((1 : ℝ) : EReal) := by
  simp [Ideal.ofBits, Ideal.ieee, -EReal.coe_mul]; norm_num
theorem zero_val : (FloatOps.ofBits (F := Ideal) .f32 0x00000000#32 : EReal) = ((0 : ℝ) : EReal) := by
  simp [Ideal.ofBits, Ideal.ieee, -EReal.coe_mul]
theorem eps_val : (FloatOps.ofBits (F := Ideal) .f32 0x3727C5AC#32 : EReal) = ((Ray.eps : ℝ) : EReal) := by
  simp [Ideal.ofBits, Ideal.ieee, -EReal.coe_mul, Ray.eps]; norm_num
theorem n127_val : (FloatOps.ofBits (F := Ideal) .f32 0x42FE0000#32 : EReal) = ((127 : ℝ) : EReal) := by
  simp [Ideal.ofBits, Ideal.ieee, -EReal.coe_mul]; norm_num

theorem sum_coe {n : ℕ} (f : Fin n → ℝ) : ∑ i, ((f i : ℝ) : EReal) = ((∑ i, f i : ℝ) : EReal) := by
  induction (Finset.univ : Finset (Fin n)) using Finset.cons_induction with
  | empty => simp
  | cons a s h ih => rw [Finset.sum_cons, Finset.sum_cons, ih, EReal.coe_add]

variable (z w : Ray) (zr wr : ℕ → ℝ) (n : Fin 65536)

theorem rBins_at (hz : ∀ i : Fin 64, z (ix2 n i) = ((zr i.val : ℝ) : EReal)) (k : Fin 63) :
    rBins z (ix2 n k) = ((Ray.B zr k.val : ℝ) : EReal) := by
  have h1 := hz ⟨k.val + 1, by omega⟩
  have h0 := hz ⟨k.val, by omega⟩
  have e1 : extractStridedSlice S65536x63 ![0, 1] z slices_S65536x64_S65536x63_0_1 (ix2 n k) = z (ix2 n ⟨k.val + 1, by omega⟩) := by
    pointwise
    exact congrArg (fun q => z (ix2 n q)) (Fin.ext (Nat.add_comm _ _))
  have e0 : extractStridedSlice S65536x63 ![0, 0] z slices_S65536x64_S65536x63_0_0 (ix2 n k) = z (ix2 n ⟨k.val, by omega⟩) := by
    pointwise
  show (FloatOps.ofBits (F := Ideal) .f32 0x3F000000#32 : EReal) * (extractStridedSlice S65536x63 ![0, 1] z slices_S65536x64_S65536x63_0_1 (ix2 n k) + extractStridedSlice S65536x63 ![0, 0] z slices_S65536x64_S65536x63_0_0 (ix2 n k)) = _
  rw [e1, e0, h1, h0, half_val, ← EReal.coe_add, ← EReal.coe_mul]
  rfl

theorem rW_at (hw : ∀ i : Fin 64, w (ix2 n i) = ((wr i.val : ℝ) : EReal)) (k : Fin 62) :
    rW w (ix2 n k) = ((wr (k.val + 1) + Ray.eps : ℝ) : EReal) := by
  have h1 := hw ⟨k.val + 1, by omega⟩
  have e1 : extractStridedSlice S65536x62 ![0, 1] w slices_S65536x64_S65536x62_0_1 (ix2 n k) = w (ix2 n ⟨k.val + 1, by omega⟩) := by
    pointwise
    exact congrArg (fun q => w (ix2 n q)) (Fin.ext (Nat.add_comm _ _))
  show extractStridedSlice S65536x62 ![0, 1] w slices_S65536x64_S65536x62_0_1 (ix2 n k) + (FloatOps.ofBits (F := Ideal) .f32 0x3727C5AC#32 : EReal) = _
  rw [e1, h1, eps_val, ← EReal.coe_add]

theorem rTot_at (hw : ∀ i : Fin 64, w (ix2 n i) = ((wr i.val : ℝ) : EReal)) :
    rTot w (ix1 n) = ((Ray.S wr 62 : ℝ) : EReal) := by
  unfold rTot
  have : Host.reduceAdd (rW w) (constant (F := Ideal) S_ .f32 0x00000000#32) reducesTo_S65536x62_S65536_d1 h_S_ (ix1 n)
      = (FloatOps.ofBits (F := Ideal) .f32 0x00000000#32 : EReal) + ∑ k : Fin 62, rW w (ix2 n k) :=
    Ideal.hostReduceAdd_r2_a1 reducesTo_S65536x62_S65536_d1 (rW w) _ (ix1 n)
  rw [this, zero_val, EReal.coe_zero, zero_add, Finset.sum_congr rfl (fun k _ => rW_at w wr n hw k), sum_coe, Ray.S, Finset.sum_range]

theorem rPdf_at (hw : ∀ i : Fin 64, w (ix2 n i) = ((wr i.val : ℝ) : EReal)) (h0 : ∀ i, i < 64 → 0 ≤ wr i) (k : Fin 62) :
    rPdf w (ix2 n k) = (((wr (k.val + 1) + Ray.eps) / Ray.S wr 62 : ℝ) : EReal) := by
  have : rPdf w (ix2 n k) = Ideal.div (rW w (ix2 n k)) (rTot w (ix1 n)) := by
    unfold rPdf
    pointwise
  rw [this, rW_at w wr n hw, rTot_at w wr n hw, Ideal.div_coe (Ray.S_pos h0).ne', ← EReal.coe_mul]
  exact congrArg (fun x : ℝ => (x : EReal)) (by ring)

theorem rU_at (s : Fin 128) : rU (ix2 n s) = ((Ray.quant s.val : ℝ) : EReal) := by
  have : rU (ix2 n s) = Ideal.div (((BitVec.ofNat 32 s.val).toInt : ℝ) : EReal) (FloatOps.ofBits (F := Ideal) .f32 0x42FE0000#32 : EReal) := by
    unfold rU
    pointwise
    rfl
  rw [this, n127_val, Ideal.div_coe (by norm_num), ← EReal.coe_mul, StableHlo.Predicate.toInt_ofNat_small s.val (by omega)]
  unfold Ray.quant
  congr 1
  push_cast
  ring

theorem rLe_at (s : Fin 128) (k : Fin 63) : rLe w (ix3 n s k) = BitVec.ofBool (decide (rCdf w (ix2 n k) ≤ rU (ix2 n s))) := by
  unfold rLe
  pointwise

theorem rInds_at (hC : ∀ k : Fin 63, rCdf w (ix2 n k) = ((Ray.C wr k.val : ℝ) : EReal)) (s : Fin 128) :
    rInds w (ix2 n s) = BitVec.ofNat 32 (Ray.cnt wr (Ray.quant s.val)) := by
  unfold rInds
  pointwise
  rw [IndicatorCount.fold_addi_setWidth_eq_card]
  refine congrArg (BitVec.ofNat 32) ?_
  have hp : ∀ k : Fin 63, rLe w (ix3 n s k) = 1#1 ↔ Ray.C wr k.val ≤ Ray.quant s.val := fun k => by
    rw [rLe_at, StableHlo.Predicate.ofBool_eq_one_iff, decide_eq_true_eq, hC k, rU_at, EReal.coe_le_coe_iff]
  classical
  have e : Ray.cnt wr (Ray.quant s.val) = ((Finset.range 63).filter fun k => Ray.C wr k ≤ Ray.quant s.val).card := by
    unfold Ray.cnt; congr
  rw [e]
  refine Finset.card_bij (fun k _ => k.val) (fun k hk => ?_) (fun a _ b _ h => Fin.ext h) (fun k hk => ?_)
  · exact Finset.mem_filter.2 ⟨Finset.mem_range.2 k.isLt, (hp k).1 (Finset.mem_filter.1 hk).2⟩
  · obtain ⟨h1, h2⟩ := Finset.mem_filter.1 hk
    exact ⟨⟨k, Finset.mem_range.1 h1⟩, Finset.mem_filter.2 ⟨Finset.mem_univ _, (hp ⟨k, Finset.mem_range.1 h1⟩).2 h2⟩, rfl⟩

/-! ## The running sum -/

theorem numelW : (⟨2, ![1, 62]⟩ : Shape).numel = 62 := by
  show ∏ a : Fin 2, (![1, 62] : Fin 2 → Nat) a = 62
  rw [Fin.prod_univ_two]
  rfl

theorem symmW (k : Fin (⟨2, ![1, 62]⟩ : Shape).numel) :
    (⟨2, ![1, 62]⟩ : Shape).rowMajor.symm k = ix2 (0 : Fin 1) (k.cast numelW) :=
  ((⟨2, ![1, 62]⟩ : Shape).rowMajor.symm_apply_eq).2 (Fin.ext (by
    rw [Shape.rowMajor_val_two]
    show k.val = 0 * 62 + k.val
    rw [Nat.zero_mul, Nat.zero_add]))

theorem foldl_coe {ι : Type} (l : List ι) (g : ι → EReal) (f : ι → ℝ) (hg : ∀ a ∈ l, g a = ((f a : ℝ) : EReal)) (v : ℝ) :
    l.foldl (fun r a => r + g a) ((v : ℝ) : EReal) = ((v + (l.map f).sum : ℝ) : EReal) := by
  induction l generalizing v with
  | nil => simp
  | cons a l ih =>
    rw [List.foldl_cons, hg a (List.mem_cons_self ..), ← EReal.coe_add, ih (fun b hb => hg b (List.mem_cons_of_mem _ hb)),
      List.map_cons, List.sum_cons, add_assoc]

theorem window_sum (f : ℕ → ℝ) (j : ℕ) (hj : j ≤ 61) :
    ((List.finRange 62).map fun i : Fin 62 => if 61 ≤ j + i.val then f (j + i.val - 61) else 0).sum = ∑ i ∈ Finset.range (j + 1), f i := by
  rw [← List.ofFn_eq_map, List.sum_ofFn, ← Finset.sum_range (fun i => if 61 ≤ j + i then f (j + i - 61) else 0)]
  obtain ⟨d, hd⟩ : ∃ d, 61 = j + d := ⟨61 - j, by omega⟩
  rw [show (62 : ℕ) = d + (j + 1) by omega, Finset.sum_range_add, Finset.sum_eq_zero, zero_add]
  · refine Finset.sum_congr rfl fun i _ => ?_
    rw [if_pos (by omega), show j + (d + i) - 61 = i by omega]
  · intro i hi
    have := Finset.mem_range.1 hi
    rw [if_neg (by omega)]

theorem cum_at (x : Inner) (f : ℕ → ℝ) (hx : ∀ k : Fin 62, x (ix2 n k) = ((f k.val : ℝ) : EReal)) (j : Fin 62) :
    Host.reduceWindowAdd ![1, 62] ![1, 1] ![0, 61] ![0, 0] x (broadcastInDim S_ ![] bcast_S_S_ (constant (F := Ideal) S_ .f32 0x00000000#32)) reduceWindows_S65536x62_S65536x62_w1s1p0_0_w62s1p61_0 h_S_ (ix2 n j)
      = ((∑ i ∈ Finset.range (j.val + 1), f i : ℝ) : EReal) := by
  have hv : ∀ i, broadcastInDim S_ ![] bcast_S_S_ (constant (F := Ideal) S_ .f32 0x00000000#32) i = ((0 : ℝ) : EReal) := fun i => zero_val
  have hj := j.isLt
  have e : Host.reduceWindowAdd ![1, 62] ![1, 1] ![0, 61] ![0, 0] x (broadcastInDim S_ ![] bcast_S_S_ (constant (F := Ideal) S_ .f32 0x00000000#32)) reduceWindows_S65536x62_S65536x62_w1s1p0_0_w62s1p61_0 h_S_ (ix2 n j)
      = Host.reduceWindow (fun a b : EReal => a + b) ![1, 62] ![1, 1] ![0, 61] ![0, 0] x (fun _ : S_.Idx => ((0 : ℝ) : EReal)) reduceWindows_S65536x62_S65536x62_w1s1p0_0_w62s1p61_0 h_S_ (ix2 n j) := by
    rw [← zero_val]; rfl
  rw [e]
  unfold Host.reduceWindow
  refine (foldl_coe _ _ (fun k => if 61 ≤ j.val + k.val then f (j.val + k.val - 61) else 0) (fun k _ => ?_) 0).trans ?_
  · have hw0 : ((⟨2, ![1, 62]⟩ : Shape).rowMajor.symm k 0).val = 0 := by rw [symmW]; rfl
    have hw : ((⟨2, ![1, 62]⟩ : Shape).rowMajor.symm k 1).val = k.val := by rw [symmW]; rfl
    have hk : k.val < 62 := (k.cast numelW).isLt
    dsimp only
    split
    · next hin =>
      have h1 := hin 1
      change 61 ≤ j.val * 1 + ((⟨2, ![1, 62]⟩ : Shape).rowMajor.symm k 1).val
        ∧ j.val * 1 + ((⟨2, ![1, 62]⟩ : Shape).rowMajor.symm k 1).val - 61 < 62 at h1
      rw [hw] at h1
      rw [if_pos (by omega)]
      refine Eq.trans ?_ (hx ⟨j.val + k.val - 61, by omega⟩)
      refine congrArg x (funext fun a => Fin.ext ?_)
      match a with
      | ⟨0, _⟩ =>
        show n.val * 1 + ((⟨2, ![1, 62]⟩ : Shape).rowMajor.symm k 0).val - 0 = n.val
        rw [hw0]; omega
      | ⟨1, _⟩ =>
        show j.val * 1 + ((⟨2, ![1, 62]⟩ : Shape).rowMajor.symm k 1).val - 61 = j.val + k.val - 61
        rw [hw, Nat.mul_one]
    · next hin =>
      rw [if_neg fun hle => hin fun a => by
        match a with
        | ⟨0, _⟩ =>
          show 0 ≤ n.val * 1 + ((⟨2, ![1, 62]⟩ : Shape).rowMajor.symm k 0).val ∧ n.val * 1 + ((⟨2, ![1, 62]⟩ : Shape).rowMajor.symm k 0).val - 0 < 65536
          rw [hw0]
          have := n.isLt
          omega
        | ⟨1, _⟩ =>
          show 61 ≤ j.val * 1 + ((⟨2, ![1, 62]⟩ : Shape).rowMajor.symm k 1).val
            ∧ j.val * 1 + ((⟨2, ![1, 62]⟩ : Shape).rowMajor.symm k 1).val - 61 < 62
          rw [hw]
          omega]
  · refine congrArg (fun x : ℝ => (x : EReal)) ?_
    rw [zero_add, ← window_sum f j.val (by omega)]
    have : ∀ N (hN : N = 62), ((List.finRange N).map fun k : Fin N => if 61 ≤ j.val + k.val then f (j.val + k.val - 61) else 0).sum
        = ((List.finRange 62).map fun i : Fin 62 => if 61 ≤ j.val + i.val then f (j.val + i.val - 61) else 0).sum := by
      rintro _ rfl; rfl
    exact this _ numelW

theorem rCum_at (hw : ∀ i : Fin 64, w (ix2 n i) = ((wr i.val : ℝ) : EReal)) (h0 : ∀ i, i < 64 → 0 ≤ wr i) (j : Fin 62) :
    rCum w (ix2 n j) = ((Ray.C wr (j.val + 1) : ℝ) : EReal) := by
  refine (cum_at n (rPdf w) (fun k => (wr (k + 1) + Ray.eps) / Ray.S wr 62) (fun k => rPdf_at w wr n hw h0 k) j).trans ?_
  rw [← Finset.sum_div]
  rfl

theorem rCdf_at (hw : ∀ i : Fin 64, w (ix2 n i) = ((wr i.val : ℝ) : EReal)) (h0 : ∀ i, i < 64 → 0 ≤ wr i) (k : Fin 63) :
    rCdf w (ix2 n k) = ((Ray.C wr k.val : ℝ) : EReal) := by
  unfold rCdf
  by_cases hk : k.val < 1
  · refine (concatenate_pair_apply_left (t := S65536x63) (s₁ := S65536x1) (s₂ := S65536x62) 1 _ _ _ (ix2 n k) rfl (ix2 n ⟨k.val, hk⟩) (fun b => ?_)).trans ?_
    · match b with
      | ⟨0, _⟩ => rfl
      | ⟨1, _⟩ => rfl
    · exact zero_val.trans (by rw [show k.val = 0 by omega, Ray.C_zero h0])
  · refine (concatenate_pair_apply_right (t := S65536x63) (s₁ := S65536x1) (s₂ := S65536x62) 1 _ _ _ (ix2 n k) rfl rfl (ix2 n ⟨k.val - 1, by omega⟩) (fun b hb => ?_) ?_).trans ?_
    · match b with
      | ⟨0, _⟩ => rfl
      | ⟨1, _⟩ => exact absurd rfl hb
    · show k.val - 1 + 1 = k.val
      omega
    · rw [rCum_at w wr n hw h0]
      show ((Ray.C wr (k.val - 1 + 1) : ℝ) : EReal) = _
      rw [show k.val - 1 + 1 = k.val by omega]

/-! ## Reading at an integer -/

theorem rTake_at (x : Edges) (i : Ix) (s : Fin 128) (k : ℕ) (hk : k ≤ 62) (hi : i (ix2 n s) = BitVec.ofNat 32 k) :
    rTake x i (ix2 n s) = x (ix2 n ⟨k, by omega⟩) := by
  have hwrap : rWrap i (ix3 n s (0 : Fin 1)) = BitVec.ofNat 32 k := by
    unfold rWrap
    pointwise
    rw [hi]
    have hn : ¬ IntOp.cmpi .slt (BitVec.ofNat 32 k) 0#32 = 1#1 := fun h => by
      have := (StableHlo.Predicate.slt_ofNat_iff k 0 (by omega) (by omega)).1 h
      omega
    exact if_neg hn
  unfold rTake Host.gather
  refine congrArg x (funext fun a => Fin.ext ?_)
  match a with
  | ⟨0, _⟩ =>
    show gather_S65536x63_S65536x128x1_S65536x128_n_1_0_0_1_2_11.start (ix2 n s) (rWrap i) 0 + gather_S65536x63_S65536x128x1_S65536x128_n_1_0_0_1_2_11.batchCoord (ix2 n s) 0 + gather_S65536x63_S65536x128x1_S65536x128_n_1_0_0_1_2_11.offCoord (ix2 n s) 0 = n.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S65536x63_S65536x128x1_S65536x128_n_1_0_0_1_2_11.operandBatchingDims from List.mem_singleton.mpr rfl)]
    show 0 + n.val + 0 = n.val
    omega
  | ⟨1, _⟩ =>
    show gather_S65536x63_S65536x128x1_S65536x128_n_1_0_0_1_2_11.start (ix2 n s) (rWrap i) 1 + gather_S65536x63_S65536x128x1_S65536x128_n_1_0_0_1_2_11.batchCoord (ix2 n s) 1 + gather_S65536x63_S65536x128x1_S65536x128_n_1_0_0_1_2_11.offCoord (ix2 n s) 1 = k
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S65536x63_S65536x128x1_S65536x128_n_1_0_0_1_2_11.startIndexMap from List.mem_singleton.mpr rfl)]
    have hsi : gather_S65536x63_S65536x128x1_S65536x128_n_1_0_0_1_2_11.siIdx (ix2 n s) ⟨List.idxOf (1 : Fin 2) gather_S65536x63_S65536x128x1_S65536x128_n_1_0_0_1_2_11.startIndexMap,
        List.idxOf_lt_length_iff.2 (List.mem_singleton.mpr rfl)⟩ = ix3 n s (0 : Fin 1) := by
      funext b; refine Fin.ext ?_
      match b with
      | ⟨0, _⟩ => rfl
      | ⟨1, _⟩ => rfl
      | ⟨2, _⟩ => rfl
    rw [hsi, hwrap, StableHlo.Predicate.toInt_ofNat_small k (by omega)]
    show min ((k : ℤ).toNat) 62 + 0 + 0 = k
    rw [Int.toNat_natCast]
    omega

theorem clip_ofNat (k : ℕ) (hk : k ≤ 64) : IntOp.minsi 62#32 (IntOp.maxsi 0#32 (BitVec.ofNat 32 k)) = BitVec.ofNat 32 (min k 62) := by
  interval_cases k <;> rfl

theorem rAbove_at (i : Ix) (s : Fin 128) (k : ℕ) (hk : k ≤ 64) (hi : i (ix2 n s) = BitVec.ofNat 32 k) :
    rClip i (ix2 n s) = BitVec.ofNat 32 (min k 62) := by
  have : rClip i (ix2 n s) = IntOp.minsi 62#32 (IntOp.maxsi 0#32 (i (ix2 n s))) := rfl
  rw [this, hi, clip_ofNat k hk]

end Cert.Ref
-- ==== Proof.SortEq.lean ====
/- Sorting a row padded with infinities agrees, on its first entries, with sorting the row. -/
module

public import proofs.«01_k».proof.Proof.RefAt
public import Idealize.ShloMosaic.Lib.SortFacts

@[expose] public section

noncomputable section

namespace Cert.Ref

open Idealize.ShloMosaic Idealize.ShloMosaic.Pointwise Cert.ReferenceIdeal Cert.ReferenceIdeal.Gen

theorem comparator_iff (l r : EReal) : comparator_f32_d1 (F := Ideal) l r = 1#1 ↔ l < r := by
  have hz : (FloatOps.ofBits (F := Ideal) .f32 0x00000000#32 : EReal) = 0 := zero_val
  have h1 : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have e1 : FloatOps.cmpf (F := Ideal) (φ := .f32) .une x x = 0#1 := by
      show BitVec.ofBool (decide (x ≠ x)) = 0#1
      simp
    have e2 : ∀ y : EReal, FloatOps.cmpf (F := Ideal) (φ := .f32) .oeq x y = BitVec.ofBool (decide (x = y)) := fun y => rfl
    rw [e1, e2, hz]
    show (if BitVec.ofBool (decide (x = 0)) = 1#1 then (0 : EReal) else x) = x
    by_cases h : x = 0
    · simp [h]
    · simp [h]
  have e : comparator_f32_d1 (F := Ideal) l r = BitVec.ofBool (decide (l < r)) := by
    unfold comparator_f32_d1
    simp only [h1]
    rfl
  rw [e, StableHlo.Predicate.ofBool_eq_one_iff, decide_eq_true_eq]

theorem mono_sortedFrom {n : ℕ} (g : Fin n → EReal) (B : Fin n → Fin n → Bool) (hB : ∀ a b, B a b = true ↔ g a < g b) :
    Monotone fun k => g (sortedFrom B k) := by
  have hB' : ∀ a b, B a b = false ↔ g b ≤ g a := fun a b => by
    rw [← not_lt, ← hB, Bool.not_eq_true]
  intro i j hij
  rcases hij.lt_or_eq with h | h
  · exact (hB' _ _).1 (sortedFrom_noInversion B B
      (fun a b hab => (hB' _ _).2 ((hB _ _).1 hab).le) (fun _ _ h => h)
      (fun a b c hab hbc => (hB' _ _).2 (((hB' _ _).1 hbc).trans ((hB' _ _).1 hab))) i j h)
  · rw [h]

theorem along_one (n : Fin 65536) (k k' : Fin 192) : (ix2 n k : S65536x192.Idx).along 1 k' = ix2 n k' := by
  funext a
  match a with
  | ⟨0, _⟩ => rfl
  | ⟨1, _⟩ => rfl

theorem sort_at (cmp : EReal → EReal → BitVec 1) (X : S65536x192.Idx → EReal) (n : Fin 65536) (k : Fin 192) :
    Host.sort S65536x192 1 cmp X (ix2 n k) = X (ix2 n (sortedFrom (fun a b => cmp (X (ix2 n a)) (X (ix2 n b)) == 1#1) k)) := by
  have e : Host.sort S65536x192 1 cmp X (ix2 n k)
      = X ((ix2 n k : S65536x192.Idx).along 1 (sortedFrom (fun a b => cmp (X ((ix2 n k : S65536x192.Idx).along 1 a)) (X ((ix2 n k : S65536x192.Idx).along 1 b)) == 1#1) k)) := by
    unfold Host.sort
    rw [dif_pos (by decide : 1 < S65536x192.rank)]
    rfl
  refine e.trans ((congrArg X (along_one n k _)).trans ?_)
  refine congrArg (fun B => X (ix2 n (sortedFrom B k))) ?_
  funext a b
  exact congrArg₂ (fun p q => cmp (X p) (X q) == 1#1) (along_one n k a) (along_one n k b)

theorem perm_of {n : ℕ} (g q : Fin n → EReal) (B : Fin n → Fin n → Bool) (hq : ∀ k, q k = g (sortedFrom B k))
    (hB : ∀ a b, B a b = true ↔ g a < g b) : ∃ τ : Equiv.Perm (Fin n), (∀ k, q k = g (τ k)) ∧ Monotone fun k => g (τ k) :=
  ⟨Equiv.ofBijective (sortedFrom B) ⟨sortedFrom_injective B, sortedFrom_surjective B⟩, hq, mono_sortedFrom g B hB⟩

theorem beq_lt (cmp : EReal → EReal → BitVec 1) (h : ∀ l r, cmp l r = 1#1 ↔ l < r) (l r : EReal) : (cmp l r == 1#1) = true ↔ l < r := by
  rw [← h]
  exact beq_iff_eq

theorem row_sorted_of (cmp : EReal → EReal → BitVec 1) (h : ∀ l r, cmp l r = 1#1 ↔ l < r) (X : S65536x192.Idx → EReal) (n : Fin 65536) :
    ∃ τ : Equiv.Perm (Fin 192), (∀ k, Host.sort S65536x192 1 cmp X (ix2 n k) = X (ix2 n (τ k))) ∧ Monotone fun k => X (ix2 n (τ k)) :=
  perm_of (fun k => X (ix2 n k)) (fun k => Host.sort S65536x192 1 cmp X (ix2 n k)) _ (sort_at cmp X n)
    fun a b => beq_lt cmp h (X (ix2 n a)) (X (ix2 n b))

/-- A sorted row is monotone and a rearrangement of the row. -/
theorem row_sorted (X : FVec Ideal S65536x192 .f32) (n : Fin 65536) :
    ∃ τ : Equiv.Perm (Fin 192), (∀ k, Host.sort S65536x192 1 (comparator_f32_d1 (F := Ideal)) X (ix2 n k) = X (ix2 n (τ k)))
      ∧ Monotone fun k => (X (ix2 n (τ k)) : EReal) :=
  row_sorted_of (comparator_f32_d1 (F := Ideal)) comparator_iff X n

/-- Where position `k` of the row's rearrangement goes when 64 infinities stand in the middle. -/
def spread (τ : Equiv.Perm (Fin 192)) (k : Fin 256) : Fin 256 :=
  if h : k.val < 192 then
    if (τ ⟨k.val, h⟩).val < 64 then ⟨(τ ⟨k.val, h⟩).val, by have := (τ ⟨k.val, h⟩).isLt; omega⟩
    else ⟨(τ ⟨k.val, h⟩).val + 64, by have := (τ ⟨k.val, h⟩).isLt; omega⟩
  else ⟨k.val - 128, by omega⟩

theorem spread_injective (τ : Equiv.Perm (Fin 192)) : Function.Injective (spread τ) := by
  intro a b hab
  have hv := congrArg Fin.val hab
  unfold spread at hv
  have ha := a.isLt
  have hb := b.isLt
  by_cases h1 : a.val < 192 <;> by_cases h2 : b.val < 192
  · rw [dif_pos h1, dif_pos h2] at hv
    have : (τ ⟨a.val, h1⟩).val = (τ ⟨b.val, h2⟩).val := by
      split at hv <;> split at hv <;> (simp only at hv; omega)
    have := τ.injective (Fin.ext this)
    exact Fin.ext (Fin.mk.inj this)
  · rw [dif_pos h1, dif_neg h2] at hv
    exfalso
    split at hv <;> (simp only at hv; omega)
  · rw [dif_neg h1, dif_pos h2] at hv
    exfalso
    split at hv <;> (simp only at hv; omega)
  · rw [dif_neg h1, dif_neg h2] at hv
    simp only at hv
    exact Fin.ext (by omega)

theorem not_lt_of_monotone {n : ℕ} (f : Fin n → EReal) (σ τ : Equiv.Perm (Fin n)) (hσ : Monotone (f ∘ σ)) (hτ : Monotone (f ∘ τ)) (k : Fin n) :
    ¬ f (σ k) < f (τ k) := by
  classical
  intro h
  let P : Finset (Fin n) := Finset.univ.filter fun i => f i ≤ f (σ k)
  have h1 : (Finset.Iic k).image σ ⊆ P := fun i hi => by
    obtain ⟨a, ha, rfl⟩ := Finset.mem_image.1 hi
    exact Finset.mem_filter.2 ⟨Finset.mem_univ _, hσ (Finset.mem_Iic.1 ha)⟩
  have h2 : P ⊆ (Finset.Iio k).image τ := fun i hi => by
    have hi' := (Finset.mem_filter.1 hi).2
    refine Finset.mem_image.2 ⟨τ.symm i, Finset.mem_Iio.2 ?_, τ.apply_symm_apply i⟩
    by_contra hk
    have := hτ (not_lt.1 hk)
    have e : f (τ (τ.symm i)) = f i := congrArg f (τ.apply_symm_apply i)
    exact absurd (lt_of_lt_of_le h (this.trans (e.le.trans hi'))) (lt_irrefl _)
  have c1 := Finset.card_le_card h1
  have c2 := Finset.card_le_card h2
  rw [Finset.card_image_of_injective _ σ.injective, Fin.card_Iic] at c1
  rw [Finset.card_image_of_injective _ τ.injective, Fin.card_Iio] at c2
  omega

/-- Two monotone rearrangements of one row agree. -/
theorem eq_of_monotone {n : ℕ} (f : Fin n → EReal) (σ τ : Equiv.Perm (Fin n)) (hσ : Monotone (f ∘ σ)) (hτ : Monotone (f ∘ τ)) (k : Fin n) :
    f (σ k) = f (τ k) :=
  le_antisymm (not_lt.1 (not_lt_of_monotone f τ σ hτ hσ k)) (not_lt.1 (not_lt_of_monotone f σ τ hσ hτ k))

/-- A monotone rearrangement of the row with 64 infinities in the middle begins with the monotone rearrangement of the row. -/
theorem padded_eq (f : Fin 256 → EReal) (g : Fin 192 → EReal)
    (hlo : ∀ (i : Fin 256) (j : Fin 192), i.val < 64 → j.val = i.val → f i = g j)
    (hmid : ∀ i : Fin 256, 64 ≤ i.val → i.val < 128 → f i = ⊤)
    (hhi : ∀ (i : Fin 256) (j : Fin 192), 128 ≤ i.val → j.val + 64 = i.val → f i = g j)
    (σ : Equiv.Perm (Fin 256)) (hσ : Monotone (f ∘ σ)) (τ : Equiv.Perm (Fin 192)) (hτ : Monotone (g ∘ τ))
    (i : Fin 256) (j : Fin 192) (hij : i.val = j.val) : f (σ i) = g (τ j) := by
  let ρ : Equiv.Perm (Fin 256) := Equiv.ofBijective (spread τ) (Finite.injective_iff_bijective.1 (spread_injective τ))
  have e : ∀ k : Fin 256, f (ρ k) = if h : k.val < 192 then g (τ ⟨k.val, h⟩) else ⊤ := fun k => by
    show f (spread τ k) = _
    unfold spread
    have hk := k.isLt
    split
    · split
      · exact hlo _ _ (by assumption) rfl
      · exact hhi _ _ (by show 128 ≤ (τ _).val + 64; omega) rfl
    · exact hmid _ (by show 64 ≤ k.val - 128; omega) (by show k.val - 128 < 128; omega)
  have hρ : Monotone (f ∘ ρ) := fun a b hab => by
    show f (ρ a) ≤ f (ρ b)
    have hab' : a.val ≤ b.val := hab
    rw [e, e]
    by_cases hb : b.val < 192
    · rw [dif_pos hb, dif_pos (by omega)]
      exact hτ (show (⟨a.val, by omega⟩ : Fin 192) ≤ ⟨b.val, hb⟩ from hab)
    · rw [dif_neg hb]
      exact le_top
  refine (eq_of_monotone f σ ρ hσ hρ i).trans ?_
  show f (ρ i) = _
  rw [e, dif_pos (by omega)]
  exact congrArg (fun q => g (τ q)) (Fin.ext hij)

end Cert.Ref
-- ==== Proof.RefSamp.lean ====
/- The reference's samples at an index are the inverse of the ray's distribution at the quantile. -/
module

public import proofs.«01_k».proof.Proof.RefAt
public import proofs.«01_k».proof.Proof.Ray
public import Idealize.ShloMosaic.Lib.Pipeline.Value
public import Idealize.ShloMosaic.Lib.ValueIdxCore
public import Idealize.ShloMosaic.Lib.IndicatorCount
public import Idealize.ShloMosaic.Lib.StableHlo.Predicate

@[expose] public section

noncomputable section

namespace Cert.Ref

open Idealize.ShloMosaic Idealize.ShloMosaic.TcCoe Idealize.ShloMosaic.Pointwise Cert.ReferenceIdeal Cert.ReferenceIdeal.Gen Cert.ReferenceIdeal.Value
open scoped BigOperators

variable (z w : Ray) (zr wr : ℕ → ℝ) (n : Fin 65536)

theorem bits_last (x : BitVec 32) (k : ℕ) (h : x = BitVec.ofNat 32 k) (h1 : 1 ≤ k) (h2 : k ≤ 64) : IntOp.subi x 1#32 = BitVec.ofNat 32 (k - 1) := by
  subst h
  exact StableHlo.Predicate.sub_one_ofNat k h1 (by omega)

theorem rSub_apply (i : Ix) (s : Fin 128) : subi i (broadcastInDim S65536x128 ![] bcast_S_S65536x128 (constantI S_ 32 1#32)) (ix2 n s) = IntOp.subi (i (ix2 n s)) 1#32 := by
  pointwise

theorem rBelow_at (s : Fin 128) (k : ℕ) (h1 : 1 ≤ k) (h2 : k ≤ 63) (hi : rInds w (ix2 n s) = BitVec.ofNat 32 k) :
    rBelow w (ix2 n s) = BitVec.ofNat 32 (k - 1) := by
  unfold rBelow
  refine (rAbove_at n _ s (k - 1) (by omega) ?_).trans ?_
  · rw [rSub_apply, bits_last _ k hi h1 (by omega)]
  · rw [min_eq_left (by omega)]

theorem sub_at (a b : Smp) (i : S65536x128.Idx) : subf a b i = (a i : EReal) - b i := rfl

theorem sel_at (g : Smp) (i : S65536x128.Idx) :
    select (cmpf .olt g (broadcastInDim S65536x128 ![] bcast_S_S65536x128 (constant S_ .f32 0x3727C5AC#32))) (broadcastInDim S65536x128 ![] bcast_S_S65536x128 (constant S_ .f32 0x3F800000#32)) g i
      = if (g i : EReal) < (FloatOps.ofBits (F := Ideal) .f32 0x3727C5AC#32 : EReal) then (FloatOps.ofBits (F := Ideal) .f32 0x3F800000#32 : EReal) else g i := by
  pointwise

theorem comb_at (a b c d e : Smp) (i : S65536x128.Idx) :
    addf a (mulf (Host.divf (subf b c) d) (subf e a)) i = (a i : EReal) + Ideal.div ((b i : EReal) - c i) (d i) * ((e i : EReal) - a i) := by
  pointwise

theorem rGap_apply (s : Fin 128) : rGap w (ix2 n s) = rTake (rCdf w) (rAbove w) (ix2 n s) - rTake (rCdf w) (rBelow w) (ix2 n s) :=
  sub_at (rTake (rCdf w) (rAbove w)) (rTake (rCdf w) (rBelow w)) (ix2 n s)

theorem rDen_apply (s : Fin 128) : rDen w (ix2 n s) = if rGap w (ix2 n s) < (FloatOps.ofBits (F := Ideal) .f32 0x3727C5AC#32 : EReal) then (FloatOps.ofBits (F := Ideal) .f32 0x3F800000#32 : EReal) else rGap w (ix2 n s) :=
  sel_at (rGap w) (ix2 n s)

theorem rSamp_apply (s : Fin 128) : rSamp z w (ix2 n s) = rTake (rBins z) (rBelow w) (ix2 n s) + Ideal.div (rU (ix2 n s) - rTake (rCdf w) (rBelow w) (ix2 n s)) (rDen w (ix2 n s)) * (rTake (rBins z) (rAbove w) (ix2 n s) - rTake (rBins z) (rBelow w) (ix2 n s)) :=
  comb_at (rTake (rBins z) (rBelow w)) rU (rTake (rCdf w) (rBelow w)) (rDen w) (rTake (rBins z) (rAbove w)) (ix2 n s)

theorem inv_coe (b0 b1 c0 d u : ℝ) (hd : d ≠ 0) :
    (b0 : EReal) + Ideal.div ((u : EReal) - (c0 : EReal)) (d : EReal) * ((b1 : EReal) - (b0 : EReal))
      = ((b0 + (u - c0) / d * (b1 - b0) : ℝ) : EReal) := by
  rw [Ideal.div_coe hd]
  refine Eq.trans ?_ (congrArg (fun x : ℝ => (x : EReal)) (show b0 + (u - c0) * (1 / d) * (b1 - b0) = _ by ring))
  simp only [EReal.coe_add, EReal.coe_mul, EReal.coe_sub]

theorem den_coe (c0 c1 : ℝ) :
    (if ((c1 : EReal) - (c0 : EReal)) < ((Ray.eps : ℝ) : EReal) then ((1 : ℝ) : EReal) else (c1 : EReal) - (c0 : EReal))
      = (((if c1 - c0 < Ray.eps then 1 else c1 - c0 : ℝ)) : EReal) := by
  rw [← EReal.coe_sub]
  simp only [EReal.coe_lt_coe_iff]
  split_ifs <;> rfl

theorem rSamp_of (hz : ∀ i : Fin 64, z (ix2 n i) = ((zr i.val : ℝ) : EReal))
    (hC : ∀ k : Fin 63, rCdf w (ix2 n k) = ((Ray.C wr k.val : ℝ) : EReal)) (s : Fin 128) (c : ℕ) (h1 : 1 ≤ c) (h2 : c ≤ 63)
    (hi : rInds w (ix2 n s) = BitVec.ofNat 32 c) (d : ℝ) (hd : d = if Ray.C wr (min c 62) - Ray.C wr (c - 1) < Ray.eps then 1 else Ray.C wr (min c 62) - Ray.C wr (c - 1))
    (hne : d ≠ 0) :
    rSamp z w (ix2 n s) = ((Ray.B zr (c - 1) + (Ray.quant s.val - Ray.C wr (c - 1)) / d * (Ray.B zr (min c 62) - Ray.B zr (c - 1)) : ℝ) : EReal) := by
  have hbel := rBelow_at w n s c h1 h2 hi
  have habo : rAbove w (ix2 n s) = BitVec.ofNat 32 (min c 62) := rAbove_at n _ s c (by omega) hi
  have c0 := (rTake_at n (rCdf w) (rBelow w) s (c - 1) (by omega) hbel).trans (hC _)
  have c1 := (rTake_at n (rCdf w) (rAbove w) s (min c 62) (min_le_right _ _) habo).trans (hC _)
  have b0 := (rTake_at n (rBins z) (rBelow w) s (c - 1) (by omega) hbel).trans (rBins_at z zr n hz _)
  have b1 := (rTake_at n (rBins z) (rAbove w) s (min c 62) (min_le_right _ _) habo).trans (rBins_at z zr n hz _)
  rw [rSamp_apply, rDen_apply, rGap_apply, b0, b1, c0, c1, rU_at, Cert.Ref.eps_val, one_val, den_coe, ← hd, inv_coe _ _ _ _ _ hne]

theorem rSamp_at (hz : ∀ i : Fin 64, z (ix2 n i) = ((zr i.val : ℝ) : EReal))
    (hw : ∀ i : Fin 64, w (ix2 n i) = ((wr i.val : ℝ) : EReal)) (h0 : ∀ i, i < 64 → 0 ≤ wr i) (s : Fin 128) :
    rSamp z w (ix2 n s) = ((Ray.inv zr wr (Ray.quant s.val) : ℝ) : EReal) := by
  have hC := rCdf_at w wr n hw h0
  have hi := rInds_at w wr n hC s
  have hpos := Ray.cnt_pos h0 (Ray.quant_nonneg s.val)
  have hle := Ray.cnt_le wr (Ray.quant s.val)
  have hinv := Ray.inv_of zr wr (Ray.quant s.val)
  have hden := Ray.den_of wr
  have hne := fun k => Ray.den_ne wr k
  generalize Ray.cnt wr (Ray.quant s.val) = c at *
  rw [hinv c rfl hpos]
  exact rSamp_of z w zr wr n hz hC s c hpos hle hi (Ray.den wr (c - 1)) (hden c hpos) (hne _)

end Cert.Ref
-- ==== Proof.KRow.lean ====
/- The kernel's sorted depths are the reference's. -/
module

public import proofs.«01_k».proof.Proof.SortA
public import proofs.«01_k».proof.Proof.SortB
public import proofs.«01_k».proof.Proof.SortEq
public import proofs.«01_k».proof.Proof.RefSamp

@[expose] public section

noncomputable section

namespace Cert.Proof

open Idealize.ShloMosaic Idealize.ShloMosaic.SortNet Idealize.ShloMosaic.Pointwise Cert.KernelIdeal Cert.KernelIdeal.Gen Cert.KernelIdeal.Gen.kernelRun0_A

abbrev Deps := FVec Ideal S256x192 .f32

/-- The first 192 of a row's 256 positions. -/
def cat (X Y : Half) : Deps :=
  concatenate S256x192 1 [⟨S256x128, X⟩, ⟨S256x64, extractStridedSlice S256x64 ![0, 0] Y slices_S256x128_o0_0_S256x64⟩] concatenates_S256x128_S256x64_S256x192_d1

theorem slice64_at (Y : Half) (r : Fin 256) (k : Fin 64) :
    extractStridedSlice S256x64 ![0, 0] Y slices_S256x128_o0_0_S256x64 (ix2 r k) = Y (ix2 r ⟨k.val, by omega⟩) := by
  pointwise

theorem cat_at (X Y : Half) (r : Fin 256) (k : Fin 192) : cat X Y (ix2 r k) = rowOf X Y r ⟨k.val, by have := k.isLt; omega⟩ := by
  have hk := k.isLt
  unfold cat
  by_cases h : k.val < 128
  · rw [rowOf_left X Y r _ ⟨k.val, h⟩ rfl]
    refine (concatenate_pair_apply_left (t := S256x192) (s₁ := S256x128) (s₂ := S256x64) 1 _ _ _ (ix2 r k) rfl (ix2 r ⟨k.val, h⟩) (fun b => ?_)).trans rfl
    match b with
    | ⟨0, _⟩ => rfl
    | ⟨1, _⟩ => rfl
  · rw [rowOf_right X Y r _ ⟨k.val - 128, by show k.val - 128 < 128; omega⟩ (by show k.val = 128 + (k.val - 128); omega)]
    refine (concatenate_pair_apply_right (t := S256x192) (s₁ := S256x128) (s₂ := S256x64) 1 _ _ _ (ix2 r k) rfl rfl (ix2 r ⟨k.val - 128, by omega⟩) (fun b hb => ?_) ?_).trans ?_
    · match b with
      | ⟨0, _⟩ => rfl
      | ⟨1, _⟩ => exact absurd rfl hb
    · show k.val - 128 + 128 = k.val
      omega
    · exact slice64_at Y r ⟨k.val - 128, by omega⟩

open Cert.Ref in
/-- A row sorted by the network begins with the reference's sorted row. -/
theorem half_sorted (A B X Y : Half) (r : Fin 256) (hs : rowOf X Y r = Network.apply (sortNet 8 false) (rowOf A B r))
    (z w : Ray) (n : Fin 65536) (hlo : ∀ (k : Fin 128) (q : Fin 64), k.val = q.val → A (ix2 r k) = z (ix2 n q))
    (hmid : ∀ k : Fin 128, 64 ≤ k.val → (A (ix2 r k) : EReal) = ⊤) (hhi : ∀ s : Fin 128, B (ix2 r s) = rSamp z w (ix2 n s)) (k : Fin 192) :
    cat X Y (ix2 r k) = rSorted z w (ix2 n k) := by
  rw [cat_at, hs]
  obtain ⟨σ, hσ⟩ := Network.exists_perm (sortNet 8 false) (rowOf A B r)
  have hm := sortNet_apply_monotone 8 (rowOf A B r)
  rw [hσ] at hm ⊢
  obtain ⟨τ, hτ, hτm⟩ := row_sorted (rAll z w) n
  refine Eq.trans ?_ (hτ k).symm
  refine padded_eq (rowOf A B r) (fun q => (rAll z w (ix2 n q) : EReal)) ?_ ?_ ?_ σ hm τ hτm _ k rfl
  · intro i j hi hj
    rw [rowOf_left A B r i ⟨i.val, by show i.val < 128; omega⟩ rfl]
    refine (hlo ⟨i.val, by omega⟩ ⟨i.val, hi⟩ rfl).trans ?_
    unfold rAll
    refine (concatenate_pair_apply_left (t := S65536x192) (s₁ := S65536x64) (s₂ := S65536x128) 1 _ _ _ (ix2 n j) rfl (ix2 n ⟨i.val, hi⟩) (fun b => ?_)).symm
    match b with
    | ⟨0, _⟩ => rfl
    | ⟨1, _⟩ => exact hj.symm
  · intro i h1 h2
    rw [rowOf_left A B r i ⟨i.val, h2⟩ rfl]
    exact hmid ⟨i.val, h2⟩ h1
  · intro i j h1 h2
    have hi : i.val < 256 := i.isLt
    rw [rowOf_right A B r i ⟨i.val - 128, by show i.val - 128 < 128; omega⟩ (by show i.val = 128 + (i.val - 128); omega)]
    refine (hhi ⟨i.val - 128, by omega⟩).trans ?_
    unfold rAll
    refine (concatenate_pair_apply_right (t := S65536x192) (s₁ := S65536x64) (s₂ := S65536x128) 1 _ _ _ (ix2 n j) rfl rfl (ix2 n ⟨i.val - 128, by omega⟩) (fun b hb => ?_) ?_).symm
    · match b with
      | ⟨0, _⟩ => rfl
      | ⟨1, _⟩ => exact absurd rfl hb
    · show i.val - 128 + 64 = j.val
      omega

open Cert.Ref in
/-- A sorted row of reals holds reals. -/
theorem rSorted_real (z w : Ray) (n : Fin 65536) (hz : ∀ q : Fin 64, ∃ x : ℝ, z (ix2 n q) = (x : EReal)) (hs : ∀ s : Fin 128, ∃ x : ℝ, rSamp z w (ix2 n s) = (x : EReal))
    (k : Fin 192) : ∃ x : ℝ, rSorted z w (ix2 n k) = (x : EReal) := by
  obtain ⟨τ, hτ, -⟩ := row_sorted (rAll z w) n
  suffices h : ∀ j : Fin 192, ∃ x : ℝ, rAll z w (ix2 n j) = (x : EReal) by
    obtain ⟨x, hx⟩ := h (τ k)
    exact ⟨x, (hτ k).trans hx⟩
  intro j
  have hj := j.isLt
  by_cases h : j.val < 64
  · obtain ⟨x, hx⟩ := hz ⟨j.val, h⟩
    refine ⟨x, Eq.trans ?_ hx⟩
    unfold rAll
    refine concatenate_pair_apply_left (t := S65536x192) (s₁ := S65536x64) (s₂ := S65536x128) 1 _ _ _ (ix2 n j) rfl (ix2 n ⟨j.val, h⟩) (fun b => ?_)
    match b with
    | ⟨0, _⟩ => rfl
    | ⟨1, _⟩ => rfl
  · obtain ⟨x, hx⟩ := hs ⟨j.val - 64, by omega⟩
    refine ⟨x, Eq.trans ?_ hx⟩
    unfold rAll
    refine concatenate_pair_apply_right (t := S65536x192) (s₁ := S65536x64) (s₂ := S65536x128) 1 _ _ _ (ix2 n j) rfl rfl (ix2 n ⟨j.val - 64, by omega⟩) (fun b hb => ?_) ?_
    · match b with
      | ⟨0, _⟩ => rfl
      | ⟨1, _⟩ => exact absurd rfl hb
    · show j.val - 64 + 64 = j.val
      omega

variable (c : Dev nD)
  (arg3 : Memref sig .tc .vmem S512x64 .f32) (harg3 : arg3.IsWhole)
  (arg4 : Memref sig .tc .vmem S64x512 .f32) (harg4 : arg4.IsWhole)
  (arg5 : Memref sig .tc .vmem S64x512 .f32) (harg5 : arg5.IsWhole)
  (arg6 : Memref sig .tc .vmem S128x64 .f32) (harg6 : arg6.IsWhole)
  (arg7 : Memref sig .tc .vmem S128x64 .f32) (harg7 : arg7.IsWhole)
  (x2 : Vec Ideal S512x64 .f32) (x3 : Vec Ideal S64x512 .f32) (x4 : Vec Ideal S64x512 .f32) (x5 : Vec Ideal S128x64 .f32) (x6 : Vec Ideal S128x64 .f32)

theorem big_val : (Named.named (F := Ideal) Cert.KernelIdeal.κ "big" (φ := .f32) 0x7F61B1E6#32 : EReal) = ⊤ :=
  IdealRules.named_const.ideal_named_scalar _ _ _ _ rfl

theorem r_eq : sl.r c arg3 harg3 x2 = x2 := by
  unfold sl.r
  rw [View.readAt_eq_ld, harg3.read_unread, View.ld_unit_zero (by decide)]

theorem r8_lo (q : Fin 512) (k : Fin 128) (j : Fin 64) (h : k.val = j.val) : sl.r_5 c arg3 harg3 x2 (ix2 q k) = x2 (ix2 q j) := by
  unfold sl.r_5 k0_pay105
  rw [r_eq]
  refine concatenate_pair_apply_left (t := S512x128) (s₁ := S512x64) (s₂ := S512x64) 1 _ _ _ (ix2 q k) rfl (ix2 q j) (fun b => ?_)
  match b with
  | ⟨0, _⟩ => rfl
  | ⟨1, _⟩ => exact h.symm

theorem r8_hi (q : Fin 512) (k : Fin 128) (h : 64 ≤ k.val) : (sl.r_5 c arg3 harg3 x2 (ix2 q k) : EReal) = ⊤ := by
  unfold sl.r_5 k0_pay105
  refine (concatenate_pair_apply_right (t := S512x128) (s₁ := S512x64) (s₂ := S512x64) 1 _ _ _ (ix2 q k) rfl rfl (ix2 q ⟨k.val - 64, by omega⟩) (fun b hb => ?_) ?_).trans big_val
  · match b with
    | ⟨0, _⟩ => rfl
    | ⟨1, _⟩ => exact absurd rfl hb
  · show k.val - 64 + 64 = k.val
    omega

theorem top_at (X : FVec Ideal S512x128 .f32) (r : Fin 256) (k : Fin 128) :
    extractStridedSlice S256x128 ![0, 0] X slices_S512x128_o0_0_S256x128 (ix2 r k) = X (ix2 ⟨r.val, by omega⟩ k) := by
  pointwise

theorem bot_at (X : FVec Ideal S512x128 .f32) (r : Fin 256) (k : Fin 128) :
    extractStridedSlice S256x128 ![256, 0] X slices_S512x128_o256_0_S256x128 (ix2 r k) = X (ix2 ⟨256 + r.val, by omega⟩ k) := by
  pointwise

theorem r9_eq : sl.r_6 c arg3 harg3 x2 = extractStridedSlice S256x128 ![0, 0] (sl.r_5 c arg3 harg3 x2) slices_S512x128_o0_0_S256x128 := rfl
theorem r10_eq : sl.r_7 c arg4 harg4 arg5 harg5 arg6 harg6 arg7 harg7 x3 x4 x5 x6 = extractStridedSlice S256x128 ![0, 0] (sl.r_4 c arg4 harg4 arg5 harg5 arg6 harg6 arg7 harg7 x3 x4 x5 x6) slices_S512x128_o0_0_S256x128 := rfl
theorem v2496_eq : sl.v2492 c arg3 harg3 x2 = extractStridedSlice S256x128 ![256, 0] (sl.r_5 c arg3 harg3 x2) slices_S512x128_o256_0_S256x128 := rfl
theorem v2497_eq : sl.v2493 c arg4 harg4 arg5 harg5 arg6 harg6 arg7 harg7 x3 x4 x5 x6 = extractStridedSlice S256x128 ![256, 0] (sl.r_4 c arg4 harg4 arg5 harg5 arg6 harg6 arg7 harg7 x3 x4 x5 x6) slices_S512x128_o256_0_S256x128 := rfl

theorem v2462_eq : sl.v2460 c arg3 harg3 arg4 harg4 arg5 harg5 arg6 harg6 arg7 harg7 x2 x3 x4 x5 x6 = cat (sl.v2453 c arg3 harg3 arg4 harg4 arg5 harg5 arg6 harg6 arg7 harg7 x2 x3 x4 x5 x6) (sl.v2458 c arg3 harg3 arg4 harg4 arg5 harg5 arg6 harg6 arg7 harg7 x2 x3 x4 x5 x6) := rfl

abbrev zUp : Deps := k0_pay578 (sl.r_79 c arg3 harg3 arg4 harg4 arg5 harg5 arg6 harg6 arg7 harg7 x2 x3 x4 x5 x6) (sl.r_80 c arg3 harg3 arg4 harg4 arg5 harg5 arg6 harg6 arg7 harg7 x2 x3 x4 x5 x6) (k0_pay573 sl.v800) (k0_pay574 sl.v800) (sl.r_81 c arg3 harg3 arg4 harg4 arg5 harg5 arg6 harg6 arg7 harg7 x2 x3 x4 x5 x6) (sl.r_82 c arg3 harg3 arg4 harg4 arg5 harg5 arg6 harg6 arg7 harg7 x2 x3 x4 x5 x6) (sl.r_83 c arg3 harg3 arg4 harg4 arg5 harg5 arg6 harg6 arg7 harg7 x2 x3 x4 x5 x6)

theorem zUp_eq : zUp c arg3 harg3 arg4 harg4 arg5 harg5 arg6 harg6 arg7 harg7 x2 x3 x4 x5 x6 = cat (stepG 1#32 256#32 (sl.r_79 c arg3 harg3 arg4 harg4 arg5 harg5 arg6 harg6 arg7 harg7 x2 x3 x4 x5 x6)) (stepG' 1#32 256#32 (sl.r_80 c arg3 harg3 arg4 harg4 arg5 harg5 arg6 harg6 arg7 harg7 x2 x3 x4 x5 x6)) := rfl

open Cert.Ref in
theorem zLo_at (z w : Ray) (n : Fin 65536) (r : Fin 256) (hz : ∀ j : Fin 64, x2 (ix2 ⟨r.val, by omega⟩ j) = z (ix2 n j))
    (hs : ∀ s : Fin 128, sl.r_4 c arg4 harg4 arg5 harg5 arg6 harg6 arg7 harg7 x3 x4 x5 x6 (ix2 ⟨r.val, by omega⟩ s) = rSamp z w (ix2 n s)) (k : Fin 192) :
    sl.v2460 c arg3 harg3 arg4 harg4 arg5 harg5 arg6 harg6 arg7 harg7 x2 x3 x4 x5 x6 (ix2 r k) = rSorted z w (ix2 n k) := by
  rw [v2462_eq]
  refine half_sorted _ _ _ _ r (sorted1 c arg3 harg3 arg4 harg4 arg5 harg5 arg6 harg6 arg7 harg7 x2 x3 x4 x5 x6 r) z w n (fun k q h => ?_) (fun k h => ?_) (fun s => ?_) k
  · rw [r9_eq, top_at]
    exact (r8_lo c arg3 harg3 x2 _ k q h).trans (hz q)
  · rw [r9_eq, top_at]
    exact r8_hi c arg3 harg3 x2 _ k h
  · rw [r10_eq, top_at]
    exact hs s

open Cert.Ref in
theorem zUp_at (z w : Ray) (n : Fin 65536) (r : Fin 256) (hz : ∀ j : Fin 64, x2 (ix2 ⟨256 + r.val, by omega⟩ j) = z (ix2 n j))
    (hs : ∀ s : Fin 128, sl.r_4 c arg4 harg4 arg5 harg5 arg6 harg6 arg7 harg7 x3 x4 x5 x6 (ix2 ⟨256 + r.val, by omega⟩ s) = rSamp z w (ix2 n s)) (k : Fin 192) :
    zUp c arg3 harg3 arg4 harg4 arg5 harg5 arg6 harg6 arg7 harg7 x2 x3 x4 x5 x6 (ix2 r k) = rSorted z w (ix2 n k) := by
  rw [zUp_eq]
  refine half_sorted _ _ _ _ r (sorted2 c arg3 harg3 arg4 harg4 arg5 harg5 arg6 harg6 arg7 harg7 x2 x3 x4 x5 x6 r) z w n (fun k q h => ?_) (fun k h => ?_) (fun s => ?_) k
  · rw [v2496_eq, bot_at]
    exact (r8_lo c arg3 harg3 x2 _ k q h).trans (hz q)
  · rw [v2496_eq, bot_at]
    exact r8_hi c arg3 harg3 x2 _ k h
  · rw [v2497_eq, bot_at]
    exact hs s

end Cert.Proof
-- ==== Proof.Pick.lean ====
/- The kernel's choice of a bin, as it prints it: in each chunk of edges a running select keeps the last edge that is not
   beyond the sample's quantile. -/
module

public import proofs.«01_k».proof.Proof.Gen.KernelIdeal.Skeleton
public import Idealize.ShloMosaic.Lib.SortNet.Printed
public import Idealize.ShloMosaic.Lib.SortNet.PrintedCmp
public import Idealize.ShloMosaic.Lib.SortNet.Sorts
public import Idealize.ShloMosaic.Lib.Pointwise

@[expose] public section

noncomputable section

namespace Cert.Proof

open Idealize.ShloMosaic Idealize.ShloMosaic.SortNet Idealize.ShloMosaic.Pointwise Cert.KernelIdeal Cert.KernelIdeal.Gen

abbrev Tab := FVec Ideal S64x512 .f32
abbrev Grd := FVec Ideal S128x512 .f32
abbrev Qnt := FVec Ideal S128x1 .f32

def geK (k : Nat) (h : S64x512.Slices ![k, 0] S1x512) (C : Tab) (U : Qnt) : IVec S128x512 1 :=
  cmpf .oge (broadcastTo S128x512 U broadcasts_S128x1_S128x512)
    (broadcastTo S128x512 (extractStridedSlice S1x512 ![k, 0] C h) broadcasts_S1x512_S128x512)

def rowK (k : Nat) (h : S64x512.Slices ![k, 0] S1x512) (A : Tab) : Grd :=
  broadcastTo S128x512 (shapeCast S1x512 (extractStridedSlice S1x512 ![k, 0] A h) shapeCasts_S1x512_S1x512)
    broadcasts_S1x512_S128x512

def pickK (k : Nat) (h : S64x512.Slices ![k, 0] S1x512) (C A : Tab) (U : Qnt) (p : Grd) : Grd :=
  select (geK k h C U) (rowK k h A) p

/-- Entry `k` of column `j`. -/
def edge (A : Tab) (j : Fin 512) (k : Nat) : EReal := A (ix2 (Fin.ofNat 64 k) j)

open Classical in
/-- The last of `k₀, …, k₀ + n` that passes, and `k₀` if none of the later ones does. -/
def pick (P : Nat → Prop) (k₀ : Nat) : Nat → Nat
  | 0 => k₀
  | n + 1 => if P (k₀ + n + 1) then k₀ + n + 1 else pick P k₀ n

theorem slice_row {k : Nat} (h : S64x512.Slices ![k, 0] S1x512) (A : Tab) (i : Fin 1) (j : Fin 512) :
    extractStridedSlice S1x512 ![k, 0] A h (ix2 i j) = edge A j k := by
  have hk : k + 1 ≤ 64 := h.2 0
  unfold extractStridedSlice edge
  congr 1
  funext a
  match a with
  | 0 =>
    apply Fin.ext
    show k + i.val = k % 64
    rw [Nat.mod_eq_of_lt (by omega)]
    have := i.isLt
    omega
  | 1 =>
    apply Fin.ext
    show 0 + j.val = j.val
    omega

theorem rowK_apply {k : Nat} (h : S64x512.Slices ![k, 0] S1x512) (A : Tab) (s : Fin 128) (j : Fin 512) :
    rowK k h A (ix2 s j) = edge A j k := by
  unfold rowK
  rw [shapeCast_id, ← slice_row h A 0 j]
  pointwise

theorem geK_apply {k : Nat} (h : S64x512.Slices ![k, 0] S1x512) (C : Tab) (U : Qnt) (s : Fin 128) (j : Fin 512) :
    geK k h C U (ix2 s j) = BitVec.ofBool (decide (edge C j k ≤ U (ix2 s 0))) := by
  unfold geK
  rw [← slice_row h C 0 j]
  pointwise

theorem pickK_apply {k : Nat} (h : S64x512.Slices ![k, 0] S1x512) (C A : Tab) (U : Qnt) (p : Grd) (s : Fin 128) (j : Fin 512)
    (q : Nat) (hp : p (ix2 s j) = edge A j q) [Decidable (edge C j k ≤ U (ix2 s 0))] :
    pickK k h C A U p (ix2 s j) = edge A j (if edge C j k ≤ U (ix2 s 0) then k else q) := by
  unfold pickK
  rw [select_apply, geK_apply, select_ofBool, rowK_apply, hp]
  by_cases hc : edge C j k ≤ U (ix2 s 0) <;> simp [hc]

/-- The edges the quantile has reached. -/
def reached (C : Tab) (U : Qnt) (s : Fin 128) (j : Fin 512) (k : Nat) : Prop := edge C j k ≤ U (ix2 s 0)

open Classical in
theorem pickK_succ {k₀ n k : Nat} (hk : k = k₀ + n + 1) (h : S64x512.Slices ![k, 0] S1x512) (C A : Tab) (U : Qnt) (p : Grd)
    (s : Fin 128) (j : Fin 512) (hp : p (ix2 s j) = edge A j (pick (reached C U s j) k₀ n)) :
    pickK k h C A U p (ix2 s j) = edge A j (pick (reached C U s j) k₀ (n + 1)) := by
  subst hk
  rw [pickK_apply h C A U p s j _ hp, pick]
  congr 1
  by_cases hc : edge C j (k₀ + n + 1) ≤ U (ix2 s 0)
  · rw [if_pos hc, if_pos (show reached C U s j (k₀ + n + 1) from hc)]
  · rw [if_neg hc, if_neg (show ¬ reached C U s j (k₀ + n + 1) from hc)]

/-- The bin the nested selects choose. -/
def bin (P : Nat → Prop) : Nat := open Classical in
  if P 32 then (if P 48 then pick P 48 14 else pick P 32 15) else (if P 16 then pick P 16 15 else pick P 0 15)

open Classical in
theorem pick_eq (P : Nat → Prop) (K : Nat) (k₀ n : Nat) (hP : ∀ k, k ≤ k₀ + n → (P k ↔ k ≤ K)) :
    pick P k₀ n = max k₀ (min K (k₀ + n)) := by
  induction n with
  | zero => simp only [pick]; omega
  | succ n ih =>
    have e := ih fun k hk => hP k (by omega)
    have h := hP (k₀ + n + 1) (by omega)
    simp only [pick]
    by_cases hc : P (k₀ + n + 1)
    · rw [if_pos hc]
      have := h.mp hc
      omega
    · rw [if_neg hc, e]
      have : ¬ k₀ + n + 1 ≤ K := fun x => hc (h.mpr x)
      omega

/-- Where the passing edges are exactly those up to `K`, the bin is `K`. -/
theorem bin_eq (P : Nat → Prop) (K : Nat) (hK : K ≤ 62) (hP : ∀ k, k ≤ 62 → (P k ↔ k ≤ K)) : bin P = K := by
  unfold bin
  have e3 := pick_eq P K 48 14 fun k hk => hP k (by omega)
  have e2 := pick_eq P K 32 15 fun k hk => hP k (by omega)
  have e1 := pick_eq P K 16 15 fun k hk => hP k (by omega)
  have e0 := pick_eq P K 0 15 fun k hk => hP k (by omega)
  have h32 := hP 32 (by omega)
  have h48 := hP 48 (by omega)
  have h16 := hP 16 (by omega)
  rw [e0, e1, e2, e3]
  by_cases a : P 32
  · have := h32.mp a
    rw [if_pos a]
    by_cases b : P 48
    · have := h48.mp b
      rw [if_pos b]; omega
    · have : ¬ 48 ≤ K := fun x => b (h48.mpr x)
      rw [if_neg b]; omega
  · have : ¬ 32 ≤ K := fun x => a (h32.mpr x)
    rw [if_neg a]
    by_cases b : P 16
    · have := h16.mp b
      rw [if_pos b]; omega
    · have : ¬ 16 ≤ K := fun x => b (h16.mpr x)
      rw [if_neg b]; omega

theorem bin_select (C A : Tab) (U : Qnt) (p0 p1 p2 p3 : Grd) (s : Fin 128) (j : Fin 512)
    (e0 : p0 (ix2 s j) = edge A j (pick (reached C U s j) 0 15)) (e1 : p1 (ix2 s j) = edge A j (pick (reached C U s j) 16 15))
    (e2 : p2 (ix2 s j) = edge A j (pick (reached C U s j) 32 15)) (e3 : p3 (ix2 s j) = edge A j (pick (reached C U s j) 48 14)) :
    select (geK 32 slices_S64x512_o32_0_S1x512 C U) (select (geK 48 slices_S64x512_o48_0_S1x512 C U) p3 p2)
      (select (geK 16 slices_S64x512_o16_0_S1x512 C U) p1 p0) (ix2 s j) = edge A j (bin (reached C U s j)) := by
  classical
  rw [select_apply, select_apply, select_apply, geK_apply, geK_apply, geK_apply, select_ofBool, select_ofBool, select_ofBool,
    e0, e1, e2, e3]
  unfold bin
  have h (k : Nat) : reached C U s j k ↔ edge C j k ≤ U (ix2 s 0) := Iff.rfl
  by_cases a : edge C j 32 ≤ U (ix2 s 0) <;> by_cases b : edge C j 48 ≤ U (ix2 s 0) <;>
    by_cases c : edge C j 16 ≤ U (ix2 s 0) <;> simp [h, a, b, c]

theorem transposed_at (G H : Grd) (U : Qnt) (s : Fin 128) (j : Fin 512) {g h : EReal} (hg : G (ix2 s j) = g)
    (hh : H (ix2 s j) = h) :
    transpose S512x128 [1, 0] (addf G (mulf H (broadcastTo S128x512 U broadcasts_S128x1_S128x512)))
      transposes_S128x512_p1_0_S512x128 (ix2 j s) = g + h * U (ix2 s 0) := by
  subst hg hh
  pointwise

end Cert.Proof

end
-- ==== Proof.Samp.lean ====
/- The sampling phase: what the running selects hold, edge by edge, and the samples. -/
module

public import proofs.«01_k».proof.Proof.Pick
public import proofs.«01_k».proof.Proof.Gen.KernelIdeal.Frame

@[expose] public section

noncomputable section

namespace Cert.Proof

open Idealize.ShloMosaic Idealize.ShloMosaic.SortNet Idealize.ShloMosaic.Pointwise Cert.KernelIdeal Cert.KernelIdeal.Gen Cert.KernelIdeal.Gen.kernelRun0_A

variable (c : Dev nD)
  (arg1 : Memref sig .tc .vmem S512x3 .f32) (harg1 : arg1.IsWhole)
  (arg2 : Memref sig .tc .vmem S512x3 .f32) (harg2 : arg2.IsWhole)
  (arg3 : Memref sig .tc .vmem S512x64 .f32) (harg3 : arg3.IsWhole)
  (arg4 : Memref sig .tc .vmem S64x512 .f32) (harg4 : arg4.IsWhole)
  (arg5 : Memref sig .tc .vmem S64x512 .f32) (harg5 : arg5.IsWhole)
  (arg6 : Memref sig .tc .vmem S128x64 .f32) (harg6 : arg6.IsWhole)
  (arg7 : Memref sig .tc .vmem S128x64 .f32) (harg7 : arg7.IsWhole)
  (arg8 : Memref sig .tc .vmem S192x576 .f32) (harg8 : arg8.IsWhole)
  (arg9 : Memref sig .tc .vmem S3x576 .f32) (harg9 : arg9.IsWhole)
  (x0 : Vec Ideal S512x3 .f32) (x1 : Vec Ideal S512x3 .f32) (x2 : Vec Ideal S512x64 .f32) (x3 : Vec Ideal S64x512 .f32) (x4 : Vec Ideal S64x512 .f32) (x5 : Vec Ideal S128x64 .f32) (x6 : Vec Ideal S128x64 .f32) (x7 : Vec Ideal S192x576 .f32) (x8 : Vec Ideal S3x576 .f32)

theorem qb_0_3_def : (pickK 3 slices_S64x512_o3_0_S1x512 (sl.v24 c arg5 harg5 arg6 harg6 x4 x5) (sl.v38 c arg4 harg4 arg5 harg5 arg6 harg6 arg7 harg7 x3 x4 x5 x6) (k0_pay9 (F := Ideal)) (pickK 2 slices_S64x512_o2_0_S1x512 (sl.v24 c arg5 harg5 arg6 harg6 x4 x5) (sl.v38 c arg4 harg4 arg5 harg5 arg6 harg6 arg7 harg7 x3 x4 x5 x6) (k0_pay9 (F := Ideal)) (pickK 1 slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6))))) = (pickK 3 slices_S64x512_o3_0_S1x512 (sl.v24 c arg5 harg5 arg6 harg6 x4 x5) (sl.v38 c arg4 harg4 arg5 harg5 arg6 harg6 arg7 harg7 x3 x4 x5 x6) (k0_pay9 (F := Ideal)) (pickK 2 slices_S64x512_o2_0_S1x512 (sl.v24 c arg5 harg5 arg6 harg6 x4 x5) (sl.v38 c arg4 harg4 arg5 harg5 arg6 harg6 arg7 harg7 x3 x4 x5 x6) (k0_pay9 (F := Ideal)) (pickK 1 slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6))))) := rfl
theorem qa_0_4_def : (sl.r_2 c arg4 harg4 arg5 harg5 arg6 harg6 arg7 harg7 x3 x4 x5 x6) = (pickK 4 slices_S64x512_o4_0_S1x512 (sl.v24 c arg5 harg5 arg6 harg6 x4 x5) (sl.r_1 c arg4 harg4 arg5 harg5 arg6 harg6 arg7 harg7 x3 x4 x5 x6) (k0_pay9 (F := Ideal)) (pickK 3 slices_S64x512_o3_0_S1x512 (sl.v24 c arg5 harg5 arg6 harg6 x4 x5) (sl.r_1 c arg4 harg4 arg5 harg5 arg6 harg6 arg7 harg7 x3 x4 x5 x6) (k0_pay9 (F := Ideal)) (pickK 2 slices_S64x512_o2_0_S1x512 (sl.v24 c arg5 harg5 arg6 harg6 x4 x5) (sl.r_1 c arg4 harg4 arg5 harg5 arg6 harg6 arg7 harg7 x3 x4 x5 x6) (k0_pay9 (F := Ideal)) (pickK 1 slices_S64x512_o1_0_S1x512 (sl.v24 c arg5 harg5 arg6 harg6 x4 x5) (sl.r_1 c arg4 harg4 arg5 harg5 arg6 harg6 arg7 harg7 x3 x4 x5 x6) (k0_pay9 (F := Ideal)) (rowK 0 slices_S64x512_o0_0_S1x512 (sl.r_1 c arg4 harg4 arg5 harg5 arg6 harg6 arg7 harg7 x3 x4 x5 x6)))))) := rfl
theorem qb_0_4_def : (sl.r_3 c arg4 harg4 arg5 harg5 arg6 harg6 arg7 harg7 x3 x4 x5 x6) = (pickK 4 slices_S64x512_o4_0_S1x512 (sl.v24 c arg5 harg5 arg6 harg6 x4 x5) (sl.v38 c arg4 harg4 arg5 harg5 arg6 harg6 arg7 harg7 x3 x4 x5 x6) (k0_pay9 (F := Ideal)) (pickK 3 slices_S64x512_o3_0_S1x512 (sl.v24 c arg5 harg5 arg6 harg6 x4 x5) (sl.v38 c arg4 harg4 arg5 harg5 arg6 harg6 arg7 harg7 x3 x4 x5 x6) (k0_pay9 (F := Ideal)) (pickK 2 slices_S64x512_o2_0_S1x512 (sl.v24 c arg5 harg5 arg6 harg6 x4 x5) (sl.v38 c arg4 harg4 arg5 harg5 arg6 harg6 arg7 harg7 x3 x4 x5 x6) (k0_pay9 (F := Ideal)) (pickK 1 slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6)))))) := rfl
theorem qa_0_5_def : (sl.v106 c arg4 harg4 arg5 harg5 arg6 harg6 arg7 harg7 x3 x4 x5 x6) = (pickK 5 slices_S64x512_o5_0_S1x512 (sl.v24 c arg5 harg5 arg6 harg6 x4 x5) (sl.r_1 c arg4 harg4 arg5 harg5 arg6 harg6 arg7 harg7 x3 x4 x5 x6) (k0_pay9 (F := Ideal)) (sl.r_2 c arg4 harg4 arg5 harg5 arg6 harg6 arg7 harg7 x3 x4 x5 x6)) := rfl
theorem qb_0_5_def : (sl.v110 c arg4 harg4 arg5 harg5 arg6 harg6 arg7 harg7 x3 x4 x5 x6) = (pickK 5 slices_S64x512_o5_0_S1x512 (sl.v24 c arg5 harg5 arg6 harg6 x4 x5) (sl.v38 c arg4 harg4 arg5 harg5 arg6 harg6 arg7 harg7 x3 x4 x5 x6) (k0_pay9 (F := Ideal)) (sl.r_3 c arg4 harg4 arg5 harg5 arg6 harg6 arg7 harg7 x3 x4 x5 x6)) := rfl
theorem qa_0_6_def : (sl.v118 c arg4 harg4 arg5 harg5 arg6 harg6 arg7 harg7 x3 x4 x5 x6) = (pickK 6 slices_S64x512_o6_0_S1x512 (sl.v24 c arg5 harg5 arg6 harg6 x4 x5) (sl.r_1 c arg4 harg4 arg5 harg5 arg6 harg6 arg7 harg7 x3 x4 x5 x6) (k0_pay9 (F := Ideal)) (sl.v106 c arg4 harg4 arg5 harg5 arg6 harg6 arg7 harg7 x3 x4 x5 x6)) := rfl
theorem qb_0_6_def : (sl.v122 c arg4 harg4 arg5 harg5 arg6 harg6 arg7 harg7 x3 x4 x5 x6) = (pickK 6 slices_S64x512_o6_0_S1x512 (sl.v24 c arg5 harg5 arg6 harg6 x4 x5) (sl.v38 c arg4 harg4 arg5 harg5 arg6 harg6 arg7 harg7 x3 x4 x5 x6) (k0_pay9 (F := Ideal)) (sl.v110 c arg4 harg4 arg5 harg5 arg6 harg6 arg7 harg7 x3 x4 x5 x6)) := rfl
theorem qa_0_7_def : (sl.v130 c arg4 harg4 arg5 harg5 arg6 harg6 arg7 harg7 x3 x4 x5 x6) = (pickK 7 slices_S64x512_o7_0_S1x512 (sl.v24 c arg5 harg5 arg6 harg6 x4 x5) (sl.r_1 c arg4 harg4 arg5 harg5 arg6 harg6 arg7 harg7 x3 x4 x5 x6) (k0_pay9 (F := Ideal)) (sl.v118 c arg4 harg4 arg5 harg5 arg6 harg6 arg7 harg7 x3 x4 x5 x6)) := rfl
theorem qb_0_7_def : (sl.v134 c arg4 harg4 arg5 harg5 arg6 harg6 arg7 harg7 x3 x4 x5 x6) = (pickK 7 slices_S64x512_o7_0_S1x512 (sl.v24 c arg5 harg5 arg6 harg6 x4 x5) (sl.v38 c arg4 harg4 arg5 harg5 arg6 harg6 arg7 harg7 x3 x4 x5 x6) (k0_pay9 (F := Ideal)) (sl.v122 c arg4 harg4 arg5 harg5 arg6 harg6 arg7 harg7 x3 x4 x5 x6)) := rfl
theorem qa_0_8_def : (sl.v142 c arg4 harg4 arg5 harg5 arg6 harg6 arg7 harg7 x3 x4 x5 x6) = (pickK 8 slices_S64x512_o8_0_S1x512 (sl.v24 c arg5 harg5 arg6 harg6 x4 x5) (sl.r_1 c arg4 harg4 arg5 harg5 arg6 harg6 arg7 harg7 x3 x4 x5 x6) (k0_pay9 (F := Ideal)) (sl.v130 c arg4 harg4 arg5 harg5 arg6 harg6 arg7 harg7 x3 x4 x5 x6)) := rfl
theorem qb_0_8_def : (sl.v146 c arg4 harg4 arg5 harg5 arg6 harg6 arg7 harg7 x3 x4 x5 x6) = (pickK 8 slices_S64x512_o8_0_S1x512 (sl.v24 c arg5 harg5 arg6 harg6 x4 x5) (sl.v38 c arg4 harg4 arg5 harg5 arg6 harg6 arg7 harg7 x3 x4 x5 x6) (k0_pay9 (F := Ideal)) (sl.v134 c arg4 harg4 arg5 harg5 arg6 harg6 arg7 harg7 x3 x4 x5 x6)) := rfl
theorem qa_0_9_def : (sl.v154 c arg4 harg4 arg5 harg5 arg6 harg6 arg7 harg7 x3 x4 x5 x6) = (pickK 9 slices_S64x512_o9_0_S1x512 (sl.v24 c arg5 harg5 arg6 harg6 x4 x5) (sl.r_1 c arg4 harg4 arg5 harg5 arg6 harg6 arg7 harg7 x3 x4 x5 x6) (k0_pay9 (F := Ideal)) (sl.v142 c arg4 harg4 arg5 harg5 arg6 harg6 arg7 harg7 x3 x4 x5 x6)) := rfl
theorem qb_0_9_def : (sl.v158 c arg4 harg4 arg5 harg5 arg6 harg6 arg7 harg7 x3 x4 x5 x6) = (pickK 9 slices_S64x512_o9_0_S1x512 (sl.v24 c arg5 harg5 arg6 harg6 x4 x5) (sl.v38 c arg4 harg4 arg5 harg5 arg6 harg6 arg7 harg7 x3 x4 x5 x6) (k0_pay9 (F := Ideal)) (sl.v146 c arg4 harg4 arg5 harg5 arg6 harg6 arg7 harg7 x3 x4 x5 x6)) := rfl
theorem qa_0_10_def : (sl.v166 c arg4 harg4 arg5 harg5 arg6 harg6 arg7 harg7 x3 x4 x5 x6) = (pickK 10 slices_S64x512_o10_0_S1x512 (sl.v24 c arg5 harg5 arg6 harg6 x4 x5) (sl.r_1 c arg4 harg4 arg5 harg5 arg6 harg6 arg7 harg7 x3 x4 x5 x6) (k0_pay9 (F := Ideal)) (sl.v154 c arg4 harg4 arg5 harg5 arg6 harg6 arg7 harg7 x3 x4 x5 x6)) := rfl
theorem qb_0_10_def : (sl.v170 c arg4 harg4 arg5 harg5 arg6 harg6 arg7 harg7 x3 x4 x5 x6) = (pickK 10 slices_S64x512_o10_0_S1x512 (sl.v24 c arg5 harg5 arg6 harg6 x4 x5) (sl.v38 c arg4 harg4 arg5 harg5 arg6 harg6 arg7 harg7 x3 x4 x5 x6) (k0_pay9 (F := Ideal)) (sl.v158 c arg4 harg4 arg5 harg5 arg6 harg6 arg7 harg7 x3 x4 x5 x6)) := rfl
theorem qa_0_11_def : (sl.v178 c arg4 harg4 arg5 harg5 arg6 harg6 arg7 harg7 x3 x4 x5 x6) = (pickK 11 slices_S64x512_o11_0_S1x512 (sl.v24 c arg5 harg5 arg6 harg6 x4 x5) (sl.r_1 c arg4 harg4 arg5 harg5 arg6 harg6 arg7 harg7 x3 x4 x5 x6) (k0_pay9 (F := Ideal)) (sl.v166 c arg4 harg4 arg5 harg5 arg6 harg6 arg7 harg7 x3 x4 x5 x6)) := rfl
theorem qb_0_11_def : (sl.v182 c arg4 harg4 arg5 harg5 arg6 harg6 arg7 harg7 x3 x4 x5 x6) = (pickK 11 slices_S64x512_o11_0_S1x512 (sl.v24 c arg5 harg5 arg6 harg6 x4 x5) (sl.v38 c arg4 harg4 arg5 harg5 arg6 harg6 arg7 harg7 x3 x4 x5 x6) (k0_pay9 (F := Ideal)) (sl.v170 c arg4 harg4 arg5 harg5 arg6 harg6 arg7 harg7 x3 x4 x5 x6)) := rfl
theorem qa_0_12_def : (sl.v190 c arg4 harg4 arg5 harg5 arg6 harg6 arg7 harg7 x3 x4 x5 x6) = (pickK 12 slices_S64x512_o12_0_S1x512 (sl.v24 c arg5 harg5 arg6 harg6 x4 x5) (sl.r_1 c arg4 harg4 arg5 harg5 arg6 harg6 arg7 harg7 x3 x4 x5 x6) (k0_pay9 (F := Ideal)) (sl.v178 c arg4 harg4 arg5 harg5 arg6 harg6 arg7 harg7 x3 x4 x5 x6)) := rfl
theorem qb_0_12_def : (sl.v194 c arg4 harg4 arg5 harg5 arg6 harg6 arg7 harg7 x3 x4 x5 x6) = (pickK 12 slices_S64x512_o12_0_S1x512 (sl.v24 c arg5 harg5 arg6 harg6 x4 x5) (sl.v38 c arg4 harg4 arg5 harg5 arg6 harg6 arg7 harg7 x3 x4 x5 x6) (k0_pay9 (F := Ideal)) (sl.v182 c arg4 harg4 arg5 harg5 arg6 harg6 arg7 harg7 x3 x4 x5 x6)) := rfl
theorem qa_0_13_def : (sl.v202 c arg4 harg4 arg5 harg5 arg6 harg6 arg7 harg7 x3 x4 x5 x6) = (pickK 13 slices_S64x512_o13_0_S1x512 (sl.v24 c arg5 harg5 arg6 harg6 x4 x5) (sl.r_1 c arg4 harg4 arg5 harg5 arg6 harg6 arg7 harg7 x3 x4 x5 x6) (k0_pay9 (F := Ideal)) (sl.v190 c arg4 harg4 arg5 harg5 arg6 harg6 arg7 harg7 x3 x4 x5 x6)) := rfl
theorem qb_0_13_def : (sl.v206 c arg4 harg4 arg5 harg5 arg6 harg6 arg7 harg7 x3 x4 x5 x6) = (pickK 13 slices_S64x512_o13_0_S1x512 (sl.v24 c arg5 harg5 arg6 harg6 x4 x5) (sl.v38 c arg4 harg4 arg5 harg5 arg6 harg6 arg7 harg7 x3 x4 x5 x6) (k0_pay9 (F := Ideal)) (sl.v194 c arg4 harg4 arg5 harg5 arg6 harg6 arg7 harg7 x3 x4 x5 x6)) := rfl
theorem qa_0_14_def : (sl.v214 c arg4 harg4 arg5 harg5 arg6 harg6 arg7 harg7 x3 x4 x5 x6) = (pickK 14 slices_S64x512_o14_0_S1x512 (sl.v24 c arg5 harg5 arg6 harg6 x4 x5) (sl.r_1 c arg4 harg4 arg5 harg5 arg6 harg6 arg7 harg7 x3 x4 x5 x6) (k0_pay9 (F := Ideal)) (sl.v202 c arg4 harg4 arg5 harg5 arg6 harg6 arg7 harg7 x3 x4 x5 x6)) := rfl
theorem qb_0_14_def : (sl.v218 c arg4 harg4 arg5 harg5 arg6 harg6 arg7 harg7 x3 x4 x5 x6) = (pickK 14 slices_S64x512_o14_0_S1x512 (sl.v24 c arg5 harg5 arg6 harg6 x4 x5) (sl.v38 c arg4 harg4 arg5 harg5 arg6 harg6 arg7 harg7 x3 x4 x5 x6) (k0_pay9 (F := Ideal)) (sl.v206 c arg4 harg4 arg5 harg5 arg6 harg6 arg7 harg7 x3 x4 x5 x6)) := rfl
theorem qa_0_15_def : (sl.v226 c arg4 harg4 arg5 harg5 arg6 harg6 arg7 harg7 x3 x4 x5 x6) = (pickK 15 slices_S64x512_o15_0_S1x512 (sl.v24 c arg5 harg5 arg6 harg6 x4 x5) (sl.r_1 c arg4 harg4 arg5 harg5 arg6 harg6 arg7 harg7 x3 x4 x5 x6) (k0_pay9 (F := Ideal)) (sl.v214 c arg4 harg4 arg5 harg5 arg6 harg6 arg7 harg7 x3 x4 x5 x6)) := rfl
theorem qb_0_15_def : (sl.v230 c arg4 harg4 arg5 harg5 arg6 harg6 arg7 harg7 x3 x4 x5 x6) = (pickK 15 slices_S64x512_o15_0_S1x512 (sl.v24 c arg5 harg5 arg6 harg6 x4 x5) (sl.v38 c arg4 harg4 arg5 harg5 arg6 harg6 arg7 harg7 x3 x4 x5 x6) (k0_pay9 (F := Ideal)) (sl.v218 c arg4 harg4 arg5 harg5 arg6 harg6 arg7 harg7 x3 x4 x5 x6)) := rfl
theorem qa_1_0_def : (sl.v233 c arg4 harg4 arg5 harg5 arg6 harg6 arg7 harg7 x3 x4 x5 x6) = (rowK 16 slices_S64x512_o16_0_S1x512 (sl.r_1 c arg4 harg4 arg5 harg5 arg6 harg6 arg7 harg7 x3 x4 x5 x6)) := rfl
theorem qb_1_0_def : (sl.v236 c arg4 harg4 arg5 harg5 arg6 harg6 arg7 harg7 x3 x4 x5 x6) = (rowK 16 slices_S64x512_o16_0_S1x512 (sl.v38 c arg4 harg4 arg5 harg5 arg6 harg6 arg7 harg7 x3 x4 x5 x6)) := rfl
theorem qa_1_1_def : (sl.v244 c arg4 harg4 arg5 harg5 arg6 harg6 arg7 harg7 x3 x4 x5 x6) = (pickK 17 slices_S64x512_o17_0_S1x512 (sl.v24 c arg5 harg5 arg6 harg6 x4 x5) (sl.r_1 c arg4 harg4 arg5 harg5 arg6 harg6 arg7 harg7 x3 x4 x5 x6) (k0_pay9 (F := Ideal)) (sl.v233 c arg4 harg4 arg5 harg5 arg6 harg6 arg7 harg7 x3 x4 x5 x6)) := rfl
theorem qb_1_1_def : (sl.v248 c arg4 harg4 arg5 harg5 arg6 harg6 arg7 harg7 x3 x4 x5 x6) = (pickK 17 slices_S64x512_o17_0_S1x512 (sl.v24 c arg5 harg5 arg6 harg6 x4 x5) (sl.v38 c arg4 harg4 arg5 harg5 arg6 harg6 arg7 harg7 x3 x4 x5 x6) (k0_pay9 (F := Ideal)) (sl.v236 c arg4 harg4 arg5 harg5 arg6 harg6 arg7 harg7 x3 x4 x5 x6)) := rfl
theorem qa_1_2_def : (sl.v256 c arg4 harg4 arg5 harg5 arg6 harg6 arg7 harg7 x3 x4 x5 x6) = (pickK 18 slices_S64x512_o18_0_S1x512 (sl.v24 c arg5 harg5 arg6 harg6 x4 x5) (sl.r_1 c arg4 harg4 arg5 harg5 arg6 harg6 arg7 harg7 x3 x4 x5 x6) (k0_pay9 (F := Ideal)) (sl.v244 c arg4 harg4 arg5 harg5 arg6 harg6 arg7 harg7 x3 x4 x5 x6)) := rfl
theorem qb_1_2_def : (sl.v260 c arg4 harg4 arg5 harg5 arg6 harg6 arg7 harg7 x3 x4 x5 x6) = (pickK 18 slices_S64x512_o18_0_S1x512 (sl.v24 c arg5 harg5 arg6 harg6 x4 x5) (sl.v38 c arg4 harg4 arg5 harg5 arg6 harg6 arg7 harg7 x3 x4 x5 x6) (k0_pay9 (F := Ideal)) (sl.v248 c arg4 harg4 arg5 harg5 arg6 harg6 arg7 harg7 x3 x4 x5 x6)) := rfl
theorem qa_1_3_def : (sl.v268 c arg4 harg4 arg5 harg5 arg6 harg6 arg7 harg7 x3 x4 x5 x6) = (pickK 19 slices_S64x512_o19_0_S1x512 (sl.v24 c arg5 harg5 arg6 harg6 x4 x5) (sl.r_1 c arg4 harg4 arg5 harg5 arg6 harg6 arg7 harg7 x3 x4 x5 x6) (k0_pay9 (F := Ideal)) (sl.v256 c arg4 harg4 arg5 harg5 arg6 harg6 arg7 harg7 x3 x4 x5 x6)) := rfl
theorem qb_1_3_def : (sl.v272 c arg4 harg4 arg5 harg5 arg6 harg6 arg7 harg7 x3 x4 x5 x6) = (pickK 19 slices_S64x512_o19_0_S1x512 (sl.v24 c arg5 harg5 arg6 harg6 x4 x5) (sl.v38 c arg4 harg4 arg5 harg5 arg6 harg6 arg7 harg7 x3 x4 x5 x6) (k0_pay9 (F := Ideal)) (sl.v260 c arg4 harg4 arg5 harg5 arg6 harg6 arg7 harg7 x3 x4 x5 x6)) := rfl
theorem qa_1_4_def : (sl.v280 c arg4 harg4 arg5 harg5 arg6 harg6 arg7 harg7 x3 x4 x5 x6) = (pickK 20 slices_S64x512_o20_0_S1x512 (sl.v24 c arg5 harg5 arg6 harg6 x4 x5) (sl.r_1 c arg4 harg4 arg5 harg5 arg6 harg6 arg7 harg7 x3 x4 x5 x6) (k0_pay9 (F := Ideal)) (sl.v268 c arg4 harg4 arg5 harg5 arg6 harg6 arg7 harg7 x3 x4 x5 x6)) := rfl
theorem qb_1_4_def : (sl.v284 c arg4 harg4 arg5 harg5 arg6 harg6 arg7 harg7 x3 x4 x5 x6) = (pickK 20 slices_S64x512_o20_0_S1x512 (sl.v24 c arg5 harg5 arg6 harg6 x4 x5) (sl.v38 c arg4 harg4 arg5 harg5 arg6 harg6 arg7 harg7 x3 x4 x5 x6) (k0_pay9 (F := Ideal)) (sl.v272 c arg4 harg4 arg5 harg5 arg6 harg6 arg7 harg7 x3 x4 x5 x6)) := rfl
theorem qa_1_5_def : (sl.v292 c arg4 harg4 arg5 harg5 arg6 harg6 arg7 harg7 x3 x4 x5 x6) = (pickK 21 slices_S64x512_o21_0_S1x512 (sl.v24 c arg5 harg5 arg6 harg6 x4 x5) (sl.r_1 c arg4 harg4 arg5 harg5 arg6 harg6 arg7 harg7 x3 x4 x5 x6) (k0_pay9 (F := Ideal)) (sl.v280 c arg4 harg4 arg5 harg5 arg6 harg6 arg7 harg7 x3 x4 x5 x6)) := rfl
theorem qb_1_5_def : (sl.v296 c arg4 harg4 arg5 harg5 arg6 harg6 arg7 harg7 x3 x4 x5 x6) = (pickK 21 slices_S64x512_o21_0_S1x512 (sl.v24 c arg5 harg5 arg6 harg6 x4 x5) (sl.v38 c arg4 harg4 arg5 harg5 arg6 harg6 arg7 harg7 x3 x4 x5 x6) (k0_pay9 (F := Ideal)) (sl.v284 c arg4 harg4 arg5 harg5 arg6 harg6 arg7 harg7 x3 x4 x5 x6)) := rfl
theorem qa_1_6_def : (sl.v304 c arg4 harg4 arg5 harg5 arg6 harg6 arg7 harg7 x3 x4 x5 x6) = (pickK 22 slices_S64x512_o22_0_S1x512 (sl.v24 c arg5 harg5 arg6 harg6 x4 x5) (sl.r_1 c arg4 harg4 arg5 harg5 arg6 harg6 arg7 harg7 x3 x4 x5 x6) (k0_pay9 (F := Ideal)) (sl.v292 c arg4 harg4 arg5 harg5 arg6 harg6 arg7 harg7 x3 x4 x5 x6)) := rfl
theorem qb_1_6_def : (sl.v308 c arg4 harg4 arg5 harg5 arg6 harg6 arg7 harg7 x3 x4 x5 x6) = (pickK 22 slices_S64x512_o22_0_S1x512 (sl.v24 c arg5 harg5 arg6 harg6 x4 x5) (sl.v38 c arg4 harg4 arg5 harg5 arg6 harg6 arg7 harg7 x3 x4 x5 x6) (k0_pay9 (F := Ideal)) (sl.v296 c arg4 harg4 arg5 harg5 arg6 harg6 arg7 harg7 x3 x4 x5 x6)) := rfl
theorem qa_1_7_def : (sl.v316 c arg4 harg4 arg5 harg5 arg6 harg6 arg7 harg7 x3 x4 x5 x6) = (pickK 23 slices_S64x512_o23_0_S1x512 (sl.v24 c arg5 harg5 arg6 harg6 x4 x5) (sl.r_1 c arg4 harg4 arg5 harg5 arg6 harg6 arg7 harg7 x3 x4 x5 x6) (k0_pay9 (F := Ideal)) (sl.v304 c arg4 harg4 arg5 harg5 arg6 harg6 arg7 harg7 x3 x4 x5 x6)) := rfl
theorem qb_1_7_def : (sl.v320 c arg4 harg4 arg5 harg5 arg6 harg6 arg7 harg7 x3 x4 x5 x6) = (pickK 23 slices_S64x512_o23_0_S1x512 (sl.v24 c arg5 harg5 arg6 harg6 x4 x5) (sl.v38 c arg4 harg4 arg5 harg5 arg6 harg6 arg7 harg7 x3 x4 x5 x6) (k0_pay9 (F := Ideal)) (sl.v308 c arg4 harg4 arg5 harg5 arg6 harg6 arg7 harg7 x3 x4 x5 x6)) := rfl
theorem qa_1_8_def : (sl.v328 c arg4 harg4 arg5 harg5 arg6 harg6 arg7 harg7 x3 x4 x5 x6) = (pickK 24 slices_S64x512_o24_0_S1x512 (sl.v24 c arg5 harg5 arg6 harg6 x4 x5) (sl.r_1 c arg4 harg4 arg5 harg5 arg6 harg6 arg7 harg7 x3 x4 x5 x6) (k0_pay9 (F := Ideal)) (sl.v316 c arg4 harg4 arg5 harg5 arg6 harg6 arg7 harg7 x3 x4 x5 x6)) := rfl
theorem qb_1_8_def : (sl.v332 c arg4 harg4 arg5 harg5 arg6 harg6 arg7 harg7 x3 x4 x5 x6) = (pickK 24 slices_S64x512_o24_0_S1x512 (sl.v24 c arg5 harg5 arg6 harg6 x4 x5) (sl.v38 c arg4 harg4 arg5 harg5 arg6 harg6 arg7 harg7 x3 x4 x5 x6) (k0_pay9 (F := Ideal)) (sl.v320 c arg4 harg4 arg5 harg5 arg6 harg6 arg7 harg7 x3 x4 x5 x6)) := rfl
theorem qa_1_9_def : (sl.v340 c arg4 harg4 arg5 harg5 arg6 harg6 arg7 harg7 x3 x4 x5 x6) = (pickK 25 slices_S64x512_o25_0_S1x512 (sl.v24 c arg5 harg5 arg6 harg6 x4 x5) (sl.r_1 c arg4 harg4 arg5 harg5 arg6 harg6 arg7 harg7 x3 x4 x5 x6) (k0_pay9 (F := Ideal)) (sl.v328 c arg4 harg4 arg5 harg5 arg6 harg6 arg7 harg7 x3 x4 x5 x6)) := rfl
theorem qb_1_9_def : (sl.v344 c arg4 harg4 arg5 harg5 arg6 harg6 arg7 harg7 x3 x4 x5 x6) = (pickK 25 slices_S64x512_o25_0_S1x512 (sl.v24 c arg5 harg5 arg6 harg6 x4 x5) (sl.v38 c arg4 harg4 arg5 harg5 arg6 harg6 arg7 harg7 x3 x4 x5 x6) (k0_pay9 (F := Ideal)) (sl.v332 c arg4 harg4 arg5 harg5 arg6 harg6 arg7 harg7 x3 x4 x5 x6)) := rfl
theorem qa_1_10_def : (sl.v352 c arg4 harg4 arg5 harg5 arg6 harg6 arg7 harg7 x3 x4 x5 x6) = (pickK 26 slices_S64x512_o26_0_S1x512 (sl.v24 c arg5 harg5 arg6 harg6 x4 x5) (sl.r_1 c arg4 harg4 arg5 harg5 arg6 harg6 arg7 harg7 x3 x4 x5 x6) (k0_pay9 (F := Ideal)) (sl.v340 c arg4 harg4 arg5 harg5 arg6 harg6 arg7 harg7 x3 x4 x5 x6)) := rfl
theorem qb_1_10_def : (sl.v356 c arg4 harg4 arg5 harg5 arg6 harg6 arg7 harg7 x3 x4 x5 x6) = (pickK 26 slices_S64x512_o26_0_S1x512 (sl.v24 c arg5 harg5 arg6 harg6 x4 x5) (sl.v38 c arg4 harg4 arg5 harg5 arg6 harg6 arg7 harg7 x3 x4 x5 x6) (k0_pay9 (F := Ideal)) (sl.v344 c arg4 harg4 arg5 harg5 arg6 harg6 arg7 harg7 x3 x4 x5 x6)) := rfl
theorem qa_1_11_def : (sl.v364 c arg4 harg4 arg5 harg5 arg6 harg6 arg7 harg7 x3 x4 x5 x6) = (pickK 27 slices_S64x512_o27_0_S1x512 (sl.v24 c arg5 harg5 arg6 harg6 x4 x5) (sl.r_1 c arg4 harg4 arg5 harg5 arg6 harg6 arg7 harg7 x3 x4 x5 x6) (k0_pay9 (F := Ideal)) (sl.v352 c arg4 harg4 arg5 harg5 arg6 harg6 arg7 harg7 x3 x4 x5 x6)) := rfl
theorem qb_1_11_def : (sl.v368 c arg4 harg4 arg5 harg5 arg6 harg6 arg7 harg7 x3 x4 x5 x6) = (pickK 27 slices_S64x512_o27_0_S1x512 (sl.v24 c arg5 harg5 arg6 harg6 x4 x5) (sl.v38 c arg4 harg4 arg5 harg5 arg6 harg6 arg7 harg7 x3 x4 x5 x6) (k0_pay9 (F := Ideal)) (sl.v356 c arg4 harg4 arg5 harg5 arg6 harg6 arg7 harg7 x3 x4 x5 x6)) := rfl
theorem qa_1_12_def : (sl.v376 c arg4 harg4 arg5 harg5 arg6 harg6 arg7 harg7 x3 x4 x5 x6) = (pickK 28 slices_S64x512_o28_0_S1x512 (sl.v24 c arg5 harg5 arg6 harg6 x4 x5) (sl.r_1 c arg4 harg4 arg5 harg5 arg6 harg6 arg7 harg7 x3 x4 x5 x6) (k0_pay9 (F := Ideal)) (sl.v364 c arg4 harg4 arg5 harg5 arg6 harg6 arg7 harg7 x3 x4 x5 x6)) := rfl
theorem qb_1_12_def : (sl.v380 c arg4 harg4 arg5 harg5 arg6 harg6 arg7 harg7 x3 x4 x5 x6) = (pickK 28 slices_S64x512_o28_0_S1x512 (sl.v24 c arg5 harg5 arg6 harg6 x4 x5) (sl.v38 c arg4 harg4 arg5 harg5 arg6 harg6 arg7 harg7 x3 x4 x5 x6) (k0_pay9 (F := Ideal)) (sl.v368 c arg4 harg4 arg5 harg5 arg6 harg6 arg7 harg7 x3 x4 x5 x6)) := rfl
theorem qa_1_13_def : (sl.v388 c arg4 harg4 arg5 harg5 arg6 harg6 arg7 harg7 x3 x4 x5 x6) = (pickK 29 slices_S64x512_o29_0_S1x512 (sl.v24 c arg5 harg5 arg6 harg6 x4 x5) (sl.r_1 c arg4 harg4 arg5 harg5 arg6 harg6 arg7 harg7 x3 x4 x5 x6) (k0_pay9 (F := Ideal)) (sl.v376 c arg4 harg4 arg5 harg5 arg6 harg6 arg7 harg7 x3 x4 x5 x6)) := rfl
theorem qb_1_13_def : (sl.v392 c arg4 harg4 arg5 harg5 arg6 harg6 arg7 harg7 x3 x4 x5 x6) = (pickK 29 slices_S64x512_o29_0_S1x512 (sl.v24 c arg5 harg5 arg6 harg6 x4 x5) (sl.v38 c arg4 harg4 arg5 harg5 arg6 harg6 arg7 harg7 x3 x4 x5 x6) (k0_pay9 (F := Ideal)) (sl.v380 c arg4 harg4 arg5 harg5 arg6 harg6 arg7 harg7 x3 x4 x5 x6)) := rfl
theorem qa_1_14_def : (sl.v400 c arg4 harg4 arg5 harg5 arg6 harg6 arg7 harg7 x3 x4 x5 x6) = (pickK 30 slices_S64x512_o30_0_S1x512 (sl.v24 c arg5 harg5 arg6 harg6 x4 x5) (sl.r_1 c arg4 harg4 arg5 harg5 arg6 harg6 arg7 harg7 x3 x4 x5 x6) (k0_pay9 (F := Ideal)) (sl.v388 c arg4 harg4 arg5 harg5 arg6 harg6 arg7 harg7 x3 x4 x5 x6)) := rfl
theorem qb_1_14_def : (sl.v404 c arg4 harg4 arg5 harg5 arg6 harg6 arg7 harg7 x3 x4 x5 x6) = (pickK 30 slices_S64x512_o30_0_S1x512 (sl.v24 c arg5 harg5 arg6 harg6 x4 x5) (sl.v38 c arg4 harg4 arg5 harg5 arg6 harg6 arg7 harg7 x3 x4 x5 x6) (k0_pay9 (F := Ideal)) (sl.v392 c arg4 harg4 arg5 harg5 arg6 harg6 arg7 harg7 x3 x4 x5 x6)) := rfl
theorem qa_1_15_def : (sl.v412 c arg4 harg4 arg5 harg5 arg6 harg6 arg7 harg7 x3 x4 x5 x6) = (pickK 31 slices_S64x512_o31_0_S1x512 (sl.v24 c arg5 harg5 arg6 harg6 x4 x5) (sl.r_1 c arg4 harg4 arg5 harg5 arg6 harg6 arg7 harg7 x3 x4 x5 x6) (k0_pay9 (F := Ideal)) (sl.v400 c arg4 harg4 arg5 harg5 arg6 harg6 arg7 harg7 x3 x4 x5 x6)) := rfl
theorem qb_1_15_def : (sl.v416 c arg4 harg4 arg5 harg5 arg6 harg6 arg7 harg7 x3 x4 x5 x6) = (pickK 31 slices_S64x512_o31_0_S1x512 (sl.v24 c arg5 harg5 arg6 harg6 x4 x5) (sl.v38 c arg4 harg4 arg5 harg5 arg6 harg6 arg7 harg7 x3 x4 x5 x6) (k0_pay9 (F := Ideal)) (sl.v404 c arg4 harg4 arg5 harg5 arg6 harg6 arg7 harg7 x3 x4 x5 x6)) := rfl
theorem qa_2_0_def : (sl.v419 c arg4 harg4 arg5 harg5 arg6 harg6 arg7 harg7 x3 x4 x5 x6) = (rowK 32 slices_S64x512_o32_0_S1x512 (sl.r_1 c arg4 harg4 arg5 harg5 arg6 harg6 arg7 harg7 x3 x4 x5 x6)) := rfl
theorem qb_2_0_def : (sl.v422 c arg4 harg4 arg5 harg5 arg6 harg6 arg7 harg7 x3 x4 x5 x6) = (rowK 32 slices_S64x512_o32_0_S1x512 (sl.v38 c arg4 harg4 arg5 harg5 arg6 harg6 arg7 harg7 x3 x4 x5 x6)) := rfl
theorem qa_2_1_def : (sl.v430 c arg4 harg4 arg5 harg5 arg6 harg6 arg7 harg7 x3 x4 x5 x6) = (pickK 33 slices_S64x512_o33_0_S1x512 (sl.v24 c arg5 harg5 arg6 harg6 x4 x5) (sl.r_1 c arg4 harg4 arg5 harg5 arg6 harg6 arg7 harg7 x3 x4 x5 x6) (k0_pay9 (F := Ideal)) (sl.v419 c arg4 harg4 arg5 harg5 arg6 harg6 arg7 harg7 x3 x4 x5 x6)) := rfl
theorem qb_2_1_def : (sl.v434 c arg4 harg4 arg5 harg5 arg6 harg6 arg7 harg7 x3 x4 x5 x6) = (pickK 33 slices_S64x512_o33_0_S1x512 (sl.v24 c arg5 harg5 arg6 harg6 x4 x5) (sl.v38 c arg4 harg4 arg5 harg5 arg6 harg6 arg7 harg7 x3 x4 x5 x6) (k0_pay9 (F := Ideal)) (sl.v422 c arg4 harg4 arg5 harg5 arg6 harg6 arg7 harg7 x3 x4 x5 x6)) := rfl
theorem qa_2_2_def : (sl.v442 c arg4 harg4 arg5 harg5 arg6 harg6 arg7 harg7 x3 x4 x5 x6) = (pickK 34 slices_S64x512_o34_0_S1x512 (sl.v24 c arg5 harg5 arg6 harg6 x4 x5) (sl.r_1 c arg4 harg4 arg5 harg5 arg6 harg6 arg7 harg7 x3 x4 x5 x6) (k0_pay9 (F := Ideal)) (sl.v430 c arg4 harg4 arg5 harg5 arg6 harg6 arg7 harg7 x3 x4 x5 x6)) := rfl
theorem qb_2_2_def : (sl.v446 c arg4 harg4 arg5 harg5 arg6 harg6 arg7 harg7 x3 x4 x5 x6) = (pickK 34 slices_S64x512_o34_0_S1x512 (sl.v24 c arg5 harg5 arg6 harg6 x4 x5) (sl.v38 c arg4 harg4 arg5 harg5 arg6 harg6 arg7 harg7 x3 x4 x5 x6) (k0_pay9 (F := Ideal)) (sl.v434 c arg4 harg4 arg5 harg5 arg6 harg6 arg7 harg7 x3 x4 x5 x6)) := rfl
theorem qa_2_3_def : (sl.v454 c arg4 harg4 arg5 harg5 arg6 harg6 arg7 harg7 x3 x4 x5 x6) = (pickK 35 slices_S64x512_o35_0_S1x512 (sl.v24 c arg5 harg5 arg6 harg6 x4 x5) (sl.r_1 c arg4 harg4 arg5 harg5 arg6 harg6 arg7 harg7 x3 x4 x5 x6) (k0_pay9 (F := Ideal)) (sl.v442 c arg4 harg4 arg5 harg5 arg6 harg6 arg7 harg7 x3 x4 x5 x6)) := rfl
theorem qb_2_3_def : (sl.v458 c arg4 harg4 arg5 harg5 arg6 harg6 arg7 harg7 x3 x4 x5 x6) = (pickK 35 slices_S64x512_o35_0_S1x512 (sl.v24 c arg5 harg5 arg6 harg6 x4 x5) (sl.v38 c arg4 harg4 arg5 harg5 arg6 harg6 arg7 harg7 x3 x4 x5 x6) (k0_pay9 (F := Ideal)) (sl.v446 c arg4 harg4 arg5 harg5 arg6 harg6 arg7 harg7 x3 x4 x5 x6)) := rfl
theorem qa_2_4_def : (sl.v466 c arg4 harg4 arg5 harg5 arg6 harg6 arg7 harg7 x3 x4 x5 x6) = (pickK 36 slices_S64x512_o36_0_S1x512 (sl.v24 c arg5 harg5 arg6 harg6 x4 x5) (sl.r_1 c arg4 harg4 arg5 harg5 arg6 harg6 arg7 harg7 x3 x4 x5 x6) (k0_pay9 (F := Ideal)) (sl.v454 c arg4 harg4 arg5 harg5 arg6 harg6 arg7 harg7 x3 x4 x5 x6)) := rfl
theorem qb_2_4_def : (sl.v470 c arg4 harg4 arg5 harg5 arg6 harg6 arg7 harg7 x3 x4 x5 x6) = (pickK 36 slices_S64x512_o36_0_S1x512 (sl.v24 c arg5 harg5 arg6 harg6 x4 x5) (sl.v38 c arg4 harg4 arg5 harg5 arg6 harg6 arg7 harg7 x3 x4 x5 x6) (k0_pay9 (F := Ideal)) (sl.v458 c arg4 harg4 arg5 harg5 arg6 harg6 arg7 harg7 x3 x4 x5 x6)) := rfl
theorem qa_2_5_def : (sl.v478 c arg4 harg4 arg5 harg5 arg6 harg6 arg7 harg7 x3 x4 x5 x6) = (pickK 37 slices_S64x512_o37_0_S1x512 (sl.v24 c arg5 harg5 arg6 harg6 x4 x5) (sl.r_1 c arg4 harg4 arg5 harg5 arg6 harg6 arg7 harg7 x3 x4 x5 x6) (k0_pay9 (F := Ideal)) (sl.v466 c arg4 harg4 arg5 harg5 arg6 harg6 arg7 harg7 x3 x4 x5 x6)) := rfl
theorem qb_2_5_def : (sl.v482 c arg4 harg4 arg5 harg5 arg6 harg6 arg7 harg7 x3 x4 x5 x6) = (pickK 37 slices_S64x512_o37_0_S1x512 (sl.v24 c arg5 harg5 arg6 harg6 x4 x5) (sl.v38 c arg4 harg4 arg5 harg5 arg6 harg6 arg7 harg7 x3 x4 x5 x6) (k0_pay9 (F := Ideal)) (sl.v470 c arg4 harg4 arg5 harg5 arg6 harg6 arg7 harg7 x3 x4 x5 x6)) := rfl
theorem qa_2_6_def : (sl.v490 c arg4 harg4 arg5 harg5 arg6 harg6 arg7 harg7 x3 x4 x5 x6) = (pickK 38 slices_S64x512_o38_0_S1x512 (sl.v24 c arg5 harg5 arg6 harg6 x4 x5) (sl.r_1 c arg4 harg4 arg5 harg5 arg6 harg6 arg7 harg7 x3 x4 x5 x6) (k0_pay9 (F := Ideal)) (sl.v478 c arg4 harg4 arg5 harg5 arg6 harg6 arg7 harg7 x3 x4 x5 x6)) := rfl
theorem qb_2_6_def : (sl.v494 c arg4 harg4 arg5 harg5 arg6 harg6 arg7 harg7 x3 x4 x5 x6) = (pickK 38 slices_S64x512_o38_0_S1x512 (sl.v24 c arg5 harg5 arg6 harg6 x4 x5) (sl.v38 c arg4 harg4 arg5 harg5 arg6 harg6 arg7 harg7 x3 x4 x5 x6) (k0_pay9 (F := Ideal)) (sl.v482 c arg4 harg4 arg5 harg5 arg6 harg6 arg7 harg7 x3 x4 x5 x6)) := rfl
theorem qa_2_7_def : (sl.v502 c arg4 harg4 arg5 harg5 arg6 harg6 arg7 harg7 x3 x4 x5 x6) = (pickK 39 slices_S64x512_o39_0_S1x512 (sl.v24 c arg5 harg5 arg6 harg6 x4 x5) (sl.r_1 c arg4 harg4 arg5 harg5 arg6 harg6 arg7 harg7 x3 x4 x5 x6) (k0_pay9 (F := Ideal)) (sl.v490 c arg4 harg4 arg5 harg5 arg6 harg6 arg7 harg7 x3 x4 x5 x6)) := rfl
theorem qb_2_7_def : (sl.v506 c arg4 harg4 arg5 harg5 arg6 harg6 arg7 harg7 x3 x4 x5 x6) = (pickK 39 slices_S64x512_o39_0_S1x512 (sl.v24 c arg5 harg5 arg6 harg6 x4 x5) (sl.v38 c arg4 harg4 arg5 harg5 arg6 harg6 arg7 harg7 x3 x4 x5 x6) (k0_pay9 (F := Ideal)) (sl.v494 c arg4 harg4 arg5 harg5 arg6 harg6 arg7 harg7 x3 x4 x5 x6)) := rfl
theorem qa_2_8_def : (sl.v514 c arg4 harg4 arg5 harg5 arg6 harg6 arg7 harg7 x3 x4 x5 x6) = (pickK 40 slices_S64x512_o40_0_S1x512 (sl.v24 c arg5 harg5 arg6 harg6 x4 x5) (sl.r_1 c arg4 harg4 arg5 harg5 arg6 harg6 arg7 harg7 x3 x4 x5 x6) (k0_pay9 (F := Ideal)) (sl.v502 c arg4 harg4 arg5 harg5 arg6 harg6 arg7 harg7 x3 x4 x5 x6)) := rfl
theorem qb_2_8_def : (sl.v518 c arg4 harg4 arg5 harg5 arg6 harg6 arg7 harg7 x3 x4 x5 x6) = (pickK 40 slices_S64x512_o40_0_S1x512 (sl.v24 c arg5 harg5 arg6 harg6 x4 x5) (sl.v38 c arg4 harg4 arg5 harg5 arg6 harg6 arg7 harg7 x3 x4 x5 x6) (k0_pay9 (F := Ideal)) (sl.v506 c arg4 harg4 arg5 harg5 arg6 harg6 arg7 harg7 x3 x4 x5 x6)) := rfl
theorem qa_2_9_def : (sl.v526 c arg4 harg4 arg5 harg5 arg6 harg6 arg7 harg7 x3 x4 x5 x6) = (pickK 41 slices_S64x512_o41_0_S1x512 (sl.v24 c arg5 harg5 arg6 harg6 x4 x5) (sl.r_1 c arg4 harg4 arg5 harg5 arg6 harg6 arg7 harg7 x3 x4 x5 x6) (k0_pay9 (F := Ideal)) (sl.v514 c arg4 harg4 arg5 harg5 arg6 harg6 arg7 harg7 x3 x4 x5 x6)) := rfl
theorem qb_2_9_def : (sl.v530 c arg4 harg4 arg5 harg5 arg6 harg6 arg7 harg7 x3 x4 x5 x6) = (pickK 41 slices_S64x512_o41_0_S1x512 (sl.v24 c arg5 harg5 arg6 harg6 x4 x5) (sl.v38 c arg4 harg4 arg5 harg5 arg6 harg6 arg7 harg7 x3 x4 x5 x6) (k0_pay9 (F := Ideal)) (sl.v518 c arg4 harg4 arg5 harg5 arg6 harg6 arg7 harg7 x3 x4 x5 x6)) := rfl
theorem qa_2_10_def : (sl.v538 c arg4 harg4 arg5 harg5 arg6 harg6 arg7 harg7 x3 x4 x5 x6) = (pickK 42 slices_S64x512_o42_0_S1x512 (sl.v24 c arg5 harg5 arg6 harg6 x4 x5) (sl.r_1 c arg4 harg4 arg5 harg5 arg6 harg6 arg7 harg7 x3 x4 x5 x6) (k0_pay9 (F := Ideal)) (sl.v526 c arg4 harg4 arg5 harg5 arg6 harg6 arg7 harg7 x3 x4 x5 x6)) := rfl
theorem qb_2_10_def : (sl.v542 c arg4 harg4 arg5 harg5 arg6 harg6 arg7 harg7 x3 x4 x5 x6) = (pickK 42 slices_S64x512_o42_0_S1x512 (sl.v24 c arg5 harg5 arg6 harg6 x4 x5) (sl.v38 c arg4 harg4 arg5 harg5 arg6 harg6 arg7 harg7 x3 x4 x5 x6) (k0_pay9 (F := Ideal)) (sl.v530 c arg4 harg4 arg5 harg5 arg6 harg6 arg7 harg7 x3 x4 x5 x6)) := rfl
theorem qa_2_11_def : (sl.v550 c arg4 harg4 arg5 harg5 arg6 harg6 arg7 harg7 x3 x4 x5 x6) = (pickK 43 slices_S64x512_o43_0_S1x512 (sl.v24 c arg5 harg5 arg6 harg6 x4 x5) (sl.r_1 c arg4 harg4 arg5 harg5 arg6 harg6 arg7 harg7 x3 x4 x5 x6) (k0_pay9 (F := Ideal)) (sl.v538 c arg4 harg4 arg5 harg5 arg6 harg6 arg7 harg7 x3 x4 x5 x6)) := rfl
theorem qb_2_11_def : (sl.v554 c arg4 harg4 arg5 harg5 arg6 harg6 arg7 harg7 x3 x4 x5 x6) = (pickK 43 slices_S64x512_o43_0_S1x512 (sl.v24 c arg5 harg5 arg6 harg6 x4 x5) (sl.v38 c arg4 harg4 arg5 harg5 arg6 harg6 arg7 harg7 x3 x4 x5 x6) (k0_pay9 (F := Ideal)) (sl.v542 c arg4 harg4 arg5 harg5 arg6 harg6 arg7 harg7 x3 x4 x5 x6)) := rfl
theorem qa_2_12_def : (sl.v562 c arg4 harg4 arg5 harg5 arg6 harg6 arg7 harg7 x3 x4 x5 x6) = (pickK 44 slices_S64x512_o44_0_S1x512 (sl.v24 c arg5 harg5 arg6 harg6 x4 x5) (sl.r_1 c arg4 harg4 arg5 harg5 arg6 harg6 arg7 harg7 x3 x4 x5 x6) (k0_pay9 (F := Ideal)) (sl.v550 c arg4 harg4 arg5 harg5 arg6 harg6 arg7 harg7 x3 x4 x5 x6)) := rfl
theorem qb_2_12_def : (sl.v566 c arg4 harg4 arg5 harg5 arg6 harg6 arg7 harg7 x3 x4 x5 x6) = (pickK 44 slices_S64x512_o44_0_S1x512 (sl.v24 c arg5 harg5 arg6 harg6 x4 x5) (sl.v38 c arg4 harg4 arg5 harg5 arg6 harg6 arg7 harg7 x3 x4 x5 x6) (k0_pay9 (F := Ideal)) (sl.v554 c arg4 harg4 arg5 harg5 arg6 harg6 arg7 harg7 x3 x4 x5 x6)) := rfl
theorem qa_2_13_def : (sl.v574 c arg4 harg4 arg5 harg5 arg6 harg6 arg7 harg7 x3 x4 x5 x6) = (pickK 45 slices_S64x512_o45_0_S1x512 (sl.v24 c arg5 harg5 arg6 harg6 x4 x5) (sl.r_1 c arg4 harg4 arg5 harg5 arg6 harg6 arg7 harg7 x3 x4 x5 x6) (k0_pay9 (F := Ideal)) (sl.v562 c arg4 harg4 arg5 harg5 arg6 harg6 arg7 harg7 x3 x4 x5 x6)) := rfl
theorem qb_2_13_def : (sl.v578 c arg4 harg4 arg5 harg5 arg6 harg6 arg7 harg7 x3 x4 x5 x6) = (pickK 45 slices_S64x512_o45_0_S1x512 (sl.v24 c arg5 harg5 arg6 harg6 x4 x5) (sl.v38 c arg4 harg4 arg5 harg5 arg6 harg6 arg7 harg7 x3 x4 x5 x6) (k0_pay9 (F := Ideal)) (sl.v566 c arg4 harg4 arg5 harg5 arg6 harg6 arg7 harg7 x3 x4 x5 x6)) := rfl
theorem qa_2_14_def : (sl.v586 c arg4 harg4 arg5 harg5 arg6 harg6 arg7 harg7 x3 x4 x5 x6) = (pickK 46 slices_S64x512_o46_0_S1x512 (sl.v24 c arg5 harg5 arg6 harg6 x4 x5) (sl.r_1 c arg4 harg4 arg5 harg5 arg6 harg6 arg7 harg7 x3 x4 x5 x6) (k0_pay9 (F := Ideal)) (sl.v574 c arg4 harg4 arg5 harg5 arg6 harg6 arg7 harg7 x3 x4 x5 x6)) := rfl
theorem qb_2_14_def : (sl.v590 c arg4 harg4 arg5 harg5 arg6 harg6 arg7 harg7 x3 x4 x5 x6) = (pickK 46 slices_S64x512_o46_0_S1x512 (sl.v24 c arg5 harg5 arg6 harg6 x4 x5) (sl.v38 c arg4 harg4 arg5 harg5 arg6 harg6 arg7 harg7 x3 x4 x5 x6) (k0_pay9 (F := Ideal)) (sl.v578 c arg4 harg4 arg5 harg5 arg6 harg6 arg7 harg7 x3 x4 x5 x6)) := rfl
theorem qa_2_15_def : (sl.v598 c arg4 harg4 arg5 harg5 arg6 harg6 arg7 harg7 x3 x4 x5 x6) = (pickK 47 slices_S64x512_o47_0_S1x512 (sl.v24 c arg5 harg5 arg6 harg6 x4 x5) (sl.r_1 c arg4 harg4 arg5 harg5 arg6 harg6 arg7 harg7 x3 x4 x5 x6) (k0_pay9 (F := Ideal)) (sl.v586 c arg4 harg4 arg5 harg5 arg6 harg6 arg7 harg7 x3 x4 x5 x6)) := rfl
theorem qb_2_15_def : (sl.v602 c arg4 harg4 arg5 harg5 arg6 harg6 arg7 harg7 x3 x4 x5 x6) = (pickK 47 slices_S64x512_o47_0_S1x512 (sl.v24 c arg5 harg5 arg6 harg6 x4 x5) (sl.v38 c arg4 harg4 arg5 harg5 arg6 harg6 arg7 harg7 x3 x4 x5 x6) (k0_pay9 (F := Ideal)) (sl.v590 c arg4 harg4 arg5 harg5 arg6 harg6 arg7 harg7 x3 x4 x5 x6)) := rfl
theorem qa_3_0_def : (sl.v605 c arg4 harg4 arg5 harg5 arg6 harg6 arg7 harg7 x3 x4 x5 x6) = (rowK 48 slices_S64x512_o48_0_S1x512 (sl.r_1 c arg4 harg4 arg5 harg5 arg6 harg6 arg7 harg7 x3 x4 x5 x6)) := rfl
theorem qb_3_0_def : (sl.v608 c arg4 harg4 arg5 harg5 arg6 harg6 arg7 harg7 x3 x4 x5 x6) = (rowK 48 slices_S64x512_o48_0_S1x512 (sl.v38 c arg4 harg4 arg5 harg5 arg6 harg6 arg7 harg7 x3 x4 x5 x6)) := rfl
theorem qa_3_1_def : (sl.v616 c arg4 harg4 arg5 harg5 arg6 harg6 arg7 harg7 x3 x4 x5 x6) = (pickK 49 slices_S64x512_o49_0_S1x512 (sl.v24 c arg5 harg5 arg6 harg6 x4 x5) (sl.r_1 c arg4 harg4 arg5 harg5 arg6 harg6 arg7 harg7 x3 x4 x5 x6) (k0_pay9 (F := Ideal)) (sl.v605 c arg4 harg4 arg5 harg5 arg6 harg6 arg7 harg7 x3 x4 x5 x6)) := rfl
theorem qb_3_1_def : (sl.v620 c arg4 harg4 arg5 harg5 arg6 harg6 arg7 harg7 x3 x4 x5 x6) = (pickK 49 slices_S64x512_o49_0_S1x512 (sl.v24 c arg5 harg5 arg6 harg6 x4 x5) (sl.v38 c arg4 harg4 arg5 harg5 arg6 harg6 arg7 harg7 x3 x4 x5 x6) (k0_pay9 (F := Ideal)) (sl.v608 c arg4 harg4 arg5 harg5 arg6 harg6 arg7 harg7 x3 x4 x5 x6)) := rfl
theorem qa_3_2_def : (sl.v628 c arg4 harg4 arg5 harg5 arg6 harg6 arg7 harg7 x3 x4 x5 x6) = (pickK 50 slices_S64x512_o50_0_S1x512 (sl.v24 c arg5 harg5 arg6 harg6 x4 x5) (sl.r_1 c arg4 harg4 arg5 harg5 arg6 harg6 arg7 harg7 x3 x4 x5 x6) (k0_pay9 (F := Ideal)) (sl.v616 c arg4 harg4 arg5 harg5 arg6 harg6 arg7 harg7 x3 x4 x5 x6)) := rfl
theorem qb_3_2_def : (sl.v632 c arg4 harg4 arg5 harg5 arg6 harg6 arg7 harg7 x3 x4 x5 x6) = (pickK 50 slices_S64x512_o50_0_S1x512 (sl.v24 c arg5 harg5 arg6 harg6 x4 x5) (sl.v38 c arg4 harg4 arg5 harg5 arg6 harg6 arg7 harg7 x3 x4 x5 x6) (k0_pay9 (F := Ideal)) (sl.v620 c arg4 harg4 arg5 harg5 arg6 harg6 arg7 harg7 x3 x4 x5 x6)) := rfl
theorem qa_3_3_def : (sl.v640 c arg4 harg4 arg5 harg5 arg6 harg6 arg7 harg7 x3 x4 x5 x6) = (pickK 51 slices_S64x512_o51_0_S1x512 (sl.v24 c arg5 harg5 arg6 harg6 x4 x5) (sl.r_1 c arg4 harg4 arg5 harg5 arg6 harg6 arg7 harg7 x3 x4 x5 x6) (k0_pay9 (F := Ideal)) (sl.v628 c arg4 harg4 arg5 harg5 arg6 harg6 arg7 harg7 x3 x4 x5 x6)) := rfl
theorem qb_3_3_def : (sl.v644 c arg4 harg4 arg5 harg5 arg6 harg6 arg7 harg7 x3 x4 x5 x6) = (pickK 51 slices_S64x512_o51_0_S1x512 (sl.v24 c arg5 harg5 arg6 harg6 x4 x5) (sl.v38 c arg4 harg4 arg5 harg5 arg6 harg6 arg7 harg7 x3 x4 x5 x6) (k0_pay9 (F := Ideal)) (sl.v632 c arg4 harg4 arg5 harg5 arg6 harg6 arg7 harg7 x3 x4 x5 x6)) := rfl
theorem qa_3_4_def : (sl.v652 c arg4 harg4 arg5 harg5 arg6 harg6 arg7 harg7 x3 x4 x5 x6) = (pickK 52 slices_S64x512_o52_0_S1x512 (sl.v24 c arg5 harg5 arg6 harg6 x4 x5) (sl.r_1 c arg4 harg4 arg5 harg5 arg6 harg6 arg7 harg7 x3 x4 x5 x6) (k0_pay9 (F := Ideal)) (sl.v640 c arg4 harg4 arg5 harg5 arg6 harg6 arg7 harg7 x3 x4 x5 x6)) := rfl
theorem qb_3_4_def : (sl.v656 c arg4 harg4 arg5 harg5 arg6 harg6 arg7 harg7 x3 x4 x5 x6) = (pickK 52 slices_S64x512_o52_0_S1x512 (sl.v24 c arg5 harg5 arg6 harg6 x4 x5) (sl.v38 c arg4 harg4 arg5 harg5 arg6 harg6 arg7 harg7 x3 x4 x5 x6) (k0_pay9 (F := Ideal)) (sl.v644 c arg4 harg4 arg5 harg5 arg6 harg6 arg7 harg7 x3 x4 x5 x6)) := rfl
theorem qa_3_5_def : (sl.v664 c arg4 harg4 arg5 harg5 arg6 harg6 arg7 harg7 x3 x4 x5 x6) = (pickK 53 slices_S64x512_o53_0_S1x512 (sl.v24 c arg5 harg5 arg6 harg6 x4 x5) (sl.r_1 c arg4 harg4 arg5 harg5 arg6 harg6 arg7 harg7 x3 x4 x5 x6) (k0_pay9 (F := Ideal)) (sl.v652 c arg4 harg4 arg5 harg5 arg6 harg6 arg7 harg7 x3 x4 x5 x6)) := rfl
theorem qb_3_5_def : (sl.v668 c arg4 harg4 arg5 harg5 arg6 harg6 arg7 harg7 x3 x4 x5 x6) = (pickK 53 slices_S64x512_o53_0_S1x512 (sl.v24 c arg5 harg5 arg6 harg6 x4 x5) (sl.v38 c arg4 harg4 arg5 harg5 arg6 harg6 arg7 harg7 x3 x4 x5 x6) (k0_pay9 (F := Ideal)) (sl.v656 c arg4 harg4 arg5 harg5 arg6 harg6 arg7 harg7 x3 x4 x5 x6)) := rfl
theorem qa_3_6_def : (sl.v676 c arg4 harg4 arg5 harg5 arg6 harg6 arg7 harg7 x3 x4 x5 x6) = (pickK 54 slices_S64x512_o54_0_S1x512 (sl.v24 c arg5 harg5 arg6 harg6 x4 x5) (sl.r_1 c arg4 harg4 arg5 harg5 arg6 harg6 arg7 harg7 x3 x4 x5 x6) (k0_pay9 (F := Ideal)) (sl.v664 c arg4 harg4 arg5 harg5 arg6 harg6 arg7 harg7 x3 x4 x5 x6)) := rfl
theorem qb_3_6_def : (sl.v680 c arg4 harg4 arg5 harg5 arg6 harg6 arg7 harg7 x3 x4 x5 x6) = (pickK 54 slices_S64x512_o54_0_S1x512 (sl.v24 c arg5 harg5 arg6 harg6 x4 x5) (sl.v38 c arg4 harg4 arg5 harg5 arg6 harg6 arg7 harg7 x3 x4 x5 x6) (k0_pay9 (F := Ideal)) (sl.v668 c arg4 harg4 arg5 harg5 arg6 harg6 arg7 harg7 x3 x4 x5 x6)) := rfl
theorem qa_3_7_def : (sl.v688 c arg4 harg4 arg5 harg5 arg6 harg6 arg7 harg7 x3 x4 x5 x6) = (pickK 55 slices_S64x512_o55_0_S1x512 (sl.v24 c arg5 harg5 arg6 harg6 x4 x5) (sl.r_1 c arg4 harg4 arg5 harg5 arg6 harg6 arg7 harg7 x3 x4 x5 x6) (k0_pay9 (F := Ideal)) (sl.v676 c arg4 harg4 arg5 harg5 arg6 harg6 arg7 harg7 x3 x4 x5 x6)) := rfl
theorem qb_3_7_def : (sl.v692 c arg4 harg4 arg5 harg5 arg6 harg6 arg7 harg7 x3 x4 x5 x6) = (pickK 55 slices_S64x512_o55_0_S1x512 (sl.v24 c arg5 harg5 arg6 harg6 x4 x5) (sl.v38 c arg4 harg4 arg5 harg5 arg6 harg6 arg7 harg7 x3 x4 x5 x6) (k0_pay9 (F := Ideal)) (sl.v680 c arg4 harg4 arg5 harg5 arg6 harg6 arg7 harg7 x3 x4 x5 x6)) := rfl
theorem qa_3_8_def : (sl.v700 c arg4 harg4 arg5 harg5 arg6 harg6 arg7 harg7 x3 x4 x5 x6) = (pickK 56 slices_S64x512_o56_0_S1x512 (sl.v24 c arg5 harg5 arg6 harg6 x4 x5) (sl.r_1 c arg4 harg4 arg5 harg5 arg6 harg6 arg7 harg7 x3 x4 x5 x6) (k0_pay9 (F := Ideal)) (sl.v688 c arg4 harg4 arg5 harg5 arg6 harg6 arg7 harg7 x3 x4 x5 x6)) := rfl
theorem qb_3_8_def : (sl.v704 c arg4 harg4 arg5 harg5 arg6 harg6 arg7 harg7 x3 x4 x5 x6) = (pickK 56 slices_S64x512_o56_0_S1x512 (sl.v24 c arg5 harg5 arg6 harg6 x4 x5) (sl.v38 c arg4 harg4 arg5 harg5 arg6 harg6 arg7 harg7 x3 x4 x5 x6) (k0_pay9 (F := Ideal)) (sl.v692 c arg4 harg4 arg5 harg5 arg6 harg6 arg7 harg7 x3 x4 x5 x6)) := rfl
theorem qa_3_9_def : (sl.v712 c arg4 harg4 arg5 harg5 arg6 harg6 arg7 harg7 x3 x4 x5 x6) = (pickK 57 slices_S64x512_o57_0_S1x512 (sl.v24 c arg5 harg5 arg6 harg6 x4 x5) (sl.r_1 c arg4 harg4 arg5 harg5 arg6 harg6 arg7 harg7 x3 x4 x5 x6) (k0_pay9 (F := Ideal)) (sl.v700 c arg4 harg4 arg5 harg5 arg6 harg6 arg7 harg7 x3 x4 x5 x6)) := rfl
theorem qb_3_9_def : (sl.v716 c arg4 harg4 arg5 harg5 arg6 harg6 arg7 harg7 x3 x4 x5 x6) = (pickK 57 slices_S64x512_o57_0_S1x512 (sl.v24 c arg5 harg5 arg6 harg6 x4 x5) (sl.v38 c arg4 harg4 arg5 harg5 arg6 harg6 arg7 harg7 x3 x4 x5 x6) (k0_pay9 (F := Ideal)) (sl.v704 c arg4 harg4 arg5 harg5 arg6 harg6 arg7 harg7 x3 x4 x5 x6)) := rfl
theorem qa_3_10_def : (sl.v724 c arg4 harg4 arg5 harg5 arg6 harg6 arg7 harg7 x3 x4 x5 x6) = (pickK 58 slices_S64x512_o58_0_S1x512 (sl.v24 c arg5 harg5 arg6 harg6 x4 x5) (sl.r_1 c arg4 harg4 arg5 harg5 arg6 harg6 arg7 harg7 x3 x4 x5 x6) (k0_pay9 (F := Ideal)) (sl.v712 c arg4 harg4 arg5 harg5 arg6 harg6 arg7 harg7 x3 x4 x5 x6)) := rfl
theorem qb_3_10_def : (sl.v728 c arg4 harg4 arg5 harg5 arg6 harg6 arg7 harg7 x3 x4 x5 x6) = (pickK 58 slices_S64x512_o58_0_S1x512 (sl.v24 c arg5 harg5 arg6 harg6 x4 x5) (sl.v38 c arg4 harg4 arg5 harg5 arg6 harg6 arg7 harg7 x3 x4 x5 x6) (k0_pay9 (F := Ideal)) (sl.v716 c arg4 harg4 arg5 harg5 arg6 harg6 arg7 harg7 x3 x4 x5 x6)) := rfl
theorem qa_3_11_def : (sl.v736 c arg4 harg4 arg5 harg5 arg6 harg6 arg7 harg7 x3 x4 x5 x6) = (pickK 59 slices_S64x512_o59_0_S1x512 (sl.v24 c arg5 harg5 arg6 harg6 x4 x5) (sl.r_1 c arg4 harg4 arg5 harg5 arg6 harg6 arg7 harg7 x3 x4 x5 x6) (k0_pay9 (F := Ideal)) (sl.v724 c arg4 harg4 arg5 harg5 arg6 harg6 arg7 harg7 x3 x4 x5 x6)) := rfl
theorem qb_3_11_def : (sl.v740 c arg4 harg4 arg5 harg5 arg6 harg6 arg7 harg7 x3 x4 x5 x6) = (pickK 59 slices_S64x512_o59_0_S1x512 (sl.v24 c arg5 harg5 arg6 harg6 x4 x5) (sl.v38 c arg4 harg4 arg5 harg5 arg6 harg6 arg7 harg7 x3 x4 x5 x6) (k0_pay9 (F := Ideal)) (sl.v728 c arg4 harg4 arg5 harg5 arg6 harg6 arg7 harg7 x3 x4 x5 x6)) := rfl
theorem qa_3_12_def : (sl.v748 c arg4 harg4 arg5 harg5 arg6 harg6 arg7 harg7 x3 x4 x5 x6) = (pickK 60 slices_S64x512_o60_0_S1x512 (sl.v24 c arg5 harg5 arg6 harg6 x4 x5) (sl.r_1 c arg4 harg4 arg5 harg5 arg6 harg6 arg7 harg7 x3 x4 x5 x6) (k0_pay9 (F := Ideal)) (sl.v736 c arg4 harg4 arg5 harg5 arg6 harg6 arg7 harg7 x3 x4 x5 x6)) := rfl
theorem qb_3_12_def : (sl.v752 c arg4 harg4 arg5 harg5 arg6 harg6 arg7 harg7 x3 x4 x5 x6) = (pickK 60 slices_S64x512_o60_0_S1x512 (sl.v24 c arg5 harg5 arg6 harg6 x4 x5) (sl.v38 c arg4 harg4 arg5 harg5 arg6 harg6 arg7 harg7 x3 x4 x5 x6) (k0_pay9 (F := Ideal)) (sl.v740 c arg4 harg4 arg5 harg5 arg6 harg6 arg7 harg7 x3 x4 x5 x6)) := rfl

theorem qa_0_0 (s : Fin 128) (j : Fin 512) : (rowK 0 slices_S64x512_o0_0_S1x512 (sl.r_1 c arg4 harg4 arg5 harg5 arg6 harg6 arg7 harg7 x3 x4 x5 x6)) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 0) :=
  rowK_apply slices_S64x512_o0_0_S1x512 (sl.r_1 c arg4 harg4 arg5 harg5 arg6 harg6 arg7 harg7 x3 x4 x5 x6) s j
theorem qb_0_0 (s : Fin 128) (j : Fin 512) : (rowK 0 slices_S64x512_o0_0_S1x512 (sl.v38 c arg4 harg4 arg5 harg5 arg6 harg6 arg7 harg7 x3 x4 x5 x6)) (ix2 s j) = edge (sl.v38 c arg4 harg4 arg5 harg5 arg6 harg6 arg7 harg7 x3 x4 x5 x6) j (pick (reached (sl.v24 c arg5 harg5 arg6 harg6 x4 x5) (k0_pay9 (F := Ideal)) s j) 0 0) :=
  rowK_apply slices_S64x512_o0_0_S1x512 (sl.v38 c arg4 harg4 arg5 harg5 arg6 harg6 arg7 harg7 x3 x4 x5 x6) s j
theorem qa_0_1 (s : Fin 128) (j : Fin 512) : (pickK 1 slices_S64x512_o1_0_S1x512 (sl.v24 c arg5 harg5 arg6 harg6 x4 x5) (sl.r_1 c arg4 harg4 arg5 harg5 arg6 harg6 arg7 harg7 x3 x4 x5 x6) (k0_pay9 (F := Ideal)) (rowK 0 slices_S64x512_o0_0_S1x512 (sl.r_1 c arg4 harg4 arg5 harg5 arg6 harg6 arg7 harg7 x3 x4 x5 x6))) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 1) :=
  pickK_succ (k₀ := 0) (n := 0) (k := 1) rfl slices_S64x512_o1_0_S1x512 (sl.v24 c arg5 harg5 arg6 harg6 x4 x5) (sl.r_1 c arg4 harg4 arg5 harg5 arg6 harg6 arg7 harg7 x3 x4 x5 x6) (k0_pay9 (F := Ideal)) (rowK 0 slices_S64x512_o0_0_S1x512 (sl.r_1 c arg4 harg4 arg5 harg5 arg6 harg6 arg7 harg7 x3 x4 x5 x6)) s j (qa_0_0 c arg4 harg4 arg5 harg5 arg6 harg6 arg7 harg7 x3 x4 x5 x6 s j)
theorem qb_0_1 (s : Fin 128) (j : Fin 512) : (pickK 1 slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6))) (ix2 s j) = edge (sl.v38 c arg4 harg4 arg5 harg5 arg6 harg6 arg7 harg7 x3 x4 x5 x6) j (pick (reached (sl.v24 c arg5 harg5 arg6 harg6 x4 x5) (k0_pay9 (F := Ideal)) s j) 0 1) :=
  pickK_succ (k₀ := 0) (n := 0) (k := 1) rfl slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6)) s j (qb_0_0 c arg4 harg4 arg5 harg5 arg6 harg6 arg7 harg7 x3 x4 x5 x6 s j)
theorem qa_0_2 (s : Fin 128) (j : Fin 512) : (pickK 2 slices_S64x512_o2_0_S1x512 (sl.v24 c arg5 harg5 arg6 harg6 x4 x5) (sl.r_1 c arg4 harg4 arg5 harg5 arg6 harg6 arg7 harg7 x3 x4 x5 x6) (k0_pay9 (F := Ideal)) (pickK 1 slices_S64x512_o1_0_S1x512 (sl.v24 c arg5 harg5 arg6 harg6 x4 x5) (sl.r_1 c arg4 harg4 arg5 harg5 arg6 harg6 arg7 harg7 x3 x4 x5 x6) (k0_pay9 (F := Ideal)) (rowK 0 slices_S64x512_o0_0_S1x512 (sl.r_1 c arg4 harg4 arg5 harg5 arg6 harg6 arg7 harg7 x3 x4 x5 x6)))) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 2) :=
  pickK_succ (k₀ := 0) (n := 1) (k := 2) rfl slices_S64x512_o2_0_S1x512 (sl.v24 c arg5 harg5 arg6 harg6 x4 x5) (sl.r_1 c arg4 harg4 arg5 harg5 arg6 harg6 arg7 harg7 x3 x4 x5 x6) (k0_pay9 (F := Ideal)) (pickK 1 slices_S64x512_o1_0_S1x512 (sl.v24 c arg5 harg5 arg6 harg6 x4 x5) (sl.r_1 c arg4 harg4 arg5 harg5 arg6 harg6 arg7 harg7 x3 x4 x5 x6) (k0_pay9 (F := Ideal)) (rowK 0 slices_S64x512_o0_0_S1x512 (sl.r_1 c arg4 harg4 arg5 harg5 arg6 harg6 arg7 harg7 x3 x4 x5 x6))) s j (qa_0_1 c arg4 harg4 arg5 harg5 arg6 harg6 arg7 harg7 x3 x4 x5 x6 s j)
theorem qb_0_2 (s : Fin 128) (j : Fin 512) : (pickK 2 slices_S64x512_o2_0_S1x512 (sl.v24 c arg5 harg5 arg6 harg6 x4 x5) (sl.v38 c arg4 harg4 arg5 harg5 arg6 harg6 arg7 harg7 x3 x4 x5 x6) (k0_pay9 (F := Ideal)) (pickK 1 slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6)))) (ix2 s j) = edge (sl.v38 c arg4 harg4 arg5 harg5 arg6 harg6 arg7 harg7 x3 x4 x5 x6) j (pick (reached (sl.v24 c arg5 harg5 arg6 harg6 x4 x5) (k0_pay9 (F := Ideal)) s j) 0 2) :=
  pickK_succ (k₀ := 0) (n := 1) (k := 2) rfl slices_S64x512_o2_0_S1x512 (sl.v24 c arg5 harg5 arg6 harg6 x4 x5) (sl.v38 c arg4 harg4 arg5 harg5 arg6 harg6 arg7 harg7 x3 x4 x5 x6) (k0_pay9 (F := Ideal)) (pickK 1 slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6))) s j (qb_0_1 c arg4 harg4 arg5 harg5 arg6 harg6 arg7 harg7 x3 x4 x5 x6 s j)
theorem qa_0_3 (s : Fin 128) (j : Fin 512) : (pickK 3 slices_S64x512_o3_0_S1x512 (sl.v24 c arg5 harg5 arg6 harg6 x4 x5) (sl.r_1 c arg4 harg4 arg5 harg5 arg6 harg6 arg7 harg7 x3 x4 x5 x6) (k0_pay9 (F := Ideal)) (pickK 2 slices_S64x512_o2_0_S1x512 (sl.v24 c arg5 harg5 arg6 harg6 x4 x5) (sl.r_1 c arg4 harg4 arg5 harg5 arg6 harg6 arg7 harg7 x3 x4 x5 x6) (k0_pay9 (F := Ideal)) (pickK 1 slices_S64x512_o1_0_S1x512 (sl.v24 c arg5 harg5 arg6 harg6 x4 x5) (sl.r_1 c arg4 harg4 arg5 harg5 arg6 harg6 arg7 harg7 x3 x4 x5 x6) (k0_pay9 (F := Ideal)) (rowK 0 slices_S64x512_o0_0_S1x512 (sl.r_1 c arg4 harg4 arg5 harg5 arg6 harg6 arg7 harg7 x3 x4 x5 x6))))) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 3) :=
  pickK_succ (k₀ := 0) (n := 2) (k := 3) rfl slices_S64x512_o3_0_S1x512 (sl.v24 c arg5 harg5 arg6 harg6 x4 x5) (sl.r_1 c arg4 harg4 arg5 harg5 arg6 harg6 arg7 harg7 x3 x4 x5 x6) (k0_pay9 (F := Ideal)) (pickK 2 slices_S64x512_o2_0_S1x512 (sl.v24 c arg5 harg5 arg6 harg6 x4 x5) (sl.r_1 c arg4 harg4 arg5 harg5 arg6 harg6 arg7 harg7 x3 x4 x5 x6) (k0_pay9 (F := Ideal)) (pickK 1 slices_S64x512_o1_0_S1x512 (sl.v24 c arg5 harg5 arg6 harg6 x4 x5) (sl.r_1 c arg4 harg4 arg5 harg5 arg6 harg6 arg7 harg7 x3 x4 x5 x6) (k0_pay9 (F := Ideal)) (rowK 0 slices_S64x512_o0_0_S1x512 (sl.r_1 c arg4 harg4 arg5 harg5 arg6 harg6 arg7 harg7 x3 x4 x5 x6)))) s j (qa_0_2 c arg4 harg4 arg5 harg5 arg6 harg6 arg7 harg7 x3 x4 x5 x6 s j)
theorem qb_0_3 (s : Fin 128) (j : Fin 512) : (pickK 3 slices_S64x512_o3_0_S1x512 (sl.v24 c arg5 harg5 arg6 harg6 x4 x5) (sl.v38 c arg4 harg4 arg5 harg5 arg6 harg6 arg7 harg7 x3 x4 x5 x6) (k0_pay9 (F := Ideal)) (pickK 2 slices_S64x512_o2_0_S1x512 (sl.v24 c arg5 harg5 arg6 harg6 x4 x5) (sl.v38 c arg4 harg4 arg5 harg5 arg6 harg6 arg7 harg7 x3 x4 x5 x6) (k0_pay9 (F := Ideal)) (pickK 1 slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6))))) (ix2 s j) = edge (sl.v38 c arg4 harg4 arg5 harg5 arg6 harg6 arg7 harg7 x3 x4 x5 x6) j (pick (reached (sl.v24 c arg5 harg5 arg6 harg6 x4 x5) (k0_pay9 (F := Ideal)) s j) 0 3) :=
  (congrFun (qb_0_3_def c arg4 harg4 arg5 harg5 arg6 harg6 arg7 harg7 x3 x4 x5 x6) (ix2 s j)).trans (pickK_succ (k₀ := 0) (n := 2) (k := 3) rfl slices_S64x512_o3_0_S1x512 (sl.v24 c arg5 harg5 arg6 harg6 x4 x5) (sl.v38 c arg4 harg4 arg5 harg5 arg6 harg6 arg7 harg7 x3 x4 x5 x6) (k0_pay9 (F := Ideal)) (pickK 2 slices_S64x512_o2_0_S1x512 (sl.v24 c arg5 harg5 arg6 harg6 x4 x5) (sl.v38 c arg4 harg4 arg5 harg5 arg6 harg6 arg7 harg7 x3 x4 x5 x6) (k0_pay9 (F := Ideal)) (pickK 1 slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6)))) s j (qb_0_2 c arg4 harg4 arg5 harg5 arg6 harg6 arg7 harg7 x3 x4 x5 x6 s j))
theorem qa_0_4 (s : Fin 128) (j : Fin 512) : (sl.r_2 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 4) :=
  (congrFun (qa_0_4_def c arg4 harg4 arg5 harg5 arg6 harg6 arg7 harg7 x3 x4 x5 x6) (ix2 s j)).trans (pickK_succ (k₀ := 0) (n := 3) (k := 4) rfl slices_S64x512_o4_0_S1x512 (sl.v24 c arg5 harg5 arg6 harg6 x4 x5) (sl.r_1 c arg4 harg4 arg5 harg5 arg6 harg6 arg7 harg7 x3 x4 x5 x6) (k0_pay9 (F := Ideal)) (pickK 3 slices_S64x512_o3_0_S1x512 (sl.v24 c arg5 harg5 arg6 harg6 x4 x5) (sl.r_1 c arg4 harg4 arg5 harg5 arg6 harg6 arg7 harg7 x3 x4 x5 x6) (k0_pay9 (F := Ideal)) (pickK 2 slices_S64x512_o2_0_S1x512 (sl.v24 c arg5 harg5 arg6 harg6 x4 x5) (sl.r_1 c arg4 harg4 arg5 harg5 arg6 harg6 arg7 harg7 x3 x4 x5 x6) (k0_pay9 (F := Ideal)) (pickK 1 slices_S64x512_o1_0_S1x512 (sl.v24 c arg5 harg5 arg6 harg6 x4 x5) (sl.r_1 c arg4 harg4 arg5 harg5 arg6 harg6 arg7 harg7 x3 x4 x5 x6) (k0_pay9 (F := Ideal)) (rowK 0 slices_S64x512_o0_0_S1x512 (sl.r_1 c arg4 harg4 arg5 harg5 arg6 harg6 arg7 harg7 x3 x4 x5 x6))))) s j (qa_0_3 c arg4 harg4 arg5 harg5 arg6 harg6 arg7 harg7 x3 x4 x5 x6 s j))
theorem qb_0_4 (s : Fin 128) (j : Fin 512) : (sl.r_3 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 4) :=
  (congrFun (qb_0_4_def c arg4 harg4 arg5 harg5 arg6 harg6 arg7 harg7 x3 x4 x5 x6) (ix2 s j)).trans (pickK_succ (k₀ := 0) (n := 3) (k := 4) rfl slices_S64x512_o4_0_S1x512 (sl.v24 c arg5 harg5 arg6 harg6 x4 x5) (sl.v38 c arg4 harg4 arg5 harg5 arg6 harg6 arg7 harg7 x3 x4 x5 x6) (k0_pay9 (F := Ideal)) (pickK 3 slices_S64x512_o3_0_S1x512 (sl.v24 c arg5 harg5 arg6 harg6 x4 x5) (sl.v38 c arg4 harg4 arg5 harg5 arg6 harg6 arg7 harg7 x3 x4 x5 x6) (k0_pay9 (F := Ideal)) (pickK 2 slices_S64x512_o2_0_S1x512 (sl.v24 c arg5 harg5 arg6 harg6 x4 x5) (sl.v38 c arg4 harg4 arg5 harg5 arg6 harg6 arg7 harg7 x3 x4 x5 x6) (k0_pay9 (F := Ideal)) (pickK 1 slices_S64x512_o1_0_S1x512 (sl.v24 c arg5 harg5 arg6 harg6 x4 x5) (sl.v38 c arg4 harg4 arg5 harg5 arg6 harg6 arg7 harg7 x3 x4 x5 x6) (k0_pay9 (F := Ideal)) (rowK 0 slices_S64x512_o0_0_S1x512 (sl.v38 c arg4 harg4 arg5 harg5 arg6 harg6 arg7 harg7 x3 x4 x5 x6))))) s j (qb_0_3 c arg4 harg4 arg5 harg5 arg6 harg6 arg7 harg7 x3 x4 x5 x6 s j))
theorem qa_0_5 (s : Fin 128) (j : Fin 512) : (sl.v106 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 5) :=
  (congrFun (qa_0_5_def c arg4 harg4 arg5 harg5 arg6 harg6 arg7 harg7 x3 x4 x5 x6) (ix2 s j)).trans (pickK_succ (k₀ := 0) (n := 4) (k := 5) rfl slices_S64x512_o5_0_S1x512 (sl.v24 c arg5 harg5 arg6 harg6 x4 x5) (sl.r_1 c arg4 harg4 arg5 harg5 arg6 harg6 arg7 harg7 x3 x4 x5 x6) (k0_pay9 (F := Ideal)) (sl.r_2 c arg4 harg4 arg5 harg5 arg6 harg6 arg7 harg7 x3 x4 x5 x6) s j (qa_0_4 c arg4 harg4 arg5 harg5 arg6 harg6 arg7 harg7 x3 x4 x5 x6 s j))
theorem qb_0_5 (s : Fin 128) (j : Fin 512) : (sl.v110 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 5) :=
  (congrFun (qb_0_5_def c arg4 harg4 arg5 harg5 arg6 harg6 arg7 harg7 x3 x4 x5 x6) (ix2 s j)).trans (pickK_succ (k₀ := 0) (n := 4) (k := 5) rfl slices_S64x512_o5_0_S1x512 (sl.v24 c arg5 harg5 arg6 harg6 x4 x5) (sl.v38 c arg4 harg4 arg5 harg5 arg6 harg6 arg7 harg7 x3 x4 x5 x6) (k0_pay9 (F := Ideal)) (sl.r_3 c arg4 harg4 arg5 harg5 arg6 harg6 arg7 harg7 x3 x4 x5 x6) s j (qb_0_4 c arg4 harg4 arg5 harg5 arg6 harg6 arg7 harg7 x3 x4 x5 x6 s j))
theorem qa_0_6 (s : Fin 128) (j : Fin 512) : (sl.v118 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 6) :=
  (congrFun (qa_0_6_def c arg4 harg4 arg5 harg5 arg6 harg6 arg7 harg7 x3 x4 x5 x6) (ix2 s j)).trans (pickK_succ (k₀ := 0) (n := 5) (k := 6) rfl slices_S64x512_o6_0_S1x512 (sl.v24 c arg5 harg5 arg6 harg6 x4 x5) (sl.r_1 c arg4 harg4 arg5 harg5 arg6 harg6 arg7 harg7 x3 x4 x5 x6) (k0_pay9 (F := Ideal)) (sl.v106 c arg4 harg4 arg5 harg5 arg6 harg6 arg7 harg7 x3 x4 x5 x6) s j (qa_0_5 c arg4 harg4 arg5 harg5 arg6 harg6 arg7 harg7 x3 x4 x5 x6 s j))
theorem qb_0_6 (s : Fin 128) (j : Fin 512) : (sl.v122 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 6) :=
  (congrFun (qb_0_6_def c arg4 harg4 arg5 harg5 arg6 harg6 arg7 harg7 x3 x4 x5 x6) (ix2 s j)).trans (pickK_succ (k₀ := 0) (n := 5) (k := 6) rfl slices_S64x512_o6_0_S1x512 (sl.v24 c arg5 harg5 arg6 harg6 x4 x5) (sl.v38 c arg4 harg4 arg5 harg5 arg6 harg6 arg7 harg7 x3 x4 x5 x6) (k0_pay9 (F := Ideal)) (sl.v110 c arg4 harg4 arg5 harg5 arg6 harg6 arg7 harg7 x3 x4 x5 x6) s j (qb_0_5 c arg4 harg4 arg5 harg5 arg6 harg6 arg7 harg7 x3 x4 x5 x6 s j))
theorem qa_0_7 (s : Fin 128) (j : Fin 512) : (sl.v130 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 7) :=
  (congrFun (qa_0_7_def c arg4 harg4 arg5 harg5 arg6 harg6 arg7 harg7 x3 x4 x5 x6) (ix2 s j)).trans (pickK_succ (k₀ := 0) (n := 6) (k := 7) rfl slices_S64x512_o7_0_S1x512 (sl.v24 c arg5 harg5 arg6 harg6 x4 x5) (sl.r_1 c arg4 harg4 arg5 harg5 arg6 harg6 arg7 harg7 x3 x4 x5 x6) (k0_pay9 (F := Ideal)) (sl.v118 c arg4 harg4 arg5 harg5 arg6 harg6 arg7 harg7 x3 x4 x5 x6) s j (qa_0_6 c arg4 harg4 arg5 harg5 arg6 harg6 arg7 harg7 x3 x4 x5 x6 s j))
theorem qb_0_7 (s : Fin 128) (j : Fin 512) : (sl.v134 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 7) :=
  (congrFun (qb_0_7_def c arg4 harg4 arg5 harg5 arg6 harg6 arg7 harg7 x3 x4 x5 x6) (ix2 s j)).trans (pickK_succ (k₀ := 0) (n := 6) (k := 7) rfl slices_S64x512_o7_0_S1x512 (sl.v24 c arg5 harg5 arg6 harg6 x4 x5) (sl.v38 c arg4 harg4 arg5 harg5 arg6 harg6 arg7 harg7 x3 x4 x5 x6) (k0_pay9 (F := Ideal)) (sl.v122 c arg4 harg4 arg5 harg5 arg6 harg6 arg7 harg7 x3 x4 x5 x6) s j (qb_0_6 c arg4 harg4 arg5 harg5 arg6 harg6 arg7 harg7 x3 x4 x5 x6 s j))
theorem qa_0_8 (s : Fin 128) (j : Fin 512) : (sl.v142 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 8) :=
  (congrFun (qa_0_8_def c arg4 harg4 arg5 harg5 arg6 harg6 arg7 harg7 x3 x4 x5 x6) (ix2 s j)).trans (pickK_succ (k₀ := 0) (n := 7) (k := 8) rfl slices_S64x512_o8_0_S1x512 (sl.v24 c arg5 harg5 arg6 harg6 x4 x5) (sl.r_1 c arg4 harg4 arg5 harg5 arg6 harg6 arg7 harg7 x3 x4 x5 x6) (k0_pay9 (F := Ideal)) (sl.v130 c arg4 harg4 arg5 harg5 arg6 harg6 arg7 harg7 x3 x4 x5 x6) s j (qa_0_7 c arg4 harg4 arg5 harg5 arg6 harg6 arg7 harg7 x3 x4 x5 x6 s j))
theorem qb_0_8 (s : Fin 128) (j : Fin 512) : (sl.v146 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 8) :=
  (congrFun (qb_0_8_def c arg4 harg4 arg5 harg5 arg6 harg6 arg7 harg7 x3 x4 x5 x6) (ix2 s j)).trans (pickK_succ (k₀ := 0) (n := 7) (k := 8) rfl slices_S64x512_o8_0_S1x512 (sl.v24 c arg5 harg5 arg6 harg6 x4 x5) (sl.v38 c arg4 harg4 arg5 harg5 arg6 harg6 arg7 harg7 x3 x4 x5 x6) (k0_pay9 (F := Ideal)) (sl.v134 c arg4 harg4 arg5 harg5 arg6 harg6 arg7 harg7 x3 x4 x5 x6) s j (qb_0_7 c arg4 harg4 arg5 harg5 arg6 harg6 arg7 harg7 x3 x4 x5 x6 s j))
theorem qa_0_9 (s : Fin 128) (j : Fin 512) : (sl.v154 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 9) :=
  (congrFun (qa_0_9_def c arg4 harg4 arg5 harg5 arg6 harg6 arg7 harg7 x3 x4 x5 x6) (ix2 s j)).trans (pickK_succ (k₀ := 0) (n := 8) (k := 9) rfl slices_S64x512_o9_0_S1x512 (sl.v24 c arg5 harg5 arg6 harg6 x4 x5) (sl.r_1 c arg4 harg4 arg5 harg5 arg6 harg6 arg7 harg7 x3 x4 x5 x6) (k0_pay9 (F := Ideal)) (sl.v142 c arg4 harg4 arg5 harg5 arg6 harg6 arg7 harg7 x3 x4 x5 x6) s j (qa_0_8 c arg4 harg4 arg5 harg5 arg6 harg6 arg7 harg7 x3 x4 x5 x6 s j))
theorem qb_0_9 (s : Fin 128) (j : Fin 512) : (sl.v158 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 9) :=
  (congrFun (qb_0_9_def c arg4 harg4 arg5 harg5 arg6 harg6 arg7 harg7 x3 x4 x5 x6) (ix2 s j)).trans (pickK_succ (k₀ := 0) (n := 8) (k := 9) rfl slices_S64x512_o9_0_S1x512 (sl.v24 c arg5 harg5 arg6 harg6 x4 x5) (sl.v38 c arg4 harg4 arg5 harg5 arg6 harg6 arg7 harg7 x3 x4 x5 x6) (k0_pay9 (F := Ideal)) (sl.v146 c arg4 harg4 arg5 harg5 arg6 harg6 arg7 harg7 x3 x4 x5 x6) s j (qb_0_8 c arg4 harg4 arg5 harg5 arg6 harg6 arg7 harg7 x3 x4 x5 x6 s j))
theorem qa_0_10 (s : Fin 128) (j : Fin 512) : (sl.v166 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 10) :=
  (congrFun (qa_0_10_def c arg4 harg4 arg5 harg5 arg6 harg6 arg7 harg7 x3 x4 x5 x6) (ix2 s j)).trans (pickK_succ (k₀ := 0) (n := 9) (k := 10) rfl slices_S64x512_o10_0_S1x512 (sl.v24 c arg5 harg5 arg6 harg6 x4 x5) (sl.r_1 c arg4 harg4 arg5 harg5 arg6 harg6 arg7 harg7 x3 x4 x5 x6) (k0_pay9 (F := Ideal)) (sl.v154 c arg4 harg4 arg5 harg5 arg6 harg6 arg7 harg7 x3 x4 x5 x6) s j (qa_0_9 c arg4 harg4 arg5 harg5 arg6 harg6 arg7 harg7 x3 x4 x5 x6 s j))
theorem qb_0_10 (s : Fin 128) (j : Fin 512) : (sl.v170 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 10) :=
  (congrFun (qb_0_10_def c arg4 harg4 arg5 harg5 arg6 harg6 arg7 harg7 x3 x4 x5 x6) (ix2 s j)).trans (pickK_succ (k₀ := 0) (n := 9) (k := 10) rfl slices_S64x512_o10_0_S1x512 (sl.v24 c arg5 harg5 arg6 harg6 x4 x5) (sl.v38 c arg4 harg4 arg5 harg5 arg6 harg6 arg7 harg7 x3 x4 x5 x6) (k0_pay9 (F := Ideal)) (sl.v158 c arg4 harg4 arg5 harg5 arg6 harg6 arg7 harg7 x3 x4 x5 x6) s j (qb_0_9 c arg4 harg4 arg5 harg5 arg6 harg6 arg7 harg7 x3 x4 x5 x6 s j))
theorem qa_0_11 (s : Fin 128) (j : Fin 512) : (sl.v178 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 11) :=
  (congrFun (qa_0_11_def c arg4 harg4 arg5 harg5 arg6 harg6 arg7 harg7 x3 x4 x5 x6) (ix2 s j)).trans (pickK_succ (k₀ := 0) (n := 10) (k := 11) rfl slices_S64x512_o11_0_S1x512 (sl.v24 c arg5 harg5 arg6 harg6 x4 x5) (sl.r_1 c arg4 harg4 arg5 harg5 arg6 harg6 arg7 harg7 x3 x4 x5 x6) (k0_pay9 (F := Ideal)) (sl.v166 c arg4 harg4 arg5 harg5 arg6 harg6 arg7 harg7 x3 x4 x5 x6) s j (qa_0_10 c arg4 harg4 arg5 harg5 arg6 harg6 arg7 harg7 x3 x4 x5 x6 s j))
theorem qb_0_11 (s : Fin 128) (j : Fin 512) : (sl.v182 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 11) :=
  (congrFun (qb_0_11_def c arg4 harg4 arg5 harg5 arg6 harg6 arg7 harg7 x3 x4 x5 x6) (ix2 s j)).trans (pickK_succ (k₀ := 0) (n := 10) (k := 11) rfl slices_S64x512_o11_0_S1x512 (sl.v24 c arg5 harg5 arg6 harg6 x4 x5) (sl.v38 c arg4 harg4 arg5 harg5 arg6 harg6 arg7 harg7 x3 x4 x5 x6) (k0_pay9 (F := Ideal)) (sl.v170 c arg4 harg4 arg5 harg5 arg6 harg6 arg7 harg7 x3 x4 x5 x6) s j (qb_0_10 c arg4 harg4 arg5 harg5 arg6 harg6 arg7 harg7 x3 x4 x5 x6 s j))
theorem qa_0_12 (s : Fin 128) (j : Fin 512) : (sl.v190 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 12) :=
  (congrFun (qa_0_12_def c arg4 harg4 arg5 harg5 arg6 harg6 arg7 harg7 x3 x4 x5 x6) (ix2 s j)).trans (pickK_succ (k₀ := 0) (n := 11) (k := 12) rfl slices_S64x512_o12_0_S1x512 (sl.v24 c arg5 harg5 arg6 harg6 x4 x5) (sl.r_1 c arg4 harg4 arg5 harg5 arg6 harg6 arg7 harg7 x3 x4 x5 x6) (k0_pay9 (F := Ideal)) (sl.v178 c arg4 harg4 arg5 harg5 arg6 harg6 arg7 harg7 x3 x4 x5 x6) s j (qa_0_11 c arg4 harg4 arg5 harg5 arg6 harg6 arg7 harg7 x3 x4 x5 x6 s j))
theorem qb_0_12 (s : Fin 128) (j : Fin 512) : (sl.v194 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 12) :=
  (congrFun (qb_0_12_def c arg4 harg4 arg5 harg5 arg6 harg6 arg7 harg7 x3 x4 x5 x6) (ix2 s j)).trans (pickK_succ (k₀ := 0) (n := 11) (k := 12) rfl slices_S64x512_o12_0_S1x512 (sl.v24 c arg5 harg5 arg6 harg6 x4 x5) (sl.v38 c arg4 harg4 arg5 harg5 arg6 harg6 arg7 harg7 x3 x4 x5 x6) (k0_pay9 (F := Ideal)) (sl.v182 c arg4 harg4 arg5 harg5 arg6 harg6 arg7 harg7 x3 x4 x5 x6) s j (qb_0_11 c arg4 harg4 arg5 harg5 arg6 harg6 arg7 harg7 x3 x4 x5 x6 s j))
theorem qa_0_13 (s : Fin 128) (j : Fin 512) : (sl.v202 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 13) :=
  (congrFun (qa_0_13_def c arg4 harg4 arg5 harg5 arg6 harg6 arg7 harg7 x3 x4 x5 x6) (ix2 s j)).trans (pickK_succ (k₀ := 0) (n := 12) (k := 13) rfl slices_S64x512_o13_0_S1x512 (sl.v24 c arg5 harg5 arg6 harg6 x4 x5) (sl.r_1 c arg4 harg4 arg5 harg5 arg6 harg6 arg7 harg7 x3 x4 x5 x6) (k0_pay9 (F := Ideal)) (sl.v190 c arg4 harg4 arg5 harg5 arg6 harg6 arg7 harg7 x3 x4 x5 x6) s j (qa_0_12 c arg4 harg4 arg5 harg5 arg6 harg6 arg7 harg7 x3 x4 x5 x6 s j))
theorem qb_0_13 (s : Fin 128) (j : Fin 512) : (sl.v206 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 13) :=
  (congrFun (qb_0_13_def c arg4 harg4 arg5 harg5 arg6 harg6 arg7 harg7 x3 x4 x5 x6) (ix2 s j)).trans (pickK_succ (k₀ := 0) (n := 12) (k := 13) rfl slices_S64x512_o13_0_S1x512 (sl.v24 c arg5 harg5 arg6 harg6 x4 x5) (sl.v38 c arg4 harg4 arg5 harg5 arg6 harg6 arg7 harg7 x3 x4 x5 x6) (k0_pay9 (F := Ideal)) (sl.v194 c arg4 harg4 arg5 harg5 arg6 harg6 arg7 harg7 x3 x4 x5 x6) s j (qb_0_12 c arg4 harg4 arg5 harg5 arg6 harg6 arg7 harg7 x3 x4 x5 x6 s j))
theorem qa_0_14 (s : Fin 128) (j : Fin 512) : (sl.v214 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 14) :=
  (congrFun (qa_0_14_def c arg4 harg4 arg5 harg5 arg6 harg6 arg7 harg7 x3 x4 x5 x6) (ix2 s j)).trans (pickK_succ (k₀ := 0) (n := 13) (k := 14) rfl slices_S64x512_o14_0_S1x512 (sl.v24 c arg5 harg5 arg6 harg6 x4 x5) (sl.r_1 c arg4 harg4 arg5 harg5 arg6 harg6 arg7 harg7 x3 x4 x5 x6) (k0_pay9 (F := Ideal)) (sl.v202 c arg4 harg4 arg5 harg5 arg6 harg6 arg7 harg7 x3 x4 x5 x6) s j (qa_0_13 c arg4 harg4 arg5 harg5 arg6 harg6 arg7 harg7 x3 x4 x5 x6 s j))
theorem qb_0_14 (s : Fin 128) (j : Fin 512) : (sl.v218 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 14) :=
  (congrFun (qb_0_14_def c arg4 harg4 arg5 harg5 arg6 harg6 arg7 harg7 x3 x4 x5 x6) (ix2 s j)).trans (pickK_succ (k₀ := 0) (n := 13) (k := 14) rfl slices_S64x512_o14_0_S1x512 (sl.v24 c arg5 harg5 arg6 harg6 x4 x5) (sl.v38 c arg4 harg4 arg5 harg5 arg6 harg6 arg7 harg7 x3 x4 x5 x6) (k0_pay9 (F := Ideal)) (sl.v206 c arg4 harg4 arg5 harg5 arg6 harg6 arg7 harg7 x3 x4 x5 x6) s j (qb_0_13 c arg4 harg4 arg5 harg5 arg6 harg6 arg7 harg7 x3 x4 x5 x6 s j))
theorem qa_0_15 (s : Fin 128) (j : Fin 512) : (sl.v226 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 0 15) :=
  (congrFun (qa_0_15_def c arg4 harg4 arg5 harg5 arg6 harg6 arg7 harg7 x3 x4 x5 x6) (ix2 s j)).trans (pickK_succ (k₀ := 0) (n := 14) (k := 15) rfl slices_S64x512_o15_0_S1x512 (sl.v24 c arg5 harg5 arg6 harg6 x4 x5) (sl.r_1 c arg4 harg4 arg5 harg5 arg6 harg6 arg7 harg7 x3 x4 x5 x6) (k0_pay9 (F := Ideal)) (sl.v214 c arg4 harg4 arg5 harg5 arg6 harg6 arg7 harg7 x3 x4 x5 x6) s j (qa_0_14 c arg4 harg4 arg5 harg5 arg6 harg6 arg7 harg7 x3 x4 x5 x6 s j))
theorem qb_0_15 (s : Fin 128) (j : Fin 512) : (sl.v230 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 0 15) :=
  (congrFun (qb_0_15_def c arg4 harg4 arg5 harg5 arg6 harg6 arg7 harg7 x3 x4 x5 x6) (ix2 s j)).trans (pickK_succ (k₀ := 0) (n := 14) (k := 15) rfl slices_S64x512_o15_0_S1x512 (sl.v24 c arg5 harg5 arg6 harg6 x4 x5) (sl.v38 c arg4 harg4 arg5 harg5 arg6 harg6 arg7 harg7 x3 x4 x5 x6) (k0_pay9 (F := Ideal)) (sl.v218 c arg4 harg4 arg5 harg5 arg6 harg6 arg7 harg7 x3 x4 x5 x6) s j (qb_0_14 c arg4 harg4 arg5 harg5 arg6 harg6 arg7 harg7 x3 x4 x5 x6 s j))
theorem qa_1_0 (s : Fin 128) (j : Fin 512) : (sl.v233 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 0) :=
  (congrFun (qa_1_0_def c arg4 harg4 arg5 harg5 arg6 harg6 arg7 harg7 x3 x4 x5 x6) (ix2 s j)).trans (rowK_apply slices_S64x512_o16_0_S1x512 (sl.r_1 c arg4 harg4 arg5 harg5 arg6 harg6 arg7 harg7 x3 x4 x5 x6) s j)
theorem qb_1_0 (s : Fin 128) (j : Fin 512) : (sl.v236 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 0) :=
  (congrFun (qb_1_0_def c arg4 harg4 arg5 harg5 arg6 harg6 arg7 harg7 x3 x4 x5 x6) (ix2 s j)).trans (rowK_apply slices_S64x512_o16_0_S1x512 (sl.v38 c arg4 harg4 arg5 harg5 arg6 harg6 arg7 harg7 x3 x4 x5 x6) s j)
theorem qa_1_1 (s : Fin 128) (j : Fin 512) : (sl.v244 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 1) :=
  (congrFun (qa_1_1_def c arg4 harg4 arg5 harg5 arg6 harg6 arg7 harg7 x3 x4 x5 x6) (ix2 s j)).trans (pickK_succ (k₀ := 16) (n := 0) (k := 17) rfl slices_S64x512_o17_0_S1x512 (sl.v24 c arg5 harg5 arg6 harg6 x4 x5) (sl.r_1 c arg4 harg4 arg5 harg5 arg6 harg6 arg7 harg7 x3 x4 x5 x6) (k0_pay9 (F := Ideal)) (sl.v233 c arg4 harg4 arg5 harg5 arg6 harg6 arg7 harg7 x3 x4 x5 x6) s j (qa_1_0 c arg4 harg4 arg5 harg5 arg6 harg6 arg7 harg7 x3 x4 x5 x6 s j))
theorem qb_1_1 (s : Fin 128) (j : Fin 512) : (sl.v248 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 1) :=
  (congrFun (qb_1_1_def c arg4 harg4 arg5 harg5 arg6 harg6 arg7 harg7 x3 x4 x5 x6) (ix2 s j)).trans (pickK_succ (k₀ := 16) (n := 0) (k := 17) rfl slices_S64x512_o17_0_S1x512 (sl.v24 c arg5 harg5 arg6 harg6 x4 x5) (sl.v38 c arg4 harg4 arg5 harg5 arg6 harg6 arg7 harg7 x3 x4 x5 x6) (k0_pay9 (F := Ideal)) (sl.v236 c arg4 harg4 arg5 harg5 arg6 harg6 arg7 harg7 x3 x4 x5 x6) s j (qb_1_0 c arg4 harg4 arg5 harg5 arg6 harg6 arg7 harg7 x3 x4 x5 x6 s j))
theorem qa_1_2 (s : Fin 128) (j : Fin 512) : (sl.v256 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 2) :=
  (congrFun (qa_1_2_def c arg4 harg4 arg5 harg5 arg6 harg6 arg7 harg7 x3 x4 x5 x6) (ix2 s j)).trans (pickK_succ (k₀ := 16) (n := 1) (k := 18) rfl slices_S64x512_o18_0_S1x512 (sl.v24 c arg5 harg5 arg6 harg6 x4 x5) (sl.r_1 c arg4 harg4 arg5 harg5 arg6 harg6 arg7 harg7 x3 x4 x5 x6) (k0_pay9 (F := Ideal)) (sl.v244 c arg4 harg4 arg5 harg5 arg6 harg6 arg7 harg7 x3 x4 x5 x6) s j (qa_1_1 c arg4 harg4 arg5 harg5 arg6 harg6 arg7 harg7 x3 x4 x5 x6 s j))
theorem qb_1_2 (s : Fin 128) (j : Fin 512) : (sl.v260 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 2) :=
  (congrFun (qb_1_2_def c arg4 harg4 arg5 harg5 arg6 harg6 arg7 harg7 x3 x4 x5 x6) (ix2 s j)).trans (pickK_succ (k₀ := 16) (n := 1) (k := 18) rfl slices_S64x512_o18_0_S1x512 (sl.v24 c arg5 harg5 arg6 harg6 x4 x5) (sl.v38 c arg4 harg4 arg5 harg5 arg6 harg6 arg7 harg7 x3 x4 x5 x6) (k0_pay9 (F := Ideal)) (sl.v248 c arg4 harg4 arg5 harg5 arg6 harg6 arg7 harg7 x3 x4 x5 x6) s j (qb_1_1 c arg4 harg4 arg5 harg5 arg6 harg6 arg7 harg7 x3 x4 x5 x6 s j))
theorem qa_1_3 (s : Fin 128) (j : Fin 512) : (sl.v268 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 3) :=
  (congrFun (qa_1_3_def c arg4 harg4 arg5 harg5 arg6 harg6 arg7 harg7 x3 x4 x5 x6) (ix2 s j)).trans (pickK_succ (k₀ := 16) (n := 2) (k := 19) rfl slices_S64x512_o19_0_S1x512 (sl.v24 c arg5 harg5 arg6 harg6 x4 x5) (sl.r_1 c arg4 harg4 arg5 harg5 arg6 harg6 arg7 harg7 x3 x4 x5 x6) (k0_pay9 (F := Ideal)) (sl.v256 c arg4 harg4 arg5 harg5 arg6 harg6 arg7 harg7 x3 x4 x5 x6) s j (qa_1_2 c arg4 harg4 arg5 harg5 arg6 harg6 arg7 harg7 x3 x4 x5 x6 s j))
theorem qb_1_3 (s : Fin 128) (j : Fin 512) : (sl.v272 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 3) :=
  (congrFun (qb_1_3_def c arg4 harg4 arg5 harg5 arg6 harg6 arg7 harg7 x3 x4 x5 x6) (ix2 s j)).trans (pickK_succ (k₀ := 16) (n := 2) (k := 19) rfl slices_S64x512_o19_0_S1x512 (sl.v24 c arg5 harg5 arg6 harg6 x4 x5) (sl.v38 c arg4 harg4 arg5 harg5 arg6 harg6 arg7 harg7 x3 x4 x5 x6) (k0_pay9 (F := Ideal)) (sl.v260 c arg4 harg4 arg5 harg5 arg6 harg6 arg7 harg7 x3 x4 x5 x6) s j (qb_1_2 c arg4 harg4 arg5 harg5 arg6 harg6 arg7 harg7 x3 x4 x5 x6 s j))
theorem qa_1_4 (s : Fin 128) (j : Fin 512) : (sl.v280 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 4) :=
  (congrFun (qa_1_4_def c arg4 harg4 arg5 harg5 arg6 harg6 arg7 harg7 x3 x4 x5 x6) (ix2 s j)).trans (pickK_succ (k₀ := 16) (n := 3) (k := 20) rfl slices_S64x512_o20_0_S1x512 (sl.v24 c arg5 harg5 arg6 harg6 x4 x5) (sl.r_1 c arg4 harg4 arg5 harg5 arg6 harg6 arg7 harg7 x3 x4 x5 x6) (k0_pay9 (F := Ideal)) (sl.v268 c arg4 harg4 arg5 harg5 arg6 harg6 arg7 harg7 x3 x4 x5 x6) s j (qa_1_3 c arg4 harg4 arg5 harg5 arg6 harg6 arg7 harg7 x3 x4 x5 x6 s j))
theorem qb_1_4 (s : Fin 128) (j : Fin 512) : (sl.v284 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 4) :=
  (congrFun (qb_1_4_def c arg4 harg4 arg5 harg5 arg6 harg6 arg7 harg7 x3 x4 x5 x6) (ix2 s j)).trans (pickK_succ (k₀ := 16) (n := 3) (k := 20) rfl slices_S64x512_o20_0_S1x512 (sl.v24 c arg5 harg5 arg6 harg6 x4 x5) (sl.v38 c arg4 harg4 arg5 harg5 arg6 harg6 arg7 harg7 x3 x4 x5 x6) (k0_pay9 (F := Ideal)) (sl.v272 c arg4 harg4 arg5 harg5 arg6 harg6 arg7 harg7 x3 x4 x5 x6) s j (qb_1_3 c arg4 harg4 arg5 harg5 arg6 harg6 arg7 harg7 x3 x4 x5 x6 s j))
theorem qa_1_5 (s : Fin 128) (j : Fin 512) : (sl.v292 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 5) :=
  (congrFun (qa_1_5_def c arg4 harg4 arg5 harg5 arg6 harg6 arg7 harg7 x3 x4 x5 x6) (ix2 s j)).trans (pickK_succ (k₀ := 16) (n := 4) (k := 21) rfl slices_S64x512_o21_0_S1x512 (sl.v24 c arg5 harg5 arg6 harg6 x4 x5) (sl.r_1 c arg4 harg4 arg5 harg5 arg6 harg6 arg7 harg7 x3 x4 x5 x6) (k0_pay9 (F := Ideal)) (sl.v280 c arg4 harg4 arg5 harg5 arg6 harg6 arg7 harg7 x3 x4 x5 x6) s j (qa_1_4 c arg4 harg4 arg5 harg5 arg6 harg6 arg7 harg7 x3 x4 x5 x6 s j))
theorem qb_1_5 (s : Fin 128) (j : Fin 512) : (sl.v296 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 5) :=
  (congrFun (qb_1_5_def c arg4 harg4 arg5 harg5 arg6 harg6 arg7 harg7 x3 x4 x5 x6) (ix2 s j)).trans (pickK_succ (k₀ := 16) (n := 4) (k := 21) rfl slices_S64x512_o21_0_S1x512 (sl.v24 c arg5 harg5 arg6 harg6 x4 x5) (sl.v38 c arg4 harg4 arg5 harg5 arg6 harg6 arg7 harg7 x3 x4 x5 x6) (k0_pay9 (F := Ideal)) (sl.v284 c arg4 harg4 arg5 harg5 arg6 harg6 arg7 harg7 x3 x4 x5 x6) s j (qb_1_4 c arg4 harg4 arg5 harg5 arg6 harg6 arg7 harg7 x3 x4 x5 x6 s j))
theorem qa_1_6 (s : Fin 128) (j : Fin 512) : (sl.v304 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 6) :=
  (congrFun (qa_1_6_def c arg4 harg4 arg5 harg5 arg6 harg6 arg7 harg7 x3 x4 x5 x6) (ix2 s j)).trans (pickK_succ (k₀ := 16) (n := 5) (k := 22) rfl slices_S64x512_o22_0_S1x512 (sl.v24 c arg5 harg5 arg6 harg6 x4 x5) (sl.r_1 c arg4 harg4 arg5 harg5 arg6 harg6 arg7 harg7 x3 x4 x5 x6) (k0_pay9 (F := Ideal)) (sl.v292 c arg4 harg4 arg5 harg5 arg6 harg6 arg7 harg7 x3 x4 x5 x6) s j (qa_1_5 c arg4 harg4 arg5 harg5 arg6 harg6 arg7 harg7 x3 x4 x5 x6 s j))
theorem qb_1_6 (s : Fin 128) (j : Fin 512) : (sl.v308 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 6) :=
  (congrFun (qb_1_6_def c arg4 harg4 arg5 harg5 arg6 harg6 arg7 harg7 x3 x4 x5 x6) (ix2 s j)).trans (pickK_succ (k₀ := 16) (n := 5) (k := 22) rfl slices_S64x512_o22_0_S1x512 (sl.v24 c arg5 harg5 arg6 harg6 x4 x5) (sl.v38 c arg4 harg4 arg5 harg5 arg6 harg6 arg7 harg7 x3 x4 x5 x6) (k0_pay9 (F := Ideal)) (sl.v296 c arg4 harg4 arg5 harg5 arg6 harg6 arg7 harg7 x3 x4 x5 x6) s j (qb_1_5 c arg4 harg4 arg5 harg5 arg6 harg6 arg7 harg7 x3 x4 x5 x6 s j))
theorem qa_1_7 (s : Fin 128) (j : Fin 512) : (sl.v316 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 7) :=
  (congrFun (qa_1_7_def c arg4 harg4 arg5 harg5 arg6 harg6 arg7 harg7 x3 x4 x5 x6) (ix2 s j)).trans (pickK_succ (k₀ := 16) (n := 6) (k := 23) rfl slices_S64x512_o23_0_S1x512 (sl.v24 c arg5 harg5 arg6 harg6 x4 x5) (sl.r_1 c arg4 harg4 arg5 harg5 arg6 harg6 arg7 harg7 x3 x4 x5 x6) (k0_pay9 (F := Ideal)) (sl.v304 c arg4 harg4 arg5 harg5 arg6 harg6 arg7 harg7 x3 x4 x5 x6) s j (qa_1_6 c arg4 harg4 arg5 harg5 arg6 harg6 arg7 harg7 x3 x4 x5 x6 s j))
theorem qb_1_7 (s : Fin 128) (j : Fin 512) : (sl.v320 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 7) :=
  (congrFun (qb_1_7_def c arg4 harg4 arg5 harg5 arg6 harg6 arg7 harg7 x3 x4 x5 x6) (ix2 s j)).trans (pickK_succ (k₀ := 16) (n := 6) (k := 23) rfl slices_S64x512_o23_0_S1x512 (sl.v24 c arg5 harg5 arg6 harg6 x4 x5) (sl.v38 c arg4 harg4 arg5 harg5 arg6 harg6 arg7 harg7 x3 x4 x5 x6) (k0_pay9 (F := Ideal)) (sl.v308 c arg4 harg4 arg5 harg5 arg6 harg6 arg7 harg7 x3 x4 x5 x6) s j (qb_1_6 c arg4 harg4 arg5 harg5 arg6 harg6 arg7 harg7 x3 x4 x5 x6 s j))
theorem qa_1_8 (s : Fin 128) (j : Fin 512) : (sl.v328 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 8) :=
  (congrFun (qa_1_8_def c arg4 harg4 arg5 harg5 arg6 harg6 arg7 harg7 x3 x4 x5 x6) (ix2 s j)).trans (pickK_succ (k₀ := 16) (n := 7) (k := 24) rfl slices_S64x512_o24_0_S1x512 (sl.v24 c arg5 harg5 arg6 harg6 x4 x5) (sl.r_1 c arg4 harg4 arg5 harg5 arg6 harg6 arg7 harg7 x3 x4 x5 x6) (k0_pay9 (F := Ideal)) (sl.v316 c arg4 harg4 arg5 harg5 arg6 harg6 arg7 harg7 x3 x4 x5 x6) s j (qa_1_7 c arg4 harg4 arg5 harg5 arg6 harg6 arg7 harg7 x3 x4 x5 x6 s j))
theorem qb_1_8 (s : Fin 128) (j : Fin 512) : (sl.v332 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 8) :=
  (congrFun (qb_1_8_def c arg4 harg4 arg5 harg5 arg6 harg6 arg7 harg7 x3 x4 x5 x6) (ix2 s j)).trans (pickK_succ (k₀ := 16) (n := 7) (k := 24) rfl slices_S64x512_o24_0_S1x512 (sl.v24 c arg5 harg5 arg6 harg6 x4 x5) (sl.v38 c arg4 harg4 arg5 harg5 arg6 harg6 arg7 harg7 x3 x4 x5 x6) (k0_pay9 (F := Ideal)) (sl.v320 c arg4 harg4 arg5 harg5 arg6 harg6 arg7 harg7 x3 x4 x5 x6) s j (qb_1_7 c arg4 harg4 arg5 harg5 arg6 harg6 arg7 harg7 x3 x4 x5 x6 s j))
theorem qa_1_9 (s : Fin 128) (j : Fin 512) : (sl.v340 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 9) :=
  (congrFun (qa_1_9_def c arg4 harg4 arg5 harg5 arg6 harg6 arg7 harg7 x3 x4 x5 x6) (ix2 s j)).trans (pickK_succ (k₀ := 16) (n := 8) (k := 25) rfl slices_S64x512_o25_0_S1x512 (sl.v24 c arg5 harg5 arg6 harg6 x4 x5) (sl.r_1 c arg4 harg4 arg5 harg5 arg6 harg6 arg7 harg7 x3 x4 x5 x6) (k0_pay9 (F := Ideal)) (sl.v328 c arg4 harg4 arg5 harg5 arg6 harg6 arg7 harg7 x3 x4 x5 x6) s j (qa_1_8 c arg4 harg4 arg5 harg5 arg6 harg6 arg7 harg7 x3 x4 x5 x6 s j))
theorem qb_1_9 (s : Fin 128) (j : Fin 512) : (sl.v344 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 9) :=
  (congrFun (qb_1_9_def c arg4 harg4 arg5 harg5 arg6 harg6 arg7 harg7 x3 x4 x5 x6) (ix2 s j)).trans (pickK_succ (k₀ := 16) (n := 8) (k := 25) rfl slices_S64x512_o25_0_S1x512 (sl.v24 c arg5 harg5 arg6 harg6 x4 x5) (sl.v38 c arg4 harg4 arg5 harg5 arg6 harg6 arg7 harg7 x3 x4 x5 x6) (k0_pay9 (F := Ideal)) (sl.v332 c arg4 harg4 arg5 harg5 arg6 harg6 arg7 harg7 x3 x4 x5 x6) s j (qb_1_8 c arg4 harg4 arg5 harg5 arg6 harg6 arg7 harg7 x3 x4 x5 x6 s j))
theorem qa_1_10 (s : Fin 128) (j : Fin 512) : (sl.v352 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 10) :=
  (congrFun (qa_1_10_def c arg4 harg4 arg5 harg5 arg6 harg6 arg7 harg7 x3 x4 x5 x6) (ix2 s j)).trans (pickK_succ (k₀ := 16) (n := 9) (k := 26) rfl slices_S64x512_o26_0_S1x512 (sl.v24 c arg5 harg5 arg6 harg6 x4 x5) (sl.r_1 c arg4 harg4 arg5 harg5 arg6 harg6 arg7 harg7 x3 x4 x5 x6) (k0_pay9 (F := Ideal)) (sl.v340 c arg4 harg4 arg5 harg5 arg6 harg6 arg7 harg7 x3 x4 x5 x6) s j (qa_1_9 c arg4 harg4 arg5 harg5 arg6 harg6 arg7 harg7 x3 x4 x5 x6 s j))
theorem qb_1_10 (s : Fin 128) (j : Fin 512) : (sl.v356 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 10) :=
  (congrFun (qb_1_10_def c arg4 harg4 arg5 harg5 arg6 harg6 arg7 harg7 x3 x4 x5 x6) (ix2 s j)).trans (pickK_succ (k₀ := 16) (n := 9) (k := 26) rfl slices_S64x512_o26_0_S1x512 (sl.v24 c arg5 harg5 arg6 harg6 x4 x5) (sl.v38 c arg4 harg4 arg5 harg5 arg6 harg6 arg7 harg7 x3 x4 x5 x6) (k0_pay9 (F := Ideal)) (sl.v344 c arg4 harg4 arg5 harg5 arg6 harg6 arg7 harg7 x3 x4 x5 x6) s j (qb_1_9 c arg4 harg4 arg5 harg5 arg6 harg6 arg7 harg7 x3 x4 x5 x6 s j))
theorem qa_1_11 (s : Fin 128) (j : Fin 512) : (sl.v364 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 11) :=
  (congrFun (qa_1_11_def c arg4 harg4 arg5 harg5 arg6 harg6 arg7 harg7 x3 x4 x5 x6) (ix2 s j)).trans (pickK_succ (k₀ := 16) (n := 10) (k := 27) rfl slices_S64x512_o27_0_S1x512 (sl.v24 c arg5 harg5 arg6 harg6 x4 x5) (sl.r_1 c arg4 harg4 arg5 harg5 arg6 harg6 arg7 harg7 x3 x4 x5 x6) (k0_pay9 (F := Ideal)) (sl.v352 c arg4 harg4 arg5 harg5 arg6 harg6 arg7 harg7 x3 x4 x5 x6) s j (qa_1_10 c arg4 harg4 arg5 harg5 arg6 harg6 arg7 harg7 x3 x4 x5 x6 s j))
theorem qb_1_11 (s : Fin 128) (j : Fin 512) : (sl.v368 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 11) :=
  (congrFun (qb_1_11_def c arg4 harg4 arg5 harg5 arg6 harg6 arg7 harg7 x3 x4 x5 x6) (ix2 s j)).trans (pickK_succ (k₀ := 16) (n := 10) (k := 27) rfl slices_S64x512_o27_0_S1x512 (sl.v24 c arg5 harg5 arg6 harg6 x4 x5) (sl.v38 c arg4 harg4 arg5 harg5 arg6 harg6 arg7 harg7 x3 x4 x5 x6) (k0_pay9 (F := Ideal)) (sl.v356 c arg4 harg4 arg5 harg5 arg6 harg6 arg7 harg7 x3 x4 x5 x6) s j (qb_1_10 c arg4 harg4 arg5 harg5 arg6 harg6 arg7 harg7 x3 x4 x5 x6 s j))
theorem qa_1_12 (s : Fin 128) (j : Fin 512) : (sl.v376 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 12) :=
  (congrFun (qa_1_12_def c arg4 harg4 arg5 harg5 arg6 harg6 arg7 harg7 x3 x4 x5 x6) (ix2 s j)).trans (pickK_succ (k₀ := 16) (n := 11) (k := 28) rfl slices_S64x512_o28_0_S1x512 (sl.v24 c arg5 harg5 arg6 harg6 x4 x5) (sl.r_1 c arg4 harg4 arg5 harg5 arg6 harg6 arg7 harg7 x3 x4 x5 x6) (k0_pay9 (F := Ideal)) (sl.v364 c arg4 harg4 arg5 harg5 arg6 harg6 arg7 harg7 x3 x4 x5 x6) s j (qa_1_11 c arg4 harg4 arg5 harg5 arg6 harg6 arg7 harg7 x3 x4 x5 x6 s j))
theorem qb_1_12 (s : Fin 128) (j : Fin 512) : (sl.v380 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 12) :=
  (congrFun (qb_1_12_def c arg4 harg4 arg5 harg5 arg6 harg6 arg7 harg7 x3 x4 x5 x6) (ix2 s j)).trans (pickK_succ (k₀ := 16) (n := 11) (k := 28) rfl slices_S64x512_o28_0_S1x512 (sl.v24 c arg5 harg5 arg6 harg6 x4 x5) (sl.v38 c arg4 harg4 arg5 harg5 arg6 harg6 arg7 harg7 x3 x4 x5 x6) (k0_pay9 (F := Ideal)) (sl.v368 c arg4 harg4 arg5 harg5 arg6 harg6 arg7 harg7 x3 x4 x5 x6) s j (qb_1_11 c arg4 harg4 arg5 harg5 arg6 harg6 arg7 harg7 x3 x4 x5 x6 s j))
theorem qa_1_13 (s : Fin 128) (j : Fin 512) : (sl.v388 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 13) :=
  (congrFun (qa_1_13_def c arg4 harg4 arg5 harg5 arg6 harg6 arg7 harg7 x3 x4 x5 x6) (ix2 s j)).trans (pickK_succ (k₀ := 16) (n := 12) (k := 29) rfl slices_S64x512_o29_0_S1x512 (sl.v24 c arg5 harg5 arg6 harg6 x4 x5) (sl.r_1 c arg4 harg4 arg5 harg5 arg6 harg6 arg7 harg7 x3 x4 x5 x6) (k0_pay9 (F := Ideal)) (sl.v376 c arg4 harg4 arg5 harg5 arg6 harg6 arg7 harg7 x3 x4 x5 x6) s j (qa_1_12 c arg4 harg4 arg5 harg5 arg6 harg6 arg7 harg7 x3 x4 x5 x6 s j))
theorem qb_1_13 (s : Fin 128) (j : Fin 512) : (sl.v392 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 13) :=
  (congrFun (qb_1_13_def c arg4 harg4 arg5 harg5 arg6 harg6 arg7 harg7 x3 x4 x5 x6) (ix2 s j)).trans (pickK_succ (k₀ := 16) (n := 12) (k := 29) rfl slices_S64x512_o29_0_S1x512 (sl.v24 c arg5 harg5 arg6 harg6 x4 x5) (sl.v38 c arg4 harg4 arg5 harg5 arg6 harg6 arg7 harg7 x3 x4 x5 x6) (k0_pay9 (F := Ideal)) (sl.v380 c arg4 harg4 arg5 harg5 arg6 harg6 arg7 harg7 x3 x4 x5 x6) s j (qb_1_12 c arg4 harg4 arg5 harg5 arg6 harg6 arg7 harg7 x3 x4 x5 x6 s j))
theorem qa_1_14 (s : Fin 128) (j : Fin 512) : (sl.v400 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 14) :=
  (congrFun (qa_1_14_def c arg4 harg4 arg5 harg5 arg6 harg6 arg7 harg7 x3 x4 x5 x6) (ix2 s j)).trans (pickK_succ (k₀ := 16) (n := 13) (k := 30) rfl slices_S64x512_o30_0_S1x512 (sl.v24 c arg5 harg5 arg6 harg6 x4 x5) (sl.r_1 c arg4 harg4 arg5 harg5 arg6 harg6 arg7 harg7 x3 x4 x5 x6) (k0_pay9 (F := Ideal)) (sl.v388 c arg4 harg4 arg5 harg5 arg6 harg6 arg7 harg7 x3 x4 x5 x6) s j (qa_1_13 c arg4 harg4 arg5 harg5 arg6 harg6 arg7 harg7 x3 x4 x5 x6 s j))
theorem qb_1_14 (s : Fin 128) (j : Fin 512) : (sl.v404 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 14) :=
  (congrFun (qb_1_14_def c arg4 harg4 arg5 harg5 arg6 harg6 arg7 harg7 x3 x4 x5 x6) (ix2 s j)).trans (pickK_succ (k₀ := 16) (n := 13) (k := 30) rfl slices_S64x512_o30_0_S1x512 (sl.v24 c arg5 harg5 arg6 harg6 x4 x5) (sl.v38 c arg4 harg4 arg5 harg5 arg6 harg6 arg7 harg7 x3 x4 x5 x6) (k0_pay9 (F := Ideal)) (sl.v392 c arg4 harg4 arg5 harg5 arg6 harg6 arg7 harg7 x3 x4 x5 x6) s j (qb_1_13 c arg4 harg4 arg5 harg5 arg6 harg6 arg7 harg7 x3 x4 x5 x6 s j))
theorem qa_1_15 (s : Fin 128) (j : Fin 512) : (sl.v412 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 16 15) :=
  (congrFun (qa_1_15_def c arg4 harg4 arg5 harg5 arg6 harg6 arg7 harg7 x3 x4 x5 x6) (ix2 s j)).trans (pickK_succ (k₀ := 16) (n := 14) (k := 31) rfl slices_S64x512_o31_0_S1x512 (sl.v24 c arg5 harg5 arg6 harg6 x4 x5) (sl.r_1 c arg4 harg4 arg5 harg5 arg6 harg6 arg7 harg7 x3 x4 x5 x6) (k0_pay9 (F := Ideal)) (sl.v400 c arg4 harg4 arg5 harg5 arg6 harg6 arg7 harg7 x3 x4 x5 x6) s j (qa_1_14 c arg4 harg4 arg5 harg5 arg6 harg6 arg7 harg7 x3 x4 x5 x6 s j))
theorem qb_1_15 (s : Fin 128) (j : Fin 512) : (sl.v416 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 16 15) :=
  (congrFun (qb_1_15_def c arg4 harg4 arg5 harg5 arg6 harg6 arg7 harg7 x3 x4 x5 x6) (ix2 s j)).trans (pickK_succ (k₀ := 16) (n := 14) (k := 31) rfl slices_S64x512_o31_0_S1x512 (sl.v24 c arg5 harg5 arg6 harg6 x4 x5) (sl.v38 c arg4 harg4 arg5 harg5 arg6 harg6 arg7 harg7 x3 x4 x5 x6) (k0_pay9 (F := Ideal)) (sl.v404 c arg4 harg4 arg5 harg5 arg6 harg6 arg7 harg7 x3 x4 x5 x6) s j (qb_1_14 c arg4 harg4 arg5 harg5 arg6 harg6 arg7 harg7 x3 x4 x5 x6 s j))
theorem qa_2_0 (s : Fin 128) (j : Fin 512) : (sl.v419 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 0) :=
  (congrFun (qa_2_0_def c arg4 harg4 arg5 harg5 arg6 harg6 arg7 harg7 x3 x4 x5 x6) (ix2 s j)).trans (rowK_apply slices_S64x512_o32_0_S1x512 (sl.r_1 c arg4 harg4 arg5 harg5 arg6 harg6 arg7 harg7 x3 x4 x5 x6) s j)
theorem qb_2_0 (s : Fin 128) (j : Fin 512) : (sl.v422 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 0) :=
  (congrFun (qb_2_0_def c arg4 harg4 arg5 harg5 arg6 harg6 arg7 harg7 x3 x4 x5 x6) (ix2 s j)).trans (rowK_apply slices_S64x512_o32_0_S1x512 (sl.v38 c arg4 harg4 arg5 harg5 arg6 harg6 arg7 harg7 x3 x4 x5 x6) s j)
theorem qa_2_1 (s : Fin 128) (j : Fin 512) : (sl.v430 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 1) :=
  (congrFun (qa_2_1_def c arg4 harg4 arg5 harg5 arg6 harg6 arg7 harg7 x3 x4 x5 x6) (ix2 s j)).trans (pickK_succ (k₀ := 32) (n := 0) (k := 33) rfl slices_S64x512_o33_0_S1x512 (sl.v24 c arg5 harg5 arg6 harg6 x4 x5) (sl.r_1 c arg4 harg4 arg5 harg5 arg6 harg6 arg7 harg7 x3 x4 x5 x6) (k0_pay9 (F := Ideal)) (sl.v419 c arg4 harg4 arg5 harg5 arg6 harg6 arg7 harg7 x3 x4 x5 x6) s j (qa_2_0 c arg4 harg4 arg5 harg5 arg6 harg6 arg7 harg7 x3 x4 x5 x6 s j))
theorem qb_2_1 (s : Fin 128) (j : Fin 512) : (sl.v434 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 1) :=
  (congrFun (qb_2_1_def c arg4 harg4 arg5 harg5 arg6 harg6 arg7 harg7 x3 x4 x5 x6) (ix2 s j)).trans (pickK_succ (k₀ := 32) (n := 0) (k := 33) rfl slices_S64x512_o33_0_S1x512 (sl.v24 c arg5 harg5 arg6 harg6 x4 x5) (sl.v38 c arg4 harg4 arg5 harg5 arg6 harg6 arg7 harg7 x3 x4 x5 x6) (k0_pay9 (F := Ideal)) (sl.v422 c arg4 harg4 arg5 harg5 arg6 harg6 arg7 harg7 x3 x4 x5 x6) s j (qb_2_0 c arg4 harg4 arg5 harg5 arg6 harg6 arg7 harg7 x3 x4 x5 x6 s j))
theorem qa_2_2 (s : Fin 128) (j : Fin 512) : (sl.v442 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 2) :=
  (congrFun (qa_2_2_def c arg4 harg4 arg5 harg5 arg6 harg6 arg7 harg7 x3 x4 x5 x6) (ix2 s j)).trans (pickK_succ (k₀ := 32) (n := 1) (k := 34) rfl slices_S64x512_o34_0_S1x512 (sl.v24 c arg5 harg5 arg6 harg6 x4 x5) (sl.r_1 c arg4 harg4 arg5 harg5 arg6 harg6 arg7 harg7 x3 x4 x5 x6) (k0_pay9 (F := Ideal)) (sl.v430 c arg4 harg4 arg5 harg5 arg6 harg6 arg7 harg7 x3 x4 x5 x6) s j (qa_2_1 c arg4 harg4 arg5 harg5 arg6 harg6 arg7 harg7 x3 x4 x5 x6 s j))
theorem qb_2_2 (s : Fin 128) (j : Fin 512) : (sl.v446 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 2) :=
  (congrFun (qb_2_2_def c arg4 harg4 arg5 harg5 arg6 harg6 arg7 harg7 x3 x4 x5 x6) (ix2 s j)).trans (pickK_succ (k₀ := 32) (n := 1) (k := 34) rfl slices_S64x512_o34_0_S1x512 (sl.v24 c arg5 harg5 arg6 harg6 x4 x5) (sl.v38 c arg4 harg4 arg5 harg5 arg6 harg6 arg7 harg7 x3 x4 x5 x6) (k0_pay9 (F := Ideal)) (sl.v434 c arg4 harg4 arg5 harg5 arg6 harg6 arg7 harg7 x3 x4 x5 x6) s j (qb_2_1 c arg4 harg4 arg5 harg5 arg6 harg6 arg7 harg7 x3 x4 x5 x6 s j))
theorem qa_2_3 (s : Fin 128) (j : Fin 512) : (sl.v454 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 3) :=
  (congrFun (qa_2_3_def c arg4 harg4 arg5 harg5 arg6 harg6 arg7 harg7 x3 x4 x5 x6) (ix2 s j)).trans (pickK_succ (k₀ := 32) (n := 2) (k := 35) rfl slices_S64x512_o35_0_S1x512 (sl.v24 c arg5 harg5 arg6 harg6 x4 x5) (sl.r_1 c arg4 harg4 arg5 harg5 arg6 harg6 arg7 harg7 x3 x4 x5 x6) (k0_pay9 (F := Ideal)) (sl.v442 c arg4 harg4 arg5 harg5 arg6 harg6 arg7 harg7 x3 x4 x5 x6) s j (qa_2_2 c arg4 harg4 arg5 harg5 arg6 harg6 arg7 harg7 x3 x4 x5 x6 s j))
theorem qb_2_3 (s : Fin 128) (j : Fin 512) : (sl.v458 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 3) :=
  (congrFun (qb_2_3_def c arg4 harg4 arg5 harg5 arg6 harg6 arg7 harg7 x3 x4 x5 x6) (ix2 s j)).trans (pickK_succ (k₀ := 32) (n := 2) (k := 35) rfl slices_S64x512_o35_0_S1x512 (sl.v24 c arg5 harg5 arg6 harg6 x4 x5) (sl.v38 c arg4 harg4 arg5 harg5 arg6 harg6 arg7 harg7 x3 x4 x5 x6) (k0_pay9 (F := Ideal)) (sl.v446 c arg4 harg4 arg5 harg5 arg6 harg6 arg7 harg7 x3 x4 x5 x6) s j (qb_2_2 c arg4 harg4 arg5 harg5 arg6 harg6 arg7 harg7 x3 x4 x5 x6 s j))
theorem qa_2_4 (s : Fin 128) (j : Fin 512) : (sl.v466 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 4) :=
  (congrFun (qa_2_4_def c arg4 harg4 arg5 harg5 arg6 harg6 arg7 harg7 x3 x4 x5 x6) (ix2 s j)).trans (pickK_succ (k₀ := 32) (n := 3) (k := 36) rfl slices_S64x512_o36_0_S1x512 (sl.v24 c arg5 harg5 arg6 harg6 x4 x5) (sl.r_1 c arg4 harg4 arg5 harg5 arg6 harg6 arg7 harg7 x3 x4 x5 x6) (k0_pay9 (F := Ideal)) (sl.v454 c arg4 harg4 arg5 harg5 arg6 harg6 arg7 harg7 x3 x4 x5 x6) s j (qa_2_3 c arg4 harg4 arg5 harg5 arg6 harg6 arg7 harg7 x3 x4 x5 x6 s j))
theorem qb_2_4 (s : Fin 128) (j : Fin 512) : (sl.v470 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 4) :=
  (congrFun (qb_2_4_def c arg4 harg4 arg5 harg5 arg6 harg6 arg7 harg7 x3 x4 x5 x6) (ix2 s j)).trans (pickK_succ (k₀ := 32) (n := 3) (k := 36) rfl slices_S64x512_o36_0_S1x512 (sl.v24 c arg5 harg5 arg6 harg6 x4 x5) (sl.v38 c arg4 harg4 arg5 harg5 arg6 harg6 arg7 harg7 x3 x4 x5 x6) (k0_pay9 (F := Ideal)) (sl.v458 c arg4 harg4 arg5 harg5 arg6 harg6 arg7 harg7 x3 x4 x5 x6) s j (qb_2_3 c arg4 harg4 arg5 harg5 arg6 harg6 arg7 harg7 x3 x4 x5 x6 s j))
theorem qa_2_5 (s : Fin 128) (j : Fin 512) : (sl.v478 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 5) :=
  (congrFun (qa_2_5_def c arg4 harg4 arg5 harg5 arg6 harg6 arg7 harg7 x3 x4 x5 x6) (ix2 s j)).trans (pickK_succ (k₀ := 32) (n := 4) (k := 37) rfl slices_S64x512_o37_0_S1x512 (sl.v24 c arg5 harg5 arg6 harg6 x4 x5) (sl.r_1 c arg4 harg4 arg5 harg5 arg6 harg6 arg7 harg7 x3 x4 x5 x6) (k0_pay9 (F := Ideal)) (sl.v466 c arg4 harg4 arg5 harg5 arg6 harg6 arg7 harg7 x3 x4 x5 x6) s j (qa_2_4 c arg4 harg4 arg5 harg5 arg6 harg6 arg7 harg7 x3 x4 x5 x6 s j))
theorem qb_2_5 (s : Fin 128) (j : Fin 512) : (sl.v482 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 5) :=
  (congrFun (qb_2_5_def c arg4 harg4 arg5 harg5 arg6 harg6 arg7 harg7 x3 x4 x5 x6) (ix2 s j)).trans (pickK_succ (k₀ := 32) (n := 4) (k := 37) rfl slices_S64x512_o37_0_S1x512 (sl.v24 c arg5 harg5 arg6 harg6 x4 x5) (sl.v38 c arg4 harg4 arg5 harg5 arg6 harg6 arg7 harg7 x3 x4 x5 x6) (k0_pay9 (F := Ideal)) (sl.v470 c arg4 harg4 arg5 harg5 arg6 harg6 arg7 harg7 x3 x4 x5 x6) s j (qb_2_4 c arg4 harg4 arg5 harg5 arg6 harg6 arg7 harg7 x3 x4 x5 x6 s j))
theorem qa_2_6 (s : Fin 128) (j : Fin 512) : (sl.v490 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 6) :=
  (congrFun (qa_2_6_def c arg4 harg4 arg5 harg5 arg6 harg6 arg7 harg7 x3 x4 x5 x6) (ix2 s j)).trans (pickK_succ (k₀ := 32) (n := 5) (k := 38) rfl slices_S64x512_o38_0_S1x512 (sl.v24 c arg5 harg5 arg6 harg6 x4 x5) (sl.r_1 c arg4 harg4 arg5 harg5 arg6 harg6 arg7 harg7 x3 x4 x5 x6) (k0_pay9 (F := Ideal)) (sl.v478 c arg4 harg4 arg5 harg5 arg6 harg6 arg7 harg7 x3 x4 x5 x6) s j (qa_2_5 c arg4 harg4 arg5 harg5 arg6 harg6 arg7 harg7 x3 x4 x5 x6 s j))
theorem qb_2_6 (s : Fin 128) (j : Fin 512) : (sl.v494 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 6) :=
  (congrFun (qb_2_6_def c arg4 harg4 arg5 harg5 arg6 harg6 arg7 harg7 x3 x4 x5 x6) (ix2 s j)).trans (pickK_succ (k₀ := 32) (n := 5) (k := 38) rfl slices_S64x512_o38_0_S1x512 (sl.v24 c arg5 harg5 arg6 harg6 x4 x5) (sl.v38 c arg4 harg4 arg5 harg5 arg6 harg6 arg7 harg7 x3 x4 x5 x6) (k0_pay9 (F := Ideal)) (sl.v482 c arg4 harg4 arg5 harg5 arg6 harg6 arg7 harg7 x3 x4 x5 x6) s j (qb_2_5 c arg4 harg4 arg5 harg5 arg6 harg6 arg7 harg7 x3 x4 x5 x6 s j))
theorem qa_2_7 (s : Fin 128) (j : Fin 512) : (sl.v502 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 7) :=
  (congrFun (qa_2_7_def c arg4 harg4 arg5 harg5 arg6 harg6 arg7 harg7 x3 x4 x5 x6) (ix2 s j)).trans (pickK_succ (k₀ := 32) (n := 6) (k := 39) rfl slices_S64x512_o39_0_S1x512 (sl.v24 c arg5 harg5 arg6 harg6 x4 x5) (sl.r_1 c arg4 harg4 arg5 harg5 arg6 harg6 arg7 harg7 x3 x4 x5 x6) (k0_pay9 (F := Ideal)) (sl.v490 c arg4 harg4 arg5 harg5 arg6 harg6 arg7 harg7 x3 x4 x5 x6) s j (qa_2_6 c arg4 harg4 arg5 harg5 arg6 harg6 arg7 harg7 x3 x4 x5 x6 s j))
theorem qb_2_7 (s : Fin 128) (j : Fin 512) : (sl.v506 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 7) :=
  (congrFun (qb_2_7_def c arg4 harg4 arg5 harg5 arg6 harg6 arg7 harg7 x3 x4 x5 x6) (ix2 s j)).trans (pickK_succ (k₀ := 32) (n := 6) (k := 39) rfl slices_S64x512_o39_0_S1x512 (sl.v24 c arg5 harg5 arg6 harg6 x4 x5) (sl.v38 c arg4 harg4 arg5 harg5 arg6 harg6 arg7 harg7 x3 x4 x5 x6) (k0_pay9 (F := Ideal)) (sl.v494 c arg4 harg4 arg5 harg5 arg6 harg6 arg7 harg7 x3 x4 x5 x6) s j (qb_2_6 c arg4 harg4 arg5 harg5 arg6 harg6 arg7 harg7 x3 x4 x5 x6 s j))
theorem qa_2_8 (s : Fin 128) (j : Fin 512) : (sl.v514 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 8) :=
  (congrFun (qa_2_8_def c arg4 harg4 arg5 harg5 arg6 harg6 arg7 harg7 x3 x4 x5 x6) (ix2 s j)).trans (pickK_succ (k₀ := 32) (n := 7) (k := 40) rfl slices_S64x512_o40_0_S1x512 (sl.v24 c arg5 harg5 arg6 harg6 x4 x5) (sl.r_1 c arg4 harg4 arg5 harg5 arg6 harg6 arg7 harg7 x3 x4 x5 x6) (k0_pay9 (F := Ideal)) (sl.v502 c arg4 harg4 arg5 harg5 arg6 harg6 arg7 harg7 x3 x4 x5 x6) s j (qa_2_7 c arg4 harg4 arg5 harg5 arg6 harg6 arg7 harg7 x3 x4 x5 x6 s j))
theorem qb_2_8 (s : Fin 128) (j : Fin 512) : (sl.v518 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 8) :=
  (congrFun (qb_2_8_def c arg4 harg4 arg5 harg5 arg6 harg6 arg7 harg7 x3 x4 x5 x6) (ix2 s j)).trans (pickK_succ (k₀ := 32) (n := 7) (k := 40) rfl slices_S64x512_o40_0_S1x512 (sl.v24 c arg5 harg5 arg6 harg6 x4 x5) (sl.v38 c arg4 harg4 arg5 harg5 arg6 harg6 arg7 harg7 x3 x4 x5 x6) (k0_pay9 (F := Ideal)) (sl.v506 c arg4 harg4 arg5 harg5 arg6 harg6 arg7 harg7 x3 x4 x5 x6) s j (qb_2_7 c arg4 harg4 arg5 harg5 arg6 harg6 arg7 harg7 x3 x4 x5 x6 s j))
theorem qa_2_9 (s : Fin 128) (j : Fin 512) : (sl.v526 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 9) :=
  (congrFun (qa_2_9_def c arg4 harg4 arg5 harg5 arg6 harg6 arg7 harg7 x3 x4 x5 x6) (ix2 s j)).trans (pickK_succ (k₀ := 32) (n := 8) (k := 41) rfl slices_S64x512_o41_0_S1x512 (sl.v24 c arg5 harg5 arg6 harg6 x4 x5) (sl.r_1 c arg4 harg4 arg5 harg5 arg6 harg6 arg7 harg7 x3 x4 x5 x6) (k0_pay9 (F := Ideal)) (sl.v514 c arg4 harg4 arg5 harg5 arg6 harg6 arg7 harg7 x3 x4 x5 x6) s j (qa_2_8 c arg4 harg4 arg5 harg5 arg6 harg6 arg7 harg7 x3 x4 x5 x6 s j))
theorem qb_2_9 (s : Fin 128) (j : Fin 512) : (sl.v530 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 9) :=
  (congrFun (qb_2_9_def c arg4 harg4 arg5 harg5 arg6 harg6 arg7 harg7 x3 x4 x5 x6) (ix2 s j)).trans (pickK_succ (k₀ := 32) (n := 8) (k := 41) rfl slices_S64x512_o41_0_S1x512 (sl.v24 c arg5 harg5 arg6 harg6 x4 x5) (sl.v38 c arg4 harg4 arg5 harg5 arg6 harg6 arg7 harg7 x3 x4 x5 x6) (k0_pay9 (F := Ideal)) (sl.v518 c arg4 harg4 arg5 harg5 arg6 harg6 arg7 harg7 x3 x4 x5 x6) s j (qb_2_8 c arg4 harg4 arg5 harg5 arg6 harg6 arg7 harg7 x3 x4 x5 x6 s j))
theorem qa_2_10 (s : Fin 128) (j : Fin 512) : (sl.v538 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 10) :=
  (congrFun (qa_2_10_def c arg4 harg4 arg5 harg5 arg6 harg6 arg7 harg7 x3 x4 x5 x6) (ix2 s j)).trans (pickK_succ (k₀ := 32) (n := 9) (k := 42) rfl slices_S64x512_o42_0_S1x512 (sl.v24 c arg5 harg5 arg6 harg6 x4 x5) (sl.r_1 c arg4 harg4 arg5 harg5 arg6 harg6 arg7 harg7 x3 x4 x5 x6) (k0_pay9 (F := Ideal)) (sl.v526 c arg4 harg4 arg5 harg5 arg6 harg6 arg7 harg7 x3 x4 x5 x6) s j (qa_2_9 c arg4 harg4 arg5 harg5 arg6 harg6 arg7 harg7 x3 x4 x5 x6 s j))
theorem qb_2_10 (s : Fin 128) (j : Fin 512) : (sl.v542 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 10) :=
  (congrFun (qb_2_10_def c arg4 harg4 arg5 harg5 arg6 harg6 arg7 harg7 x3 x4 x5 x6) (ix2 s j)).trans (pickK_succ (k₀ := 32) (n := 9) (k := 42) rfl slices_S64x512_o42_0_S1x512 (sl.v24 c arg5 harg5 arg6 harg6 x4 x5) (sl.v38 c arg4 harg4 arg5 harg5 arg6 harg6 arg7 harg7 x3 x4 x5 x6) (k0_pay9 (F := Ideal)) (sl.v530 c arg4 harg4 arg5 harg5 arg6 harg6 arg7 harg7 x3 x4 x5 x6) s j (qb_2_9 c arg4 harg4 arg5 harg5 arg6 harg6 arg7 harg7 x3 x4 x5 x6 s j))
theorem qa_2_11 (s : Fin 128) (j : Fin 512) : (sl.v550 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 11) :=
  (congrFun (qa_2_11_def c arg4 harg4 arg5 harg5 arg6 harg6 arg7 harg7 x3 x4 x5 x6) (ix2 s j)).trans (pickK_succ (k₀ := 32) (n := 10) (k := 43) rfl slices_S64x512_o43_0_S1x512 (sl.v24 c arg5 harg5 arg6 harg6 x4 x5) (sl.r_1 c arg4 harg4 arg5 harg5 arg6 harg6 arg7 harg7 x3 x4 x5 x6) (k0_pay9 (F := Ideal)) (sl.v538 c arg4 harg4 arg5 harg5 arg6 harg6 arg7 harg7 x3 x4 x5 x6) s j (qa_2_10 c arg4 harg4 arg5 harg5 arg6 harg6 arg7 harg7 x3 x4 x5 x6 s j))
theorem qb_2_11 (s : Fin 128) (j : Fin 512) : (sl.v554 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 11) :=
  (congrFun (qb_2_11_def c arg4 harg4 arg5 harg5 arg6 harg6 arg7 harg7 x3 x4 x5 x6) (ix2 s j)).trans (pickK_succ (k₀ := 32) (n := 10) (k := 43) rfl slices_S64x512_o43_0_S1x512 (sl.v24 c arg5 harg5 arg6 harg6 x4 x5) (sl.v38 c arg4 harg4 arg5 harg5 arg6 harg6 arg7 harg7 x3 x4 x5 x6) (k0_pay9 (F := Ideal)) (sl.v542 c arg4 harg4 arg5 harg5 arg6 harg6 arg7 harg7 x3 x4 x5 x6) s j (qb_2_10 c arg4 harg4 arg5 harg5 arg6 harg6 arg7 harg7 x3 x4 x5 x6 s j))
theorem qa_2_12 (s : Fin 128) (j : Fin 512) : (sl.v562 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 12) :=
  (congrFun (qa_2_12_def c arg4 harg4 arg5 harg5 arg6 harg6 arg7 harg7 x3 x4 x5 x6) (ix2 s j)).trans (pickK_succ (k₀ := 32) (n := 11) (k := 44) rfl slices_S64x512_o44_0_S1x512 (sl.v24 c arg5 harg5 arg6 harg6 x4 x5) (sl.r_1 c arg4 harg4 arg5 harg5 arg6 harg6 arg7 harg7 x3 x4 x5 x6) (k0_pay9 (F := Ideal)) (sl.v550 c arg4 harg4 arg5 harg5 arg6 harg6 arg7 harg7 x3 x4 x5 x6) s j (qa_2_11 c arg4 harg4 arg5 harg5 arg6 harg6 arg7 harg7 x3 x4 x5 x6 s j))
theorem qb_2_12 (s : Fin 128) (j : Fin 512) : (sl.v566 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 12) :=
  (congrFun (qb_2_12_def c arg4 harg4 arg5 harg5 arg6 harg6 arg7 harg7 x3 x4 x5 x6) (ix2 s j)).trans (pickK_succ (k₀ := 32) (n := 11) (k := 44) rfl slices_S64x512_o44_0_S1x512 (sl.v24 c arg5 harg5 arg6 harg6 x4 x5) (sl.v38 c arg4 harg4 arg5 harg5 arg6 harg6 arg7 harg7 x3 x4 x5 x6) (k0_pay9 (F := Ideal)) (sl.v554 c arg4 harg4 arg5 harg5 arg6 harg6 arg7 harg7 x3 x4 x5 x6) s j (qb_2_11 c arg4 harg4 arg5 harg5 arg6 harg6 arg7 harg7 x3 x4 x5 x6 s j))
theorem qa_2_13 (s : Fin 128) (j : Fin 512) : (sl.v574 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 13) :=
  (congrFun (qa_2_13_def c arg4 harg4 arg5 harg5 arg6 harg6 arg7 harg7 x3 x4 x5 x6) (ix2 s j)).trans (pickK_succ (k₀ := 32) (n := 12) (k := 45) rfl slices_S64x512_o45_0_S1x512 (sl.v24 c arg5 harg5 arg6 harg6 x4 x5) (sl.r_1 c arg4 harg4 arg5 harg5 arg6 harg6 arg7 harg7 x3 x4 x5 x6) (k0_pay9 (F := Ideal)) (sl.v562 c arg4 harg4 arg5 harg5 arg6 harg6 arg7 harg7 x3 x4 x5 x6) s j (qa_2_12 c arg4 harg4 arg5 harg5 arg6 harg6 arg7 harg7 x3 x4 x5 x6 s j))
theorem qb_2_13 (s : Fin 128) (j : Fin 512) : (sl.v578 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 13) :=
  (congrFun (qb_2_13_def c arg4 harg4 arg5 harg5 arg6 harg6 arg7 harg7 x3 x4 x5 x6) (ix2 s j)).trans (pickK_succ (k₀ := 32) (n := 12) (k := 45) rfl slices_S64x512_o45_0_S1x512 (sl.v24 c arg5 harg5 arg6 harg6 x4 x5) (sl.v38 c arg4 harg4 arg5 harg5 arg6 harg6 arg7 harg7 x3 x4 x5 x6) (k0_pay9 (F := Ideal)) (sl.v566 c arg4 harg4 arg5 harg5 arg6 harg6 arg7 harg7 x3 x4 x5 x6) s j (qb_2_12 c arg4 harg4 arg5 harg5 arg6 harg6 arg7 harg7 x3 x4 x5 x6 s j))
theorem qa_2_14 (s : Fin 128) (j : Fin 512) : (sl.v586 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 14) :=
  (congrFun (qa_2_14_def c arg4 harg4 arg5 harg5 arg6 harg6 arg7 harg7 x3 x4 x5 x6) (ix2 s j)).trans (pickK_succ (k₀ := 32) (n := 13) (k := 46) rfl slices_S64x512_o46_0_S1x512 (sl.v24 c arg5 harg5 arg6 harg6 x4 x5) (sl.r_1 c arg4 harg4 arg5 harg5 arg6 harg6 arg7 harg7 x3 x4 x5 x6) (k0_pay9 (F := Ideal)) (sl.v574 c arg4 harg4 arg5 harg5 arg6 harg6 arg7 harg7 x3 x4 x5 x6) s j (qa_2_13 c arg4 harg4 arg5 harg5 arg6 harg6 arg7 harg7 x3 x4 x5 x6 s j))
theorem qb_2_14 (s : Fin 128) (j : Fin 512) : (sl.v590 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 14) :=
  (congrFun (qb_2_14_def c arg4 harg4 arg5 harg5 arg6 harg6 arg7 harg7 x3 x4 x5 x6) (ix2 s j)).trans (pickK_succ (k₀ := 32) (n := 13) (k := 46) rfl slices_S64x512_o46_0_S1x512 (sl.v24 c arg5 harg5 arg6 harg6 x4 x5) (sl.v38 c arg4 harg4 arg5 harg5 arg6 harg6 arg7 harg7 x3 x4 x5 x6) (k0_pay9 (F := Ideal)) (sl.v578 c arg4 harg4 arg5 harg5 arg6 harg6 arg7 harg7 x3 x4 x5 x6) s j (qb_2_13 c arg4 harg4 arg5 harg5 arg6 harg6 arg7 harg7 x3 x4 x5 x6 s j))
theorem qa_2_15 (s : Fin 128) (j : Fin 512) : (sl.v598 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 32 15) :=
  (congrFun (qa_2_15_def c arg4 harg4 arg5 harg5 arg6 harg6 arg7 harg7 x3 x4 x5 x6) (ix2 s j)).trans (pickK_succ (k₀ := 32) (n := 14) (k := 47) rfl slices_S64x512_o47_0_S1x512 (sl.v24 c arg5 harg5 arg6 harg6 x4 x5) (sl.r_1 c arg4 harg4 arg5 harg5 arg6 harg6 arg7 harg7 x3 x4 x5 x6) (k0_pay9 (F := Ideal)) (sl.v586 c arg4 harg4 arg5 harg5 arg6 harg6 arg7 harg7 x3 x4 x5 x6) s j (qa_2_14 c arg4 harg4 arg5 harg5 arg6 harg6 arg7 harg7 x3 x4 x5 x6 s j))
theorem qb_2_15 (s : Fin 128) (j : Fin 512) : (sl.v602 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 32 15) :=
  (congrFun (qb_2_15_def c arg4 harg4 arg5 harg5 arg6 harg6 arg7 harg7 x3 x4 x5 x6) (ix2 s j)).trans (pickK_succ (k₀ := 32) (n := 14) (k := 47) rfl slices_S64x512_o47_0_S1x512 (sl.v24 c arg5 harg5 arg6 harg6 x4 x5) (sl.v38 c arg4 harg4 arg5 harg5 arg6 harg6 arg7 harg7 x3 x4 x5 x6) (k0_pay9 (F := Ideal)) (sl.v590 c arg4 harg4 arg5 harg5 arg6 harg6 arg7 harg7 x3 x4 x5 x6) s j (qb_2_14 c arg4 harg4 arg5 harg5 arg6 harg6 arg7 harg7 x3 x4 x5 x6 s j))
theorem qa_3_0 (s : Fin 128) (j : Fin 512) : (sl.v605 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 0) :=
  (congrFun (qa_3_0_def c arg4 harg4 arg5 harg5 arg6 harg6 arg7 harg7 x3 x4 x5 x6) (ix2 s j)).trans (rowK_apply slices_S64x512_o48_0_S1x512 (sl.r_1 c arg4 harg4 arg5 harg5 arg6 harg6 arg7 harg7 x3 x4 x5 x6) s j)
theorem qb_3_0 (s : Fin 128) (j : Fin 512) : (sl.v608 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 0) :=
  (congrFun (qb_3_0_def c arg4 harg4 arg5 harg5 arg6 harg6 arg7 harg7 x3 x4 x5 x6) (ix2 s j)).trans (rowK_apply slices_S64x512_o48_0_S1x512 (sl.v38 c arg4 harg4 arg5 harg5 arg6 harg6 arg7 harg7 x3 x4 x5 x6) s j)
theorem qa_3_1 (s : Fin 128) (j : Fin 512) : (sl.v616 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 1) :=
  (congrFun (qa_3_1_def c arg4 harg4 arg5 harg5 arg6 harg6 arg7 harg7 x3 x4 x5 x6) (ix2 s j)).trans (pickK_succ (k₀ := 48) (n := 0) (k := 49) rfl slices_S64x512_o49_0_S1x512 (sl.v24 c arg5 harg5 arg6 harg6 x4 x5) (sl.r_1 c arg4 harg4 arg5 harg5 arg6 harg6 arg7 harg7 x3 x4 x5 x6) (k0_pay9 (F := Ideal)) (sl.v605 c arg4 harg4 arg5 harg5 arg6 harg6 arg7 harg7 x3 x4 x5 x6) s j (qa_3_0 c arg4 harg4 arg5 harg5 arg6 harg6 arg7 harg7 x3 x4 x5 x6 s j))
theorem qb_3_1 (s : Fin 128) (j : Fin 512) : (sl.v620 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 1) :=
  (congrFun (qb_3_1_def c arg4 harg4 arg5 harg5 arg6 harg6 arg7 harg7 x3 x4 x5 x6) (ix2 s j)).trans (pickK_succ (k₀ := 48) (n := 0) (k := 49) rfl slices_S64x512_o49_0_S1x512 (sl.v24 c arg5 harg5 arg6 harg6 x4 x5) (sl.v38 c arg4 harg4 arg5 harg5 arg6 harg6 arg7 harg7 x3 x4 x5 x6) (k0_pay9 (F := Ideal)) (sl.v608 c arg4 harg4 arg5 harg5 arg6 harg6 arg7 harg7 x3 x4 x5 x6) s j (qb_3_0 c arg4 harg4 arg5 harg5 arg6 harg6 arg7 harg7 x3 x4 x5 x6 s j))
theorem qa_3_2 (s : Fin 128) (j : Fin 512) : (sl.v628 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 2) :=
  (congrFun (qa_3_2_def c arg4 harg4 arg5 harg5 arg6 harg6 arg7 harg7 x3 x4 x5 x6) (ix2 s j)).trans (pickK_succ (k₀ := 48) (n := 1) (k := 50) rfl slices_S64x512_o50_0_S1x512 (sl.v24 c arg5 harg5 arg6 harg6 x4 x5) (sl.r_1 c arg4 harg4 arg5 harg5 arg6 harg6 arg7 harg7 x3 x4 x5 x6) (k0_pay9 (F := Ideal)) (sl.v616 c arg4 harg4 arg5 harg5 arg6 harg6 arg7 harg7 x3 x4 x5 x6) s j (qa_3_1 c arg4 harg4 arg5 harg5 arg6 harg6 arg7 harg7 x3 x4 x5 x6 s j))
theorem qb_3_2 (s : Fin 128) (j : Fin 512) : (sl.v632 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 2) :=
  (congrFun (qb_3_2_def c arg4 harg4 arg5 harg5 arg6 harg6 arg7 harg7 x3 x4 x5 x6) (ix2 s j)).trans (pickK_succ (k₀ := 48) (n := 1) (k := 50) rfl slices_S64x512_o50_0_S1x512 (sl.v24 c arg5 harg5 arg6 harg6 x4 x5) (sl.v38 c arg4 harg4 arg5 harg5 arg6 harg6 arg7 harg7 x3 x4 x5 x6) (k0_pay9 (F := Ideal)) (sl.v620 c arg4 harg4 arg5 harg5 arg6 harg6 arg7 harg7 x3 x4 x5 x6) s j (qb_3_1 c arg4 harg4 arg5 harg5 arg6 harg6 arg7 harg7 x3 x4 x5 x6 s j))
theorem qa_3_3 (s : Fin 128) (j : Fin 512) : (sl.v640 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 3) :=
  (congrFun (qa_3_3_def c arg4 harg4 arg5 harg5 arg6 harg6 arg7 harg7 x3 x4 x5 x6) (ix2 s j)).trans (pickK_succ (k₀ := 48) (n := 2) (k := 51) rfl slices_S64x512_o51_0_S1x512 (sl.v24 c arg5 harg5 arg6 harg6 x4 x5) (sl.r_1 c arg4 harg4 arg5 harg5 arg6 harg6 arg7 harg7 x3 x4 x5 x6) (k0_pay9 (F := Ideal)) (sl.v628 c arg4 harg4 arg5 harg5 arg6 harg6 arg7 harg7 x3 x4 x5 x6) s j (qa_3_2 c arg4 harg4 arg5 harg5 arg6 harg6 arg7 harg7 x3 x4 x5 x6 s j))
theorem qb_3_3 (s : Fin 128) (j : Fin 512) : (sl.v644 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 3) :=
  (congrFun (qb_3_3_def c arg4 harg4 arg5 harg5 arg6 harg6 arg7 harg7 x3 x4 x5 x6) (ix2 s j)).trans (pickK_succ (k₀ := 48) (n := 2) (k := 51) rfl slices_S64x512_o51_0_S1x512 (sl.v24 c arg5 harg5 arg6 harg6 x4 x5) (sl.v38 c arg4 harg4 arg5 harg5 arg6 harg6 arg7 harg7 x3 x4 x5 x6) (k0_pay9 (F := Ideal)) (sl.v632 c arg4 harg4 arg5 harg5 arg6 harg6 arg7 harg7 x3 x4 x5 x6) s j (qb_3_2 c arg4 harg4 arg5 harg5 arg6 harg6 arg7 harg7 x3 x4 x5 x6 s j))
theorem qa_3_4 (s : Fin 128) (j : Fin 512) : (sl.v652 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 4) :=
  (congrFun (qa_3_4_def c arg4 harg4 arg5 harg5 arg6 harg6 arg7 harg7 x3 x4 x5 x6) (ix2 s j)).trans (pickK_succ (k₀ := 48) (n := 3) (k := 52) rfl slices_S64x512_o52_0_S1x512 (sl.v24 c arg5 harg5 arg6 harg6 x4 x5) (sl.r_1 c arg4 harg4 arg5 harg5 arg6 harg6 arg7 harg7 x3 x4 x5 x6) (k0_pay9 (F := Ideal)) (sl.v640 c arg4 harg4 arg5 harg5 arg6 harg6 arg7 harg7 x3 x4 x5 x6) s j (qa_3_3 c arg4 harg4 arg5 harg5 arg6 harg6 arg7 harg7 x3 x4 x5 x6 s j))
theorem qb_3_4 (s : Fin 128) (j : Fin 512) : (sl.v656 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 4) :=
  (congrFun (qb_3_4_def c arg4 harg4 arg5 harg5 arg6 harg6 arg7 harg7 x3 x4 x5 x6) (ix2 s j)).trans (pickK_succ (k₀ := 48) (n := 3) (k := 52) rfl slices_S64x512_o52_0_S1x512 (sl.v24 c arg5 harg5 arg6 harg6 x4 x5) (sl.v38 c arg4 harg4 arg5 harg5 arg6 harg6 arg7 harg7 x3 x4 x5 x6) (k0_pay9 (F := Ideal)) (sl.v644 c arg4 harg4 arg5 harg5 arg6 harg6 arg7 harg7 x3 x4 x5 x6) s j (qb_3_3 c arg4 harg4 arg5 harg5 arg6 harg6 arg7 harg7 x3 x4 x5 x6 s j))
theorem qa_3_5 (s : Fin 128) (j : Fin 512) : (sl.v664 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 5) :=
  (congrFun (qa_3_5_def c arg4 harg4 arg5 harg5 arg6 harg6 arg7 harg7 x3 x4 x5 x6) (ix2 s j)).trans (pickK_succ (k₀ := 48) (n := 4) (k := 53) rfl slices_S64x512_o53_0_S1x512 (sl.v24 c arg5 harg5 arg6 harg6 x4 x5) (sl.r_1 c arg4 harg4 arg5 harg5 arg6 harg6 arg7 harg7 x3 x4 x5 x6) (k0_pay9 (F := Ideal)) (sl.v652 c arg4 harg4 arg5 harg5 arg6 harg6 arg7 harg7 x3 x4 x5 x6) s j (qa_3_4 c arg4 harg4 arg5 harg5 arg6 harg6 arg7 harg7 x3 x4 x5 x6 s j))
theorem qb_3_5 (s : Fin 128) (j : Fin 512) : (sl.v668 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 5) :=
  (congrFun (qb_3_5_def c arg4 harg4 arg5 harg5 arg6 harg6 arg7 harg7 x3 x4 x5 x6) (ix2 s j)).trans (pickK_succ (k₀ := 48) (n := 4) (k := 53) rfl slices_S64x512_o53_0_S1x512 (sl.v24 c arg5 harg5 arg6 harg6 x4 x5) (sl.v38 c arg4 harg4 arg5 harg5 arg6 harg6 arg7 harg7 x3 x4 x5 x6) (k0_pay9 (F := Ideal)) (sl.v656 c arg4 harg4 arg5 harg5 arg6 harg6 arg7 harg7 x3 x4 x5 x6) s j (qb_3_4 c arg4 harg4 arg5 harg5 arg6 harg6 arg7 harg7 x3 x4 x5 x6 s j))
theorem qa_3_6 (s : Fin 128) (j : Fin 512) : (sl.v676 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 6) :=
  (congrFun (qa_3_6_def c arg4 harg4 arg5 harg5 arg6 harg6 arg7 harg7 x3 x4 x5 x6) (ix2 s j)).trans (pickK_succ (k₀ := 48) (n := 5) (k := 54) rfl slices_S64x512_o54_0_S1x512 (sl.v24 c arg5 harg5 arg6 harg6 x4 x5) (sl.r_1 c arg4 harg4 arg5 harg5 arg6 harg6 arg7 harg7 x3 x4 x5 x6) (k0_pay9 (F := Ideal)) (sl.v664 c arg4 harg4 arg5 harg5 arg6 harg6 arg7 harg7 x3 x4 x5 x6) s j (qa_3_5 c arg4 harg4 arg5 harg5 arg6 harg6 arg7 harg7 x3 x4 x5 x6 s j))
theorem qb_3_6 (s : Fin 128) (j : Fin 512) : (sl.v680 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 6) :=
  (congrFun (qb_3_6_def c arg4 harg4 arg5 harg5 arg6 harg6 arg7 harg7 x3 x4 x5 x6) (ix2 s j)).trans (pickK_succ (k₀ := 48) (n := 5) (k := 54) rfl slices_S64x512_o54_0_S1x512 (sl.v24 c arg5 harg5 arg6 harg6 x4 x5) (sl.v38 c arg4 harg4 arg5 harg5 arg6 harg6 arg7 harg7 x3 x4 x5 x6) (k0_pay9 (F := Ideal)) (sl.v668 c arg4 harg4 arg5 harg5 arg6 harg6 arg7 harg7 x3 x4 x5 x6) s j (qb_3_5 c arg4 harg4 arg5 harg5 arg6 harg6 arg7 harg7 x3 x4 x5 x6 s j))
theorem qa_3_7 (s : Fin 128) (j : Fin 512) : (sl.v688 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 7) :=
  (congrFun (qa_3_7_def c arg4 harg4 arg5 harg5 arg6 harg6 arg7 harg7 x3 x4 x5 x6) (ix2 s j)).trans (pickK_succ (k₀ := 48) (n := 6) (k := 55) rfl slices_S64x512_o55_0_S1x512 (sl.v24 c arg5 harg5 arg6 harg6 x4 x5) (sl.r_1 c arg4 harg4 arg5 harg5 arg6 harg6 arg7 harg7 x3 x4 x5 x6) (k0_pay9 (F := Ideal)) (sl.v676 c arg4 harg4 arg5 harg5 arg6 harg6 arg7 harg7 x3 x4 x5 x6) s j (qa_3_6 c arg4 harg4 arg5 harg5 arg6 harg6 arg7 harg7 x3 x4 x5 x6 s j))
theorem qb_3_7 (s : Fin 128) (j : Fin 512) : (sl.v692 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 7) :=
  (congrFun (qb_3_7_def c arg4 harg4 arg5 harg5 arg6 harg6 arg7 harg7 x3 x4 x5 x6) (ix2 s j)).trans (pickK_succ (k₀ := 48) (n := 6) (k := 55) rfl slices_S64x512_o55_0_S1x512 (sl.v24 c arg5 harg5 arg6 harg6 x4 x5) (sl.v38 c arg4 harg4 arg5 harg5 arg6 harg6 arg7 harg7 x3 x4 x5 x6) (k0_pay9 (F := Ideal)) (sl.v680 c arg4 harg4 arg5 harg5 arg6 harg6 arg7 harg7 x3 x4 x5 x6) s j (qb_3_6 c arg4 harg4 arg5 harg5 arg6 harg6 arg7 harg7 x3 x4 x5 x6 s j))
theorem qa_3_8 (s : Fin 128) (j : Fin 512) : (sl.v700 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 8) :=
  (congrFun (qa_3_8_def c arg4 harg4 arg5 harg5 arg6 harg6 arg7 harg7 x3 x4 x5 x6) (ix2 s j)).trans (pickK_succ (k₀ := 48) (n := 7) (k := 56) rfl slices_S64x512_o56_0_S1x512 (sl.v24 c arg5 harg5 arg6 harg6 x4 x5) (sl.r_1 c arg4 harg4 arg5 harg5 arg6 harg6 arg7 harg7 x3 x4 x5 x6) (k0_pay9 (F := Ideal)) (sl.v688 c arg4 harg4 arg5 harg5 arg6 harg6 arg7 harg7 x3 x4 x5 x6) s j (qa_3_7 c arg4 harg4 arg5 harg5 arg6 harg6 arg7 harg7 x3 x4 x5 x6 s j))
theorem qb_3_8 (s : Fin 128) (j : Fin 512) : (sl.v704 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 8) :=
  (congrFun (qb_3_8_def c arg4 harg4 arg5 harg5 arg6 harg6 arg7 harg7 x3 x4 x5 x6) (ix2 s j)).trans (pickK_succ (k₀ := 48) (n := 7) (k := 56) rfl slices_S64x512_o56_0_S1x512 (sl.v24 c arg5 harg5 arg6 harg6 x4 x5) (sl.v38 c arg4 harg4 arg5 harg5 arg6 harg6 arg7 harg7 x3 x4 x5 x6) (k0_pay9 (F := Ideal)) (sl.v692 c arg4 harg4 arg5 harg5 arg6 harg6 arg7 harg7 x3 x4 x5 x6) s j (qb_3_7 c arg4 harg4 arg5 harg5 arg6 harg6 arg7 harg7 x3 x4 x5 x6 s j))
theorem qa_3_9 (s : Fin 128) (j : Fin 512) : (sl.v712 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 9) :=
  (congrFun (qa_3_9_def c arg4 harg4 arg5 harg5 arg6 harg6 arg7 harg7 x3 x4 x5 x6) (ix2 s j)).trans (pickK_succ (k₀ := 48) (n := 8) (k := 57) rfl slices_S64x512_o57_0_S1x512 (sl.v24 c arg5 harg5 arg6 harg6 x4 x5) (sl.r_1 c arg4 harg4 arg5 harg5 arg6 harg6 arg7 harg7 x3 x4 x5 x6) (k0_pay9 (F := Ideal)) (sl.v700 c arg4 harg4 arg5 harg5 arg6 harg6 arg7 harg7 x3 x4 x5 x6) s j (qa_3_8 c arg4 harg4 arg5 harg5 arg6 harg6 arg7 harg7 x3 x4 x5 x6 s j))
theorem qb_3_9 (s : Fin 128) (j : Fin 512) : (sl.v716 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 9) :=
  (congrFun (qb_3_9_def c arg4 harg4 arg5 harg5 arg6 harg6 arg7 harg7 x3 x4 x5 x6) (ix2 s j)).trans (pickK_succ (k₀ := 48) (n := 8) (k := 57) rfl slices_S64x512_o57_0_S1x512 (sl.v24 c arg5 harg5 arg6 harg6 x4 x5) (sl.v38 c arg4 harg4 arg5 harg5 arg6 harg6 arg7 harg7 x3 x4 x5 x6) (k0_pay9 (F := Ideal)) (sl.v704 c arg4 harg4 arg5 harg5 arg6 harg6 arg7 harg7 x3 x4 x5 x6) s j (qb_3_8 c arg4 harg4 arg5 harg5 arg6 harg6 arg7 harg7 x3 x4 x5 x6 s j))
theorem qa_3_10 (s : Fin 128) (j : Fin 512) : (sl.v724 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 10) :=
  (congrFun (qa_3_10_def c arg4 harg4 arg5 harg5 arg6 harg6 arg7 harg7 x3 x4 x5 x6) (ix2 s j)).trans (pickK_succ (k₀ := 48) (n := 9) (k := 58) rfl slices_S64x512_o58_0_S1x512 (sl.v24 c arg5 harg5 arg6 harg6 x4 x5) (sl.r_1 c arg4 harg4 arg5 harg5 arg6 harg6 arg7 harg7 x3 x4 x5 x6) (k0_pay9 (F := Ideal)) (sl.v712 c arg4 harg4 arg5 harg5 arg6 harg6 arg7 harg7 x3 x4 x5 x6) s j (qa_3_9 c arg4 harg4 arg5 harg5 arg6 harg6 arg7 harg7 x3 x4 x5 x6 s j))
theorem qb_3_10 (s : Fin 128) (j : Fin 512) : (sl.v728 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 10) :=
  (congrFun (qb_3_10_def c arg4 harg4 arg5 harg5 arg6 harg6 arg7 harg7 x3 x4 x5 x6) (ix2 s j)).trans (pickK_succ (k₀ := 48) (n := 9) (k := 58) rfl slices_S64x512_o58_0_S1x512 (sl.v24 c arg5 harg5 arg6 harg6 x4 x5) (sl.v38 c arg4 harg4 arg5 harg5 arg6 harg6 arg7 harg7 x3 x4 x5 x6) (k0_pay9 (F := Ideal)) (sl.v716 c arg4 harg4 arg5 harg5 arg6 harg6 arg7 harg7 x3 x4 x5 x6) s j (qb_3_9 c arg4 harg4 arg5 harg5 arg6 harg6 arg7 harg7 x3 x4 x5 x6 s j))
theorem qa_3_11 (s : Fin 128) (j : Fin 512) : (sl.v736 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 11) :=
  (congrFun (qa_3_11_def c arg4 harg4 arg5 harg5 arg6 harg6 arg7 harg7 x3 x4 x5 x6) (ix2 s j)).trans (pickK_succ (k₀ := 48) (n := 10) (k := 59) rfl slices_S64x512_o59_0_S1x512 (sl.v24 c arg5 harg5 arg6 harg6 x4 x5) (sl.r_1 c arg4 harg4 arg5 harg5 arg6 harg6 arg7 harg7 x3 x4 x5 x6) (k0_pay9 (F := Ideal)) (sl.v724 c arg4 harg4 arg5 harg5 arg6 harg6 arg7 harg7 x3 x4 x5 x6) s j (qa_3_10 c arg4 harg4 arg5 harg5 arg6 harg6 arg7 harg7 x3 x4 x5 x6 s j))
theorem qb_3_11 (s : Fin 128) (j : Fin 512) : (sl.v740 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 11) :=
  (congrFun (qb_3_11_def c arg4 harg4 arg5 harg5 arg6 harg6 arg7 harg7 x3 x4 x5 x6) (ix2 s j)).trans (pickK_succ (k₀ := 48) (n := 10) (k := 59) rfl slices_S64x512_o59_0_S1x512 (sl.v24 c arg5 harg5 arg6 harg6 x4 x5) (sl.v38 c arg4 harg4 arg5 harg5 arg6 harg6 arg7 harg7 x3 x4 x5 x6) (k0_pay9 (F := Ideal)) (sl.v728 c arg4 harg4 arg5 harg5 arg6 harg6 arg7 harg7 x3 x4 x5 x6) s j (qb_3_10 c arg4 harg4 arg5 harg5 arg6 harg6 arg7 harg7 x3 x4 x5 x6 s j))
theorem qa_3_12 (s : Fin 128) (j : Fin 512) : (sl.v748 c arg4 harg4 arg5 harg5 arg6 harg6 arg7 harg7 x3 x4 x5 x6) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 12) :=
  (congrFun (qa_3_12_def c arg4 harg4 arg5 harg5 arg6 harg6 arg7 harg7 x3 x4 x5 x6) (ix2 s j)).trans (pickK_succ (k₀ := 48) (n := 11) (k := 60) rfl slices_S64x512_o60_0_S1x512 (sl.v24 c arg5 harg5 arg6 harg6 x4 x5) (sl.r_1 c arg4 harg4 arg5 harg5 arg6 harg6 arg7 harg7 x3 x4 x5 x6) (k0_pay9 (F := Ideal)) (sl.v736 c arg4 harg4 arg5 harg5 arg6 harg6 arg7 harg7 x3 x4 x5 x6) s j (qa_3_11 c arg4 harg4 arg5 harg5 arg6 harg6 arg7 harg7 x3 x4 x5 x6 s j))
theorem qb_3_12 (s : Fin 128) (j : Fin 512) : (sl.v752 c arg4 harg4 arg5 harg5 arg6 harg6 arg7 harg7 x3 x4 x5 x6) (ix2 s j) = edge (sl.v38 c arg4 harg4 arg5 harg5 arg6 harg6 arg7 harg7 x3 x4 x5 x6) j (pick (reached (sl.v24 c arg5 harg5 arg6 harg6 x4 x5) (k0_pay9 (F := Ideal)) s j) 48 12) :=
  (congrFun (qb_3_12_def c arg4 harg4 arg5 harg5 arg6 harg6 arg7 harg7 x3 x4 x5 x6) (ix2 s j)).trans (pickK_succ (k₀ := 48) (n := 11) (k := 60) rfl slices_S64x512_o60_0_S1x512 (sl.v24 c arg5 harg5 arg6 harg6 x4 x5) (sl.v38 c arg4 harg4 arg5 harg5 arg6 harg6 arg7 harg7 x3 x4 x5 x6) (k0_pay9 (F := Ideal)) (sl.v740 c arg4 harg4 arg5 harg5 arg6 harg6 arg7 harg7 x3 x4 x5 x6) s j (qb_3_11 c arg4 harg4 arg5 harg5 arg6 harg6 arg7 harg7 x3 x4 x5 x6 s j))
theorem qa_3_13 (s : Fin 128) (j : Fin 512) : (pickK 61 slices_S64x512_o61_0_S1x512 (sl.v24 c arg5 harg5 arg6 harg6 x4 x5) (sl.r_1 c arg4 harg4 arg5 harg5 arg6 harg6 arg7 harg7 x3 x4 x5 x6) (k0_pay9 (F := Ideal)) (sl.v748 c arg4 harg4 arg5 harg5 arg6 harg6 arg7 harg7 x3 x4 x5 x6)) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 13) :=
  pickK_succ (k₀ := 48) (n := 12) (k := 61) rfl slices_S64x512_o61_0_S1x512 (sl.v24 c arg5 harg5 arg6 harg6 x4 x5) (sl.r_1 c arg4 harg4 arg5 harg5 arg6 harg6 arg7 harg7 x3 x4 x5 x6) (k0_pay9 (F := Ideal)) (sl.v748 c arg4 harg4 arg5 harg5 arg6 harg6 arg7 harg7 x3 x4 x5 x6) s j (qa_3_12 c arg4 harg4 arg5 harg5 arg6 harg6 arg7 harg7 x3 x4 x5 x6 s j)
theorem qb_3_13 (s : Fin 128) (j : Fin 512) : (pickK 61 slices_S64x512_o61_0_S1x512 (sl.v24 c arg5 harg5 arg6 harg6 x4 x5) (sl.v38 c arg4 harg4 arg5 harg5 arg6 harg6 arg7 harg7 x3 x4 x5 x6) (k0_pay9 (F := Ideal)) (sl.v752 c arg4 harg4 arg5 harg5 arg6 harg6 arg7 harg7 x3 x4 x5 x6)) (ix2 s j) = edge (sl.v38 c arg4 harg4 arg5 harg5 arg6 harg6 arg7 harg7 x3 x4 x5 x6) j (pick (reached (sl.v24 c arg5 harg5 arg6 harg6 x4 x5) (k0_pay9 (F := Ideal)) s j) 48 13) :=
  pickK_succ (k₀ := 48) (n := 12) (k := 61) rfl slices_S64x512_o61_0_S1x512 (sl.v24 c arg5 harg5 arg6 harg6 x4 x5) (sl.v38 c arg4 harg4 arg5 harg5 arg6 harg6 arg7 harg7 x3 x4 x5 x6) (k0_pay9 (F := Ideal)) (sl.v752 c arg4 harg4 arg5 harg5 arg6 harg6 arg7 harg7 x3 x4 x5 x6) s j (qb_3_12 c arg4 harg4 arg5 harg5 arg6 harg6 arg7 harg7 x3 x4 x5 x6 s j)
theorem qa_3_14 (s : Fin 128) (j : Fin 512) : (pickK 62 slices_S64x512_o62_0_S1x512 (sl.v24 c arg5 harg5 arg6 harg6 x4 x5) (sl.r_1 c arg4 harg4 arg5 harg5 arg6 harg6 arg7 harg7 x3 x4 x5 x6) (k0_pay9 (F := Ideal)) (pickK 61 slices_S64x512_o61_0_S1x512 (sl.v24 c arg5 harg5 arg6 harg6 x4 x5) (sl.r_1 c arg4 harg4 arg5 harg5 arg6 harg6 arg7 harg7 x3 x4 x5 x6) (k0_pay9 (F := Ideal)) (sl.v748 c arg4 harg4 arg5 harg5 arg6 harg6 arg7 harg7 x3 x4 x5 x6))) (ix2 s j) = edge (sl.r_1 c arg4 harg4 arg5 harg5 arg6 harg6 arg7 harg7 x3 x4 x5 x6) j (pick (reached (sl.v24 c arg5 harg5 arg6 harg6 x4 x5) (k0_pay9 (F := Ideal)) s j) 48 14) :=
  pickK_succ (k₀ := 48) (n := 13) (k := 62) rfl slices_S64x512_o62_0_S1x512 (sl.v24 c arg5 harg5 arg6 harg6 x4 x5) (sl.r_1 c arg4 harg4 arg5 harg5 arg6 harg6 arg7 harg7 x3 x4 x5 x6) (k0_pay9 (F := Ideal)) (pickK 61 slices_S64x512_o61_0_S1x512 (sl.v24 c arg5 harg5 arg6 harg6 x4 x5) (sl.r_1 c arg4 harg4 arg5 harg5 arg6 harg6 arg7 harg7 x3 x4 x5 x6) (k0_pay9 (F := Ideal)) (sl.v748 c arg4 harg4 arg5 harg5 arg6 harg6 arg7 harg7 x3 x4 x5 x6)) s j (qa_3_13 c arg4 harg4 arg5 harg5 arg6 harg6 arg7 harg7 x3 x4 x5 x6 s j)
theorem qb_3_14 (s : Fin 128) (j : Fin 512) : (pickK 62 slices_S64x512_o62_0_S1x512 (sl.v24 c arg5 harg5 arg6 harg6 x4 x5) (sl.v38 c arg4 harg4 arg5 harg5 arg6 harg6 arg7 harg7 x3 x4 x5 x6) (k0_pay9 (F := Ideal)) (pickK 61 slices_S64x512_o61_0_S1x512 (sl.v24 c arg5 harg5 arg6 harg6 x4 x5) (sl.v38 c arg4 harg4 arg5 harg5 arg6 harg6 arg7 harg7 x3 x4 x5 x6) (k0_pay9 (F := Ideal)) (sl.v752 c arg4 harg4 arg5 harg5 arg6 harg6 arg7 harg7 x3 x4 x5 x6))) (ix2 s j) = edge (sl.v38 c arg4 harg4 arg5 harg5 arg6 harg6 arg7 harg7 x3 x4 x5 x6) j (pick (reached (sl.v24 c arg5 harg5 arg6 harg6 x4 x5) (k0_pay9 (F := Ideal)) s j) 48 14) :=
  pickK_succ (k₀ := 48) (n := 13) (k := 62) rfl slices_S64x512_o62_0_S1x512 (sl.v24 c arg5 harg5 arg6 harg6 x4 x5) (sl.v38 c arg4 harg4 arg5 harg5 arg6 harg6 arg7 harg7 x3 x4 x5 x6) (k0_pay9 (F := Ideal)) (pickK 61 slices_S64x512_o61_0_S1x512 (sl.v24 c arg5 harg5 arg6 harg6 x4 x5) (sl.v38 c arg4 harg4 arg5 harg5 arg6 harg6 arg7 harg7 x3 x4 x5 x6) (k0_pay9 (F := Ideal)) (sl.v752 c arg4 harg4 arg5 harg5 arg6 harg6 arg7 harg7 x3 x4 x5 x6)) s j (qb_3_13 c arg4 harg4 arg5 harg5 arg6 harg6 arg7 harg7 x3 x4 x5 x6 s j)

theorem samples_def : (sl.r_4 c arg4 harg4 arg5 harg5 arg6 harg6 arg7 harg7 x3 x4 x5 x6) = transpose S512x128 [1, 0]
    (addf (select (geK 32 slices_S64x512_o32_0_S1x512 (sl.v24 c arg5 harg5 arg6 harg6 x4 x5) (k0_pay9 (F := Ideal))) (select (geK 48 slices_S64x512_o48_0_S1x512 (sl.v24 c arg5 harg5 arg6 harg6 x4 x5) (k0_pay9 (F := Ideal))) (pickK 62 slices_S64x512_o62_0_S1x512 (sl.v24 c arg5 harg5 arg6 harg6 x4 x5) (sl.r_1 c arg4 harg4 arg5 harg5 arg6 harg6 arg7 harg7 x3 x4 x5 x6) (k0_pay9 (F := Ideal)) (pickK 61 slices_S64x512_o61_0_S1x512 (sl.v24 c arg5 harg5 arg6 harg6 x4 x5) (sl.r_1 c arg4 harg4 arg5 harg5 arg6 harg6 arg7 harg7 x3 x4 x5 x6) (k0_pay9 (F := Ideal)) (sl.v748 c arg4 harg4 arg5 harg5 arg6 harg6 arg7 harg7 x3 x4 x5 x6))) (sl.v598 c arg4 harg4 arg5 harg5 arg6 harg6 arg7 harg7 x3 x4 x5 x6)) (select (geK 16 slices_S64x512_o16_0_S1x512 (sl.v24 c arg5 harg5 arg6 harg6 x4 x5) (k0_pay9 (F := Ideal))) (sl.v412 c arg4 harg4 arg5 harg5 arg6 harg6 arg7 harg7 x3 x4 x5 x6) (sl.v226 c arg4 harg4 arg5 harg5 arg6 harg6 arg7 harg7 x3 x4 x5 x6)))
      (mulf (select (geK 32 slices_S64x512_o32_0_S1x512 (sl.v24 c arg5 harg5 arg6 harg6 x4 x5) (k0_pay9 (F := Ideal))) (select (geK 48 slices_S64x512_o48_0_S1x512 (sl.v24 c arg5 harg5 arg6 harg6 x4 x5) (k0_pay9 (F := Ideal))) (pickK 62 slices_S64x512_o62_0_S1x512 (sl.v24 c arg5 harg5 arg6 harg6 x4 x5) (sl.v38 c arg4 harg4 arg5 harg5 arg6 harg6 arg7 harg7 x3 x4 x5 x6) (k0_pay9 (F := Ideal)) (pickK 61 slices_S64x512_o61_0_S1x512 (sl.v24 c arg5 harg5 arg6 harg6 x4 x5) (sl.v38 c arg4 harg4 arg5 harg5 arg6 harg6 arg7 harg7 x3 x4 x5 x6) (k0_pay9 (F := Ideal)) (sl.v752 c arg4 harg4 arg5 harg5 arg6 harg6 arg7 harg7 x3 x4 x5 x6))) (sl.v602 c arg4 harg4 arg5 harg5 arg6 harg6 arg7 harg7 x3 x4 x5 x6)) (select (geK 16 slices_S64x512_o16_0_S1x512 (sl.v24 c arg5 harg5 arg6 harg6 x4 x5) (k0_pay9 (F := Ideal))) (sl.v416 c arg4 harg4 arg5 harg5 arg6 harg6 arg7 harg7 x3 x4 x5 x6) (sl.v230 c arg4 harg4 arg5 harg5 arg6 harg6 arg7 harg7 x3 x4 x5 x6))) (broadcastTo S128x512 (k0_pay9 (F := Ideal)) broadcasts_S128x1_S128x512))) transposes_S128x512_p1_0_S512x128 := rfl

theorem samples_at (s : Fin 128) (j : Fin 512) : (sl.r_4 c arg4 harg4 arg5 harg5 arg6 harg6 arg7 harg7 x3 x4 x5 x6) (ix2 j s)
    = edge (sl.r_1 c arg4 harg4 arg5 harg5 arg6 harg6 arg7 harg7 x3 x4 x5 x6) j (bin (reached (sl.v24 c arg5 harg5 arg6 harg6 x4 x5) (k0_pay9 (F := Ideal)) s j)) + edge (sl.v38 c arg4 harg4 arg5 harg5 arg6 harg6 arg7 harg7 x3 x4 x5 x6) j (bin (reached (sl.v24 c arg5 harg5 arg6 harg6 x4 x5) (k0_pay9 (F := Ideal)) s j)) * (k0_pay9 (F := Ideal)) (ix2 s 0) := by
  rw [samples_def]
  exact transposed_at (select (geK 32 slices_S64x512_o32_0_S1x512 (sl.v24 c arg5 harg5 arg6 harg6 x4 x5) (k0_pay9 (F := Ideal))) (select (geK 48 slices_S64x512_o48_0_S1x512 (sl.v24 c arg5 harg5 arg6 harg6 x4 x5) (k0_pay9 (F := Ideal))) (pickK 62 slices_S64x512_o62_0_S1x512 (sl.v24 c arg5 harg5 arg6 harg6 x4 x5) (sl.r_1 c arg4 harg4 arg5 harg5 arg6 harg6 arg7 harg7 x3 x4 x5 x6) (k0_pay9 (F := Ideal)) (pickK 61 slices_S64x512_o61_0_S1x512 (sl.v24 c arg5 harg5 arg6 harg6 x4 x5) (sl.r_1 c arg4 harg4 arg5 harg5 arg6 harg6 arg7 harg7 x3 x4 x5 x6) (k0_pay9 (F := Ideal)) (sl.v748 c arg4 harg4 arg5 harg5 arg6 harg6 arg7 harg7 x3 x4 x5 x6))) (sl.v598 c arg4 harg4 arg5 harg5 arg6 harg6 arg7 harg7 x3 x4 x5 x6)) (select (geK 16 slices_S64x512_o16_0_S1x512 (sl.v24 c arg5 harg5 arg6 harg6 x4 x5) (k0_pay9 (F := Ideal))) (sl.v412 c arg4 harg4 arg5 harg5 arg6 harg6 arg7 harg7 x3 x4 x5 x6) (sl.v226 c arg4 harg4 arg5 harg5 arg6 harg6 arg7 harg7 x3 x4 x5 x6))) (select (geK 32 slices_S64x512_o32_0_S1x512 (sl.v24 c arg5 harg5 arg6 harg6 x4 x5) (k0_pay9 (F := Ideal))) (select (geK 48 slices_S64x512_o48_0_S1x512 (sl.v24 c arg5 harg5 arg6 harg6 x4 x5) (k0_pay9 (F := Ideal))) (pickK 62 slices_S64x512_o62_0_S1x512 (sl.v24 c arg5 harg5 arg6 harg6 x4 x5) (sl.v38 c arg4 harg4 arg5 harg5 arg6 harg6 arg7 harg7 x3 x4 x5 x6) (k0_pay9 (F := Ideal)) (pickK 61 slices_S64x512_o61_0_S1x512 (sl.v24 c arg5 harg5 arg6 harg6 x4 x5) (sl.v38 c arg4 harg4 arg5 harg5 arg6 harg6 arg7 harg7 x3 x4 x5 x6) (k0_pay9 (F := Ideal)) (sl.v752 c arg4 harg4 arg5 harg5 arg6 harg6 arg7 harg7 x3 x4 x5 x6))) (sl.v602 c arg4 harg4 arg5 harg5 arg6 harg6 arg7 harg7 x3 x4 x5 x6)) (select (geK 16 slices_S64x512_o16_0_S1x512 (sl.v24 c arg5 harg5 arg6 harg6 x4 x5) (k0_pay9 (F := Ideal))) (sl.v416 c arg4 harg4 arg5 harg5 arg6 harg6 arg7 harg7 x3 x4 x5 x6) (sl.v230 c arg4 harg4 arg5 harg5 arg6 harg6 arg7 harg7 x3 x4 x5 x6))) (k0_pay9 (F := Ideal)) s j
    (bin_select (sl.v24 c arg5 harg5 arg6 harg6 x4 x5) (sl.r_1 c arg4 harg4 arg5 harg5 arg6 harg6 arg7 harg7 x3 x4 x5 x6) (k0_pay9 (F := Ideal)) (sl.v226 c arg4 harg4 arg5 harg5 arg6 harg6 arg7 harg7 x3 x4 x5 x6) (sl.v412 c arg4 harg4 arg5 harg5 arg6 harg6 arg7 harg7 x3 x4 x5 x6) (sl.v598 c arg4 harg4 arg5 harg5 arg6 harg6 arg7 harg7 x3 x4 x5 x6) (pickK 62 slices_S64x512_o62_0_S1x512 (sl.v24 c arg5 harg5 arg6 harg6 x4 x5) (sl.r_1 c arg4 harg4 arg5 harg5 arg6 harg6 arg7 harg7 x3 x4 x5 x6) (k0_pay9 (F := Ideal)) (pickK 61 slices_S64x512_o61_0_S1x512 (sl.v24 c arg5 harg5 arg6 harg6 x4 x5) (sl.r_1 c arg4 harg4 arg5 harg5 arg6 harg6 arg7 harg7 x3 x4 x5 x6) (k0_pay9 (F := Ideal)) (sl.v748 c arg4 harg4 arg5 harg5 arg6 harg6 arg7 harg7 x3 x4 x5 x6))) s j (qa_0_15 c arg4 harg4 arg5 harg5 arg6 harg6 arg7 harg7 x3 x4 x5 x6 s j) (qa_1_15 c arg4 harg4 arg5 harg5 arg6 harg6 arg7 harg7 x3 x4 x5 x6 s j) (qa_2_15 c arg4 harg4 arg5 harg5 arg6 harg6 arg7 harg7 x3 x4 x5 x6 s j) (qa_3_14 c arg4 harg4 arg5 harg5 arg6 harg6 arg7 harg7 x3 x4 x5 x6 s j))
    (bin_select (sl.v24 c arg5 harg5 arg6 harg6 x4 x5) (sl.v38 c arg4 harg4 arg5 harg5 arg6 harg6 arg7 harg7 x3 x4 x5 x6) (k0_pay9 (F := Ideal)) (sl.v230 c arg4 harg4 arg5 harg5 arg6 harg6 arg7 harg7 x3 x4 x5 x6) (sl.v416 c arg4 harg4 arg5 harg5 arg6 harg6 arg7 harg7 x3 x4 x5 x6) (sl.v602 c arg4 harg4 arg5 harg5 arg6 harg6 arg7 harg7 x3 x4 x5 x6) (pickK 62 slices_S64x512_o62_0_S1x512 (sl.v24 c arg5 harg5 arg6 harg6 x4 x5) (sl.v38 c arg4 harg4 arg5 harg5 arg6 harg6 arg7 harg7 x3 x4 x5 x6) (k0_pay9 (F := Ideal)) (pickK 61 slices_S64x512_o61_0_S1x512 (sl.v24 c arg5 harg5 arg6 harg6 x4 x5) (sl.v38 c arg4 harg4 arg5 harg5 arg6 harg6 arg7 harg7 x3 x4 x5 x6) (k0_pay9 (F := Ideal)) (sl.v752 c arg4 harg4 arg5 harg5 arg6 harg6 arg7 harg7 x3 x4 x5 x6))) s j (qb_0_15 c arg4 harg4 arg5 harg5 arg6 harg6 arg7 harg7 x3 x4 x5 x6 s j) (qb_1_15 c arg4 harg4 arg5 harg5 arg6 harg6 arg7 harg7 x3 x4 x5 x6 s j) (qb_2_15 c arg4 harg4 arg5 harg5 arg6 harg6 arg7 harg7 x3 x4 x5 x6 s j) (qb_3_14 c arg4 harg4 arg5 harg5 arg6 harg6 arg7 harg7 x3 x4 x5 x6 s j))

end Cert.Proof

end
-- ==== Proof.Tables.lean ====
/- The kernel's tables at an index: the cumulative weights, the midpoints, the slope and the intercept of each bin. -/
module

public import proofs.«01_k».proof.Proof.Samp
public import proofs.«01_k».proof.Proof.Ray
public import Idealize.ShloMosaic.Lib.Pipeline.Value
public import Idealize.ShloMosaic.Lib.StableHlo.Predicate

@[expose] public section

noncomputable section

namespace Cert.Proof

open Idealize.ShloMosaic Idealize.ShloMosaic.SortNet Idealize.ShloMosaic.Pointwise Cert.KernelIdeal Cert.KernelIdeal.Gen Cert.KernelIdeal.Gen.kernelRun0_A
open scoped BigOperators

theorem kone_val : (FloatOps.ofBits (F := Ideal) .f32 0x3F800000#32 : EReal) = ((1 : ℝ) : EReal) := by
  simp [Ideal.ofBits, Ideal.ieee, -EReal.coe_mul]; norm_num
theorem kzero_val : (FloatOps.ofBits (F := Ideal) .f32 0x00000000#32 : EReal) = ((0 : ℝ) : EReal) := by
  simp [Ideal.ofBits, Ideal.ieee, -EReal.coe_mul]
theorem keps_val : (FloatOps.ofBits (F := Ideal) .f32 0x3727C5AC#32 : EReal) = ((Ray.eps : ℝ) : EReal) := by
  simp [Ideal.ofBits, Ideal.ieee, -EReal.coe_mul, Ray.eps]; norm_num

theorem ksum_coe {n : ℕ} (f : Fin n → ℝ) : ∑ i, ((f i : ℝ) : EReal) = ((∑ i, f i : ℝ) : EReal) := by
  induction (Finset.univ : Finset (Fin n)) using Finset.cons_induction with
  | empty => simp
  | cons a s h ih => rw [Finset.sum_cons, Finset.sum_cons, ih, EReal.coe_add]

abbrev Mat := FVec Ideal S128x64 .f32

variable (c : Dev nD)
  (arg4 : Memref sig .tc .vmem S64x512 .f32) (harg4 : arg4.IsWhole)
  (arg5 : Memref sig .tc .vmem S64x512 .f32) (harg5 : arg5.IsWhole)
  (arg6 : Memref sig .tc .vmem S128x64 .f32) (harg6 : arg6.IsWhole)
  (arg7 : Memref sig .tc .vmem S128x64 .f32) (harg7 : arg7.IsWhole)
  (x3 : Vec Ideal S64x512 .f32) (x4 : Vec Ideal S64x512 .f32) (x5 : Vec Ideal S128x64 .f32) (x6 : Vec Ideal S128x64 .f32)

theorem v2_eq : sl.v2 c arg4 harg4 x3 = x3 := by
  unfold sl.v2
  rw [View.readAt_eq_ld, harg4.read_unread, View.ld_unit_zero (by decide), shapeCast_id]

theorem v4_eq : sl.v4 c arg5 harg5 x4 = x4 := by
  unfold sl.v4
  rw [View.readAt_eq_ld, harg5.read_unread, View.ld_unit_zero (by decide), shapeCast_id]

/-- The running-sum table as the body reads it. -/
abbrev tab6 (arg6 : Memref sig .tc .vmem S128x64 .f32) (harg6 : arg6.IsWhole) (x : Vec Ideal S128x64 .f32) : Vec Ideal S128x64 .f32 :=
  View.readAt (Elt Ideal) arg6.view (Rect.unit (s := S128x64) ![0, 0] S128x64.size inb_S128x64_S128x64_0_0).toLoadRect (harg6.unread x)

theorem v18_eq : tab6 arg6 harg6 x5 = x5 := by
  unfold tab6
  rw [View.readAt_eq_ld, harg6.read_unread, View.ld_unit_zero (by decide)]

/-- The midpoint table as the body reads it. -/
abbrev tab7 (arg7 : Memref sig .tc .vmem S128x64 .f32) (harg7 : arg7.IsWhole) (x : Vec Ideal S128x64 .f32) : Vec Ideal S128x64 .f32 :=
  View.readAt (Elt Ideal) arg7.view (Rect.unit (s := S128x64) ![0, 0] S128x64.size inb_S128x64_S128x64_0_0).toLoadRect (harg7.unread x)

theorem v30_eq : tab7 arg7 harg7 x6 = x6 := by
  unfold tab7
  rw [View.readAt_eq_ld, harg7.read_unread, View.ld_unit_zero (by decide)]

theorem mm_at (A : Mat) (X : Tab) (r : Fin 128) (j : Fin 512) :
    matmul dot_S128x64_S64x512_S128x512_1_0_0_1_n_n (some .fp32) A X (constant (F := Ideal) S128x512 .f32 0x00000000#32) (ix2 r j)
      = ∑ k : Fin 64, (A (ix2 r k) : EReal) * X (ix2 k j) := by
  pointwise

theorem v14_at (k : Fin 64) (j : Fin 512) : sl.v14 (ix2 k j) = BitVec.ofBool (decide (1 ≤ k.val ∧ k.val ≤ 62)) := by
  pointwise [sl.v14, sl.v10, sl.v5, sl.v6, sl.v8]
  revert k
  decide

theorem sel_at (p : IVec S64x512 1) (a b : Tab) (i : S64x512.Idx) : select p a b i = if p i = 1#1 then a i else b i := rfl
theorem add_at (a b : Tab) (i : S64x512.Idx) : addf a b i = (a i : EReal) + b i := rfl
theorem sub_at (a b : Tab) (i : S64x512.Idx) : subf a b i = (a i : EReal) - b i := rfl
theorem mul_at (a b : Tab) (i : S64x512.Idx) : mulf a b i = (a i : EReal) * b i := rfl
theorem div_at (a b : Tab) (i : S64x512.Idx) : divf a b i = Ideal.div (a i : EReal) (b i) := rfl

theorem v16_at (k : Fin 64) (j : Fin 512) : sl.v16 c arg5 harg5 x4 (ix2 k j)
    = if 1 ≤ k.val ∧ k.val ≤ 62 then (x4 (ix2 k j) : EReal) + ((Ray.eps : ℝ) : EReal) else ((0 : ℝ) : EReal) := by
  have e : sl.v16 c arg5 harg5 x4 (ix2 k j)
      = if sl.v14 (ix2 k j) = 1#1 then (sl.v4 c arg5 harg5 x4 (ix2 k j) : EReal) + (FloatOps.ofBits (F := Ideal) .f32 0x3727C5AC#32 : EReal)
        else (FloatOps.ofBits (F := Ideal) .f32 0x00000000#32 : EReal) := rfl
  rw [e, v14_at, v4_eq, keps_val, kzero_val]
  simp only [StableHlo.Predicate.ofBool_eq_one_iff, decide_eq_true_eq]

theorem slice_at (o : ℕ) (h : S128x512.Slices ![o, 0] S64x512) (X : Grd) (k : Fin 64) (j : Fin 512) (ho : o + k.val < 128) :
    extractStridedSlice S64x512 ![o, 0] X h (ix2 k j) = X (ix2 ⟨o + k.val, ho⟩ j) := by
  pointwise

theorem inv127_val : (Named.named (F := Ideal) Cert.KernelIdeal.κ "inv127" (φ := .f32) 0x3C010204#32 : EReal) = ((1 / 127 : ℝ) : EReal) :=
  IdealRules.named_const.ideal_named_scalar _ _ _ _ rfl

theorem pay11_at (s : Fin 128) : (k0_pay9 (F := Ideal)) (ix2 s 0) = ((Ray.quant s.val : ℝ) : EReal) := by
  have hs := s.isLt
  have e : (k0_pay9 (F := Ideal)) (ix2 s 0)
      = (((BitVec.ofNat 32 s.val).toInt : ℝ) : EReal) * (Named.named (F := Ideal) Cert.KernelIdeal.κ "inv127" (φ := .f32) 0x3C010204#32 : EReal) := by
    pointwise [k0_pay9]
    rfl
  have ei : (BitVec.ofNat 32 s.val).toInt = (s.val : ℤ) := by
    clear e hs
    revert s
    decide
  rw [e, inv127_val, ei, ← EReal.coe_mul]
  exact congrArg (fun x : ℝ => (x : EReal)) (by unfold Ray.quant; push_cast; ring)

/-- The last edge that row `r` of the table of cumulative weights adds up to. -/
def top (r : ℕ) : ℕ := if r < 64 then r else r - 63

/-- The edge whose midpoint row `r` of the table of midpoints holds. -/
def mid (r : ℕ) : ℕ := if r < 64 then r else min (r - 63) 62

section
variable {zr wr : ℕ → ℝ} {j : Fin 512}

theorem sum_top (w : ℕ → ℝ) (L : ℕ) :
    ∑ k : Fin 64, (if k.val ≤ L then (1 : ℝ) else 0) * (if 1 ≤ k.val ∧ k.val ≤ 62 then w k.val + Ray.eps else 0) = Ray.S w (min L 62) := by
  rw [Fin.sum_univ_eq_sum_range (fun k => (if k ≤ L then (1 : ℝ) else 0) * (if 1 ≤ k ∧ k ≤ 62 then w k + Ray.eps else 0)) 64,
    Finset.sum_range_succ']
  refine (add_eq_left.2 (by simp)).trans ?_
  unfold Ray.S
  rw [← Finset.sum_subset (s₁ := Finset.range (min L 62)) (s₂ := Finset.range 63)]
  · refine Finset.sum_congr rfl fun i hi => ?_
    have := Finset.mem_range.1 hi
    rw [if_pos (by omega), if_pos (by omega), one_mul]
  · exact Finset.range_mono (by omega)
  · intro i hi h
    have h1 := Finset.mem_range.1 hi
    have h2 : ¬ i < min L 62 := fun h' => h (Finset.mem_range.2 h')
    by_cases hL : i + 1 ≤ L
    · rw [if_neg (c := 1 ≤ i + 1 ∧ i + 1 ≤ 62) (by omega), mul_zero]
    · rw [if_neg hL, zero_mul]

theorem v19_at (hw : ∀ k : Fin 64, x4 (ix2 k j) = ((wr k.val : ℝ) : EReal))
    (hcm : ∀ (r : Fin 128) (k : Fin 64), x5 (ix2 r k) = ((if k.val ≤ top r.val then (1 : ℝ) else 0 : ℝ) : EReal)) (r : Fin 128) :
    sl.v18 c arg5 harg5 arg6 harg6 x4 x5 (ix2 r j) = ((Ray.S wr (min (top r.val) 62) : ℝ) : EReal) := by
  have e : sl.v18 c arg5 harg5 arg6 harg6 x4 x5 = matmul dot_S128x64_S64x512_S128x512_1_0_0_1_n_n (some .fp32) (tab6 arg6 harg6 x5) (sl.v16 c arg5 harg5 x4) (constant (F := Ideal) S128x512 .f32 0x00000000#32) := rfl
  rw [e, mm_at, v18_eq, ← sum_top, ← ksum_coe]
  refine Finset.sum_congr rfl fun k _ => ?_
  rw [hcm, v16_at, hw, EReal.coe_mul]
  congr 1
  split
  · rw [EReal.coe_add]
  · rfl

theorem v20_at (hw : ∀ k : Fin 64, x4 (ix2 k j) = ((wr k.val : ℝ) : EReal))
    (hcm : ∀ (r : Fin 128) (k : Fin 64), x5 (ix2 r k) = ((if k.val ≤ top r.val then (1 : ℝ) else 0 : ℝ) : EReal)) :
    sl.v19 c arg5 harg5 arg6 harg6 x4 x5 (ix2 0 j) = ((Ray.S wr 62 : ℝ) : EReal) := by
  have e : sl.v19 c arg5 harg5 arg6 harg6 x4 x5 (ix2 0 j) = sl.v18 c arg5 harg5 arg6 harg6 x4 x5 (ix2 ⟨63, by omega⟩ j) := by
    unfold sl.v19
    generalize sl.v18 c arg5 harg5 arg6 harg6 x4 x5 = X
    pointwise
  rw [e, v19_at c arg5 harg5 arg6 harg6 x4 x5 hw hcm]
  rfl

theorem v24_at (h0 : ∀ i, i < 64 → 0 ≤ wr i) (hw : ∀ k : Fin 64, x4 (ix2 k j) = ((wr k.val : ℝ) : EReal))
    (hcm : ∀ (r : Fin 128) (k : Fin 64), x5 (ix2 r k) = ((if k.val ≤ top r.val then (1 : ℝ) else 0 : ℝ) : EReal)) (k : Fin 64) :
    sl.v23 c arg5 harg5 arg6 harg6 x4 x5 (ix2 k j) = ((1 / Ray.S wr 62 : ℝ) : EReal) := by
  have e : sl.v23 c arg5 harg5 arg6 harg6 x4 x5 (ix2 k j)
      = Ideal.div (sl.v20 (F := Ideal) (ix2 0 j) : EReal) (sl.v19 c arg5 harg5 arg6 harg6 x4 x5 (ix2 0 j)) := by
    unfold sl.v23 sl.v21
    generalize sl.v19 c arg5 harg5 arg6 harg6 x4 x5 = X
    pointwise
  have e1 : (sl.v20 (F := Ideal) (ix2 0 j) : EReal) = ((1 : ℝ) : EReal) := kone_val
  rw [e, v20_at c arg5 harg5 arg6 harg6 x4 x5 hw hcm, e1, Ideal.div_coe (Ray.S_pos h0).ne', ← EReal.coe_mul, one_mul]

theorem v25_at (h0 : ∀ i, i < 64 → 0 ≤ wr i) (hw : ∀ k : Fin 64, x4 (ix2 k j) = ((wr k.val : ℝ) : EReal))
    (hcm : ∀ (r : Fin 128) (k : Fin 64), x5 (ix2 r k) = ((if k.val ≤ top r.val then (1 : ℝ) else 0 : ℝ) : EReal)) (k : Fin 64) :
    sl.v24 c arg5 harg5 arg6 harg6 x4 x5 (ix2 k j) = ((Ray.C wr (min k.val 62) : ℝ) : EReal) := by
  have e : sl.v24 c arg5 harg5 arg6 harg6 x4 x5 = mulf (extractStridedSlice S64x512 ![0, 0] (sl.v18 c arg5 harg5 arg6 harg6 x4 x5) slices_S128x512_o0_0_S64x512) (sl.v23 c arg5 harg5 arg6 harg6 x4 x5) := rfl
  have hk := k.isLt
  rw [e, mul_at, slice_at 0 _ _ k j (by omega), v24_at c arg5 harg5 arg6 harg6 x4 x5 h0 hw hcm, v19_at c arg5 harg5 arg6 harg6 x4 x5 hw hcm, ← EReal.coe_mul]
  have ht : top (0 + k.val) = k.val := by unfold top; rw [Nat.zero_add, if_pos hk]
  show ((Ray.S wr (min (top (0 + k.val)) 62) * (1 / Ray.S wr 62) : ℝ) : EReal) = _
  rw [ht]
  exact congrArg (fun x : ℝ => (x : EReal)) (by unfold Ray.C; ring)

theorem v28_at (h0 : ∀ i, i < 64 → 0 ≤ wr i) (hw : ∀ k : Fin 64, x4 (ix2 k j) = ((wr k.val : ℝ) : EReal))
    (hcm : ∀ (r : Fin 128) (k : Fin 64), x5 (ix2 r k) = ((if k.val ≤ top r.val then (1 : ℝ) else 0 : ℝ) : EReal)) (k : Fin 64) :
    sl.v27 c arg5 harg5 arg6 harg6 x4 x5 (ix2 k j) = ((Ray.C wr (min (k.val + 1) 62) : ℝ) : EReal) := by
  have e : sl.v27 c arg5 harg5 arg6 harg6 x4 x5 = mulf (extractStridedSlice S64x512 ![64, 0] (sl.v18 c arg5 harg5 arg6 harg6 x4 x5) slices_S128x512_o64_0_S64x512) (sl.v23 c arg5 harg5 arg6 harg6 x4 x5) := rfl
  have hk := k.isLt
  rw [e, mul_at, slice_at 64 _ _ k j (by omega), v24_at c arg5 harg5 arg6 harg6 x4 x5 h0 hw hcm, v19_at c arg5 harg5 arg6 harg6 x4 x5 hw hcm, ← EReal.coe_mul]
  have ht : top (64 + k.val) = k.val + 1 := by unfold top; rw [if_neg (by omega)]; omega
  show ((Ray.S wr (min (top (64 + k.val)) 62) * (1 / Ray.S wr 62) : ℝ) : EReal) = _
  rw [ht]
  exact congrArg (fun x : ℝ => (x : EReal)) (by unfold Ray.C; ring)

theorem v38_at (h0 : ∀ i, i < 64 → 0 ≤ wr i) (hw : ∀ k : Fin 64, x4 (ix2 k j) = ((wr k.val : ℝ) : EReal))
    (hcm : ∀ (r : Fin 128) (k : Fin 64), x5 (ix2 r k) = ((if k.val ≤ top r.val then (1 : ℝ) else 0 : ℝ) : EReal)) (k : Fin 64) (hk : k.val ≤ 62) :
    sl.v36 c arg5 harg5 arg6 harg6 x4 x5 (ix2 k j) = ((Ray.den wr k.val : ℝ) : EReal) := by
  have e34 : sl.v32 c arg5 harg5 arg6 harg6 x4 x5 (ix2 k j) = ((Ray.C wr (min (k.val + 1) 62) - Ray.C wr k.val : ℝ) : EReal) := by
    have e : sl.v32 c arg5 harg5 arg6 harg6 x4 x5 = subf (sl.v27 c arg5 harg5 arg6 harg6 x4 x5) (sl.v24 c arg5 harg5 arg6 harg6 x4 x5) := rfl
    rw [e, sub_at, v28_at c arg5 harg5 arg6 harg6 x4 x5 h0 hw hcm, v25_at c arg5 harg5 arg6 harg6 x4 x5 h0 hw hcm, Nat.min_eq_left hk, ← EReal.coe_sub]
  have e : sl.v36 c arg5 harg5 arg6 harg6 x4 x5 = select (cmpf .olt (sl.v32 c arg5 harg5 arg6 harg6 x4 x5) sl.v11) (broadcast S64x512 sl.cst_9) (sl.v32 c arg5 harg5 arg6 harg6 x4 x5) := rfl
  have ec : ∀ (a b : Tab) (i : S64x512.Idx), (cmpf .olt a b i = 1#1) ↔ ((a i : EReal) < b i) := fun a b i => by
    show BitVec.ofBool (decide ((a i : EReal) < b i)) = 1#1 ↔ _
    rw [StableHlo.Predicate.ofBool_eq_one_iff, decide_eq_true_eq]
  have e11 : (sl.v11 (F := Ideal) (ix2 k j) : EReal) = ((Ray.eps : ℝ) : EReal) := keps_val
  have e1 : ((broadcast S64x512 (sl.cst_9 (F := Ideal)) : Tab) (ix2 k j) : EReal) = ((1 : ℝ) : EReal) := kone_val
  rw [e, sel_at, e34, e1]
  simp only [ec, e34, e11, EReal.coe_lt_coe_iff]
  unfold Ray.den
  split <;> rfl

theorem mm_row (b : ℕ → ℝ) (z : ℕ → ℝ) (q : ℕ) (hq : q ≤ 62) (hb : ∀ k, b k = 1 / 2 * ((if k = q then 1 else 0) + (if k = q + 1 then 1 else 0))) :
    ∑ k : Fin 64, b k.val * z k.val = Ray.B z q := by
  rw [Fin.sum_univ_eq_sum_range (fun k => b k * z k) 64]
  have e : ∀ k, b k * z k = (if k = q then 1 / 2 * z q else 0) + (if k = q + 1 then 1 / 2 * z (q + 1) else 0) := fun k => by
    rw [hb]
    by_cases h1 : k = q
    · subst h1; simp
    · by_cases h2 : k = q + 1
      · subst h2; simp
      · simp [h1, h2]
  simp only [e, Finset.sum_add_distrib]
  rw [Finset.sum_ite_eq' , Finset.sum_ite_eq', if_pos (Finset.mem_range.2 (by omega)), if_pos (Finset.mem_range.2 (by omega))]
  unfold Ray.B
  ring

/-- An entry of the table that averages two neighbouring depths. -/
def half (r k : ℕ) : ℝ := if r < 127 then 1 / 2 * ((if k = mid r then 1 else 0) + (if k = mid r + 1 then 1 else 0)) else 0

theorem v31_at (hz : ∀ k : Fin 64, x3 (ix2 k j) = ((zr k.val : ℝ) : EReal))
    (hbm : ∀ (r : Fin 128) (k : Fin 64), x6 (ix2 r k) = ((half r.val k.val : ℝ) : EReal)) (r : Fin 128) (hr : r.val < 127) (hr' : mid r.val ≤ 62) :
    sl.v29 c arg4 harg4 arg7 harg7 x3 x6 (ix2 r j) = ((Ray.B zr (mid r.val) : ℝ) : EReal) := by
  have e : sl.v29 c arg4 harg4 arg7 harg7 x3 x6 = matmul dot_S128x64_S64x512_S128x512_1_0_0_1_n_n (some .fp32) (tab7 arg7 harg7 x6) (sl.v2 c arg4 harg4 x3) (constant (F := Ideal) S128x512 .f32 0x00000000#32) := rfl
  rw [e, mm_at, v30_eq, v2_eq, ← mm_row (half r.val) zr (mid r.val) hr' (fun k => by unfold half; rw [if_pos hr]), ← ksum_coe]
  refine Finset.sum_congr rfl fun k _ => ?_
  rw [hbm, hz, EReal.coe_mul]

theorem v32_at (hz : ∀ k : Fin 64, x3 (ix2 k j) = ((zr k.val : ℝ) : EReal))
    (hbm : ∀ (r : Fin 128) (k : Fin 64), x6 (ix2 r k) = ((half r.val k.val : ℝ) : EReal)) (k : Fin 64) (hk : k.val ≤ 62) :
    sl.v30 c arg4 harg4 arg7 harg7 x3 x6 (ix2 k j) = ((Ray.B zr k.val : ℝ) : EReal) := by
  have e : sl.v30 c arg4 harg4 arg7 harg7 x3 x6 = extractStridedSlice S64x512 ![0, 0] (sl.v29 c arg4 harg4 arg7 harg7 x3 x6) slices_S128x512_o0_0_S64x512 := rfl
  have ht : mid (0 + k.val) = k.val := by unfold mid; rw [Nat.zero_add, if_pos (by omega)]
  rw [e, slice_at 0 _ _ k j (by omega), v31_at c arg4 harg4 arg7 harg7 x3 x6 hz hbm _ (by show 0 + k.val < 127; omega) (by show mid (0 + k.val) ≤ 62; omega)]
  show ((Ray.B zr (mid (0 + k.val)) : ℝ) : EReal) = _
  rw [ht]

theorem v33_at (hz : ∀ k : Fin 64, x3 (ix2 k j) = ((zr k.val : ℝ) : EReal))
    (hbm : ∀ (r : Fin 128) (k : Fin 64), x6 (ix2 r k) = ((half r.val k.val : ℝ) : EReal)) (k : Fin 64) (hk : k.val ≤ 62) :
    sl.v31 c arg4 harg4 arg7 harg7 x3 x6 (ix2 k j) = ((Ray.B zr (min (k.val + 1) 62) : ℝ) : EReal) := by
  have e : sl.v31 c arg4 harg4 arg7 harg7 x3 x6 = extractStridedSlice S64x512 ![64, 0] (sl.v29 c arg4 harg4 arg7 harg7 x3 x6) slices_S128x512_o64_0_S64x512 := rfl
  have ht : mid (64 + k.val) = min (k.val + 1) 62 := by unfold mid; rw [if_neg (by omega)]; omega
  rw [e, slice_at 64 _ _ k j (by omega), v31_at c arg4 harg4 arg7 harg7 x3 x6 hz hbm _ (by show 64 + k.val < 127; omega) (by show mid (64 + k.val) ≤ 62; omega)]
  show ((Ray.B zr (mid (64 + k.val)) : ℝ) : EReal) = _
  rw [ht]

theorem r1_at (hz : ∀ k : Fin 64, x3 (ix2 k j) = ((zr k.val : ℝ) : EReal)) (h0 : ∀ i, i < 64 → 0 ≤ wr i) (hw : ∀ k : Fin 64, x4 (ix2 k j) = ((wr k.val : ℝ) : EReal))
    (hcm : ∀ (r : Fin 128) (k : Fin 64), x5 (ix2 r k) = ((if k.val ≤ top r.val then (1 : ℝ) else 0 : ℝ) : EReal))
    (hbm : ∀ (r : Fin 128) (k : Fin 64), x6 (ix2 r k) = ((half r.val k.val : ℝ) : EReal)) (k : Fin 64) (hk : k.val ≤ 62) :
    sl.v38 c arg4 harg4 arg5 harg5 arg6 harg6 arg7 harg7 x3 x4 x5 x6 (ix2 k j)
      = (((Ray.B zr (min (k.val + 1) 62) - Ray.B zr k.val) / Ray.den wr k.val : ℝ) : EReal) := by
  have e : sl.v38 c arg4 harg4 arg5 harg5 arg6 harg6 arg7 harg7 x3 x4 x5 x6
      = divf (subf (sl.v31 c arg4 harg4 arg7 harg7 x3 x6) (sl.v30 c arg4 harg4 arg7 harg7 x3 x6)) (sl.v36 c arg5 harg5 arg6 harg6 x4 x5) := rfl
  rw [e, div_at, sub_at, v33_at c arg4 harg4 arg7 harg7 x3 x6 hz hbm k hk, v32_at c arg4 harg4 arg7 harg7 x3 x6 hz hbm k hk,
    v38_at c arg5 harg5 arg6 harg6 x4 x5 h0 hw hcm k hk, ← EReal.coe_sub, Ideal.div_coe (Ray.den_ne wr k.val), ← EReal.coe_mul]
  exact congrArg (fun x : ℝ => (x : EReal)) (by ring)

theorem r2_at (hz : ∀ k : Fin 64, x3 (ix2 k j) = ((zr k.val : ℝ) : EReal)) (h0 : ∀ i, i < 64 → 0 ≤ wr i) (hw : ∀ k : Fin 64, x4 (ix2 k j) = ((wr k.val : ℝ) : EReal))
    (hcm : ∀ (r : Fin 128) (k : Fin 64), x5 (ix2 r k) = ((if k.val ≤ top r.val then (1 : ℝ) else 0 : ℝ) : EReal))
    (hbm : ∀ (r : Fin 128) (k : Fin 64), x6 (ix2 r k) = ((half r.val k.val : ℝ) : EReal)) (k : Fin 64) (hk : k.val ≤ 62) :
    sl.r_1 c arg4 harg4 arg5 harg5 arg6 harg6 arg7 harg7 x3 x4 x5 x6 (ix2 k j)
      = ((Ray.B zr k.val - Ray.C wr k.val * ((Ray.B zr (min (k.val + 1) 62) - Ray.B zr k.val) / Ray.den wr k.val) : ℝ) : EReal) := by
  have e : sl.r_1 c arg4 harg4 arg5 harg5 arg6 harg6 arg7 harg7 x3 x4 x5 x6
      = subf (sl.v30 c arg4 harg4 arg7 harg7 x3 x6) (mulf (sl.v24 c arg5 harg5 arg6 harg6 x4 x5) (sl.v38 c arg4 harg4 arg5 harg5 arg6 harg6 arg7 harg7 x3 x4 x5 x6)) := rfl
  rw [e, sub_at, mul_at, r1_at c arg4 harg4 arg5 harg5 arg6 harg6 arg7 harg7 x3 x4 x5 x6 hz h0 hw hcm hbm k hk,
    v32_at c arg4 harg4 arg7 harg7 x3 x6 hz hbm k hk, v25_at c arg5 harg5 arg6 harg6 x4 x5 h0 hw hcm, Nat.min_eq_left hk, ← EReal.coe_mul, ← EReal.coe_sub]

theorem edge_small (A : Tab) (k : ℕ) (hk : k ≤ 62) : edge A j k = A (ix2 (⟨k, by omega⟩ : Fin 64) j) := by
  unfold edge
  exact congrArg (fun q => A (ix2 q j)) (Fin.ext (Nat.mod_eq_of_lt (by omega)))

/-- A sample of the kernel is the inverse of the ray's distribution at the sample's quantile. -/
theorem kSamp_at (hz : ∀ k : Fin 64, x3 (ix2 k j) = ((zr k.val : ℝ) : EReal)) (h0 : ∀ i, i < 64 → 0 ≤ wr i) (hw : ∀ k : Fin 64, x4 (ix2 k j) = ((wr k.val : ℝ) : EReal))
    (hcm : ∀ (r : Fin 128) (k : Fin 64), x5 (ix2 r k) = ((if k.val ≤ top r.val then (1 : ℝ) else 0 : ℝ) : EReal))
    (hbm : ∀ (r : Fin 128) (k : Fin 64), x6 (ix2 r k) = ((half r.val k.val : ℝ) : EReal)) (s : Fin 128) :
    sl.r_4 c arg4 harg4 arg5 harg5 arg6 harg6 arg7 harg7 x3 x4 x5 x6 (ix2 j s) = ((Ray.inv zr wr (Ray.quant s.val) : ℝ) : EReal) := by
  have hb : bin (reached (sl.v24 c arg5 harg5 arg6 harg6 x4 x5) (k0_pay9 (F := Ideal)) s j) = Ray.last wr (Ray.quant s.val) := by
    refine bin_eq _ _ (Ray.last_le wr _) fun k hk => ?_
    unfold reached
    rw [edge_small _ k hk, v25_at c arg5 harg5 arg6 harg6 x4 x5 h0 hw hcm, pay11_at, EReal.coe_le_coe_iff]
    show Ray.C wr (min k 62) ≤ _ ↔ _
    rw [Nat.min_eq_left hk]
    exact Ray.last_iff h0 (Ray.quant_nonneg _) hk
  have hl := Ray.last_le wr (Ray.quant s.val)
  rw [samples_at c arg4 harg4 arg5 harg5 arg6 harg6 arg7 harg7 x3 x4 x5 x6 s j, hb, Ray.inv_eq]
  generalize Ray.last wr (Ray.quant s.val) = L at hl ⊢
  rw [edge_small _ L hl, edge_small _ L hl, r1_at c arg4 harg4 arg5 harg5 arg6 harg6 arg7 harg7 x3 x4 x5 x6 hz h0 hw hcm hbm _ hl,
    r2_at c arg4 harg4 arg5 harg5 arg6 harg6 arg7 harg7 x3 x4 x5 x6 hz h0 hw hcm hbm _ hl, pay11_at, ← EReal.coe_mul, ← EReal.coe_add]

end

end Cert.Proof
-- ==== Proof.LitRow.lean ====
/- What the words of the kernel's four literal tables are to be, a row at a time. -/
module

public import proofs.«01_k».proof.KernelIdeal

@[expose] public section

set_option maxRecDepth 100000

namespace Cert.Proof

open Idealize.ShloMosaic Cert.KernelIdeal

/-- Row `n` of the running-sum table: ones up to the diagonal, in the second half up to one past it. -/
def Row0 (n : ℕ) : Prop := ∀ k : Fin 64, lit0t (n * 64 + k.val)
    = if k.val ≤ (if n < 64 then n else n - 63) then 0x3F800000#32 else 0x00000000#32

/-- Row `n` of the midpoint table: a half at an edge and at the next one; the last row is empty. -/
def Row1 (n : ℕ) : Prop := ∀ k : Fin 64, lit1t (n * 64 + k.val)
    = if n < 127 ∧ (k.val = (if n < 64 then n else min (n - 63) 62)
        ∨ k.val = (if n < 64 then n else min (n - 63) 62) + 1) then 0x3F000000#32 else 0x00000000#32

/-- Row `n` of the table that tells an output column its depth. -/
def Row2 (n : ℕ) : Prop := ∀ t : Fin 576, lit2t (n * 576 + t.val)
    = if n = t.val / 3 then 0x3F800000#32 else 0x00000000#32

/-- Row `n` of the table that tells an output column its coordinate. -/
def Row3 (n : ℕ) : Prop := ∀ t : Fin 576, lit3t (n * 576 + t.val)
    = if n = t.val % 3 then 0x3F800000#32 else 0x00000000#32

end Cert.Proof

end
-- ==== Proof.LitA.lean ====
/- The running-sum table, the midpoint table and the coordinate table, row by row. -/
module

public import proofs.«01_k».proof.Proof.LitRow

@[expose] public section

set_option maxRecDepth 100000

namespace Cert.Proof

open Idealize.ShloMosaic Cert.KernelIdeal

theorem row0_0 : Row0 0 := by unfold Row0; decide +kernel
theorem row0_1 : Row0 1 := by unfold Row0; decide +kernel
theorem row0_2 : Row0 2 := by unfold Row0; decide +kernel
theorem row0_3 : Row0 3 := by unfold Row0; decide +kernel
theorem row0_4 : Row0 4 := by unfold Row0; decide +kernel
theorem row0_5 : Row0 5 := by unfold Row0; decide +kernel
theorem row0_6 : Row0 6 := by unfold Row0; decide +kernel
theorem row0_7 : Row0 7 := by unfold Row0; decide +kernel
theorem row0_8 : Row0 8 := by unfold Row0; decide +kernel
theorem row0_9 : Row0 9 := by unfold Row0; decide +kernel
theorem row0_10 : Row0 10 := by unfold Row0; decide +kernel
theorem row0_11 : Row0 11 := by unfold Row0; decide +kernel
theorem row0_12 : Row0 12 := by unfold Row0; decide +kernel
theorem row0_13 : Row0 13 := by unfold Row0; decide +kernel
theorem row0_14 : Row0 14 := by unfold Row0; decide +kernel
theorem row0_15 : Row0 15 := by unfold Row0; decide +kernel
theorem row0_16 : Row0 16 := by unfold Row0; decide +kernel
theorem row0_17 : Row0 17 := by unfold Row0; decide +kernel
theorem row0_18 : Row0 18 := by unfold Row0; decide +kernel
theorem row0_19 : Row0 19 := by unfold Row0; decide +kernel
theorem row0_20 : Row0 20 := by unfold Row0; decide +kernel
theorem row0_21 : Row0 21 := by unfold Row0; decide +kernel
theorem row0_22 : Row0 22 := by unfold Row0; decide +kernel
theorem row0_23 : Row0 23 := by unfold Row0; decide +kernel
theorem row0_24 : Row0 24 := by unfold Row0; decide +kernel
theorem row0_25 : Row0 25 := by unfold Row0; decide +kernel
theorem row0_26 : Row0 26 := by unfold Row0; decide +kernel
theorem row0_27 : Row0 27 := by unfold Row0; decide +kernel
theorem row0_28 : Row0 28 := by unfold Row0; decide +kernel
theorem row0_29 : Row0 29 := by unfold Row0; decide +kernel
theorem row0_30 : Row0 30 := by unfold Row0; decide +kernel
theorem row0_31 : Row0 31 := by unfold Row0; decide +kernel
theorem row0_32 : Row0 32 := by unfold Row0; decide +kernel
theorem row0_33 : Row0 33 := by unfold Row0; decide +kernel
theorem row0_34 : Row0 34 := by unfold Row0; decide +kernel
theorem row0_35 : Row0 35 := by unfold Row0; decide +kernel
theorem row0_36 : Row0 36 := by unfold Row0; decide +kernel
theorem row0_37 : Row0 37 := by unfold Row0; decide +kernel
theorem row0_38 : Row0 38 := by unfold Row0; decide +kernel
theorem row0_39 : Row0 39 := by unfold Row0; decide +kernel
theorem row0_40 : Row0 40 := by unfold Row0; decide +kernel
theorem row0_41 : Row0 41 := by unfold Row0; decide +kernel
theorem row0_42 : Row0 42 := by unfold Row0; decide +kernel
theorem row0_43 : Row0 43 := by unfold Row0; decide +kernel
theorem row0_44 : Row0 44 := by unfold Row0; decide +kernel
theorem row0_45 : Row0 45 := by unfold Row0; decide +kernel
theorem row0_46 : Row0 46 := by unfold Row0; decide +kernel
theorem row0_47 : Row0 47 := by unfold Row0; decide +kernel
theorem row0_48 : Row0 48 := by unfold Row0; decide +kernel
theorem row0_49 : Row0 49 := by unfold Row0; decide +kernel
theorem row0_50 : Row0 50 := by unfold Row0; decide +kernel
theorem row0_51 : Row0 51 := by unfold Row0; decide +kernel
theorem row0_52 : Row0 52 := by unfold Row0; decide +kernel
theorem row0_53 : Row0 53 := by unfold Row0; decide +kernel
theorem row0_54 : Row0 54 := by unfold Row0; decide +kernel
theorem row0_55 : Row0 55 := by unfold Row0; decide +kernel
theorem row0_56 : Row0 56 := by unfold Row0; decide +kernel
theorem row0_57 : Row0 57 := by unfold Row0; decide +kernel
theorem row0_58 : Row0 58 := by unfold Row0; decide +kernel
theorem row0_59 : Row0 59 := by unfold Row0; decide +kernel
theorem row0_60 : Row0 60 := by unfold Row0; decide +kernel
theorem row0_61 : Row0 61 := by unfold Row0; decide +kernel
theorem row0_62 : Row0 62 := by unfold Row0; decide +kernel
theorem row0_63 : Row0 63 := by unfold Row0; decide +kernel
theorem row0_64 : Row0 64 := by unfold Row0; decide +kernel
theorem row0_65 : Row0 65 := by unfold Row0; decide +kernel
theorem row0_66 : Row0 66 := by unfold Row0; decide +kernel
theorem row0_67 : Row0 67 := by unfold Row0; decide +kernel
theorem row0_68 : Row0 68 := by unfold Row0; decide +kernel
theorem row0_69 : Row0 69 := by unfold Row0; decide +kernel
theorem row0_70 : Row0 70 := by unfold Row0; decide +kernel
theorem row0_71 : Row0 71 := by unfold Row0; decide +kernel
theorem row0_72 : Row0 72 := by unfold Row0; decide +kernel
theorem row0_73 : Row0 73 := by unfold Row0; decide +kernel
theorem row0_74 : Row0 74 := by unfold Row0; decide +kernel
theorem row0_75 : Row0 75 := by unfold Row0; decide +kernel
theorem row0_76 : Row0 76 := by unfold Row0; decide +kernel
theorem row0_77 : Row0 77 := by unfold Row0; decide +kernel
theorem row0_78 : Row0 78 := by unfold Row0; decide +kernel
theorem row0_79 : Row0 79 := by unfold Row0; decide +kernel
theorem row0_80 : Row0 80 := by unfold Row0; decide +kernel
theorem row0_81 : Row0 81 := by unfold Row0; decide +kernel
theorem row0_82 : Row0 82 := by unfold Row0; decide +kernel
theorem row0_83 : Row0 83 := by unfold Row0; decide +kernel
theorem row0_84 : Row0 84 := by unfold Row0; decide +kernel
theorem row0_85 : Row0 85 := by unfold Row0; decide +kernel
theorem row0_86 : Row0 86 := by unfold Row0; decide +kernel
theorem row0_87 : Row0 87 := by unfold Row0; decide +kernel
theorem row0_88 : Row0 88 := by unfold Row0; decide +kernel
theorem row0_89 : Row0 89 := by unfold Row0; decide +kernel
theorem row0_90 : Row0 90 := by unfold Row0; decide +kernel
theorem row0_91 : Row0 91 := by unfold Row0; decide +kernel
theorem row0_92 : Row0 92 := by unfold Row0; decide +kernel
theorem row0_93 : Row0 93 := by unfold Row0; decide +kernel
theorem row0_94 : Row0 94 := by unfold Row0; decide +kernel
theorem row0_95 : Row0 95 := by unfold Row0; decide +kernel
theorem row0_96 : Row0 96 := by unfold Row0; decide +kernel
theorem row0_97 : Row0 97 := by unfold Row0; decide +kernel
theorem row0_98 : Row0 98 := by unfold Row0; decide +kernel
theorem row0_99 : Row0 99 := by unfold Row0; decide +kernel
theorem row0_100 : Row0 100 := by unfold Row0; decide +kernel
theorem row0_101 : Row0 101 := by unfold Row0; decide +kernel
theorem row0_102 : Row0 102 := by unfold Row0; decide +kernel
theorem row0_103 : Row0 103 := by unfold Row0; decide +kernel
theorem row0_104 : Row0 104 := by unfold Row0; decide +kernel
theorem row0_105 : Row0 105 := by unfold Row0; decide +kernel
theorem row0_106 : Row0 106 := by unfold Row0; decide +kernel
theorem row0_107 : Row0 107 := by unfold Row0; decide +kernel
theorem row0_108 : Row0 108 := by unfold Row0; decide +kernel
theorem row0_109 : Row0 109 := by unfold Row0; decide +kernel
theorem row0_110 : Row0 110 := by unfold Row0; decide +kernel
theorem row0_111 : Row0 111 := by unfold Row0; decide +kernel
theorem row0_112 : Row0 112 := by unfold Row0; decide +kernel
theorem row0_113 : Row0 113 := by unfold Row0; decide +kernel
theorem row0_114 : Row0 114 := by unfold Row0; decide +kernel
theorem row0_115 : Row0 115 := by unfold Row0; decide +kernel
theorem row0_116 : Row0 116 := by unfold Row0; decide +kernel
theorem row0_117 : Row0 117 := by unfold Row0; decide +kernel
theorem row0_118 : Row0 118 := by unfold Row0; decide +kernel
theorem row0_119 : Row0 119 := by unfold Row0; decide +kernel
theorem row0_120 : Row0 120 := by unfold Row0; decide +kernel
theorem row0_121 : Row0 121 := by unfold Row0; decide +kernel
theorem row0_122 : Row0 122 := by unfold Row0; decide +kernel
theorem row0_123 : Row0 123 := by unfold Row0; decide +kernel
theorem row0_124 : Row0 124 := by unfold Row0; decide +kernel
theorem row0_125 : Row0 125 := by unfold Row0; decide +kernel
theorem row0_126 : Row0 126 := by unfold Row0; decide +kernel
theorem row0_127 : Row0 127 := by unfold Row0; decide +kernel

theorem rows0_0 : ∀ n : ℕ, n < 128 → Row0 (0 + n)
  | 0, _ => row0_0
  | 1, _ => row0_1
  | 2, _ => row0_2
  | 3, _ => row0_3
  | 4, _ => row0_4
  | 5, _ => row0_5
  | 6, _ => row0_6
  | 7, _ => row0_7
  | 8, _ => row0_8
  | 9, _ => row0_9
  | 10, _ => row0_10
  | 11, _ => row0_11
  | 12, _ => row0_12
  | 13, _ => row0_13
  | 14, _ => row0_14
  | 15, _ => row0_15
  | 16, _ => row0_16
  | 17, _ => row0_17
  | 18, _ => row0_18
  | 19, _ => row0_19
  | 20, _ => row0_20
  | 21, _ => row0_21
  | 22, _ => row0_22
  | 23, _ => row0_23
  | 24, _ => row0_24
  | 25, _ => row0_25
  | 26, _ => row0_26
  | 27, _ => row0_27
  | 28, _ => row0_28
  | 29, _ => row0_29
  | 30, _ => row0_30
  | 31, _ => row0_31
  | 32, _ => row0_32
  | 33, _ => row0_33
  | 34, _ => row0_34
  | 35, _ => row0_35
  | 36, _ => row0_36
  | 37, _ => row0_37
  | 38, _ => row0_38
  | 39, _ => row0_39
  | 40, _ => row0_40
  | 41, _ => row0_41
  | 42, _ => row0_42
  | 43, _ => row0_43
  | 44, _ => row0_44
  | 45, _ => row0_45
  | 46, _ => row0_46
  | 47, _ => row0_47
  | 48, _ => row0_48
  | 49, _ => row0_49
  | 50, _ => row0_50
  | 51, _ => row0_51
  | 52, _ => row0_52
  | 53, _ => row0_53
  | 54, _ => row0_54
  | 55, _ => row0_55
  | 56, _ => row0_56
  | 57, _ => row0_57
  | 58, _ => row0_58
  | 59, _ => row0_59
  | 60, _ => row0_60
  | 61, _ => row0_61
  | 62, _ => row0_62
  | 63, _ => row0_63
  | 64, _ => row0_64
  | 65, _ => row0_65
  | 66, _ => row0_66
  | 67, _ => row0_67
  | 68, _ => row0_68
  | 69, _ => row0_69
  | 70, _ => row0_70
  | 71, _ => row0_71
  | 72, _ => row0_72
  | 73, _ => row0_73
  | 74, _ => row0_74
  | 75, _ => row0_75
  | 76, _ => row0_76
  | 77, _ => row0_77
  | 78, _ => row0_78
  | 79, _ => row0_79
  | 80, _ => row0_80
  | 81, _ => row0_81
  | 82, _ => row0_82
  | 83, _ => row0_83
  | 84, _ => row0_84
  | 85, _ => row0_85
  | 86, _ => row0_86
  | 87, _ => row0_87
  | 88, _ => row0_88
  | 89, _ => row0_89
  | 90, _ => row0_90
  | 91, _ => row0_91
  | 92, _ => row0_92
  | 93, _ => row0_93
  | 94, _ => row0_94
  | 95, _ => row0_95
  | 96, _ => row0_96
  | 97, _ => row0_97
  | 98, _ => row0_98
  | 99, _ => row0_99
  | 100, _ => row0_100
  | 101, _ => row0_101
  | 102, _ => row0_102
  | 103, _ => row0_103
  | 104, _ => row0_104
  | 105, _ => row0_105
  | 106, _ => row0_106
  | 107, _ => row0_107
  | 108, _ => row0_108
  | 109, _ => row0_109
  | 110, _ => row0_110
  | 111, _ => row0_111
  | 112, _ => row0_112
  | 113, _ => row0_113
  | 114, _ => row0_114
  | 115, _ => row0_115
  | 116, _ => row0_116
  | 117, _ => row0_117
  | 118, _ => row0_118
  | 119, _ => row0_119
  | 120, _ => row0_120
  | 121, _ => row0_121
  | 122, _ => row0_122
  | 123, _ => row0_123
  | 124, _ => row0_124
  | 125, _ => row0_125
  | 126, _ => row0_126
  | 127, _ => row0_127
  | n + 128, h => absurd h (by omega)

theorem row1_0 : Row1 0 := by unfold Row1; decide +kernel
theorem row1_1 : Row1 1 := by unfold Row1; decide +kernel
theorem row1_2 : Row1 2 := by unfold Row1; decide +kernel
theorem row1_3 : Row1 3 := by unfold Row1; decide +kernel
theorem row1_4 : Row1 4 := by unfold Row1; decide +kernel
theorem row1_5 : Row1 5 := by unfold Row1; decide +kernel
theorem row1_6 : Row1 6 := by unfold Row1; decide +kernel
theorem row1_7 : Row1 7 := by unfold Row1; decide +kernel
theorem row1_8 : Row1 8 := by unfold Row1; decide +kernel
theorem row1_9 : Row1 9 := by unfold Row1; decide +kernel
theorem row1_10 : Row1 10 := by unfold Row1; decide +kernel
theorem row1_11 : Row1 11 := by unfold Row1; decide +kernel
theorem row1_12 : Row1 12 := by unfold Row1; decide +kernel
theorem row1_13 : Row1 13 := by unfold Row1; decide +kernel
theorem row1_14 : Row1 14 := by unfold Row1; decide +kernel
theorem row1_15 : Row1 15 := by unfold Row1; decide +kernel
theorem row1_16 : Row1 16 := by unfold Row1; decide +kernel
theorem row1_17 : Row1 17 := by unfold Row1; decide +kernel
theorem row1_18 : Row1 18 := by unfold Row1; decide +kernel
theorem row1_19 : Row1 19 := by unfold Row1; decide +kernel
theorem row1_20 : Row1 20 := by unfold Row1; decide +kernel
theorem row1_21 : Row1 21 := by unfold Row1; decide +kernel
theorem row1_22 : Row1 22 := by unfold Row1; decide +kernel
theorem row1_23 : Row1 23 := by unfold Row1; decide +kernel
theorem row1_24 : Row1 24 := by unfold Row1; decide +kernel
theorem row1_25 : Row1 25 := by unfold Row1; decide +kernel
theorem row1_26 : Row1 26 := by unfold Row1; decide +kernel
theorem row1_27 : Row1 27 := by unfold Row1; decide +kernel
theorem row1_28 : Row1 28 := by unfold Row1; decide +kernel
theorem row1_29 : Row1 29 := by unfold Row1; decide +kernel
theorem row1_30 : Row1 30 := by unfold Row1; decide +kernel
theorem row1_31 : Row1 31 := by unfold Row1; decide +kernel
theorem row1_32 : Row1 32 := by unfold Row1; decide +kernel
theorem row1_33 : Row1 33 := by unfold Row1; decide +kernel
theorem row1_34 : Row1 34 := by unfold Row1; decide +kernel
theorem row1_35 : Row1 35 := by unfold Row1; decide +kernel
theorem row1_36 : Row1 36 := by unfold Row1; decide +kernel
theorem row1_37 : Row1 37 := by unfold Row1; decide +kernel
theorem row1_38 : Row1 38 := by unfold Row1; decide +kernel
theorem row1_39 : Row1 39 := by unfold Row1; decide +kernel
theorem row1_40 : Row1 40 := by unfold Row1; decide +kernel
theorem row1_41 : Row1 41 := by unfold Row1; decide +kernel
theorem row1_42 : Row1 42 := by unfold Row1; decide +kernel
theorem row1_43 : Row1 43 := by unfold Row1; decide +kernel
theorem row1_44 : Row1 44 := by unfold Row1; decide +kernel
theorem row1_45 : Row1 45 := by unfold Row1; decide +kernel
theorem row1_46 : Row1 46 := by unfold Row1; decide +kernel
theorem row1_47 : Row1 47 := by unfold Row1; decide +kernel
theorem row1_48 : Row1 48 := by unfold Row1; decide +kernel
theorem row1_49 : Row1 49 := by unfold Row1; decide +kernel
theorem row1_50 : Row1 50 := by unfold Row1; decide +kernel
theorem row1_51 : Row1 51 := by unfold Row1; decide +kernel
theorem row1_52 : Row1 52 := by unfold Row1; decide +kernel
theorem row1_53 : Row1 53 := by unfold Row1; decide +kernel
theorem row1_54 : Row1 54 := by unfold Row1; decide +kernel
theorem row1_55 : Row1 55 := by unfold Row1; decide +kernel
theorem row1_56 : Row1 56 := by unfold Row1; decide +kernel
theorem row1_57 : Row1 57 := by unfold Row1; decide +kernel
theorem row1_58 : Row1 58 := by unfold Row1; decide +kernel
theorem row1_59 : Row1 59 := by unfold Row1; decide +kernel
theorem row1_60 : Row1 60 := by unfold Row1; decide +kernel
theorem row1_61 : Row1 61 := by unfold Row1; decide +kernel
theorem row1_62 : Row1 62 := by unfold Row1; decide +kernel
theorem row1_63 : Row1 63 := by unfold Row1; decide +kernel
theorem row1_64 : Row1 64 := by unfold Row1; decide +kernel
theorem row1_65 : Row1 65 := by unfold Row1; decide +kernel
theorem row1_66 : Row1 66 := by unfold Row1; decide +kernel
theorem row1_67 : Row1 67 := by unfold Row1; decide +kernel
theorem row1_68 : Row1 68 := by unfold Row1; decide +kernel
theorem row1_69 : Row1 69 := by unfold Row1; decide +kernel
theorem row1_70 : Row1 70 := by unfold Row1; decide +kernel
theorem row1_71 : Row1 71 := by unfold Row1; decide +kernel
theorem row1_72 : Row1 72 := by unfold Row1; decide +kernel
theorem row1_73 : Row1 73 := by unfold Row1; decide +kernel
theorem row1_74 : Row1 74 := by unfold Row1; decide +kernel
theorem row1_75 : Row1 75 := by unfold Row1; decide +kernel
theorem row1_76 : Row1 76 := by unfold Row1; decide +kernel
theorem row1_77 : Row1 77 := by unfold Row1; decide +kernel
theorem row1_78 : Row1 78 := by unfold Row1; decide +kernel
theorem row1_79 : Row1 79 := by unfold Row1; decide +kernel
theorem row1_80 : Row1 80 := by unfold Row1; decide +kernel
theorem row1_81 : Row1 81 := by unfold Row1; decide +kernel
theorem row1_82 : Row1 82 := by unfold Row1; decide +kernel
theorem row1_83 : Row1 83 := by unfold Row1; decide +kernel
theorem row1_84 : Row1 84 := by unfold Row1; decide +kernel
theorem row1_85 : Row1 85 := by unfold Row1; decide +kernel
theorem row1_86 : Row1 86 := by unfold Row1; decide +kernel
theorem row1_87 : Row1 87 := by unfold Row1; decide +kernel
theorem row1_88 : Row1 88 := by unfold Row1; decide +kernel
theorem row1_89 : Row1 89 := by unfold Row1; decide +kernel
theorem row1_90 : Row1 90 := by unfold Row1; decide +kernel
theorem row1_91 : Row1 91 := by unfold Row1; decide +kernel
theorem row1_92 : Row1 92 := by unfold Row1; decide +kernel
theorem row1_93 : Row1 93 := by unfold Row1; decide +kernel
theorem row1_94 : Row1 94 := by unfold Row1; decide +kernel
theorem row1_95 : Row1 95 := by unfold Row1; decide +kernel
theorem row1_96 : Row1 96 := by unfold Row1; decide +kernel
theorem row1_97 : Row1 97 := by unfold Row1; decide +kernel
theorem row1_98 : Row1 98 := by unfold Row1; decide +kernel
theorem row1_99 : Row1 99 := by unfold Row1; decide +kernel
theorem row1_100 : Row1 100 := by unfold Row1; decide +kernel
theorem row1_101 : Row1 101 := by unfold Row1; decide +kernel
theorem row1_102 : Row1 102 := by unfold Row1; decide +kernel
theorem row1_103 : Row1 103 := by unfold Row1; decide +kernel
theorem row1_104 : Row1 104 := by unfold Row1; decide +kernel
theorem row1_105 : Row1 105 := by unfold Row1; decide +kernel
theorem row1_106 : Row1 106 := by unfold Row1; decide +kernel
theorem row1_107 : Row1 107 := by unfold Row1; decide +kernel
theorem row1_108 : Row1 108 := by unfold Row1; decide +kernel
theorem row1_109 : Row1 109 := by unfold Row1; decide +kernel
theorem row1_110 : Row1 110 := by unfold Row1; decide +kernel
theorem row1_111 : Row1 111 := by unfold Row1; decide +kernel
theorem row1_112 : Row1 112 := by unfold Row1; decide +kernel
theorem row1_113 : Row1 113 := by unfold Row1; decide +kernel
theorem row1_114 : Row1 114 := by unfold Row1; decide +kernel
theorem row1_115 : Row1 115 := by unfold Row1; decide +kernel
theorem row1_116 : Row1 116 := by unfold Row1; decide +kernel
theorem row1_117 : Row1 117 := by unfold Row1; decide +kernel
theorem row1_118 : Row1 118 := by unfold Row1; decide +kernel
theorem row1_119 : Row1 119 := by unfold Row1; decide +kernel
theorem row1_120 : Row1 120 := by unfold Row1; decide +kernel
theorem row1_121 : Row1 121 := by unfold Row1; decide +kernel
theorem row1_122 : Row1 122 := by unfold Row1; decide +kernel
theorem row1_123 : Row1 123 := by unfold Row1; decide +kernel
theorem row1_124 : Row1 124 := by unfold Row1; decide +kernel
theorem row1_125 : Row1 125 := by unfold Row1; decide +kernel
theorem row1_126 : Row1 126 := by unfold Row1; decide +kernel
theorem row1_127 : Row1 127 := by unfold Row1; decide +kernel

theorem rows1_0 : ∀ n : ℕ, n < 128 → Row1 (0 + n)
  | 0, _ => row1_0
  | 1, _ => row1_1
  | 2, _ => row1_2
  | 3, _ => row1_3
  | 4, _ => row1_4
  | 5, _ => row1_5
  | 6, _ => row1_6
  | 7, _ => row1_7
  | 8, _ => row1_8
  | 9, _ => row1_9
  | 10, _ => row1_10
  | 11, _ => row1_11
  | 12, _ => row1_12
  | 13, _ => row1_13
  | 14, _ => row1_14
  | 15, _ => row1_15
  | 16, _ => row1_16
  | 17, _ => row1_17
  | 18, _ => row1_18
  | 19, _ => row1_19
  | 20, _ => row1_20
  | 21, _ => row1_21
  | 22, _ => row1_22
  | 23, _ => row1_23
  | 24, _ => row1_24
  | 25, _ => row1_25
  | 26, _ => row1_26
  | 27, _ => row1_27
  | 28, _ => row1_28
  | 29, _ => row1_29
  | 30, _ => row1_30
  | 31, _ => row1_31
  | 32, _ => row1_32
  | 33, _ => row1_33
  | 34, _ => row1_34
  | 35, _ => row1_35
  | 36, _ => row1_36
  | 37, _ => row1_37
  | 38, _ => row1_38
  | 39, _ => row1_39
  | 40, _ => row1_40
  | 41, _ => row1_41
  | 42, _ => row1_42
  | 43, _ => row1_43
  | 44, _ => row1_44
  | 45, _ => row1_45
  | 46, _ => row1_46
  | 47, _ => row1_47
  | 48, _ => row1_48
  | 49, _ => row1_49
  | 50, _ => row1_50
  | 51, _ => row1_51
  | 52, _ => row1_52
  | 53, _ => row1_53
  | 54, _ => row1_54
  | 55, _ => row1_55
  | 56, _ => row1_56
  | 57, _ => row1_57
  | 58, _ => row1_58
  | 59, _ => row1_59
  | 60, _ => row1_60
  | 61, _ => row1_61
  | 62, _ => row1_62
  | 63, _ => row1_63
  | 64, _ => row1_64
  | 65, _ => row1_65
  | 66, _ => row1_66
  | 67, _ => row1_67
  | 68, _ => row1_68
  | 69, _ => row1_69
  | 70, _ => row1_70
  | 71, _ => row1_71
  | 72, _ => row1_72
  | 73, _ => row1_73
  | 74, _ => row1_74
  | 75, _ => row1_75
  | 76, _ => row1_76
  | 77, _ => row1_77
  | 78, _ => row1_78
  | 79, _ => row1_79
  | 80, _ => row1_80
  | 81, _ => row1_81
  | 82, _ => row1_82
  | 83, _ => row1_83
  | 84, _ => row1_84
  | 85, _ => row1_85
  | 86, _ => row1_86
  | 87, _ => row1_87
  | 88, _ => row1_88
  | 89, _ => row1_89
  | 90, _ => row1_90
  | 91, _ => row1_91
  | 92, _ => row1_92
  | 93, _ => row1_93
  | 94, _ => row1_94
  | 95, _ => row1_95
  | 96, _ => row1_96
  | 97, _ => row1_97
  | 98, _ => row1_98
  | 99, _ => row1_99
  | 100, _ => row1_100
  | 101, _ => row1_101
  | 102, _ => row1_102
  | 103, _ => row1_103
  | 104, _ => row1_104
  | 105, _ => row1_105
  | 106, _ => row1_106
  | 107, _ => row1_107
  | 108, _ => row1_108
  | 109, _ => row1_109
  | 110, _ => row1_110
  | 111, _ => row1_111
  | 112, _ => row1_112
  | 113, _ => row1_113
  | 114, _ => row1_114
  | 115, _ => row1_115
  | 116, _ => row1_116
  | 117, _ => row1_117
  | 118, _ => row1_118
  | 119, _ => row1_119
  | 120, _ => row1_120
  | 121, _ => row1_121
  | 122, _ => row1_122
  | 123, _ => row1_123
  | 124, _ => row1_124
  | 125, _ => row1_125
  | 126, _ => row1_126
  | 127, _ => row1_127
  | n + 128, h => absurd h (by omega)

theorem row3_0 : Row3 0 := by unfold Row3; decide +kernel
theorem row3_1 : Row3 1 := by unfold Row3; decide +kernel
theorem row3_2 : Row3 2 := by unfold Row3; decide +kernel

theorem rows3_0 : ∀ n : ℕ, n < 3 → Row3 (0 + n)
  | 0, _ => row3_0
  | 1, _ => row3_1
  | 2, _ => row3_2
  | n + 3, h => absurd h (by omega)

end Cert.Proof

end
-- ==== Proof.LitG0.lean ====
/- The depth table, rows 0 to 7. -/
module

public import proofs.«01_k».proof.Proof.LitRow

@[expose] public section

set_option maxRecDepth 100000

namespace Cert.Proof

open Idealize.ShloMosaic Cert.KernelIdeal

theorem row2_0 : Row2 0 := by unfold Row2; decide +kernel
theorem row2_1 : Row2 1 := by unfold Row2; decide +kernel
theorem row2_2 : Row2 2 := by unfold Row2; decide +kernel
theorem row2_3 : Row2 3 := by unfold Row2; decide +kernel
theorem row2_4 : Row2 4 := by unfold Row2; decide +kernel
theorem row2_5 : Row2 5 := by unfold Row2; decide +kernel
theorem row2_6 : Row2 6 := by unfold Row2; decide +kernel
theorem row2_7 : Row2 7 := by unfold Row2; decide +kernel

theorem rows2_0 : ∀ n : ℕ, n < 8 → Row2 (0 + n)
  | 0, _ => row2_0
  | 1, _ => row2_1
  | 2, _ => row2_2
  | 3, _ => row2_3
  | 4, _ => row2_4
  | 5, _ => row2_5
  | 6, _ => row2_6
  | 7, _ => row2_7
  | n + 8, h => absurd h (by omega)

end Cert.Proof

end
-- ==== Proof.LitG1.lean ====
/- The depth table, rows 8 to 15. -/
module

public import proofs.«01_k».proof.Proof.LitRow

@[expose] public section

set_option maxRecDepth 100000

namespace Cert.Proof

open Idealize.ShloMosaic Cert.KernelIdeal

theorem row2_8 : Row2 8 := by unfold Row2; decide +kernel
theorem row2_9 : Row2 9 := by unfold Row2; decide +kernel
theorem row2_10 : Row2 10 := by unfold Row2; decide +kernel
theorem row2_11 : Row2 11 := by unfold Row2; decide +kernel
theorem row2_12 : Row2 12 := by unfold Row2; decide +kernel
theorem row2_13 : Row2 13 := by unfold Row2; decide +kernel
theorem row2_14 : Row2 14 := by unfold Row2; decide +kernel
theorem row2_15 : Row2 15 := by unfold Row2; decide +kernel

theorem rows2_8 : ∀ n : ℕ, n < 8 → Row2 (8 + n)
  | 0, _ => row2_8
  | 1, _ => row2_9
  | 2, _ => row2_10
  | 3, _ => row2_11
  | 4, _ => row2_12
  | 5, _ => row2_13
  | 6, _ => row2_14
  | 7, _ => row2_15
  | n + 8, h => absurd h (by omega)

end Cert.Proof

end
-- ==== Proof.LitG2.lean ====
/- The depth table, rows 16 to 23. -/
module

public import proofs.«01_k».proof.Proof.LitRow

@[expose] public section

set_option maxRecDepth 100000

namespace Cert.Proof

open Idealize.ShloMosaic Cert.KernelIdeal

theorem row2_16 : Row2 16 := by unfold Row2; decide +kernel
theorem row2_17 : Row2 17 := by unfold Row2; decide +kernel
theorem row2_18 : Row2 18 := by unfold Row2; decide +kernel
theorem row2_19 : Row2 19 := by unfold Row2; decide +kernel
theorem row2_20 : Row2 20 := by unfold Row2; decide +kernel
theorem row2_21 : Row2 21 := by unfold Row2; decide +kernel
theorem row2_22 : Row2 22 := by unfold Row2; decide +kernel
theorem row2_23 : Row2 23 := by unfold Row2; decide +kernel

theorem rows2_16 : ∀ n : ℕ, n < 8 → Row2 (16 + n)
  | 0, _ => row2_16
  | 1, _ => row2_17
  | 2, _ => row2_18
  | 3, _ => row2_19
  | 4, _ => row2_20
  | 5, _ => row2_21
  | 6, _ => row2_22
  | 7, _ => row2_23
  | n + 8, h => absurd h (by omega)

end Cert.Proof

end
-- ==== Proof.LitG3.lean ====
/- The depth table, rows 24 to 31. -/
module

public import proofs.«01_k».proof.Proof.LitRow

@[expose] public section

set_option maxRecDepth 100000

namespace Cert.Proof

open Idealize.ShloMosaic Cert.KernelIdeal

theorem row2_24 : Row2 24 := by unfold Row2; decide +kernel
theorem row2_25 : Row2 25 := by unfold Row2; decide +kernel
theorem row2_26 : Row2 26 := by unfold Row2; decide +kernel
theorem row2_27 : Row2 27 := by unfold Row2; decide +kernel
theorem row2_28 : Row2 28 := by unfold Row2; decide +kernel
theorem row2_29 : Row2 29 := by unfold Row2; decide +kernel
theorem row2_30 : Row2 30 := by unfold Row2; decide +kernel
theorem row2_31 : Row2 31 := by unfold Row2; decide +kernel

theorem rows2_24 : ∀ n : ℕ, n < 8 → Row2 (24 + n)
  | 0, _ => row2_24
  | 1, _ => row2_25
  | 2, _ => row2_26
  | 3, _ => row2_27
  | 4, _ => row2_28
  | 5, _ => row2_29
  | 6, _ => row2_30
  | 7, _ => row2_31
  | n + 8, h => absurd h (by omega)

end Cert.Proof

end
-- ==== Proof.LitG4.lean ====
/- The depth table, rows 32 to 39. -/
module

public import proofs.«01_k».proof.Proof.LitRow

@[expose] public section

set_option maxRecDepth 100000

namespace Cert.Proof

open Idealize.ShloMosaic Cert.KernelIdeal

theorem row2_32 : Row2 32 := by unfold Row2; decide +kernel
theorem row2_33 : Row2 33 := by unfold Row2; decide +kernel
theorem row2_34 : Row2 34 := by unfold Row2; decide +kernel
theorem row2_35 : Row2 35 := by unfold Row2; decide +kernel
theorem row2_36 : Row2 36 := by unfold Row2; decide +kernel
theorem row2_37 : Row2 37 := by unfold Row2; decide +kernel
theorem row2_38 : Row2 38 := by unfold Row2; decide +kernel
theorem row2_39 : Row2 39 := by unfold Row2; decide +kernel

theorem rows2_32 : ∀ n : ℕ, n < 8 → Row2 (32 + n)
  | 0, _ => row2_32
  | 1, _ => row2_33
  | 2, _ => row2_34
  | 3, _ => row2_35
  | 4, _ => row2_36
  | 5, _ => row2_37
  | 6, _ => row2_38
  | 7, _ => row2_39
  | n + 8, h => absurd h (by omega)

end Cert.Proof

end
-- ==== Proof.LitG5.lean ====
/- The depth table, rows 40 to 47. -/
module

public import proofs.«01_k».proof.Proof.LitRow

@[expose] public section

set_option maxRecDepth 100000

namespace Cert.Proof

open Idealize.ShloMosaic Cert.KernelIdeal

theorem row2_40 : Row2 40 := by unfold Row2; decide +kernel
theorem row2_41 : Row2 41 := by unfold Row2; decide +kernel
theorem row2_42 : Row2 42 := by unfold Row2; decide +kernel
theorem row2_43 : Row2 43 := by unfold Row2; decide +kernel
theorem row2_44 : Row2 44 := by unfold Row2; decide +kernel
theorem row2_45 : Row2 45 := by unfold Row2; decide +kernel
theorem row2_46 : Row2 46 := by unfold Row2; decide +kernel
theorem row2_47 : Row2 47 := by unfold Row2; decide +kernel

theorem rows2_40 : ∀ n : ℕ, n < 8 → Row2 (40 + n)
  | 0, _ => row2_40
  | 1, _ => row2_41
  | 2, _ => row2_42
  | 3, _ => row2_43
  | 4, _ => row2_44
  | 5, _ => row2_45
  | 6, _ => row2_46
  | 7, _ => row2_47
  | n + 8, h => absurd h (by omega)

end Cert.Proof

end
-- ==== Proof.LitG6.lean ====
/- The depth table, rows 48 to 55. -/
module

public import proofs.«01_k».proof.Proof.LitRow

@[expose] public section

set_option maxRecDepth 100000

namespace Cert.Proof

open Idealize.ShloMosaic Cert.KernelIdeal

theorem row2_48 : Row2 48 := by unfold Row2; decide +kernel
theorem row2_49 : Row2 49 := by unfold Row2; decide +kernel
theorem row2_50 : Row2 50 := by unfold Row2; decide +kernel
theorem row2_51 : Row2 51 := by unfold Row2; decide +kernel
theorem row2_52 : Row2 52 := by unfold Row2; decide +kernel
theorem row2_53 : Row2 53 := by unfold Row2; decide +kernel
theorem row2_54 : Row2 54 := by unfold Row2; decide +kernel
theorem row2_55 : Row2 55 := by unfold Row2; decide +kernel

theorem rows2_48 : ∀ n : ℕ, n < 8 → Row2 (48 + n)
  | 0, _ => row2_48
  | 1, _ => row2_49
  | 2, _ => row2_50
  | 3, _ => row2_51
  | 4, _ => row2_52
  | 5, _ => row2_53
  | 6, _ => row2_54
  | 7, _ => row2_55
  | n + 8, h => absurd h (by omega)

end Cert.Proof

end
-- ==== Proof.LitG7.lean ====
/- The depth table, rows 56 to 63. -/
module

public import proofs.«01_k».proof.Proof.LitRow

@[expose] public section

set_option maxRecDepth 100000

namespace Cert.Proof

open Idealize.ShloMosaic Cert.KernelIdeal

theorem row2_56 : Row2 56 := by unfold Row2; decide +kernel
theorem row2_57 : Row2 57 := by unfold Row2; decide +kernel
theorem row2_58 : Row2 58 := by unfold Row2; decide +kernel
theorem row2_59 : Row2 59 := by unfold Row2; decide +kernel
theorem row2_60 : Row2 60 := by unfold Row2; decide +kernel
theorem row2_61 : Row2 61 := by unfold Row2; decide +kernel
theorem row2_62 : Row2 62 := by unfold Row2; decide +kernel
theorem row2_63 : Row2 63 := by unfold Row2; decide +kernel

theorem rows2_56 : ∀ n : ℕ, n < 8 → Row2 (56 + n)
  | 0, _ => row2_56
  | 1, _ => row2_57
  | 2, _ => row2_58
  | 3, _ => row2_59
  | 4, _ => row2_60
  | 5, _ => row2_61
  | 6, _ => row2_62
  | 7, _ => row2_63
  | n + 8, h => absurd h (by omega)

end Cert.Proof

end
-- ==== Proof.LitG8.lean ====
/- The depth table, rows 64 to 71. -/
module

public import proofs.«01_k».proof.Proof.LitRow

@[expose] public section

set_option maxRecDepth 100000

namespace Cert.Proof

open Idealize.ShloMosaic Cert.KernelIdeal

theorem row2_64 : Row2 64 := by unfold Row2; decide +kernel
theorem row2_65 : Row2 65 := by unfold Row2; decide +kernel
theorem row2_66 : Row2 66 := by unfold Row2; decide +kernel
theorem row2_67 : Row2 67 := by unfold Row2; decide +kernel
theorem row2_68 : Row2 68 := by unfold Row2; decide +kernel
theorem row2_69 : Row2 69 := by unfold Row2; decide +kernel
theorem row2_70 : Row2 70 := by unfold Row2; decide +kernel
theorem row2_71 : Row2 71 := by unfold Row2; decide +kernel

theorem rows2_64 : ∀ n : ℕ, n < 8 → Row2 (64 + n)
  | 0, _ => row2_64
  | 1, _ => row2_65
  | 2, _ => row2_66
  | 3, _ => row2_67
  | 4, _ => row2_68
  | 5, _ => row2_69
  | 6, _ => row2_70
  | 7, _ => row2_71
  | n + 8, h => absurd h (by omega)

end Cert.Proof

end
-- ==== Proof.LitG9.lean ====
/- The depth table, rows 72 to 79. -/
module

public import proofs.«01_k».proof.Proof.LitRow

@[expose] public section

set_option maxRecDepth 100000

namespace Cert.Proof

open Idealize.ShloMosaic Cert.KernelIdeal

theorem row2_72 : Row2 72 := by unfold Row2; decide +kernel
theorem row2_73 : Row2 73 := by unfold Row2; decide +kernel
theorem row2_74 : Row2 74 := by unfold Row2; decide +kernel
theorem row2_75 : Row2 75 := by unfold Row2; decide +kernel
theorem row2_76 : Row2 76 := by unfold Row2; decide +kernel
theorem row2_77 : Row2 77 := by unfold Row2; decide +kernel
theorem row2_78 : Row2 78 := by unfold Row2; decide +kernel
theorem row2_79 : Row2 79 := by unfold Row2; decide +kernel

theorem rows2_72 : ∀ n : ℕ, n < 8 → Row2 (72 + n)
  | 0, _ => row2_72
  | 1, _ => row2_73
  | 2, _ => row2_74
  | 3, _ => row2_75
  | 4, _ => row2_76
  | 5, _ => row2_77
  | 6, _ => row2_78
  | 7, _ => row2_79
  | n + 8, h => absurd h (by omega)

end Cert.Proof

end
-- ==== Proof.LitG10.lean ====
/- The depth table, rows 80 to 87. -/
module

public import proofs.«01_k».proof.Proof.LitRow

@[expose] public section

set_option maxRecDepth 100000

namespace Cert.Proof

open Idealize.ShloMosaic Cert.KernelIdeal

theorem row2_80 : Row2 80 := by unfold Row2; decide +kernel
theorem row2_81 : Row2 81 := by unfold Row2; decide +kernel
theorem row2_82 : Row2 82 := by unfold Row2; decide +kernel
theorem row2_83 : Row2 83 := by unfold Row2; decide +kernel
theorem row2_84 : Row2 84 := by unfold Row2; decide +kernel
theorem row2_85 : Row2 85 := by unfold Row2; decide +kernel
theorem row2_86 : Row2 86 := by unfold Row2; decide +kernel
theorem row2_87 : Row2 87 := by unfold Row2; decide +kernel

theorem rows2_80 : ∀ n : ℕ, n < 8 → Row2 (80 + n)
  | 0, _ => row2_80
  | 1, _ => row2_81
  | 2, _ => row2_82
  | 3, _ => row2_83
  | 4, _ => row2_84
  | 5, _ => row2_85
  | 6, _ => row2_86
  | 7, _ => row2_87
  | n + 8, h => absurd h (by omega)

end Cert.Proof

end
-- ==== Proof.LitG11.lean ====
/- The depth table, rows 88 to 95. -/
module

public import proofs.«01_k».proof.Proof.LitRow

@[expose] public section

set_option maxRecDepth 100000

namespace Cert.Proof

open Idealize.ShloMosaic Cert.KernelIdeal

theorem row2_88 : Row2 88 := by unfold Row2; decide +kernel
theorem row2_89 : Row2 89 := by unfold Row2; decide +kernel
theorem row2_90 : Row2 90 := by unfold Row2; decide +kernel
theorem row2_91 : Row2 91 := by unfold Row2; decide +kernel
theorem row2_92 : Row2 92 := by unfold Row2; decide +kernel
theorem row2_93 : Row2 93 := by unfold Row2; decide +kernel
theorem row2_94 : Row2 94 := by unfold Row2; decide +kernel
theorem row2_95 : Row2 95 := by unfold Row2; decide +kernel

theorem rows2_88 : ∀ n : ℕ, n < 8 → Row2 (88 + n)
  | 0, _ => row2_88
  | 1, _ => row2_89
  | 2, _ => row2_90
  | 3, _ => row2_91
  | 4, _ => row2_92
  | 5, _ => row2_93
  | 6, _ => row2_94
  | 7, _ => row2_95
  | n + 8, h => absurd h (by omega)

end Cert.Proof

end
-- ==== Proof.LitG12.lean ====
/- The depth table, rows 96 to 103. -/
module

public import proofs.«01_k».proof.Proof.LitRow

@[expose] public section

set_option maxRecDepth 100000

namespace Cert.Proof

open Idealize.ShloMosaic Cert.KernelIdeal

theorem row2_96 : Row2 96 := by unfold Row2; decide +kernel
theorem row2_97 : Row2 97 := by unfold Row2; decide +kernel
theorem row2_98 : Row2 98 := by unfold Row2; decide +kernel
theorem row2_99 : Row2 99 := by unfold Row2; decide +kernel
theorem row2_100 : Row2 100 := by unfold Row2; decide +kernel
theorem row2_101 : Row2 101 := by unfold Row2; decide +kernel
theorem row2_102 : Row2 102 := by unfold Row2; decide +kernel
theorem row2_103 : Row2 103 := by unfold Row2; decide +kernel

theorem rows2_96 : ∀ n : ℕ, n < 8 → Row2 (96 + n)
  | 0, _ => row2_96
  | 1, _ => row2_97
  | 2, _ => row2_98
  | 3, _ => row2_99
  | 4, _ => row2_100
  | 5, _ => row2_101
  | 6, _ => row2_102
  | 7, _ => row2_103
  | n + 8, h => absurd h (by omega)

end Cert.Proof

end
-- ==== Proof.LitG13.lean ====
/- The depth table, rows 104 to 111. -/
module

public import proofs.«01_k».proof.Proof.LitRow

@[expose] public section

set_option maxRecDepth 100000

namespace Cert.Proof

open Idealize.ShloMosaic Cert.KernelIdeal

theorem row2_104 : Row2 104 := by unfold Row2; decide +kernel
theorem row2_105 : Row2 105 := by unfold Row2; decide +kernel
theorem row2_106 : Row2 106 := by unfold Row2; decide +kernel
theorem row2_107 : Row2 107 := by unfold Row2; decide +kernel
theorem row2_108 : Row2 108 := by unfold Row2; decide +kernel
theorem row2_109 : Row2 109 := by unfold Row2; decide +kernel
theorem row2_110 : Row2 110 := by unfold Row2; decide +kernel
theorem row2_111 : Row2 111 := by unfold Row2; decide +kernel

theorem rows2_104 : ∀ n : ℕ, n < 8 → Row2 (104 + n)
  | 0, _ => row2_104
  | 1, _ => row2_105
  | 2, _ => row2_106
  | 3, _ => row2_107
  | 4, _ => row2_108
  | 5, _ => row2_109
  | 6, _ => row2_110
  | 7, _ => row2_111
  | n + 8, h => absurd h (by omega)

end Cert.Proof

end
-- ==== Proof.LitG14.lean ====
/- The depth table, rows 112 to 119. -/
module

public import proofs.«01_k».proof.Proof.LitRow

@[expose] public section

set_option maxRecDepth 100000

namespace Cert.Proof

open Idealize.ShloMosaic Cert.KernelIdeal

theorem row2_112 : Row2 112 := by unfold Row2; decide +kernel
theorem row2_113 : Row2 113 := by unfold Row2; decide +kernel
theorem row2_114 : Row2 114 := by unfold Row2; decide +kernel
theorem row2_115 : Row2 115 := by unfold Row2; decide +kernel
theorem row2_116 : Row2 116 := by unfold Row2; decide +kernel
theorem row2_117 : Row2 117 := by unfold Row2; decide +kernel
theorem row2_118 : Row2 118 := by unfold Row2; decide +kernel
theorem row2_119 : Row2 119 := by unfold Row2; decide +kernel

theorem rows2_112 : ∀ n : ℕ, n < 8 → Row2 (112 + n)
  | 0, _ => row2_112
  | 1, _ => row2_113
  | 2, _ => row2_114
  | 3, _ => row2_115
  | 4, _ => row2_116
  | 5, _ => row2_117
  | 6, _ => row2_118
  | 7, _ => row2_119
  | n + 8, h => absurd h (by omega)

end Cert.Proof

end
-- ==== Proof.LitG15.lean ====
/- The depth table, rows 120 to 127. -/
module

public import proofs.«01_k».proof.Proof.LitRow

@[expose] public section

set_option maxRecDepth 100000

namespace Cert.Proof

open Idealize.ShloMosaic Cert.KernelIdeal

theorem row2_120 : Row2 120 := by unfold Row2; decide +kernel
theorem row2_121 : Row2 121 := by unfold Row2; decide +kernel
theorem row2_122 : Row2 122 := by unfold Row2; decide +kernel
theorem row2_123 : Row2 123 := by unfold Row2; decide +kernel
theorem row2_124 : Row2 124 := by unfold Row2; decide +kernel
theorem row2_125 : Row2 125 := by unfold Row2; decide +kernel
theorem row2_126 : Row2 126 := by unfold Row2; decide +kernel
theorem row2_127 : Row2 127 := by unfold Row2; decide +kernel

theorem rows2_120 : ∀ n : ℕ, n < 8 → Row2 (120 + n)
  | 0, _ => row2_120
  | 1, _ => row2_121
  | 2, _ => row2_122
  | 3, _ => row2_123
  | 4, _ => row2_124
  | 5, _ => row2_125
  | 6, _ => row2_126
  | 7, _ => row2_127
  | n + 8, h => absurd h (by omega)

end Cert.Proof

end
-- ==== Proof.LitG16.lean ====
/- The depth table, rows 128 to 135. -/
module

public import proofs.«01_k».proof.Proof.LitRow

@[expose] public section

set_option maxRecDepth 100000

namespace Cert.Proof

open Idealize.ShloMosaic Cert.KernelIdeal

theorem row2_128 : Row2 128 := by unfold Row2; decide +kernel
theorem row2_129 : Row2 129 := by unfold Row2; decide +kernel
theorem row2_130 : Row2 130 := by unfold Row2; decide +kernel
theorem row2_131 : Row2 131 := by unfold Row2; decide +kernel
theorem row2_132 : Row2 132 := by unfold Row2; decide +kernel
theorem row2_133 : Row2 133 := by unfold Row2; decide +kernel
theorem row2_134 : Row2 134 := by unfold Row2; decide +kernel
theorem row2_135 : Row2 135 := by unfold Row2; decide +kernel

theorem rows2_128 : ∀ n : ℕ, n < 8 → Row2 (128 + n)
  | 0, _ => row2_128
  | 1, _ => row2_129
  | 2, _ => row2_130
  | 3, _ => row2_131
  | 4, _ => row2_132
  | 5, _ => row2_133
  | 6, _ => row2_134
  | 7, _ => row2_135
  | n + 8, h => absurd h (by omega)

end Cert.Proof

end
-- ==== Proof.LitG17.lean ====
/- The depth table, rows 136 to 143. -/
module

public import proofs.«01_k».proof.Proof.LitRow

@[expose] public section

set_option maxRecDepth 100000

namespace Cert.Proof

open Idealize.ShloMosaic Cert.KernelIdeal

theorem row2_136 : Row2 136 := by unfold Row2; decide +kernel
theorem row2_137 : Row2 137 := by unfold Row2; decide +kernel
theorem row2_138 : Row2 138 := by unfold Row2; decide +kernel
theorem row2_139 : Row2 139 := by unfold Row2; decide +kernel
theorem row2_140 : Row2 140 := by unfold Row2; decide +kernel
theorem row2_141 : Row2 141 := by unfold Row2; decide +kernel
theorem row2_142 : Row2 142 := by unfold Row2; decide +kernel
theorem row2_143 : Row2 143 := by unfold Row2; decide +kernel

theorem rows2_136 : ∀ n : ℕ, n < 8 → Row2 (136 + n)
  | 0, _ => row2_136
  | 1, _ => row2_137
  | 2, _ => row2_138
  | 3, _ => row2_139
  | 4, _ => row2_140
  | 5, _ => row2_141
  | 6, _ => row2_142
  | 7, _ => row2_143
  | n + 8, h => absurd h (by omega)

end Cert.Proof

end
-- ==== Proof.LitG18.lean ====
/- The depth table, rows 144 to 151. -/
module

public import proofs.«01_k».proof.Proof.LitRow

@[expose] public section

set_option maxRecDepth 100000

namespace Cert.Proof

open Idealize.ShloMosaic Cert.KernelIdeal

theorem row2_144 : Row2 144 := by unfold Row2; decide +kernel
theorem row2_145 : Row2 145 := by unfold Row2; decide +kernel
theorem row2_146 : Row2 146 := by unfold Row2; decide +kernel
theorem row2_147 : Row2 147 := by unfold Row2; decide +kernel
theorem row2_148 : Row2 148 := by unfold Row2; decide +kernel
theorem row2_149 : Row2 149 := by unfold Row2; decide +kernel
theorem row2_150 : Row2 150 := by unfold Row2; decide +kernel
theorem row2_151 : Row2 151 := by unfold Row2; decide +kernel

theorem rows2_144 : ∀ n : ℕ, n < 8 → Row2 (144 + n)
  | 0, _ => row2_144
  | 1, _ => row2_145
  | 2, _ => row2_146
  | 3, _ => row2_147
  | 4, _ => row2_148
  | 5, _ => row2_149
  | 6, _ => row2_150
  | 7, _ => row2_151
  | n + 8, h => absurd h (by omega)

end Cert.Proof

end
-- ==== Proof.LitG19.lean ====
/- The depth table, rows 152 to 159. -/
module

public import proofs.«01_k».proof.Proof.LitRow

@[expose] public section

set_option maxRecDepth 100000

namespace Cert.Proof

open Idealize.ShloMosaic Cert.KernelIdeal

theorem row2_152 : Row2 152 := by unfold Row2; decide +kernel
theorem row2_153 : Row2 153 := by unfold Row2; decide +kernel
theorem row2_154 : Row2 154 := by unfold Row2; decide +kernel
theorem row2_155 : Row2 155 := by unfold Row2; decide +kernel
theorem row2_156 : Row2 156 := by unfold Row2; decide +kernel
theorem row2_157 : Row2 157 := by unfold Row2; decide +kernel
theorem row2_158 : Row2 158 := by unfold Row2; decide +kernel
theorem row2_159 : Row2 159 := by unfold Row2; decide +kernel

theorem rows2_152 : ∀ n : ℕ, n < 8 → Row2 (152 + n)
  | 0, _ => row2_152
  | 1, _ => row2_153
  | 2, _ => row2_154
  | 3, _ => row2_155
  | 4, _ => row2_156
  | 5, _ => row2_157
  | 6, _ => row2_158
  | 7, _ => row2_159
  | n + 8, h => absurd h (by omega)

end Cert.Proof

end
-- ==== Proof.LitG20.lean ====
/- The depth table, rows 160 to 167. -/
module

public import proofs.«01_k».proof.Proof.LitRow

@[expose] public section

set_option maxRecDepth 100000

namespace Cert.Proof

open Idealize.ShloMosaic Cert.KernelIdeal

theorem row2_160 : Row2 160 := by unfold Row2; decide +kernel
theorem row2_161 : Row2 161 := by unfold Row2; decide +kernel
theorem row2_162 : Row2 162 := by unfold Row2; decide +kernel
theorem row2_163 : Row2 163 := by unfold Row2; decide +kernel
theorem row2_164 : Row2 164 := by unfold Row2; decide +kernel
theorem row2_165 : Row2 165 := by unfold Row2; decide +kernel
theorem row2_166 : Row2 166 := by unfold Row2; decide +kernel
theorem row2_167 : Row2 167 := by unfold Row2; decide +kernel

theorem rows2_160 : ∀ n : ℕ, n < 8 → Row2 (160 + n)
  | 0, _ => row2_160
  | 1, _ => row2_161
  | 2, _ => row2_162
  | 3, _ => row2_163
  | 4, _ => row2_164
  | 5, _ => row2_165
  | 6, _ => row2_166
  | 7, _ => row2_167
  | n + 8, h => absurd h (by omega)

end Cert.Proof

end
-- ==== Proof.LitG21.lean ====
/- The depth table, rows 168 to 175. -/
module

public import proofs.«01_k».proof.Proof.LitRow

@[expose] public section

set_option maxRecDepth 100000

namespace Cert.Proof

open Idealize.ShloMosaic Cert.KernelIdeal

theorem row2_168 : Row2 168 := by unfold Row2; decide +kernel
theorem row2_169 : Row2 169 := by unfold Row2; decide +kernel
theorem row2_170 : Row2 170 := by unfold Row2; decide +kernel
theorem row2_171 : Row2 171 := by unfold Row2; decide +kernel
theorem row2_172 : Row2 172 := by unfold Row2; decide +kernel
theorem row2_173 : Row2 173 := by unfold Row2; decide +kernel
theorem row2_174 : Row2 174 := by unfold Row2; decide +kernel
theorem row2_175 : Row2 175 := by unfold Row2; decide +kernel

theorem rows2_168 : ∀ n : ℕ, n < 8 → Row2 (168 + n)
  | 0, _ => row2_168
  | 1, _ => row2_169
  | 2, _ => row2_170
  | 3, _ => row2_171
  | 4, _ => row2_172
  | 5, _ => row2_173
  | 6, _ => row2_174
  | 7, _ => row2_175
  | n + 8, h => absurd h (by omega)

end Cert.Proof

end
-- ==== Proof.LitG22.lean ====
/- The depth table, rows 176 to 183. -/
module

public import proofs.«01_k».proof.Proof.LitRow

@[expose] public section

set_option maxRecDepth 100000

namespace Cert.Proof

open Idealize.ShloMosaic Cert.KernelIdeal

theorem row2_176 : Row2 176 := by unfold Row2; decide +kernel
theorem row2_177 : Row2 177 := by unfold Row2; decide +kernel
theorem row2_178 : Row2 178 := by unfold Row2; decide +kernel
theorem row2_179 : Row2 179 := by unfold Row2; decide +kernel
theorem row2_180 : Row2 180 := by unfold Row2; decide +kernel
theorem row2_181 : Row2 181 := by unfold Row2; decide +kernel
theorem row2_182 : Row2 182 := by unfold Row2; decide +kernel
theorem row2_183 : Row2 183 := by unfold Row2; decide +kernel

theorem rows2_176 : ∀ n : ℕ, n < 8 → Row2 (176 + n)
  | 0, _ => row2_176
  | 1, _ => row2_177
  | 2, _ => row2_178
  | 3, _ => row2_179
  | 4, _ => row2_180
  | 5, _ => row2_181
  | 6, _ => row2_182
  | 7, _ => row2_183
  | n + 8, h => absurd h (by omega)

end Cert.Proof

end
-- ==== Proof.LitG23.lean ====
/- The depth table, rows 184 to 191. -/
module

public import proofs.«01_k».proof.Proof.LitRow

@[expose] public section

set_option maxRecDepth 100000

namespace Cert.Proof

open Idealize.ShloMosaic Cert.KernelIdeal

theorem row2_184 : Row2 184 := by unfold Row2; decide +kernel
theorem row2_185 : Row2 185 := by unfold Row2; decide +kernel
theorem row2_186 : Row2 186 := by unfold Row2; decide +kernel
theorem row2_187 : Row2 187 := by unfold Row2; decide +kernel
theorem row2_188 : Row2 188 := by unfold Row2; decide +kernel
theorem row2_189 : Row2 189 := by unfold Row2; decide +kernel
theorem row2_190 : Row2 190 := by unfold Row2; decide +kernel
theorem row2_191 : Row2 191 := by unfold Row2; decide +kernel

theorem rows2_184 : ∀ n : ℕ, n < 8 → Row2 (184 + n)
  | 0, _ => row2_184
  | 1, _ => row2_185
  | 2, _ => row2_186
  | 3, _ => row2_187
  | 4, _ => row2_188
  | 5, _ => row2_189
  | 6, _ => row2_190
  | 7, _ => row2_191
  | n + 8, h => absurd h (by omega)

end Cert.Proof

end
-- ==== Proof.Lit.lean ====
/- The words of the kernel's four literal tables, entry by entry. -/
module

public import proofs.«01_k».proof.Proof.LitA
public import proofs.«01_k».proof.Proof.LitG0
public import proofs.«01_k».proof.Proof.LitG1
public import proofs.«01_k».proof.Proof.LitG2
public import proofs.«01_k».proof.Proof.LitG3
public import proofs.«01_k».proof.Proof.LitG4
public import proofs.«01_k».proof.Proof.LitG5
public import proofs.«01_k».proof.Proof.LitG6
public import proofs.«01_k».proof.Proof.LitG7
public import proofs.«01_k».proof.Proof.LitG8
public import proofs.«01_k».proof.Proof.LitG9
public import proofs.«01_k».proof.Proof.LitG10
public import proofs.«01_k».proof.Proof.LitG11
public import proofs.«01_k».proof.Proof.LitG12
public import proofs.«01_k».proof.Proof.LitG13
public import proofs.«01_k».proof.Proof.LitG14
public import proofs.«01_k».proof.Proof.LitG15
public import proofs.«01_k».proof.Proof.LitG16
public import proofs.«01_k».proof.Proof.LitG17
public import proofs.«01_k».proof.Proof.LitG18
public import proofs.«01_k».proof.Proof.LitG19
public import proofs.«01_k».proof.Proof.LitG20
public import proofs.«01_k».proof.Proof.LitG21
public import proofs.«01_k».proof.Proof.LitG22
public import proofs.«01_k».proof.Proof.LitG23

@[expose] public section

namespace Cert.Proof

open Idealize.ShloMosaic Cert.KernelIdeal

theorem lit0_row (n : ℕ) (h : n < 128) : Row0 n := Nat.zero_add n ▸ rows0_0 n h
theorem lit1_row (n : ℕ) (h : n < 128) : Row1 n := Nat.zero_add n ▸ rows1_0 n h
theorem lit3_row (n : ℕ) (h : n < 3) : Row3 n := Nat.zero_add n ▸ rows3_0 n h
theorem lit2_row (n : ℕ) (h : n < 192) : Row2 n := by
  have step (lo : ℕ) (f : ∀ q : ℕ, q < 8 → Row2 (lo + q)) (h1 : lo ≤ n) (h2 : n < lo + 8) : Row2 n := by
    have e := f (n - lo) (by omega)
    rwa [Nat.add_sub_cancel' h1] at e
  rcases Nat.lt_or_ge n 8 with h0 | h0
  · exact step 0 rows2_0 (by omega) (by omega)
  rcases Nat.lt_or_ge n 16 with h1 | h1
  · exact step 8 rows2_8 (by omega) (by omega)
  rcases Nat.lt_or_ge n 24 with h2 | h2
  · exact step 16 rows2_16 (by omega) (by omega)
  rcases Nat.lt_or_ge n 32 with h3 | h3
  · exact step 24 rows2_24 (by omega) (by omega)
  rcases Nat.lt_or_ge n 40 with h4 | h4
  · exact step 32 rows2_32 (by omega) (by omega)
  rcases Nat.lt_or_ge n 48 with h5 | h5
  · exact step 40 rows2_40 (by omega) (by omega)
  rcases Nat.lt_or_ge n 56 with h6 | h6
  · exact step 48 rows2_48 (by omega) (by omega)
  rcases Nat.lt_or_ge n 64 with h7 | h7
  · exact step 56 rows2_56 (by omega) (by omega)
  rcases Nat.lt_or_ge n 72 with h8 | h8
  · exact step 64 rows2_64 (by omega) (by omega)
  rcases Nat.lt_or_ge n 80 with h9 | h9
  · exact step 72 rows2_72 (by omega) (by omega)
  rcases Nat.lt_or_ge n 88 with h10 | h10
  · exact step 80 rows2_80 (by omega) (by omega)
  rcases Nat.lt_or_ge n 96 with h11 | h11
  · exact step 88 rows2_88 (by omega) (by omega)
  rcases Nat.lt_or_ge n 104 with h12 | h12
  · exact step 96 rows2_96 (by omega) (by omega)
  rcases Nat.lt_or_ge n 112 with h13 | h13
  · exact step 104 rows2_104 (by omega) (by omega)
  rcases Nat.lt_or_ge n 120 with h14 | h14
  · exact step 112 rows2_112 (by omega) (by omega)
  rcases Nat.lt_or_ge n 128 with h15 | h15
  · exact step 120 rows2_120 (by omega) (by omega)
  rcases Nat.lt_or_ge n 136 with h16 | h16
  · exact step 128 rows2_128 (by omega) (by omega)
  rcases Nat.lt_or_ge n 144 with h17 | h17
  · exact step 136 rows2_136 (by omega) (by omega)
  rcases Nat.lt_or_ge n 152 with h18 | h18
  · exact step 144 rows2_144 (by omega) (by omega)
  rcases Nat.lt_or_ge n 160 with h19 | h19
  · exact step 152 rows2_152 (by omega) (by omega)
  rcases Nat.lt_or_ge n 168 with h20 | h20
  · exact step 160 rows2_160 (by omega) (by omega)
  rcases Nat.lt_or_ge n 176 with h21 | h21
  · exact step 168 rows2_168 (by omega) (by omega)
  rcases Nat.lt_or_ge n 184 with h22 | h22
  · exact step 176 rows2_176 (by omega) (by omega)
  exact step 184 rows2_184 (by omega) (by omega)

end Cert.Proof

end
-- ==== Proof.HostConst.lean ====
/- The kernel's tables as the host holds them, at an index. -/
module

public import proofs.«01_k».proof.Proof.Gen.KernelIdeal.Value
public import proofs.«01_k».proof.Proof.Tables
public import proofs.«01_k».proof.Proof.Lit

@[expose] public section

set_option maxRecDepth 8192

noncomputable section

namespace Cert.Proof

open Idealize.ShloMosaic Idealize.ShloMosaic.TcCoe Idealize.ShloMosaic.Pointwise Cert.KernelIdeal Cert.KernelIdeal.Gen

def tabCm : Mat := fun i => FloatOps.ofBits .f32 (lit0 (S128x64.rowMajor i))
def tabBm : Mat := fun i => FloatOps.ofBits .f32 (lit1 (S128x64.rowMajor i))
def tabG : FVec Ideal S192x576 .f32 := fun i => FloatOps.ofBits .f32 (lit2 (S192x576.rowMajor i))
def tabH : FVec Ideal S3x576 .f32 := fun i => FloatOps.ofBits .f32 (lit3 (S3x576.rowMajor i))

section
variable (m : (ℓ : Loc nD τ sig) → Buf (Elt Ideal) ℓ) (c : Dev nD)

theorem V_cm : V m c main_cst = (tabCm : FVec Ideal S128x64 .f32) := by
  show StableHlo.after _ _ _ = _
  simp only [hostOps0]
  after_results_simp
  rfl

theorem V_bm : V m c main_cst_0 = (tabBm : FVec Ideal S128x64 .f32) := by
  show StableHlo.after _ _ _ = _
  simp only [hostOps0]
  after_results_simp
  rfl

theorem V_g : V m c main_cst_1 = (tabG : FVec Ideal S192x576 .f32) := by
  show StableHlo.after _ _ _ = _
  simp only [hostOps0]
  after_results_simp
  rfl

theorem V_h : V m c main_cst_2 = (tabH : FVec Ideal S3x576 .f32) := by
  show StableHlo.after _ _ _ = _
  simp only [hostOps0]
  after_results_simp
  rfl

theorem V_zT : V m c main_v0 = (transpose S64x65536 [1, 0] (m ((c : Thread nD τ).loc main_arg2) : FVec Ideal S65536x64 .f32) transposes_S65536x64_S64x65536_1_0 : FVec Ideal S64x65536 .f32) := by
  show StableHlo.after _ _ _ = _
  simp only [hostOps0]
  after_results_simp

theorem V_wT : V m c main_v1 = (transpose S64x65536 [1, 0] (m ((c : Thread nD τ).loc main_arg3) : FVec Ideal S65536x64 .f32) transposes_S65536x64_S64x65536_1_0 : FVec Ideal S64x65536 .f32) := by
  show StableHlo.after _ _ _ = _
  simp only [hostOps0]
  after_results_simp

end

theorem khalf_val : (FloatOps.ofBits (F := Ideal) .f32 0x3F000000#32 : EReal) = ((1 / 2 : ℝ) : EReal) := by
  simp [Ideal.ofBits, Ideal.ieee, -EReal.coe_mul]; norm_num

/-- A word that is the number one or zero by a condition, read as a number. -/
theorem word_one (p : Prop) [Decidable p] : (FloatOps.ofBits (F := Ideal) .f32 (if p then 0x3F800000#32 else 0x00000000#32) : EReal) = ((if p then (1 : ℝ) else 0 : ℝ) : EReal) := by
  by_cases h : p
  · rw [if_pos h, if_pos h]; exact kone_val
  · rw [if_neg h, if_neg h]; exact kzero_val

/-- A word that is a half or zero by a condition, read as a number. -/
theorem word_half (p : Prop) [Decidable p] : (FloatOps.ofBits (F := Ideal) .f32 (if p then 0x3F000000#32 else 0x00000000#32) : EReal) = ((if p then (1 / 2 : ℝ) else 0 : ℝ) : EReal) := by
  by_cases h : p
  · rw [if_pos h, if_pos h]; exact khalf_val
  · rw [if_neg h, if_neg h]; exact kzero_val

theorem tabCm_at (r : Fin 128) (k : Fin 64) : tabCm (ix2 r k) = ((if k.val ≤ top r.val then (1 : ℝ) else 0 : ℝ) : EReal) := by
  have e : tabCm (ix2 r k) = (FloatOps.ofBits (F := Ideal) .f32 (lit0t (S128x64.rowMajor (ix2 r k)).val) : EReal) := rfl
  have ei : (S128x64.rowMajor (ix2 r k)).val = r.val * 64 + k.val := Shape.rowMajor_val_two (ix2 r k)
  rw [e, ei, lit0_row r.val r.isLt k]
  exact word_one _

theorem tabBm_at (r : Fin 128) (k : Fin 64) : tabBm (ix2 r k) = ((half r.val k.val : ℝ) : EReal) := by
  have e : tabBm (ix2 r k) = (FloatOps.ofBits (F := Ideal) .f32 (lit1t (S128x64.rowMajor (ix2 r k)).val) : EReal) := rfl
  have ei : (S128x64.rowMajor (ix2 r k)).val = r.val * 64 + k.val := Shape.rowMajor_val_two (ix2 r k)
  rw [e, ei, lit1_row r.val r.isLt k]
  refine (word_half _).trans (congrArg _ ?_)
  show (if r.val < 127 ∧ (k.val = mid r.val ∨ k.val = mid r.val + 1) then (1 / 2 : ℝ) else 0) = half r.val k.val
  unfold half
  by_cases hr : r.val < 127
  · rw [if_pos hr]
    by_cases h1 : k.val = mid r.val
    · rw [if_pos ⟨hr, Or.inl h1⟩, if_pos h1, if_neg (by omega)]; norm_num
    · by_cases h2 : k.val = mid r.val + 1
      · rw [if_pos ⟨hr, Or.inr h2⟩, if_neg h1, if_pos h2]; norm_num
      · rw [if_neg (fun h => h.2.elim h1 h2), if_neg h1, if_neg h2]; norm_num
  · rw [if_neg hr, if_neg (fun h => hr h.1)]

theorem tabG_at (s : Fin 192) (t : Fin 576) : tabG (ix2 s t) = ((if s.val = t.val / 3 then (1 : ℝ) else 0 : ℝ) : EReal) := by
  have e : tabG (ix2 s t) = (FloatOps.ofBits (F := Ideal) .f32 (lit2t (S192x576.rowMajor (ix2 s t)).val) : EReal) := rfl
  have ei : (S192x576.rowMajor (ix2 s t)).val = s.val * 576 + t.val := Shape.rowMajor_val_two (ix2 s t)
  rw [e, ei, lit2_row s.val s.isLt t]
  exact word_one _

theorem tabH_at (s : Fin 3) (t : Fin 576) : tabH (ix2 s t) = ((if s.val = t.val % 3 then (1 : ℝ) else 0 : ℝ) : EReal) := by
  have e : tabH (ix2 s t) = (FloatOps.ofBits (F := Ideal) .f32 (lit3t (S3x576.rowMajor (ix2 s t)).val) : EReal) := rfl
  have ei : (S3x576.rowMajor (ix2 s t)).val = s.val * 576 + t.val := Shape.rowMajor_val_two (ix2 s t)
  rw [e, ei, lit3_row s.val s.isLt t]
  exact word_one _

end Cert.Proof

end
-- ==== Proof.Pts.lean ====
/- The kernel's points at an index: each product with a table of zeros and ones picks out one entry. -/
module

public import proofs.«01_k».proof.Proof.HostConst
public import proofs.«01_k».proof.Proof.SortB
public import Idealize.ShloMosaic.Lib.Pointwise

@[expose] public section

noncomputable section

namespace Cert.Proof

open Idealize.ShloMosaic Idealize.ShloMosaic.Pointwise Cert.KernelIdeal Cert.KernelIdeal.Gen Cert.KernelIdeal.Gen.kernelRun0_A
open scoped BigOperators

abbrev Dep := FVec Ideal S256x192 .f32
abbrev Vec3 := FVec Ideal S256x3 .f32
abbrev Out := FVec Ideal S256x576 .f32
abbrev TabG := FVec Ideal S192x576 .f32
abbrev TabH := FVec Ideal S3x576 .f32

abbrev zeroOut : Out := constant S256x576 .f32 0x00000000#32

/-- A product as the kernel writes it: the leading part times the table plus the rest times the table. -/
def prodG (A : Dep) (G : TabG) : Out :=
  addf (matmul dot_S256x192_S192x576_S256x576_1_0_0_1_n_n none (truncf .bf16 A bitsLt_bf16_f32) (truncf .bf16 G bitsLt_bf16_f32) zeroOut)
    (matmul dot_S256x192_S192x576_S256x576_1_0_0_1_n_n none (truncf .bf16 (subf A (extf .f32 (truncf .bf16 A bitsLt_bf16_f32) bitsLt_bf16_f32)) bitsLt_bf16_f32) (truncf .bf16 G bitsLt_bf16_f32) zeroOut)

def prodH (A : Vec3) (H : TabH) : Out :=
  addf (matmul dot_S256x3_S3x576_S256x576_1_0_0_1_n_n none (truncf .bf16 A bitsLt_bf16_f32) (truncf .bf16 H bitsLt_bf16_f32) zeroOut)
    (matmul dot_S256x3_S3x576_S256x576_1_0_0_1_n_n none (truncf .bf16 (subf A (extf .f32 (truncf .bf16 A bitsLt_bf16_f32) bitsLt_bf16_f32)) bitsLt_bf16_f32) (truncf .bf16 H bitsLt_bf16_f32) zeroOut)

theorem prodG_read (A : Dep) (G : TabG) (r : Fin 256) (t : Fin 576) :
    prodG A G (ix2 r t) = (∑ k : Fin 192, (A (ix2 r k) : EReal) * G (ix2 k t)) + ∑ k : Fin 192, ((A (ix2 r k) : EReal) - A (ix2 r k)) * G (ix2 k t) := by
  pointwise [prodG]

theorem prodH_read (A : Vec3) (H : TabH) (r : Fin 256) (t : Fin 576) :
    prodH A H (ix2 r t) = (∑ k : Fin 3, (A (ix2 r k) : EReal) * H (ix2 k t)) + ∑ k : Fin 3, ((A (ix2 r k) : EReal) - A (ix2 r k)) * H (ix2 k t) := by
  pointwise [prodH]

theorem pick_one {n : ℕ} (a : Fin n → ℝ) (A H : Fin n → EReal) (q : Fin n) (hA : ∀ k, A k = ((a k : ℝ) : EReal))
    (hH : ∀ k, H k = ((if k.val = q.val then (1 : ℝ) else 0 : ℝ) : EReal)) :
    (∑ k, A k * H k) + ∑ k, (A k - A k) * H k = A q := by
  have e1 : ∀ k, A k * H k = ((if k = q then a k else 0 : ℝ) : EReal) := fun k => by
    rw [hA, hH, ← EReal.coe_mul]
    by_cases h : k = q
    · rw [if_pos h, if_pos (congrArg Fin.val h), mul_one]
    · rw [if_neg h, if_neg (fun h' => h (Fin.ext h')), mul_zero]
  have e2 : ∀ k, (A k - A k) * H k = ((0 : ℝ) : EReal) := fun k => by
    rw [hA, ← EReal.coe_sub, sub_self, EReal.coe_zero, zero_mul]
  simp only [e1, e2]
  rw [ksum_coe, ksum_coe, ← EReal.coe_add, hA, Finset.sum_ite_eq' , if_pos (Finset.mem_univ _), Finset.sum_const_zero, add_zero]

def third (t : Fin 576) : Fin 192 := ⟨t.val / 3, by omega⟩
def axis (t : Fin 576) : Fin 3 := ⟨t.val % 3, by omega⟩

theorem prodG_at (A : Dep) (G : TabG) (r : Fin 256) (t : Fin 576) (a : Fin 192 → ℝ) (hA : ∀ k, A (ix2 r k) = ((a k : ℝ) : EReal))
    (hG : ∀ k : Fin 192, G (ix2 k t) = tabG (ix2 k t)) : prodG A G (ix2 r t) = A (ix2 r (third t)) := by
  rw [prodG_read]
  exact pick_one a (fun k => A (ix2 r k)) (fun k => G (ix2 k t)) (third t) hA (fun k => (hG k).trans (tabG_at k t))

theorem prodH_at (A : Vec3) (H : TabH) (r : Fin 256) (t : Fin 576) (a : Fin 3 → ℝ) (hA : ∀ k, A (ix2 r k) = ((a k : ℝ) : EReal))
    (hH : ∀ k : Fin 3, H (ix2 k t) = tabH (ix2 k t)) : prodH A H (ix2 r t) = A (ix2 r (axis t)) := by
  rw [prodH_read]
  exact pick_one a (fun k => A (ix2 r k)) (fun k => H (ix2 k t)) (axis t) hA (fun k => (hH k).trans (tabH_at k t))

/-- The kernel's points from its depths, origins and directions. -/
def kPts (o d : Vec3) (z : Dep) (G : TabG) (H : TabH) : Out := addf (prodH o H) (mulf (prodH d H) (prodG z G))

theorem kPts_at (o d : Vec3) (z : Dep) (G : TabG) (H : TabH) (r : Fin 256) (t : Fin 576)
    (ro rd : Fin 3 → ℝ) (rz : Fin 192 → ℝ) (ho : ∀ k, o (ix2 r k) = ((ro k : ℝ) : EReal)) (hd : ∀ k, d (ix2 r k) = ((rd k : ℝ) : EReal))
    (hz : ∀ k, z (ix2 r k) = ((rz k : ℝ) : EReal)) (hG : ∀ k : Fin 192, G (ix2 k t) = tabG (ix2 k t)) (hH : ∀ k : Fin 3, H (ix2 k t) = tabH (ix2 k t)) :
    kPts o d z G H (ix2 r t) = (o (ix2 r (axis t)) : EReal) + d (ix2 r (axis t)) * z (ix2 r (third t)) := by
  show (prodH o H (ix2 r t) : EReal) + prodH d H (ix2 r t) * prodG z G (ix2 r t) = _
  rw [prodH_at o H r t ro ho hH, prodH_at d H r t rd hd hH, prodG_at z G r t rz hz hG]

end Cert.Proof
-- ==== Proof.KOut.lean ====
/- The kernel's points, from its loads and its depths. -/
module

public import proofs.«01_k».proof.Proof.KRow
public import proofs.«01_k».proof.Proof.Pts
public import Idealize.ShloMosaic.Lib.Pipeline.ValueKit.Tiles

@[expose] public section

noncomputable section

namespace Cert.Proof

open Idealize.ShloMosaic Idealize.ShloMosaic.Pointwise Cert.KernelIdeal Cert.KernelIdeal.Gen Cert.KernelIdeal.Gen.kernelRun0_A

/-- Rows 0 to 255 of a block of origins or directions. -/
def top3 (a : Memref sig .tc .vmem S512x3 .f32) (h : a.IsWhole) (x : Vec Ideal S512x3 .f32) : Vec3 :=
  View.readAt (Elt Ideal) a.view (Rect.unit (s := S512x3) ![0, 0] S256x3.size inb_S512x3_S256x3_0_0).toLoadRect (h.unread x)

/-- Rows 256 to 511. -/
def bot3 (a : Memref sig .tc .vmem S512x3 .f32) (h : a.IsWhole) (x : Vec Ideal S512x3 .f32) : Vec3 :=
  View.readAt (Elt Ideal) a.view (Rect.unit (s := S512x3) ![256, 0] S256x3.size inb_S512x3_S256x3_256_0).toLoadRect (h.unread x)

theorem top3_at (a : Memref sig .tc .vmem S512x3 .f32) (h : a.IsWhole) (x : Vec Ideal S512x3 .f32) (r : Fin 256) (k : Fin 3) :
    top3 a h x (ix2 r k) = x (ix2 ⟨r.val, by omega⟩ k) := by
  unfold top3
  rw [View.readAt_eq_ld, h.read_unread]
  refine View.ld_unit_apply_of x ![0, 0] S256x3.size inb_S512x3_S256x3_0_0 (ix2 r k) (ix2 ⟨r.val, by omega⟩ k) (fun b => ?_)
  match b with
  | ⟨0, _⟩ => exact (Nat.zero_add _).symm
  | ⟨1, _⟩ => exact (Nat.zero_add _).symm

theorem bot3_at (a : Memref sig .tc .vmem S512x3 .f32) (h : a.IsWhole) (x : Vec Ideal S512x3 .f32) (r : Fin 256) (k : Fin 3) :
    bot3 a h x (ix2 r k) = x (ix2 ⟨256 + r.val, by omega⟩ k) := by
  unfold bot3
  rw [View.readAt_eq_ld, h.read_unread]
  refine View.ld_unit_apply_of x ![256, 0] S256x3.size inb_S512x3_S256x3_256_0 (ix2 r k) (ix2 ⟨256 + r.val, by omega⟩ k) (fun b => ?_)
  match b with
  | ⟨0, _⟩ => rfl
  | ⟨1, _⟩ => exact (Nat.zero_add _).symm

variable (c : Dev nD)
  (arg1 : Memref sig .tc .vmem S512x3 .f32) (harg1 : arg1.IsWhole)
  (arg2 : Memref sig .tc .vmem S512x3 .f32) (harg2 : arg2.IsWhole)
  (arg3 : Memref sig .tc .vmem S512x64 .f32) (harg3 : arg3.IsWhole)
  (arg4 : Memref sig .tc .vmem S64x512 .f32) (harg4 : arg4.IsWhole)
  (arg5 : Memref sig .tc .vmem S64x512 .f32) (harg5 : arg5.IsWhole)
  (arg6 : Memref sig .tc .vmem S128x64 .f32) (harg6 : arg6.IsWhole)
  (arg7 : Memref sig .tc .vmem S128x64 .f32) (harg7 : arg7.IsWhole)
  (arg8 : Memref sig .tc .vmem S192x576 .f32) (harg8 : arg8.IsWhole)
  (arg9 : Memref sig .tc .vmem S3x576 .f32) (harg9 : arg9.IsWhole)
  (x0 : Vec Ideal S512x3 .f32) (x1 : Vec Ideal S512x3 .f32) (x2 : Vec Ideal S512x64 .f32) (x3 : Vec Ideal S64x512 .f32) (x4 : Vec Ideal S64x512 .f32) (x5 : Vec Ideal S128x64 .f32) (x6 : Vec Ideal S128x64 .f32) (x7 : Vec Ideal S192x576 .f32) (x8 : Vec Ideal S3x576 .f32)

/-- The depth table as the body reads it. -/
abbrev tab8 (arg8 : Memref sig .tc .vmem S192x576 .f32) (harg8 : arg8.IsWhole) (x : Vec Ideal S192x576 .f32) : Vec Ideal S192x576 .f32 :=
  View.readAt (Elt Ideal) arg8.view (Rect.unit (s := S192x576) ![0, 0] S192x576.size inb_S192x576_S192x576_0_0).toLoadRect (harg8.unread x)

theorem v2465_eq : tab8 arg8 harg8 x7 = x7 := by
  unfold tab8
  rw [View.readAt_eq_ld, harg8.read_unread, View.ld_unit_zero (by decide)]

/-- The coordinate table as the body reads it. -/
abbrev tab9 (arg9 : Memref sig .tc .vmem S3x576 .f32) (harg9 : arg9.IsWhole) (x : Vec Ideal S3x576 .f32) : Vec Ideal S3x576 .f32 :=
  View.readAt (Elt Ideal) arg9.view (Rect.unit (s := S3x576) ![0, 0] S3x576.size inb_S3x576_S3x576_0_0).toLoadRect (harg9.unread x)

theorem v2468_eq : tab9 arg9 harg9 x8 = x8 := by
  unfold tab9
  rw [View.readAt_eq_ld, harg9.read_unread, View.ld_unit_zero (by decide)]

theorem ptsLo_eq : sl.v2490 c arg1 harg1 arg2 harg2 arg3 harg3 arg4 harg4 arg5 harg5 arg6 harg6 arg7 harg7 arg8 harg8 arg9 harg9 x0 x1 x2 x3 x4 x5 x6 x7 x8 = kPts (top3 arg1 harg1 x0) (top3 arg2 harg2 x1) (sl.v2460 c arg3 harg3 arg4 harg4 arg5 harg5 arg6 harg6 arg7 harg7 x2 x3 x4 x5 x6) (tab8 arg8 harg8 x7) (tab9 arg9 harg9 x8) := rfl

abbrev ptsUp : Out := sl.r_84 c arg1 harg1 arg2 harg2 arg3 harg3 arg4 harg4 arg5 harg5 arg6 harg6 arg7 harg7 arg8 harg8 arg9 harg9 x0 x1 x2 x3 x4 x5 x6 x7 x8

theorem ptsUp_eq : ptsUp c arg1 harg1 arg2 harg2 arg3 harg3 arg4 harg4 arg5 harg5 arg6 harg6 arg7 harg7 arg8 harg8 arg9 harg9 x0 x1 x2 x3 x4 x5 x6 x7 x8 = kPts (bot3 arg1 harg1 x0) (bot3 arg2 harg2 x1) (zUp c arg3 harg3 arg4 harg4 arg5 harg5 arg6 harg6 arg7 harg7 x2 x3 x4 x5 x6) (tab8 arg8 harg8 x7) (tab9 arg9 harg9 x8) := rfl

end Cert.Proof
-- ==== Proof.Out.lean ====
/- What the body leaves in each output's block, store by store. -/
module

public import proofs.«01_k».proof.Proof.Step
public import proofs.«01_k».proof.Proof.Gen.KernelIdeal.Frame

@[expose] public section

noncomputable section

namespace Cert.Proof

open Idealize.ShloMosaic Idealize.ShloMosaic.Pointwise Cert.KernelIdeal Cert.KernelIdeal.Gen Cert.KernelIdeal.Gen.kernelRun0_A

theorem at_emb {S : Shape} {e : EltTy} (r : Rect S) (w : r.shape.Idx → Elt Ideal e) (L : List (View.Piece (Elt Ideal) S e))
    (y : S.Idx) (x : r.shape.Idx) (h : y = r.emb x) : View.canon ((⟨r, w⟩ : View.Piece (Elt Ideal) S e) :: L) y = w x := by
  subst h
  exact View.canon_cons_emb r w L x

/-- An entry of the upper half of two stores of 256 rows. -/
theorem upper {n : Nat} (inb2 : ∀ a, (![256, 0] : Fin 2 → Nat) a + (![256, n] : Fin 2 → Nat) a ≤ (⟨2, ![512, n]⟩ : Shape).size a)
    (inb1 : ∀ a, (![0, 0] : Fin 2 → Nat) a + (![256, n] : Fin 2 → Nat) a ≤ (⟨2, ![512, n]⟩ : Shape).size a)
    (w2 w1 : (⟨2, ![256, n]⟩ : Shape).Idx → EReal) (r : Fin 256) (k : Fin n) :
    View.canon ([⟨Rect.unit ![256, 0] ![256, n] inb2, w2⟩, ⟨Rect.unit ![0, 0] ![256, n] inb1, w1⟩] :
      List (View.Piece (Elt Ideal) (⟨2, ![512, n]⟩ : Shape) .f32)) (ix2 ⟨256 + r.val, by omega⟩ k) = w2 (ix2 r k) := by
  refine at_emb (S := ⟨2, ![512, n]⟩) (e := .f32) (Rect.unit ![256, 0] ![256, n] inb2) w2 _ _ (ix2 r k) ?_
  funext a
  match a with
  | 0 => exact Fin.ext (show 256 + r.val = 256 + 1 * r.val by omega)
  | 1 => exact Fin.ext (show k.val = 0 + 1 * k.val by omega)

/-- An entry of the lower half. -/
theorem lower {n : Nat} (inb2 : ∀ a, (![256, 0] : Fin 2 → Nat) a + (![256, n] : Fin 2 → Nat) a ≤ (⟨2, ![512, n]⟩ : Shape).size a)
    (inb1 : ∀ a, (![0, 0] : Fin 2 → Nat) a + (![256, n] : Fin 2 → Nat) a ≤ (⟨2, ![512, n]⟩ : Shape).size a)
    (w2 w1 : (⟨2, ![256, n]⟩ : Shape).Idx → EReal) (r : Fin 256) (k : Fin n) :
    View.canon ([⟨Rect.unit ![256, 0] ![256, n] inb2, w2⟩, ⟨Rect.unit ![0, 0] ![256, n] inb1, w1⟩] :
      List (View.Piece (Elt Ideal) (⟨2, ![512, n]⟩ : Shape) .f32)) (ix2 ⟨r.val, by omega⟩ k) = w1 (ix2 r k) := by
  rw [View.canon_cons_of_not_mem]
  · refine at_emb (S := ⟨2, ![512, n]⟩) (e := .f32) (Rect.unit ![0, 0] ![256, n] inb1) w1 _ _ (ix2 r k) ?_
    funext a
    match a with
    | 0 => exact Fin.ext (show r.val = 0 + 1 * r.val by omega)
    | 1 => exact Fin.ext (show k.val = 0 + 1 * k.val by omega)
  · intro h
    have e : (256 : Nat) ≤ r.val := ((Rect.mem_set_unit (inb := inb2)).mp h 0).1
    omega

/-- An entry of one store of the whole. -/
theorem whole {n : Nat} (inb : ∀ a, (![0, 0] : Fin 2 → Nat) a + (⟨2, ![512, n]⟩ : Shape).size a ≤ (⟨2, ![512, n]⟩ : Shape).size a)
    (w : (⟨2, ![512, n]⟩ : Shape).Idx → EReal) (r : Fin 512) (k : Fin n) :
    View.canon ([⟨Rect.unit ![0, 0] (⟨2, ![512, n]⟩ : Shape).size inb, w⟩] :
      List (View.Piece (Elt Ideal) (⟨2, ![512, n]⟩ : Shape) .f32)) (ix2 r k) = w (ix2 r k) := by
  refine at_emb (S := ⟨2, ![512, n]⟩) (e := .f32) (Rect.unit ![0, 0] (⟨2, ![512, n]⟩ : Shape).size inb) w _ _ (ix2 r k) ?_
  funext a
  match a with
  | 0 => exact Fin.ext (show r.val = 0 + 1 * r.val by omega)
  | 1 => exact Fin.ext (show k.val = 0 + 1 * k.val by omega)

variable (c : Dev nD) (i : grid0.Coords)
  (arg1 : Memref sig .tc .vmem S512x3 .f32) (harg1 : arg1.IsWhole)
  (arg2 : Memref sig .tc .vmem S512x3 .f32) (harg2 : arg2.IsWhole)
  (arg3 : Memref sig .tc .vmem S512x64 .f32) (harg3 : arg3.IsWhole)
  (arg4 : Memref sig .tc .vmem S64x512 .f32) (harg4 : arg4.IsWhole)
  (arg5 : Memref sig .tc .vmem S64x512 .f32) (harg5 : arg5.IsWhole)
  (arg6 : Memref sig .tc .vmem S128x64 .f32) (harg6 : arg6.IsWhole)
  (arg7 : Memref sig .tc .vmem S128x64 .f32) (harg7 : arg7.IsWhole)
  (arg8 : Memref sig .tc .vmem S192x576 .f32) (harg8 : arg8.IsWhole)
  (arg9 : Memref sig .tc .vmem S3x576 .f32) (harg9 : arg9.IsWhole)
  (arg10 : Memref sig .tc .vmem S512x576 .f32) (harg10 : arg10.IsWhole)
  (arg11 : Memref sig .tc .vmem S512x192 .f32) (harg11 : arg11.IsWhole)
  (arg12 : Memref sig .tc .vmem S512x128 .f32) (harg12 : arg12.IsWhole)
  (arg13 : Memref sig .tc .vmem S8x128 .f32) (harg13 : arg13.IsWhole)
  (x0 : Vec Ideal S512x3 .f32) (x1 : Vec Ideal S512x3 .f32) (x2 : Vec Ideal S512x64 .f32) (x3 : Vec Ideal S64x512 .f32) (x4 : Vec Ideal S64x512 .f32) (x5 : Vec Ideal S128x64 .f32) (x6 : Vec Ideal S128x64 .f32) (x7 : Vec Ideal S192x576 .f32) (x8 : Vec Ideal S3x576 .f32)

theorem out11 (r : Fin 512) (k : Fin 128) : out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 r k) = (sl.r_4 c arg4 harg4 arg5 harg5 arg6 harg6 arg7 harg7 x3 x4 x5 x6) (ix2 r k) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  exact whole (n := 128) _ _ r k

theorem out9_lower (r : Fin 256) (k : Fin 576) : out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 ⟨r.val, by omega⟩ k) = (sl.v2490 c arg1 harg1 arg2 harg2 arg3 harg3 arg4 harg4 arg5 harg5 arg6 harg6 arg7 harg7 arg8 harg8 arg9 harg9 x0 x1 x2 x3 x4 x5 x6 x7 x8) (ix2 r k) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  exact lower (n := 576) _ _ _ _ r k

theorem out9_upper (r : Fin 256) (k : Fin 576) : out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 ⟨256 + r.val, by omega⟩ k) = (sl.r_84 c arg1 harg1 arg2 harg2 arg3 harg3 arg4 harg4 arg5 harg5 arg6 harg6 arg7 harg7 arg8 harg8 arg9 harg9 x0 x1 x2 x3 x4 x5 x6 x7 x8) (ix2 r k) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  exact upper (n := 576) _ _ _ _ r k

theorem out10_lower (r : Fin 256) (k : Fin 192) : out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 ⟨r.val, by omega⟩ k) = (sl.v2460 c arg3 harg3 arg4 harg4 arg5 harg5 arg6 harg6 arg7 harg7 x2 x3 x4 x5 x6) (ix2 r k) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  exact lower (n := 192) _ _ _ _ r k

theorem out10_upper (r : Fin 256) (k : Fin 192) : out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 ⟨256 + r.val, by omega⟩ k) = (k0_pay578 (sl.r_79 c arg3 harg3 arg4 harg4 arg5 harg5 arg6 harg6 arg7 harg7 x2 x3 x4 x5 x6) (sl.r_80 c arg3 harg3 arg4 harg4 arg5 harg5 arg6 harg6 arg7 harg7 x2 x3 x4 x5 x6) (k0_pay573 sl.v800) (k0_pay574 sl.v800) (sl.r_81 c arg3 harg3 arg4 harg4 arg5 harg5 arg6 harg6 arg7 harg7 x2 x3 x4 x5 x6) (sl.r_82 c arg3 harg3 arg4 harg4 arg5 harg5 arg6 harg6 arg7 harg7 x2 x3 x4 x5 x6) (sl.r_83 c arg3 harg3 arg4 harg4 arg5 harg5 arg6 harg6 arg7 harg7 x2 x3 x4 x5 x6)) (ix2 r k) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  exact upper (n := 192) _ _ _ _ r k

end Cert.Proof

end
-- ==== Proof.RPts.lean ====
/- The reference's points at an index. -/
module

public import proofs.«01_k».proof.Proof.RefDefs
public import Idealize.ShloMosaic.Lib.ValueIdxCore

@[expose] public section

noncomputable section

namespace Cert.Ref

open Idealize.ShloMosaic Idealize.ShloMosaic.TcCoe Idealize.ShloMosaic.Pointwise Cert.ReferenceIdeal Cert.ReferenceIdeal.Gen Cert.ReferenceIdeal.Value

theorem flat_at (x : FVec Ideal S65536x192x3 .f32) (n : Fin 65536) (t : Fin 576) :
    shapeCast S65536x576 x shapeCasts_S65536x192x3_S65536x576 (ix2 n t) = x (ix3 n ⟨t.val / 3, by omega⟩ ⟨t.val % 3, by omega⟩) := by
  refine shapeCast_apply x _ (ix2 n t) (ix3 n ⟨t.val / 3, by omega⟩ ⟨t.val % 3, by omega⟩) ?_
  rw [Shape.rowMajor_val_two, Shape.rowMajor_val_three]
  show (n.val * 192 + t.val / 3) * 3 + t.val % 3 = n.val * 576 + t.val
  omega

theorem sum_at (o d : FVec Ideal S65536x3 .f32) (z : FVec Ideal S65536x192 .f32) (n : Fin 65536) (q : Fin 192) (a : Fin 3) :
    addf (broadcastInDim S65536x192x3 ![0, 1, 2] bcast_S65536x1x3_S65536x192x3_0_1_2 (broadcastInDim S65536x1x3 ![0, 2] bcast_S65536x3_S65536x1x3_0_2 o)) (mulf (broadcastInDim S65536x192x3 ![0, 1, 2] bcast_S65536x1x3_S65536x192x3_0_1_2 (broadcastInDim S65536x1x3 ![0, 2] bcast_S65536x3_S65536x1x3_0_2 d)) (broadcastInDim S65536x192x3 ![0, 1, 2] bcast_S65536x192x1_S65536x192x3_0_1_2 (broadcastInDim S65536x192x1 ![0, 1] bcast_S65536x192_S65536x192x1_0_1 z))) (ix3 n q a)
      = (o (ix2 n a) : EReal) + d (ix2 n a) * z (ix2 n q) := by
  pointwise

theorem rPts_at (o d : FVec Ideal S65536x3 .f32) (z w : Ray) (n : Fin 65536) (t : Fin 576) :
    rPts o d z w (ix2 n t) = (o (ix2 n ⟨t.val % 3, by omega⟩) : EReal) + d (ix2 n ⟨t.val % 3, by omega⟩) * rSorted z w (ix2 n ⟨t.val / 3, by omega⟩) := by
  unfold rPts
  generalize rSorted z w = X
  exact (flat_at _ n t).trans (sum_at o d X n _ _)

end Cert.Ref
-- ==== Proof.PreReal.lean ====
/- What the precondition says: every entry is a real number, and the weights are not negative. -/
module

public import proofs.«01_k».proof.Pre_finite_and_nonneg
public import Idealize.ShloMosaic.Lib.Pointwise
public import Idealize.ShloMosaic.Lib.ValueIdxCore

@[expose] public section

noncomputable section

namespace Cert.Proof

open Idealize.ShloMosaic Idealize.ShloMosaic.Pointwise Cert.Pre_finite_and_nonneg

theorem pre_facts : Cert.Pre_finite_and_nonneg.Facts := ⟨by decide, by decide⟩

theorem inf_val : (Ideal.ofBits .f32 0x7F800000#32 : EReal) = ⊤ := by simp [Ideal.ofBits, Ideal.ieee]

theorem real_of_finite (x : EReal) (h : Ideal.cmp .olt (max x (-x)) (Ideal.ofBits .f32 0x7F800000#32) = 1#1) : ∃ a : ℝ, x = (a : EReal) := by
  rw [inf_val] at h
  have hlt : max x (-x) < ⊤ := by
    by_contra hn
    simp [Ideal.cmp, hn] at h
  rw [max_lt_iff] at hlt
  refine ⟨x.toReal, (EReal.coe_toReal hlt.1.ne fun hb => ?_).symm⟩
  rw [hb] at hlt
  exact absurd hlt.2 (by simp)

theorem nonneg_of_ge (x : EReal) (h : Ideal.cmp .oge x (Ideal.ofBits .f32 0x00000000#32) = 1#1) : 0 ≤ x := by
  rw [Ideal.ofBits_zero_f32] at h
  by_contra hn
  simp [Ideal.cmp, hn] at h

theorem and_one : ∀ a b : BitVec 1, IntOp.andi a b = 1#1 → a = 1#1 ∧ b = 1#1 := by decide

/-- A row of reals as a function on the naturals. -/
theorem row_real {n : ℕ} (f : Fin n → EReal) (h : ∀ k, ∃ a : ℝ, f k = (a : EReal)) : ∃ g : ℕ → ℝ, ∀ k, f k = ((g k.val : ℝ) : EReal) := by
  choose g hg using h
  refine ⟨fun i => if hi : i < n then g ⟨i, hi⟩ else 0, fun k => ?_⟩
  rw [hg k]
  have e : (if hi : k.val < n then g ⟨k.val, hi⟩ else 0) = g k := dif_pos k.isLt
  exact congrArg (fun x : ℝ => (x : EReal)) e.symm

variable [Cert.Pre_finite_and_nonneg.Facts]
variable (o d : FVec Ideal S65536x3 .f32) (z w : FVec Ideal S65536x64 .f32)

theorem pre_o (h : (fn (F := Ideal) o d z w).1 = fun _ => 1#1) (i : S65536x3.Idx) : ∃ a : ℝ, o i = (a : EReal) :=
  real_of_finite (o i) (congrFun h i)

theorem pre_d (h : (fn (F := Ideal) o d z w).2.1 = fun _ => 1#1) (i : S65536x3.Idx) : ∃ a : ℝ, d i = (a : EReal) :=
  real_of_finite (d i) (congrFun h i)

theorem pre_z (h : (fn (F := Ideal) o d z w).2.2.1 = fun _ => 1#1) (i : S65536x64.Idx) : ∃ a : ℝ, z i = (a : EReal) :=
  real_of_finite (z i) (congrFun h i)

theorem pre_w (h : (fn (F := Ideal) o d z w).2.2.2 = fun _ => 1#1) (i : S65536x64.Idx) : ∃ a : ℝ, 0 ≤ a ∧ w i = (a : EReal) := by
  obtain ⟨h1, h2⟩ := and_one _ _ (congrFun h i)
  obtain ⟨a, ha⟩ := real_of_finite (w i) h1
  have h0 := nonneg_of_ge (w i) h2
  rw [ha] at h0
  exact ⟨a, EReal.coe_nonneg.mp h0, ha⟩

end Cert.Proof
-- ==== Proof.Block.lean ====
/- One block of the kernel's results is a block of the reference's. -/
module

public import proofs.«01_k».proof.Proof.KOut
public import proofs.«01_k».proof.Proof.Out
public import proofs.«01_k».proof.Proof.Tables
public import proofs.«01_k».proof.Proof.RPts
public import proofs.«01_k».proof.Proof.PreReal

@[expose] public section

noncomputable section

namespace Cert.Proof

open Idealize.ShloMosaic Idealize.ShloMosaic.Pointwise Cert.KernelIdeal Cert.KernelIdeal.Gen Cert.KernelIdeal.Gen.kernelRun0_A Cert.Ref

abbrev Rays3 := FVec Ideal S65536x3 .f32

/-- Every entry is a real number and the weights are not negative. -/
structure Good (o d : Rays3) (z w : Ray) : Prop where
  o : ∀ n k, ∃ a : ℝ, o (ix2 n k) = (a : EReal)
  d : ∀ n k, ∃ a : ℝ, d (ix2 n k) = (a : EReal)
  z : ∀ n k, ∃ a : ℝ, z (ix2 n k) = (a : EReal)
  w : ∀ n k, ∃ a : ℝ, 0 ≤ a ∧ w (ix2 n k) = (a : EReal)

/-- The nine blocks the body reads hold the rays `n 0, n 1, …` and the tables. -/
structure Reads (x0 x1 : Vec Ideal S512x3 .f32) (x2 : Vec Ideal S512x64 .f32) (x3 x4 : Vec Ideal S64x512 .f32) (x5 x6 : Vec Ideal S128x64 .f32)
    (x7 : Vec Ideal S192x576 .f32) (x8 : Vec Ideal S3x576 .f32) (o d : Rays3) (z w : Ray) (n : Fin 512 → Fin 65536) : Prop where
  h0 : ∀ (q : Fin 512) (k : Fin 3), x0 (ix2 q k) = o (ix2 (n q) k)
  h1 : ∀ (q : Fin 512) (k : Fin 3), x1 (ix2 q k) = d (ix2 (n q) k)
  h2 : ∀ (q : Fin 512) (k : Fin 64), x2 (ix2 q k) = z (ix2 (n q) k)
  h3 : ∀ (k : Fin 64) (q : Fin 512), x3 (ix2 k q) = z (ix2 (n q) k)
  h4 : ∀ (k : Fin 64) (q : Fin 512), x4 (ix2 k q) = w (ix2 (n q) k)
  h5 : ∀ (r : Fin 128) (k : Fin 64), x5 (ix2 r k) = tabCm (ix2 r k)
  h6 : ∀ (r : Fin 128) (k : Fin 64), x6 (ix2 r k) = tabBm (ix2 r k)
  h7 : ∀ (r : Fin 192) (k : Fin 576), x7 (ix2 r k) = tabG (ix2 r k)
  h8 : ∀ (r : Fin 3) (k : Fin 576), x8 (ix2 r k) = tabH (ix2 r k)

/-- The samples of a ray are real numbers. -/
theorem Good.samp {o d : Rays3} {z w : Ray} (G : Good o d z w) (n : Fin 65536) :
    ∃ zr wr : ℕ → ℝ, (∀ k : Fin 64, z (ix2 n k) = ((zr k.val : ℝ) : EReal)) ∧ (∀ k : Fin 64, w (ix2 n k) = ((wr k.val : ℝ) : EReal)) ∧ (∀ i, i < 64 → 0 ≤ wr i)
      ∧ ∀ s : Fin 128, rSamp z w (ix2 n s) = ((Ray.inv zr wr (Ray.quant s.val) : ℝ) : EReal) := by
  obtain ⟨zr, hz⟩ := row_real (fun k : Fin 64 => (z (ix2 n k) : EReal)) (fun k => G.z n k)
  obtain ⟨wr, hw⟩ := row_real (fun k : Fin 64 => (w (ix2 n k) : EReal)) (fun k => (G.w n k).imp fun _ h => h.2)
  have h0 : ∀ i, i < 64 → 0 ≤ wr i := fun i hi => by
    obtain ⟨a, ha, e⟩ := G.w n ⟨i, hi⟩
    have e' := (hw ⟨i, hi⟩).symm.trans e
    rw [EReal.coe_eq_coe_iff] at e'
    exact e' ▸ ha
  exact ⟨zr, wr, hz, hw, h0, fun s => rSamp_at z w zr wr n hz hw h0 s⟩

theorem Good.sorted {o d : Rays3} {z w : Ray} (G : Good o d z w) (n : Fin 65536) (k : Fin 192) : ∃ x : ℝ, rSorted z w (ix2 n k) = (x : EReal) := by
  obtain ⟨zr, wr, -, -, -, hs⟩ := G.samp n
  exact rSorted_real z w n (fun q => G.z n q) (fun s => ⟨_, hs s⟩) k

variable (c : Dev nD)
  (arg1 : Memref sig .tc .vmem S512x3 .f32) (harg1 : arg1.IsWhole)
  (arg2 : Memref sig .tc .vmem S512x3 .f32) (harg2 : arg2.IsWhole)
  (arg3 : Memref sig .tc .vmem S512x64 .f32) (harg3 : arg3.IsWhole)
  (arg4 : Memref sig .tc .vmem S64x512 .f32) (harg4 : arg4.IsWhole)
  (arg5 : Memref sig .tc .vmem S64x512 .f32) (harg5 : arg5.IsWhole)
  (arg6 : Memref sig .tc .vmem S128x64 .f32) (harg6 : arg6.IsWhole)
  (arg7 : Memref sig .tc .vmem S128x64 .f32) (harg7 : arg7.IsWhole)
  (arg8 : Memref sig .tc .vmem S192x576 .f32) (harg8 : arg8.IsWhole)
  (arg9 : Memref sig .tc .vmem S3x576 .f32) (harg9 : arg9.IsWhole)
  (x0 : Vec Ideal S512x3 .f32) (x1 : Vec Ideal S512x3 .f32) (x2 : Vec Ideal S512x64 .f32) (x3 : Vec Ideal S64x512 .f32) (x4 : Vec Ideal S64x512 .f32) (x5 : Vec Ideal S128x64 .f32) (x6 : Vec Ideal S128x64 .f32) (x7 : Vec Ideal S192x576 .f32) (x8 : Vec Ideal S3x576 .f32)
  (i : grid0.Coords)
  (arg10 : Memref sig .tc .vmem S512x576 .f32) (harg10 : arg10.IsWhole)
  (arg11 : Memref sig .tc .vmem S512x192 .f32) (harg11 : arg11.IsWhole)
  (arg12 : Memref sig .tc .vmem S512x128 .f32) (harg12 : arg12.IsWhole)
  (arg13 : Memref sig .tc .vmem S8x128 .f32) (harg13 : arg13.IsWhole)
  (o d : Rays3) (z w : Ray) (n : Fin 512 → Fin 65536)

theorem samp_blk (G : Good o d z w) (H : Reads x0 x1 x2 x3 x4 x5 x6 x7 x8 o d z w n) (q : Fin 512) (s : Fin 128) :
    sl.r_4 c arg4 harg4 arg5 harg5 arg6 harg6 arg7 harg7 x3 x4 x5 x6 (ix2 q s) = rSamp z w (ix2 (n q) s) := by
  obtain ⟨zr, wr, hz, hw, h0, hs⟩ := G.samp (n q)
  rw [hs s]
  exact kSamp_at c arg4 harg4 arg5 harg5 arg6 harg6 arg7 harg7 x3 x4 x5 x6 (fun k => (H.h3 k q).trans (hz k)) h0 (fun k => (H.h4 k q).trans (hw k))
    (fun r k => (H.h5 r k).trans (tabCm_at r k)) (fun r k => (H.h6 r k).trans (tabBm_at r k)) s

theorem zLo_blk (G : Good o d z w) (H : Reads x0 x1 x2 x3 x4 x5 x6 x7 x8 o d z w n) (r : Fin 256) (k : Fin 192) :
    sl.v2460 c arg3 harg3 arg4 harg4 arg5 harg5 arg6 harg6 arg7 harg7 x2 x3 x4 x5 x6 (ix2 r k) = rSorted z w (ix2 (n ⟨r.val, by omega⟩) k) :=
  zLo_at c arg3 harg3 arg4 harg4 arg5 harg5 arg6 harg6 arg7 harg7 x2 x3 x4 x5 x6 z w _ r (fun j => H.h2 _ j)
    (fun s => samp_blk c arg4 harg4 arg5 harg5 arg6 harg6 arg7 harg7 x0 x1 x2 x3 x4 x5 x6 x7 x8 o d z w n G H _ s) k

theorem zUp_blk (G : Good o d z w) (H : Reads x0 x1 x2 x3 x4 x5 x6 x7 x8 o d z w n) (r : Fin 256) (k : Fin 192) :
    zUp c arg3 harg3 arg4 harg4 arg5 harg5 arg6 harg6 arg7 harg7 x2 x3 x4 x5 x6 (ix2 r k) = rSorted z w (ix2 (n ⟨256 + r.val, by omega⟩) k) :=
  zUp_at c arg3 harg3 arg4 harg4 arg5 harg5 arg6 harg6 arg7 harg7 x2 x3 x4 x5 x6 z w _ r (fun j => H.h2 _ j)
    (fun s => samp_blk c arg4 harg4 arg5 harg5 arg6 harg6 arg7 harg7 x0 x1 x2 x3 x4 x5 x6 x7 x8 o d z w n G H _ s) k

/-- Points from depths, origins and directions of one ray. -/
theorem pts_row (G : Good o d z w) (ko kd : Vec3) (kz : Dep) (r : Fin 256) (p : Fin 65536)
    (ho : ∀ k, ko (ix2 r k) = o (ix2 p k)) (hd : ∀ k, kd (ix2 r k) = d (ix2 p k)) (hz : ∀ k, kz (ix2 r k) = rSorted z w (ix2 p k))
    (h7 : ∀ (a : Fin 192) (k : Fin 576), x7 (ix2 a k) = tabG (ix2 a k)) (h8 : ∀ (a : Fin 3) (k : Fin 576), x8 (ix2 a k) = tabH (ix2 a k)) (t : Fin 576) :
    kPts ko kd kz x7 x8 (ix2 r t) = rPts o d z w (ix2 p t) := by
  choose ro hro using G.o p
  choose rd hrd using G.d p
  choose rz hrz using G.sorted p
  rw [kPts_at ko kd kz x7 x8 r t ro rd rz (fun k => (ho k).trans (hro k)) (fun k => (hd k).trans (hrd k)) (fun k => (hz k).trans (hrz k)) (fun k => h7 k t) (fun k => h8 k t),
    rPts_at, ho, hd, hz]
  rfl

theorem out11_blk (G : Good o d z w) (H : Reads x0 x1 x2 x3 x4 x5 x6 x7 x8 o d z w n) (q : Fin 512) (s : Fin 128) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 q s) = rSamp z w (ix2 (n q) s) :=
  (out11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 q s).trans (samp_blk c arg4 harg4 arg5 harg5 arg6 harg6 arg7 harg7 x0 x1 x2 x3 x4 x5 x6 x7 x8 o d z w n G H q s)

theorem out10_blk (G : Good o d z w) (H : Reads x0 x1 x2 x3 x4 x5 x6 x7 x8 o d z w n) (q : Fin 512) (k : Fin 192) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 q k) = rSorted z w (ix2 (n q) k) := by
  have hq := q.isLt
  by_cases h : q.val < 256
  · exact (out10_lower c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 ⟨q.val, h⟩ k).trans (zLo_blk c arg3 harg3 arg4 harg4 arg5 harg5 arg6 harg6 arg7 harg7 x0 x1 x2 x3 x4 x5 x6 x7 x8 o d z w n G H ⟨q.val, h⟩ k)
  · have e : q = ⟨256 + (q.val - 256), by omega⟩ := Fin.ext (by show q.val = 256 + (q.val - 256); omega)
    have e2 := (out10_upper c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 ⟨q.val - 256, by omega⟩ k).trans (zUp_blk c arg3 harg3 arg4 harg4 arg5 harg5 arg6 harg6 arg7 harg7 x0 x1 x2 x3 x4 x5 x6 x7 x8 o d z w n G H ⟨q.val - 256, by omega⟩ k)
    rw [e]
    exact e2

theorem ptsLo_blk (G : Good o d z w) (H : Reads x0 x1 x2 x3 x4 x5 x6 x7 x8 o d z w n) (r : Fin 256) (t : Fin 576) :
    sl.v2490 c arg1 harg1 arg2 harg2 arg3 harg3 arg4 harg4 arg5 harg5 arg6 harg6 arg7 harg7 arg8 harg8 arg9 harg9 x0 x1 x2 x3 x4 x5 x6 x7 x8 (ix2 r t) = rPts o d z w (ix2 (n ⟨r.val, by omega⟩) t) := by
  rw [ptsLo_eq, v2465_eq, v2468_eq]
  exact pts_row x7 x8 o d z w G _ _ _ r _ (fun k => (top3_at arg1 harg1 x0 r k).trans (H.h0 _ k)) (fun k => (top3_at arg2 harg2 x1 r k).trans (H.h1 _ k))
    (fun k => zLo_blk c arg3 harg3 arg4 harg4 arg5 harg5 arg6 harg6 arg7 harg7 x0 x1 x2 x3 x4 x5 x6 x7 x8 o d z w n G H r k) H.h7 H.h8 t

theorem ptsUp_blk (G : Good o d z w) (H : Reads x0 x1 x2 x3 x4 x5 x6 x7 x8 o d z w n) (r : Fin 256) (t : Fin 576) :
    ptsUp c arg1 harg1 arg2 harg2 arg3 harg3 arg4 harg4 arg5 harg5 arg6 harg6 arg7 harg7 arg8 harg8 arg9 harg9 x0 x1 x2 x3 x4 x5 x6 x7 x8 (ix2 r t) = rPts o d z w (ix2 (n ⟨256 + r.val, by omega⟩) t) := by
  rw [ptsUp_eq, v2465_eq, v2468_eq]
  exact pts_row x7 x8 o d z w G _ _ _ r _ (fun k => (bot3_at arg1 harg1 x0 r k).trans (H.h0 _ k)) (fun k => (bot3_at arg2 harg2 x1 r k).trans (H.h1 _ k))
    (fun k => zUp_blk c arg3 harg3 arg4 harg4 arg5 harg5 arg6 harg6 arg7 harg7 x0 x1 x2 x3 x4 x5 x6 x7 x8 o d z w n G H r k) H.h7 H.h8 t

theorem out9_blk (G : Good o d z w) (H : Reads x0 x1 x2 x3 x4 x5 x6 x7 x8 o d z w n) (q : Fin 512) (t : Fin 576) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 q t) = rPts o d z w (ix2 (n q) t) := by
  have hq := q.isLt
  by_cases h : q.val < 256
  · exact (out9_lower c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 ⟨q.val, h⟩ t).trans (ptsLo_blk c arg1 harg1 arg2 harg2 arg3 harg3 arg4 harg4 arg5 harg5 arg6 harg6 arg7 harg7 arg8 harg8 arg9 harg9 x0 x1 x2 x3 x4 x5 x6 x7 x8 o d z w n G H ⟨q.val, h⟩ t)
  · have e : q = ⟨256 + (q.val - 256), by omega⟩ := Fin.ext (by show q.val = 256 + (q.val - 256); omega)
    have e2 := (out9_upper c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 ⟨q.val - 256, by omega⟩ t).trans (ptsUp_blk c arg1 harg1 arg2 harg2 arg3 harg3 arg4 harg4 arg5 harg5 arg6 harg6 arg7 harg7 arg8 harg8 arg9 harg9 x0 x1 x2 x3 x4 x5 x6 x7 x8 o d z w n G H ⟨q.val - 256, by omega⟩ t)
    rw [e]
    exact e2

end Cert.Proof
-- ==== Proof.Blocks.lean ====
/- The windows' blocks at an index, and the final arrays from the blocks written back. -/
module

public import proofs.«01_k».proof.Proof.Gen.KernelIdeal.Value
public import proofs.«01_k».proof.Proof.HostConst
public import Idealize.ShloMosaic.Lib.Pointwise
public import Idealize.ShloMosaic.Lib.ValueIdxCore

@[expose] public section

noncomputable section

namespace Cert.Proof

open Idealize.ShloMosaic Idealize.ShloMosaic.TcCoe Idealize.ShloMosaic.Pointwise Cert.KernelIdeal Cert.KernelIdeal.Gen Cert.KernelIdeal.Value

/-- The ray that row `r` of block `t` holds. -/
def ray (t : Fin cfg0.N) (r : Fin 512) : Fin 65536 := ⟨512 * t.val + r.val, by
  have h1 : t.val < 128 := t.isLt
  have h2 := r.isLt
  omega⟩

variable (m : (ℓ : Loc nD τ sig) → Buf (Elt Ideal) ℓ) (c : Dev nD) (t : Fin cfg0.N)

theorem idx0 : ∀ t : Fin cfg0.N, win0_0.index t 0 = t.val ∧ win0_0.index t 1 = 0 :=
  (by decide +kernel : ∀ t : Fin grid0.N, win0_0.index t 0 = t.val ∧ win0_0.index t 1 = 0)

theorem iblk0_at (r : Fin 512) (k : Fin 3) :
    (iblk m c 0 t : FVec Ideal S512x3 .f32) (ix2 r k) = (m ((c : Thread nD τ).loc main_arg0) : FVec Ideal S65536x3 .f32) (ix2 (ray t r) k) := by
  unfold iblk
  rw [View.read_apply]
  show V m c main_arg0 _ = _
  rw [V_main_arg0]
  refine congrArg (m ((c : Thread nD τ).loc main_arg0) : FVec Ideal S65536x3 .f32) ?_
  funext a
  apply Fin.ext
  match a with
  | ⟨0, _⟩ => show win0_0.index t 0 * 512 + 1 * r.val = 512 * t.val + r.val; rw [(idx0 t).1]; omega
  | ⟨1, _⟩ => show win0_0.index t 1 * 3 + 1 * k.val = k.val; rw [(idx0 t).2]; omega

theorem idx1 : ∀ t : Fin cfg0.N, win0_1.index t 0 = t.val ∧ win0_1.index t 1 = 0 :=
  (by decide +kernel : ∀ t : Fin grid0.N, win0_1.index t 0 = t.val ∧ win0_1.index t 1 = 0)

theorem iblk1_at (r : Fin 512) (k : Fin 3) :
    (iblk m c 1 t : FVec Ideal S512x3 .f32) (ix2 r k) = (m ((c : Thread nD τ).loc main_arg1) : FVec Ideal S65536x3 .f32) (ix2 (ray t r) k) := by
  unfold iblk
  rw [View.read_apply]
  show V m c main_arg1 _ = _
  rw [V_main_arg1]
  refine congrArg (m ((c : Thread nD τ).loc main_arg1) : FVec Ideal S65536x3 .f32) ?_
  funext a
  apply Fin.ext
  match a with
  | ⟨0, _⟩ => show win0_1.index t 0 * 512 + 1 * r.val = 512 * t.val + r.val; rw [(idx1 t).1]; omega
  | ⟨1, _⟩ => show win0_1.index t 1 * 3 + 1 * k.val = k.val; rw [(idx1 t).2]; omega

theorem idx2 : ∀ t : Fin cfg0.N, win0_2.index t 0 = t.val ∧ win0_2.index t 1 = 0 :=
  (by decide +kernel : ∀ t : Fin grid0.N, win0_2.index t 0 = t.val ∧ win0_2.index t 1 = 0)

theorem iblk2_at (r : Fin 512) (k : Fin 64) :
    (iblk m c 2 t : FVec Ideal S512x64 .f32) (ix2 r k) = (m ((c : Thread nD τ).loc main_arg2) : FVec Ideal S65536x64 .f32) (ix2 (ray t r) k) := by
  unfold iblk
  rw [View.read_apply]
  show V m c main_arg2 _ = _
  rw [V_main_arg2]
  refine congrArg (m ((c : Thread nD τ).loc main_arg2) : FVec Ideal S65536x64 .f32) ?_
  funext a
  apply Fin.ext
  match a with
  | ⟨0, _⟩ => show win0_2.index t 0 * 512 + 1 * r.val = 512 * t.val + r.val; rw [(idx2 t).1]; omega
  | ⟨1, _⟩ => show win0_2.index t 1 * 64 + 1 * k.val = k.val; rw [(idx2 t).2]; omega

theorem idx3 : ∀ t : Fin cfg0.N, win0_3.index t 0 = 0 ∧ win0_3.index t 1 = t.val :=
  (by decide +kernel : ∀ t : Fin grid0.N, win0_3.index t 0 = 0 ∧ win0_3.index t 1 = t.val)

theorem transp3_at (X : FVec Ideal S65536x64 .f32) (k : Fin 64) (n : Fin 65536) :
    transpose S64x65536 [1, 0] X transposes_S65536x64_S64x65536_1_0 (ix2 k n) = X (ix2 n k) := by
  pointwise

theorem iblk3_at (k : Fin 64) (r : Fin 512) :
    (iblk m c 3 t : FVec Ideal S64x512 .f32) (ix2 k r) = (m ((c : Thread nD τ).loc main_arg2) : FVec Ideal S65536x64 .f32) (ix2 (ray t r) k) := by
  unfold iblk
  rw [View.read_apply]
  show V m c main_v0 _ = _
  rw [V_zT, ← transp3_at (m ((c : Thread nD τ).loc main_arg2) : FVec Ideal S65536x64 .f32) k (ray t r)]
  refine congrArg (transpose S64x65536 [1, 0] (m ((c : Thread nD τ).loc main_arg2) : FVec Ideal S65536x64 .f32) transposes_S65536x64_S64x65536_1_0) ?_
  funext b
  apply Fin.ext
  match b with
  | ⟨0, _⟩ => show win0_3.index t 0 * 64 + 1 * k.val = k.val; rw [(idx3 t).1]; omega
  | ⟨1, _⟩ => show win0_3.index t 1 * 512 + 1 * r.val = 512 * t.val + r.val; rw [(idx3 t).2]; omega

theorem idx4 : ∀ t : Fin cfg0.N, win0_4.index t 0 = 0 ∧ win0_4.index t 1 = t.val :=
  (by decide +kernel : ∀ t : Fin grid0.N, win0_4.index t 0 = 0 ∧ win0_4.index t 1 = t.val)

theorem transp4_at (X : FVec Ideal S65536x64 .f32) (k : Fin 64) (n : Fin 65536) :
    transpose S64x65536 [1, 0] X transposes_S65536x64_S64x65536_1_0 (ix2 k n) = X (ix2 n k) := by
  pointwise

theorem iblk4_at (k : Fin 64) (r : Fin 512) :
    (iblk m c 4 t : FVec Ideal S64x512 .f32) (ix2 k r) = (m ((c : Thread nD τ).loc main_arg3) : FVec Ideal S65536x64 .f32) (ix2 (ray t r) k) := by
  unfold iblk
  rw [View.read_apply]
  show V m c main_v1 _ = _
  rw [V_wT, ← transp4_at (m ((c : Thread nD τ).loc main_arg3) : FVec Ideal S65536x64 .f32) k (ray t r)]
  refine congrArg (transpose S64x65536 [1, 0] (m ((c : Thread nD τ).loc main_arg3) : FVec Ideal S65536x64 .f32) transposes_S65536x64_S64x65536_1_0) ?_
  funext b
  apply Fin.ext
  match b with
  | ⟨0, _⟩ => show win0_4.index t 0 * 64 + 1 * k.val = k.val; rw [(idx4 t).1]; omega
  | ⟨1, _⟩ => show win0_4.index t 1 * 512 + 1 * r.val = 512 * t.val + r.val; rw [(idx4 t).2]; omega

theorem idx5 : ∀ t : Fin cfg0.N, win0_5.index t 0 = 0 ∧ win0_5.index t 1 = 0 :=
  (by decide +kernel : ∀ t : Fin grid0.N, win0_5.index t 0 = 0 ∧ win0_5.index t 1 = 0)

theorem iblk5_at (r : Fin 128) (k : Fin 64) :
    (iblk m c 5 t : FVec Ideal S128x64 .f32) (ix2 r k) = tabCm (ix2 r k) := by
  unfold iblk
  rw [View.read_apply]
  show V m c main_cst _ = _
  rw [V_cm]
  refine congrArg tabCm ?_
  funext b
  apply Fin.ext
  match b with
  | ⟨0, _⟩ => show win0_5.index t 0 * 128 + 1 * r.val = r.val; rw [(idx5 t).1]; omega
  | ⟨1, _⟩ => show win0_5.index t 1 * 64 + 1 * k.val = k.val; rw [(idx5 t).2]; omega

theorem idx6 : ∀ t : Fin cfg0.N, win0_6.index t 0 = 0 ∧ win0_6.index t 1 = 0 :=
  (by decide +kernel : ∀ t : Fin grid0.N, win0_6.index t 0 = 0 ∧ win0_6.index t 1 = 0)

theorem iblk6_at (r : Fin 128) (k : Fin 64) :
    (iblk m c 6 t : FVec Ideal S128x64 .f32) (ix2 r k) = tabBm (ix2 r k) := by
  unfold iblk
  rw [View.read_apply]
  show V m c main_cst_0 _ = _
  rw [V_bm]
  refine congrArg tabBm ?_
  funext b
  apply Fin.ext
  match b with
  | ⟨0, _⟩ => show win0_6.index t 0 * 128 + 1 * r.val = r.val; rw [(idx6 t).1]; omega
  | ⟨1, _⟩ => show win0_6.index t 1 * 64 + 1 * k.val = k.val; rw [(idx6 t).2]; omega

theorem idx7 : ∀ t : Fin cfg0.N, win0_7.index t 0 = 0 ∧ win0_7.index t 1 = 0 :=
  (by decide +kernel : ∀ t : Fin grid0.N, win0_7.index t 0 = 0 ∧ win0_7.index t 1 = 0)

theorem iblk7_at (r : Fin 192) (k : Fin 576) :
    (iblk m c 7 t : FVec Ideal S192x576 .f32) (ix2 r k) = tabG (ix2 r k) := by
  unfold iblk
  rw [View.read_apply]
  show V m c main_cst_1 _ = _
  rw [V_g]
  refine congrArg tabG ?_
  funext b
  apply Fin.ext
  match b with
  | ⟨0, _⟩ => show win0_7.index t 0 * 192 + 1 * r.val = r.val; rw [(idx7 t).1]; omega
  | ⟨1, _⟩ => show win0_7.index t 1 * 576 + 1 * k.val = k.val; rw [(idx7 t).2]; omega

theorem idx8 : ∀ t : Fin cfg0.N, win0_8.index t 0 = 0 ∧ win0_8.index t 1 = 0 :=
  (by decide +kernel : ∀ t : Fin grid0.N, win0_8.index t 0 = 0 ∧ win0_8.index t 1 = 0)

theorem iblk8_at (r : Fin 3) (k : Fin 576) :
    (iblk m c 8 t : FVec Ideal S3x576 .f32) (ix2 r k) = tabH (ix2 r k) := by
  unfold iblk
  rw [View.read_apply]
  show V m c main_cst_2 _ = _
  rw [V_h]
  refine congrArg tabH ?_
  funext b
  apply Fin.ext
  match b with
  | ⟨0, _⟩ => show win0_8.index t 0 * 3 + 1 * r.val = r.val; rw [(idx8 t).1]; omega
  | ⟨1, _⟩ => show win0_8.index t 1 * 576 + 1 * k.val = k.val; rw [(idx8 t).2]; omega

theorem idx9 : ∀ t : Fin cfg0.N, win0_9.index t 0 = t.val ∧ win0_9.index t 1 = 0 ∧ win0_9.xsize (grid0.coords t) 0 = 512 ∧ win0_9.xsize (grid0.coords t) 1 = 576 :=
  (by decide +kernel : ∀ t : Fin grid0.N, win0_9.index t 0 = t.val ∧ win0_9.index t 1 = 0 ∧ win0_9.xsize (grid0.coords t) 0 = 512 ∧ win0_9.xsize (grid0.coords t) 1 = 576)

theorem cover9 (i : S65536x576.Idx) : ∃ t : Fin cfg0.N, (cfg0.win 9).flush t = true ∧ i ∈ ((cfg0.win 9).blk t).view.set := by
  have h0 : (i 0).val < 65536 := (i 0).isLt
  have h1 : (i 1).val < 576 := (i 1).isLt
  let t : Fin cfg0.N := ⟨(i 0).val / 512, by show (i 0).val / 512 < 128; omega⟩
  have ht : t.val = (i 0).val / 512 := rfl
  obtain ⟨e1, e2, e3, e4⟩ := idx9 t
  refine ⟨t, flush0_9 _, ?_⟩
  show i ∈ ((View.whole main_v2_0).slice (win0_9.rect t)).set
  rw [View.set_slice_whole, Rect.mem_set_unit]
  intro a
  match a with
  | ⟨0, _⟩ =>
    show win0_9.index t 0 * 512 ≤ (i 0 : Nat) ∧ (i 0 : Nat) < win0_9.index t 0 * 512 + win0_9.xsize (grid0.coords t) 0
    rw [e1, e3]; omega
  | ⟨1, _⟩ =>
    show win0_9.index t 1 * 576 ≤ (i 1 : Nat) ∧ (i 1 : Nat) < win0_9.index t 1 * 576 + win0_9.xsize (grid0.coords t) 1
    rw [e2, e4]; omega

/-- A block of `val` at an index. -/
theorem oblk9_at (val : FVec Ideal S65536x576 .f32) (r : Fin 512) (k : Fin 576) :
    ((win0_9.blk t).view.read (Elt Ideal) val : FVec Ideal S512x576 .f32) (ix2 r k) = val (ix2 (ray t r) k) := by
  rw [View.read_apply]
  refine congrArg val ?_
  funext a
  apply Fin.ext
  match a with
  | ⟨0, _⟩ => show win0_9.index t 0 * 512 + 1 * r.val = 512 * t.val + r.val; rw [(idx9 t).1]; omega
  | ⟨1, _⟩ => show win0_9.index t 1 * 576 + 1 * k.val = k.val; rw [(idx9 t).2.1]; omega

/-- The kernel's block of window 9 at grid point `t`. -/
abbrev oblk9 : FVec Ideal S512x576 .f32 :=
  out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t)

/-- An array that agrees with every block written back is the final array. -/
theorem final9 (val : FVec Ideal S65536x576 .f32)
    (h : ∀ (t : Fin cfg0.N) (r : Fin 512) (k : Fin 576), oblk9 m c t (ix2 r k) = val (ix2 (ray t r) k)) :
    (dats m 0 c).arrAt 9 cfg0.N = val := by
  refine (dats m 0 c).arrAt_eq_of_cover 9 val (fun t _ => ?_) cover9
  rw [flushed9_A]
  funext j
  have hj : (j : S512x576.Idx) = ix2 (j 0) (j 1) := eq_ix2 j
  refine Eq.trans ?_ ((h t (j 0) (j 1)).trans ((oblk9_at t val (j 0) (j 1)).symm.trans ?_))
  · exact congrArg (oblk9 m c t) hj
  · exact congrArg ((win0_9.blk t).view.read (Elt Ideal) val : FVec Ideal S512x576 .f32) hj.symm

theorem idx10 : ∀ t : Fin cfg0.N, win0_10.index t 0 = t.val ∧ win0_10.index t 1 = 0 ∧ win0_10.xsize (grid0.coords t) 0 = 512 ∧ win0_10.xsize (grid0.coords t) 1 = 192 :=
  (by decide +kernel : ∀ t : Fin grid0.N, win0_10.index t 0 = t.val ∧ win0_10.index t 1 = 0 ∧ win0_10.xsize (grid0.coords t) 0 = 512 ∧ win0_10.xsize (grid0.coords t) 1 = 192)

theorem cover10 (i : S65536x192.Idx) : ∃ t : Fin cfg0.N, (cfg0.win 10).flush t = true ∧ i ∈ ((cfg0.win 10).blk t).view.set := by
  have h0 : (i 0).val < 65536 := (i 0).isLt
  have h1 : (i 1).val < 192 := (i 1).isLt
  let t : Fin cfg0.N := ⟨(i 0).val / 512, by show (i 0).val / 512 < 128; omega⟩
  have ht : t.val = (i 0).val / 512 := rfl
  obtain ⟨e1, e2, e3, e4⟩ := idx10 t
  refine ⟨t, flush0_10 _, ?_⟩
  show i ∈ ((View.whole main_v2_1).slice (win0_10.rect t)).set
  rw [View.set_slice_whole, Rect.mem_set_unit]
  intro a
  match a with
  | ⟨0, _⟩ =>
    show win0_10.index t 0 * 512 ≤ (i 0 : Nat) ∧ (i 0 : Nat) < win0_10.index t 0 * 512 + win0_10.xsize (grid0.coords t) 0
    rw [e1, e3]; omega
  | ⟨1, _⟩ =>
    show win0_10.index t 1 * 192 ≤ (i 1 : Nat) ∧ (i 1 : Nat) < win0_10.index t 1 * 192 + win0_10.xsize (grid0.coords t) 1
    rw [e2, e4]; omega

/-- A block of `val` at an index. -/
theorem oblk10_at (val : FVec Ideal S65536x192 .f32) (r : Fin 512) (k : Fin 192) :
    ((win0_10.blk t).view.read (Elt Ideal) val : FVec Ideal S512x192 .f32) (ix2 r k) = val (ix2 (ray t r) k) := by
  rw [View.read_apply]
  refine congrArg val ?_
  funext a
  apply Fin.ext
  match a with
  | ⟨0, _⟩ => show win0_10.index t 0 * 512 + 1 * r.val = 512 * t.val + r.val; rw [(idx10 t).1]; omega
  | ⟨1, _⟩ => show win0_10.index t 1 * 192 + 1 * k.val = k.val; rw [(idx10 t).2.1]; omega

/-- The kernel's block of window 10 at grid point `t`. -/
abbrev oblk10 : FVec Ideal S512x192 .f32 :=
  out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t)

/-- An array that agrees with every block written back is the final array. -/
theorem final10 (val : FVec Ideal S65536x192 .f32)
    (h : ∀ (t : Fin cfg0.N) (r : Fin 512) (k : Fin 192), oblk10 m c t (ix2 r k) = val (ix2 (ray t r) k)) :
    (dats m 0 c).arrAt 10 cfg0.N = val := by
  refine (dats m 0 c).arrAt_eq_of_cover 10 val (fun t _ => ?_) cover10
  rw [flushed10_A]
  funext j
  have hj : (j : S512x192.Idx) = ix2 (j 0) (j 1) := eq_ix2 j
  refine Eq.trans ?_ ((h t (j 0) (j 1)).trans ((oblk10_at t val (j 0) (j 1)).symm.trans ?_))
  · exact congrArg (oblk10 m c t) hj
  · exact congrArg ((win0_10.blk t).view.read (Elt Ideal) val : FVec Ideal S512x192 .f32) hj.symm

theorem idx11 : ∀ t : Fin cfg0.N, win0_11.index t 0 = t.val ∧ win0_11.index t 1 = 0 ∧ win0_11.xsize (grid0.coords t) 0 = 512 ∧ win0_11.xsize (grid0.coords t) 1 = 128 :=
  (by decide +kernel : ∀ t : Fin grid0.N, win0_11.index t 0 = t.val ∧ win0_11.index t 1 = 0 ∧ win0_11.xsize (grid0.coords t) 0 = 512 ∧ win0_11.xsize (grid0.coords t) 1 = 128)

theorem cover11 (i : S65536x128.Idx) : ∃ t : Fin cfg0.N, (cfg0.win 11).flush t = true ∧ i ∈ ((cfg0.win 11).blk t).view.set := by
  have h0 : (i 0).val < 65536 := (i 0).isLt
  have h1 : (i 1).val < 128 := (i 1).isLt
  let t : Fin cfg0.N := ⟨(i 0).val / 512, by show (i 0).val / 512 < 128; omega⟩
  have ht : t.val = (i 0).val / 512 := rfl
  obtain ⟨e1, e2, e3, e4⟩ := idx11 t
  refine ⟨t, flush0_11 _, ?_⟩
  show i ∈ ((View.whole main_v2_2).slice (win0_11.rect t)).set
  rw [View.set_slice_whole, Rect.mem_set_unit]
  intro a
  match a with
  | ⟨0, _⟩ =>
    show win0_11.index t 0 * 512 ≤ (i 0 : Nat) ∧ (i 0 : Nat) < win0_11.index t 0 * 512 + win0_11.xsize (grid0.coords t) 0
    rw [e1, e3]; omega
  | ⟨1, _⟩ =>
    show win0_11.index t 1 * 128 ≤ (i 1 : Nat) ∧ (i 1 : Nat) < win0_11.index t 1 * 128 + win0_11.xsize (grid0.coords t) 1
    rw [e2, e4]; omega

/-- A block of `val` at an index. -/
theorem oblk11_at (val : FVec Ideal S65536x128 .f32) (r : Fin 512) (k : Fin 128) :
    ((win0_11.blk t).view.read (Elt Ideal) val : FVec Ideal S512x128 .f32) (ix2 r k) = val (ix2 (ray t r) k) := by
  rw [View.read_apply]
  refine congrArg val ?_
  funext a
  apply Fin.ext
  match a with
  | ⟨0, _⟩ => show win0_11.index t 0 * 512 + 1 * r.val = 512 * t.val + r.val; rw [(idx11 t).1]; omega
  | ⟨1, _⟩ => show win0_11.index t 1 * 128 + 1 * k.val = k.val; rw [(idx11 t).2.1]; omega

/-- The kernel's block of window 11 at grid point `t`. -/
abbrev oblk11 : FVec Ideal S512x128 .f32 :=
  out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t)

/-- An array that agrees with every block written back is the final array. -/
theorem final11 (val : FVec Ideal S65536x128 .f32)
    (h : ∀ (t : Fin cfg0.N) (r : Fin 512) (k : Fin 128), oblk11 m c t (ix2 r k) = val (ix2 (ray t r) k)) :
    (dats m 0 c).arrAt 11 cfg0.N = val := by
  refine (dats m 0 c).arrAt_eq_of_cover 11 val (fun t _ => ?_) cover11
  rw [flushed11_A]
  funext j
  have hj : (j : S512x128.Idx) = ix2 (j 0) (j 1) := eq_ix2 j
  refine Eq.trans ?_ ((h t (j 0) (j 1)).trans ((oblk11_at t val (j 0) (j 1)).symm.trans ?_))
  · exact congrArg (oblk11 m c t) hj
  · exact congrArg ((win0_11.blk t).view.read (Elt Ideal) val : FVec Ideal S512x128 .f32) hj.symm

end Cert.Proof
-- ==== Proof.Value.lean ====
/- The kernel's three final arrays are the reference's. -/
module

public import proofs.«01_k».proof.Proof.Block
public import proofs.«01_k».proof.Proof.Blocks

@[expose] public section

noncomputable section

namespace Cert.Proof

open Idealize.ShloMosaic Idealize.ShloMosaic.TcCoe Idealize.ShloMosaic.Pointwise Cert.KernelIdeal Cert.KernelIdeal.Gen Cert.KernelIdeal.Value Cert.Ref

variable (m : (ℓ : Loc nD τ sig) → Buf (Elt Ideal) ℓ) (c : Dev nD)

abbrev argO : Rays3 := m ((c : Thread nD τ).loc main_arg0)
abbrev argD : Rays3 := m ((c : Thread nD τ).loc main_arg1)
abbrev argZ : Ray := m ((c : Thread nD τ).loc main_arg2)
abbrev argW : Ray := m ((c : Thread nD τ).loc main_arg3)

theorem reads (t : Fin cfg0.N) : Reads (iblk m c 0 t) (iblk m c 1 t) (iblk m c 2 t) (iblk m c 3 t) (iblk m c 4 t) (iblk m c 5 t) (iblk m c 6 t) (iblk m c 7 t) (iblk m c 8 t)
    (argO m c) (argD m c) (argZ m c) (argW m c) (ray t) where
  h0 := iblk0_at m c t
  h1 := iblk1_at m c t
  h2 := iblk2_at m c t
  h3 := iblk3_at m c t
  h4 := iblk4_at m c t
  h5 := iblk5_at m c t
  h6 := iblk6_at m c t
  h7 := iblk7_at m c t
  h8 := iblk8_at m c t

variable (G : Good (argO m c) (argD m c) (argZ m c) (argW m c))
include G

theorem points : (dats m 0 c).arrAt 9 cfg0.N = rPts (argO m c) (argD m c) (argZ m c) (argW m c) :=
  final9 m c _ fun t r k => out9_blk c _ _ _ _ _ _ _ _ _ _ _ _ _ _ _ _ _ _ _ _ _ _ _ _ _ _ _ _ _ _ _ _ _ _ _ _ _ _ _ _ _ G (reads m c t) r k

theorem depths : (dats m 0 c).arrAt 10 cfg0.N = rSorted (argZ m c) (argW m c) :=
  final10 m c _ fun t r k => out10_blk c _ _ _ _ _ _ _ _ _ _ _ _ _ _ _ _ _ _ _ _ _ _ _ _ _ _ _ _ _ _ _ _ _ _ _ _ _ _ _ _ _ G (reads m c t) r k

theorem samples : (dats m 0 c).arrAt 11 cfg0.N = rSamp (argZ m c) (argW m c) :=
  final11 m c _ fun t r k => out11_blk c _ _ _ _ _ _ _ _ _ _ _ _ _ _ _ _ _ _ _ _ _ _ _ _ _ _ _ _ _ _ _ _ _ _ _ _ _ _ _ _ _ G (reads m c t) r k

end Cert.Proof
-- ==== Proof.lean ====
/- The proof of the claims: the frames, the preserved constants and the value claim. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem kernel_frame : quiescent_Kernel (hKernel := Cert.Kernel.Gen.facts) :=
  fun m ρ _ => Cert.Kernel.Gen.frame m ρ

theorem kernelIdeal_frame : quiescent_KernelIdeal (hKernelIdeal := Cert.KernelIdeal.Gen.facts) :=
  fun m ρ _ => Cert.KernelIdeal.Gen.frame m ρ

theorem referenceIdeal_frame : quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

theorem preserved : preserves_Kernel_KernelIdeal :=
  ⟨IdealRules.named_const.statement Cert.KernelIdeal.κ "inv127" .f32 0x3C010204#32 ((1 / 127 : ℝ) : EReal) rfl,
    IdealRules.named_const.statement Cert.KernelIdeal.κ "big" .f32 0x7F61B1E6#32 ⊤ rfl⟩

/-- The precondition at one device's arguments. -/
theorem good_of_pre (m : (ℓ : Loc Cert.KernelIdeal.nD Cert.KernelIdeal.τ Cert.KernelIdeal.sig) → Buf (Elt Ideal) ℓ)
    (h : Pre_KernelIdeal_finite_and_nonneg (hPre_finite_and_nonneg := pre_facts) m) (c : Dev Cert.KernelIdeal.nD) :
    Good (argO m c) (argD m c) (argZ m c) (argW m c) where
  o := fun n k => @pre_o pre_facts (argO m c) (argD m c) (argZ m c) (argW m c) (h c).1 (ix2 n k)
  d := fun n k => @pre_d pre_facts (argO m c) (argD m c) (argZ m c) (argW m c) (h c).2.1 (ix2 n k)
  z := fun n k => @pre_z pre_facts (argO m c) (argD m c) (argZ m c) (argW m c) (h c).2.2.1 (ix2 n k)
  w := fun n k => @pre_w pre_facts (argO m c) (argD m c) (argZ m c) (argW m c) (h c).2.2.2 (ix2 n k)

theorem kernelIdeal_frame_pre :
    quiescent_KernelIdeal_pre_finite_and_nonneg (hKernelIdeal := Cert.KernelIdeal.Gen.facts) (hPre_finite_and_nonneg := pre_facts) :=
  fun m ρ _ => Cert.KernelIdeal.Gen.frame m ρ

theorem referenceIdeal_frame_pre :
    quiescent_ReferenceIdeal_pre_finite_and_nonneg (hReferenceIdeal := Cert.ReferenceIdeal.Gen.facts) (hPre_finite_and_nonneg := pre_facts) :=
  fun m ρ _ => referenceIdeal_frame m ρ trivial

/-- The kernel's three results are the reference's. -/
theorem algebraic :
    algebraic_KernelIdeal_ReferenceIdeal_pre_finite_and_nonneg (hKernelIdeal := Cert.KernelIdeal.Gen.facts)
      (hReferenceIdeal := Cert.ReferenceIdeal.Gen.facts) (hPre_finite_and_nonneg := pre_facts) := by
  intro m ρ m' ρ' hpre hagree
  refine ⟨fun c => Cert.Ref.rPts (argO m c) (argD m c) (argZ m c) (argW m c), fun c => Cert.Ref.rSorted (argZ m c) (argW m c),
    fun c => Cert.Ref.rSamp (argZ m c) (argW m c), (θ_run Cert.KernelIdeal.defs _ _).mono (fun _ h c => ?_) (Cert.KernelIdeal.Value.run_blocks (F := Ideal) m ρ),
    (θ_run Cert.ReferenceIdeal.defs _ _).mono (fun _ h c => ?_) (Cert.ReferenceIdeal.Value.run (F := Ideal) m' ρ')⟩
  · obtain ⟨h0, h1, h2, h3⟩ := h c
    have G := good_of_pre m hpre c
    exact ⟨h0.trans (points m c G), h1.trans (depths m c G), h2.trans (samples m c G), h3⟩
  · obtain ⟨h0, h1, h2, h3⟩ := h c
    obtain ⟨e0, e1, e2, e3⟩ := hagree c
    refine ⟨h0.trans ((Cert.Ref.res56 m' c).trans ?_), h1.trans ((Cert.Ref.res47 m' c).trans ?_), h2.trans ((Cert.Ref.res45 m' c).trans ?_), h3⟩
    · rw [e0, e1, e2, e3]
    · rw [e2, e3]
    · rw [e2, e3]

theorem claim : Cert.Claim := ⟨Cert.Kernel.Gen.facts, Cert.KernelIdeal.Gen.facts, Cert.ReferenceIdeal.Gen.facts, pre_facts,
  kernel_frame, kernelIdeal_frame, kernelIdeal_frame_pre, referenceIdeal_frame, referenceIdeal_frame_pre, preserved, algebraic⟩

end Cert.Proof

end
